-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Ff2Dx (m : (ℓ : Loc Cert.Ff2Dx.nD Cert.Ff2Dx.τ Cert.Ff2Dx.sig) → Buf (Elt Bits) ℓ) : Prop :=
  True

def Pre_Ff2DxIdeal (m : (ℓ : Loc Cert.Ff2DxIdeal.nD Cert.Ff2DxIdeal.τ Cert.Ff2DxIdeal.sig) → Buf (Elt Ideal) ℓ) : Prop :=
  True

def Pre_Ff2DxRefIdeal (m : (ℓ : Loc Cert.Ff2DxRefIdeal.nD Cert.Ff2DxRefIdeal.τ Cert.Ff2DxRefIdeal.sig) → Buf (Elt Ideal) ℓ) : Prop :=
  True

def Pre_Ff2Dw (m : (ℓ : Loc Cert.Ff2Dw.nD Cert.Ff2Dw.τ Cert.Ff2Dw.sig) → Buf (Elt Bits) ℓ) : Prop :=
  True

def Pre_Ff2DwIdeal (m : (ℓ : Loc Cert.Ff2DwIdeal.nD Cert.Ff2DwIdeal.τ Cert.Ff2DwIdeal.sig) → Buf (Elt Ideal) ℓ) : Prop :=
  True

def Pre_Ff2DwRefIdeal (m : (ℓ : Loc Cert.Ff2DwRefIdeal.nD Cert.Ff2DwRefIdeal.τ Cert.Ff2DwRefIdeal.sig) → Buf (Elt Ideal) ℓ) : Prop :=
  True

def Pre_Ff1Dx (m : (ℓ : Loc Cert.Ff1Dx.nD Cert.Ff1Dx.τ Cert.Ff1Dx.sig) → Buf (Elt Bits) ℓ) : Prop :=
  True

def Pre_Ff1DxIdeal (m : (ℓ : Loc Cert.Ff1DxIdeal.nD Cert.Ff1DxIdeal.τ Cert.Ff1DxIdeal.sig) → Buf (Elt Ideal) ℓ) : Prop :=
  True

def Pre_Ff1DxRefIdeal (m : (ℓ : Loc Cert.Ff1DxRefIdeal.nD Cert.Ff1DxRefIdeal.τ Cert.Ff1DxRefIdeal.sig) → Buf (Elt Ideal) ℓ) : Prop :=
  True

def Pre_Ff1Dw (m : (ℓ : Loc Cert.Ff1Dw.nD Cert.Ff1Dw.τ Cert.Ff1Dw.sig) → Buf (Elt Bits) ℓ) : Prop :=
  True

def Pre_Ff1DwIdeal (m : (ℓ : Loc Cert.Ff1DwIdeal.nD Cert.Ff1DwIdeal.τ Cert.Ff1DwIdeal.sig) → Buf (Elt Ideal) ℓ) : Prop :=
  True

def Pre_Ff1DwRefIdeal (m : (ℓ : Loc Cert.Ff1DwRefIdeal.nD Cert.Ff1DwRefIdeal.τ Cert.Ff1DwRefIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1RefIdeal (m : (ℓ : Loc Cert.Ff1RefIdeal.nD Cert.Ff1RefIdeal.τ Cert.Ff1RefIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2RefIdeal (m : (ℓ : Loc Cert.Ff2RefIdeal.nD Cert.Ff2RefIdeal.τ Cert.Ff2RefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModRefIdeal (m : (ℓ : Loc Cert.AdamModRefIdeal.nD Cert.AdamModRefIdeal.τ Cert.AdamModRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamUq (m : (ℓ : Loc Cert.AdamUq.nD Cert.AdamUq.τ Cert.AdamUq.sig) → Buf (Elt Bits) ℓ) : Prop :=
  True

def Pre_AdamUqIdeal (m : (ℓ : Loc Cert.AdamUqIdeal.nD Cert.AdamUqIdeal.τ Cert.AdamUqIdeal.sig) → Buf (Elt Ideal) ℓ) : Prop :=
  True

def Pre_AdamUqRefIdeal (m : (ℓ : Loc Cert.AdamUqRefIdeal.nD Cert.AdamUqRefIdeal.τ Cert.AdamUqRefIdeal.sig) → Buf (Elt Ideal) ℓ) : Prop :=
  True

def Pre_AdamUkv (m : (ℓ : Loc Cert.AdamUkv.nD Cert.AdamUkv.τ Cert.AdamUkv.sig) → Buf (Elt Bits) ℓ) : Prop :=
  True

def Pre_AdamUkvIdeal (m : (ℓ : Loc Cert.AdamUkvIdeal.nD Cert.AdamUkvIdeal.τ Cert.AdamUkvIdeal.sig) → Buf (Elt Ideal) ℓ) : Prop :=
  True

def Pre_AdamUkvRefIdeal (m : (ℓ : Loc Cert.AdamUkvRefIdeal.nD Cert.AdamUkvRefIdeal.τ Cert.AdamUkvRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamFf1 (m : (ℓ : Loc Cert.AdamFf1.nD Cert.AdamFf1.τ Cert.AdamFf1.sig) → Buf (Elt Bits) ℓ) : Prop :=
  True

def Pre_AdamFf1Ideal (m : (ℓ : Loc Cert.AdamFf1Ideal.nD Cert.AdamFf1Ideal.τ Cert.AdamFf1Ideal.sig) → Buf (Elt Ideal) ℓ) : Prop :=
  True

def Pre_AdamFf1RefIdeal (m : (ℓ : Loc Cert.AdamFf1RefIdeal.nD Cert.AdamFf1RefIdeal.τ Cert.AdamFf1RefIdeal.sig) → Buf (Elt Ideal) ℓ) : Prop :=
  True

def Pre_AdamFf2 (m : (ℓ : Loc Cert.AdamFf2.nD Cert.AdamFf2.τ Cert.AdamFf2.sig) → Buf (Elt Bits) ℓ) : Prop :=
  True

def Pre_AdamFf2Ideal (m : (ℓ : Loc Cert.AdamFf2Ideal.nD Cert.AdamFf2Ideal.τ Cert.AdamFf2Ideal.sig) → Buf (Elt Ideal) ℓ) : Prop :=
  True

def Pre_AdamFf2RefIdeal (m : (ℓ : Loc Cert.AdamFf2RefIdeal.nD Cert.AdamFf2RefIdeal.τ Cert.AdamFf2RefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ff2Dx [hFf2Dx : Cert.Ff2Dx.Facts] : Prop :=
  ∀ (m : (ℓ : Loc Cert.Ff2Dx.nD Cert.Ff2Dx.τ Cert.Ff2Dx.sig) → Buf (Elt Bits) ℓ) (g : Dev Cert.Ff2Dx.nD → PrngReg), Pre_Ff2Dx m →
    θ_run (Cert.Ff2Dx.defs (F := Bits)) (onTc (τ := Cert.Ff2Dx.τ) (Cert.Ff2Dx.main (F := Bits))) ⟨m, fun _ => 0, g⟩ (fun r => (∀ c : Dev Cert.Ff2Dx.nD,
      r.2.mem ((c.tc : Thread Cert.Ff2Dx.nD Cert.Ff2Dx.τ).loc Cert.Ff2Dx.main_arg0) = m ((c.tc : Thread Cert.Ff2Dx.nD Cert.Ff2Dx.τ).loc Cert.Ff2Dx.main_arg0)
      ∧ r.2.mem ((c.tc : Thread Cert.Ff2Dx.nD Cert.Ff2Dx.τ).loc Cert.Ff2Dx.main_arg1) = m ((c.tc : Thread Cert.Ff2Dx.nD Cert.Ff2Dx.τ).loc Cert.Ff2Dx.main_arg1)
      ∧ r.2.mem ((c.tc : Thread Cert.Ff2Dx.nD Cert.Ff2Dx.τ).loc Cert.Ff2Dx.main_arg2) = m ((c.tc : Thread Cert.Ff2Dx.nD Cert.Ff2Dx.τ).loc Cert.Ff2Dx.main_arg2))
      ∧ r.2.sem = fun _ => 0)

def quiescent_Ff2DxIdeal [hFf2DxIdeal : Cert.Ff2DxIdeal.Facts] : Prop :=
  ∀ (m : (ℓ : Loc Cert.Ff2DxIdeal.nD Cert.Ff2DxIdeal.τ Cert.Ff2DxIdeal.sig) → Buf (Elt Ideal) ℓ) (g : Dev Cert.Ff2DxIdeal.nD → PrngReg), Pre_Ff2DxIdeal m →
    θ_run (Cert.Ff2DxIdeal.defs (F := Ideal)) (onTc (τ := Cert.Ff2DxIdeal.τ) (Cert.Ff2DxIdeal.main (F := Ideal))) ⟨m, fun _ => 0, g⟩ (fun r => (∀ c : Dev Cert.Ff2DxIdeal.nD,
      r.2.mem ((c.tc : Thread Cert.Ff2DxIdeal.nD Cert.Ff2DxIdeal.τ).loc Cert.Ff2DxIdeal.main_arg0) = m ((c.tc : Thread Cert.Ff2DxIdeal.nD Cert.Ff2DxIdeal.τ).loc Cert.Ff2DxIdeal.main_arg0)
      ∧ r.2.mem ((c.tc : Thread Cert.Ff2DxIdeal.nD Cert.Ff2DxIdeal.τ).loc Cert.Ff2DxIdeal.main_arg1) = m ((c.tc : Thread Cert.Ff2DxIdeal.nD Cert.Ff2DxIdeal.τ).loc Cert.Ff2DxIdeal.main_arg1)
      ∧ r.2.mem ((c.tc : Thread Cert.Ff2DxIdeal.nD Cert.Ff2DxIdeal.τ).loc Cert.Ff2DxIdeal.main_arg2) = m ((c.tc : Thread Cert.Ff2DxIdeal.nD Cert.Ff2DxIdeal.τ).loc Cert.Ff2DxIdeal.main_arg2))
      ∧ r.2.sem = fun _ => 0)

def quiescent_Ff2DxRefIdeal [hFf2DxRefIdeal : Cert.Ff2DxRefIdeal.Facts] : Prop :=
  ∀ (m : (ℓ : Loc Cert.Ff2DxRefIdeal.nD Cert.Ff2DxRefIdeal.τ Cert.Ff2DxRefIdeal.sig) → Buf (Elt Ideal) ℓ) (g : Dev Cert.Ff2DxRefIdeal.nD → PrngReg), Pre_Ff2DxRefIdeal m →
    θ_run (Cert.Ff2DxRefIdeal.defs (F := Ideal)) (onTc (τ := Cert.Ff2DxRefIdeal.τ) (Cert.Ff2DxRefIdeal.main (F := Ideal))) ⟨m, fun _ => 0, g⟩ (fun r => (∀ c : Dev Cert.Ff2DxRefIdeal.nD,
      r.2.mem ((c.tc : Thread Cert.Ff2DxRefIdeal.nD Cert.Ff2DxRefIdeal.τ).loc Cert.Ff2DxRefIdeal.main_arg0) = m ((c.tc : Thread Cert.Ff2DxRefIdeal.nD Cert.Ff2DxRefIdeal.τ).loc Cert.Ff2DxRefIdeal.main_arg0)
      ∧ r.2.mem ((c.tc : Thread Cert.Ff2DxRefIdeal.nD Cert.Ff2DxRefIdeal.τ).loc Cert.Ff2DxRefIdeal.main_arg1) = m ((c.tc : Thread Cert.Ff2DxRefIdeal.nD Cert.Ff2DxRefIdeal.τ).loc Cert.Ff2DxRefIdeal.main_arg1)
      ∧ r.2.mem ((c.tc : Thread Cert.Ff2DxRefIdeal.nD Cert.Ff2DxRefIdeal.τ).loc Cert.Ff2DxRefIdeal.main_arg2) = m ((c.tc : Thread Cert.Ff2DxRefIdeal.nD Cert.Ff2DxRefIdeal.τ).loc Cert.Ff2DxRefIdeal.main_arg2))
      ∧ r.2.sem = fun _ => 0)

def quiescent_Ff2Dw [hFf2Dw : Cert.Ff2Dw.Facts] : Prop :=
  ∀ (m : (ℓ : Loc Cert.Ff2Dw.nD Cert.Ff2Dw.τ Cert.Ff2Dw.sig) → Buf (Elt Bits) ℓ) (g : Dev Cert.Ff2Dw.nD → PrngReg), Pre_Ff2Dw m →
    θ_run (Cert.Ff2Dw.defs (F := Bits)) (onTc (τ := Cert.Ff2Dw.τ) (Cert.Ff2Dw.main (F := Bits))) ⟨m, fun _ => 0, g⟩ (fun r => (∀ c : Dev Cert.Ff2Dw.nD,
      r.2.mem ((c.tc : Thread Cert.Ff2Dw.nD Cert.Ff2Dw.τ).loc Cert.Ff2Dw.main_arg0) = m ((c.tc : Thread Cert.Ff2Dw.nD Cert.Ff2Dw.τ).loc Cert.Ff2Dw.main_arg0)
      ∧ r.2.mem ((c.tc : Thread Cert.Ff2Dw.nD Cert.Ff2Dw.τ).loc Cert.Ff2Dw.main_arg1) = m ((c.tc : Thread Cert.Ff2Dw.nD Cert.Ff2Dw.τ).loc Cert.Ff2Dw.main_arg1)
      ∧ r.2.mem ((c.tc : Thread Cert.Ff2Dw.nD Cert.Ff2Dw.τ).loc Cert.Ff2Dw.main_arg2) = m ((c.tc : Thread Cert.Ff2Dw.nD Cert.Ff2Dw.τ).loc Cert.Ff2Dw.main_arg2))
      ∧ r.2.sem = fun _ => 0)

def quiescent_Ff2DwIdeal [hFf2DwIdeal : Cert.Ff2DwIdeal.Facts] : Prop :=
  ∀ (m : (ℓ : Loc Cert.Ff2DwIdeal.nD Cert.Ff2DwIdeal.τ Cert.Ff2DwIdeal.sig) → Buf (Elt Ideal) ℓ) (g : Dev Cert.Ff2DwIdeal.nD → PrngReg), Pre_Ff2DwIdeal m →
    θ_run (Cert.Ff2DwIdeal.defs (F := Ideal)) (onTc (τ := Cert.Ff2DwIdeal.τ) (Cert.Ff2DwIdeal.main (F := Ideal))) ⟨m, fun _ => 0, g⟩ (fun r => (∀ c : Dev Cert.Ff2DwIdeal.nD,
      r.2.mem ((c.tc : Thread Cert.Ff2DwIdeal.nD Cert.Ff2DwIdeal.τ).loc Cert.Ff2DwIdeal.main_arg0) = m ((c.tc : Thread Cert.Ff2DwIdeal.nD Cert.Ff2DwIdeal.τ).loc Cert.Ff2DwIdeal.main_arg0)
      ∧ r.2.mem ((c.tc : Thread Cert.Ff2DwIdeal.nD Cert.Ff2DwIdeal.τ).loc Cert.Ff2DwIdeal.main_arg1) = m ((c.tc : Thread Cert.Ff2DwIdeal.nD Cert.Ff2DwIdeal.τ).loc Cert.Ff2DwIdeal.main_arg1)
      ∧ r.2.mem ((c.tc : Thread Cert.Ff2DwIdeal.nD Cert.Ff2DwIdeal.τ).loc Cert.Ff2DwIdeal.main_arg2) = m ((c.tc : Thread Cert.Ff2DwIdeal.nD Cert.Ff2DwIdeal.τ).loc Cert.Ff2DwIdeal.main_arg2))
      ∧ r.2.sem = fun _ => 0)

def quiescent_Ff2DwRefIdeal [hFf2DwRefIdeal : Cert.Ff2DwRefIdeal.Facts] : Prop :=
  ∀ (m : (ℓ : Loc Cert.Ff2DwRefIdeal.nD Cert.Ff2DwRefIdeal.τ Cert.Ff2DwRefIdeal.sig) → Buf (Elt Ideal) ℓ) (g : Dev Cert.Ff2DwRefIdeal.nD → PrngReg), Pre_Ff2DwRefIdeal m →
    θ_run (Cert.Ff2DwRefIdeal.defs (F := Ideal)) (onTc (τ := Cert.Ff2DwRefIdeal.τ) (Cert.Ff2DwRefIdeal.main (F := Ideal))) ⟨m, fun _ => 0, g⟩ (fun r => (∀ c : Dev Cert.Ff2DwRefIdeal.nD,
      r.2.mem ((c.tc : Thread Cert.Ff2DwRefIdeal.nD Cert.Ff2DwRefIdeal.τ).loc Cert.Ff2DwRefIdeal.main_arg0) = m ((c.tc : Thread Cert.Ff2DwRefIdeal.nD Cert.Ff2DwRefIdeal.τ).loc Cert.Ff2DwRefIdeal.main_arg0)
      ∧ r.2.mem ((c.tc : Thread Cert.Ff2DwRefIdeal.nD Cert.Ff2DwRefIdeal.τ).loc Cert.Ff2DwRefIdeal.main_arg1) = m ((c.tc : Thread Cert.Ff2DwRefIdeal.nD Cert.Ff2DwRefIdeal.τ).loc Cert.Ff2DwRefIdeal.main_arg1)
      ∧ r.2.mem ((c.tc : Thread Cert.Ff2DwRefIdeal.nD Cert.Ff2DwRefIdeal.τ).loc Cert.Ff2DwRefIdeal.main_arg2) = m ((c.tc : Thread Cert.Ff2DwRefIdeal.nD Cert.Ff2DwRefIdeal.τ).loc Cert.Ff2DwRefIdeal.main_arg2))
      ∧ r.2.sem = fun _ => 0)

def quiescent_Ff1Dx [hFf1Dx : Cert.Ff1Dx.Facts] : Prop :=
  ∀ (m : (ℓ : Loc Cert.Ff1Dx.nD Cert.Ff1Dx.τ Cert.Ff1Dx.sig) → Buf (Elt Bits) ℓ) (g : Dev Cert.Ff1Dx.nD → PrngReg), Pre_Ff1Dx m →
    θ_run (Cert.Ff1Dx.defs (F := Bits)) (onTc (τ := Cert.Ff1Dx.τ) (Cert.Ff1Dx.main (F := Bits))) ⟨m, fun _ => 0, g⟩ (fun r => (∀ c : Dev Cert.Ff1Dx.nD,
      r.2.mem ((c.tc : Thread Cert.Ff1Dx.nD Cert.Ff1Dx.τ).loc Cert.Ff1Dx.main_arg0) = m ((c.tc : Thread Cert.Ff1Dx.nD Cert.Ff1Dx.τ).loc Cert.Ff1Dx.main_arg0)
      ∧ r.2.mem ((c.tc : Thread Cert.Ff1Dx.nD Cert.Ff1Dx.τ).loc Cert.Ff1Dx.main_arg1) = m ((c.tc : Thread Cert.Ff1Dx.nD Cert.Ff1Dx.τ).loc Cert.Ff1Dx.main_arg1)
      ∧ r.2.mem ((c.tc : Thread Cert.Ff1Dx.nD Cert.Ff1Dx.τ).loc Cert.Ff1Dx.main_arg2) = m ((c.tc : Thread Cert.Ff1Dx.nD Cert.Ff1Dx.τ).loc Cert.Ff1Dx.main_arg2))
      ∧ r.2.sem = fun _ => 0)

def quiescent_Ff1DxIdeal [hFf1DxIdeal : Cert.Ff1DxIdeal.Facts] : Prop :=
  ∀ (m : (ℓ : Loc Cert.Ff1DxIdeal.nD Cert.Ff1DxIdeal.τ Cert.Ff1DxIdeal.sig) → Buf (Elt Ideal) ℓ) (g : Dev Cert.Ff1DxIdeal.nD → PrngReg), Pre_Ff1DxIdeal m →
    θ_run (Cert.Ff1DxIdeal.defs (F := Ideal)) (onTc (τ := Cert.Ff1DxIdeal.τ) (Cert.Ff1DxIdeal.main (F := Ideal))) ⟨m, fun _ => 0, g⟩ (fun r => (∀ c : Dev Cert.Ff1DxIdeal.nD,
      r.2.mem ((c.tc : Thread Cert.Ff1DxIdeal.nD Cert.Ff1DxIdeal.τ).loc Cert.Ff1DxIdeal.main_arg0) = m ((c.tc : Thread Cert.Ff1DxIdeal.nD Cert.Ff1DxIdeal.τ).loc Cert.Ff1DxIdeal.main_arg0)
      ∧ r.2.mem ((c.tc : Thread Cert.Ff1DxIdeal.nD Cert.Ff1DxIdeal.τ).loc Cert.Ff1DxIdeal.main_arg1) = m ((c.tc : Thread Cert.Ff1DxIdeal.nD Cert.Ff1DxIdeal.τ).loc Cert.Ff1DxIdeal.main_arg1)
      ∧ r.2.mem ((c.tc : Thread Cert.Ff1DxIdeal.nD Cert.Ff1DxIdeal.τ).loc Cert.Ff1DxIdeal.main_arg2) = m ((c.tc : Thread Cert.Ff1DxIdeal.nD Cert.Ff1DxIdeal.τ).loc Cert.Ff1DxIdeal.main_arg2))
      ∧ r.2.sem = fun _ => 0)

def quiescent_Ff1DxRefIdeal [hFf1DxRefIdeal : Cert.Ff1DxRefIdeal.Facts] : Prop :=
  ∀ (m : (ℓ : Loc Cert.Ff1DxRefIdeal.nD Cert.Ff1DxRefIdeal.τ Cert.Ff1DxRefIdeal.sig) → Buf (Elt Ideal) ℓ) (g : Dev Cert.Ff1DxRefIdeal.nD → PrngReg), Pre_Ff1DxRefIdeal m →
    θ_run (Cert.Ff1DxRefIdeal.defs (F := Ideal)) (onTc (τ := Cert.Ff1DxRefIdeal.τ) (Cert.Ff1DxRefIdeal.main (F := Ideal))) ⟨m, fun _ => 0, g⟩ (fun r => (∀ c : Dev Cert.Ff1DxRefIdeal.nD,
      r.2.mem ((c.tc : Thread Cert.Ff1DxRefIdeal.nD Cert.Ff1DxRefIdeal.τ).loc Cert.Ff1DxRefIdeal.main_arg0) = m ((c.tc : Thread Cert.Ff1DxRefIdeal.nD Cert.Ff1DxRefIdeal.τ).loc Cert.Ff1DxRefIdeal.main_arg0)
      ∧ r.2.mem ((c.tc : Thread Cert.Ff1DxRefIdeal.nD Cert.Ff1DxRefIdeal.τ).loc Cert.Ff1DxRefIdeal.main_arg1) = m ((c.tc : Thread Cert.Ff1DxRefIdeal.nD Cert.Ff1DxRefIdeal.τ).loc Cert.Ff1DxRefIdeal.main_arg1)
      ∧ r.2.mem ((c.tc : Thread Cert.Ff1DxRefIdeal.nD Cert.Ff1DxRefIdeal.τ).loc Cert.Ff1DxRefIdeal.main_arg2) = m ((c.tc : Thread Cert.Ff1DxRefIdeal.nD Cert.Ff1DxRefIdeal.τ).loc Cert.Ff1DxRefIdeal.main_arg2))
      ∧ r.2.sem = fun _ => 0)

def quiescent_Ff1Dw [hFf1Dw : Cert.Ff1Dw.Facts] : Prop :=
  ∀ (m : (ℓ : Loc Cert.Ff1Dw.nD Cert.Ff1Dw.τ Cert.Ff1Dw.sig) → Buf (Elt Bits) ℓ) (g : Dev Cert.Ff1Dw.nD → PrngReg), Pre_Ff1Dw m →
    θ_run (Cert.Ff1Dw.defs (F := Bits)) (onTc (τ := Cert.Ff1Dw.τ) (Cert.Ff1Dw.main (F := Bits))) ⟨m, fun _ => 0, g⟩ (fun r => (∀ c : Dev Cert.Ff1Dw.nD,
      r.2.mem ((c.tc : Thread Cert.Ff1Dw.nD Cert.Ff1Dw.τ).loc Cert.Ff1Dw.main_arg0) = m ((c.tc : Thread Cert.Ff1Dw.nD Cert.Ff1Dw.τ).loc Cert.Ff1Dw.main_arg0)
      ∧ r.2.mem ((c.tc : Thread Cert.Ff1Dw.nD Cert.Ff1Dw.τ).loc Cert.Ff1Dw.main_arg1) = m ((c.tc : Thread Cert.Ff1Dw.nD Cert.Ff1Dw.τ).loc Cert.Ff1Dw.main_arg1)
      ∧ r.2.mem ((c.tc : Thread Cert.Ff1Dw.nD Cert.Ff1Dw.τ).loc Cert.Ff1Dw.main_arg2) = m ((c.tc : Thread Cert.Ff1Dw.nD Cert.Ff1Dw.τ).loc Cert.Ff1Dw.main_arg2))
      ∧ r.2.sem = fun _ => 0)

def quiescent_Ff1DwIdeal [hFf1DwIdeal : Cert.Ff1DwIdeal.Facts] : Prop :=
  ∀ (m : (ℓ : Loc Cert.Ff1DwIdeal.nD Cert.Ff1DwIdeal.τ Cert.Ff1DwIdeal.sig) → Buf (Elt Ideal) ℓ) (g : Dev Cert.Ff1DwIdeal.nD → PrngReg), Pre_Ff1DwIdeal m →
    θ_run (Cert.Ff1DwIdeal.defs (F := Ideal)) (onTc (τ := Cert.Ff1DwIdeal.τ) (Cert.Ff1DwIdeal.main (F := Ideal))) ⟨m, fun _ => 0, g⟩ (fun r => (∀ c : Dev Cert.Ff1DwIdeal.nD,
      r.2.mem ((c.tc : Thread Cert.Ff1DwIdeal.nD Cert.Ff1DwIdeal.τ).loc Cert.Ff1DwIdeal.main_arg0) = m ((c.tc : Thread Cert.Ff1DwIdeal.nD Cert.Ff1DwIdeal.τ).loc Cert.Ff1DwIdeal.main_arg0)
      ∧ r.2.mem ((c.tc : Thread Cert.Ff1DwIdeal.nD Cert.Ff1DwIdeal.τ).loc Cert.Ff1DwIdeal.main_arg1) = m ((c.tc : Thread Cert.Ff1DwIdeal.nD Cert.Ff1DwIdeal.τ).loc Cert.Ff1DwIdeal.main_arg1)
      ∧ r.2.mem ((c.tc : Thread Cert.Ff1DwIdeal.nD Cert.Ff1DwIdeal.τ).loc Cert.Ff1DwIdeal.main_arg2) = m ((c.tc : Thread Cert.Ff1DwIdeal.nD Cert.Ff1DwIdeal.τ).loc Cert.Ff1DwIdeal.main_arg2))
      ∧ r.2.sem = fun _ => 0)

def quiescent_Ff1DwRefIdeal [hFf1DwRefIdeal : Cert.Ff1DwRefIdeal.Facts] : Prop :=
  ∀ (m : (ℓ : Loc Cert.Ff1DwRefIdeal.nD Cert.Ff1DwRefIdeal.τ Cert.Ff1DwRefIdeal.sig) → Buf (Elt Ideal) ℓ) (g : Dev Cert.Ff1DwRefIdeal.nD → PrngReg), Pre_Ff1DwRefIdeal m →
    θ_run (Cert.Ff1DwRefIdeal.defs (F := Ideal)) (onTc (τ := Cert.Ff1DwRefIdeal.τ) (Cert.Ff1DwRefIdeal.main (F := Ideal))) ⟨m, fun _ => 0, g⟩ (fun r => (∀ c : Dev Cert.Ff1DwRefIdeal.nD,
      r.2.mem ((c.tc : Thread Cert.Ff1DwRefIdeal.nD Cert.Ff1DwRefIdeal.τ).loc Cert.Ff1DwRefIdeal.main_arg0) = m ((c.tc : Thread Cert.Ff1DwRefIdeal.nD Cert.Ff1DwRefIdeal.τ).loc Cert.Ff1DwRefIdeal.main_arg0)
      ∧ r.2.mem ((c.tc : Thread Cert.Ff1DwRefIdeal.nD Cert.Ff1DwRefIdeal.τ).loc Cert.Ff1DwRefIdeal.main_arg1) = m ((c.tc : Thread Cert.Ff1DwRefIdeal.nD Cert.Ff1DwRefIdeal.τ).loc Cert.Ff1DwRefIdeal.main_arg1)
      ∧ r.2.mem ((c.tc : Thread Cert.Ff1DwRefIdeal.nD Cert.Ff1DwRefIdeal.τ).loc Cert.Ff1DwRefIdeal.main_arg2) = m ((c.tc : Thread Cert.Ff1DwRefIdeal.nD Cert.Ff1DwRefIdeal.τ).loc Cert.Ff1DwRefIdeal.main_arg2))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1)
      ∧ r.2.mem ((c.tc : Thread Cert.Ff2.nD Cert.Ff2.τ).loc Cert.Ff2.main_arg2) = m ((c.tc : Thread Cert.Ff2.nD Cert.Ff2.τ).loc Cert.Ff2.main_arg2)
      ∧ r.2.mem ((c.tc : Thread Cert.Ff2.nD Cert.Ff2.τ).loc Cert.Ff2.main_arg3) = m ((c.tc : Thread Cert.Ff2.nD Cert.Ff2.τ).loc Cert.Ff2.main_arg3))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2)
      ∧ r.2.mem ((c.tc : Thread Cert.Ff2Ideal.nD Cert.Ff2Ideal.τ).loc Cert.Ff2Ideal.main_arg3) = m ((c.tc : Thread Cert.Ff2Ideal.nD Cert.Ff2Ideal.τ).loc Cert.Ff2Ideal.main_arg3))
      ∧ r.2.sem = fun _ => 0)

def quiescent_Ff2RefIdeal [hFf2RefIdeal : Cert.Ff2RefIdeal.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1)
      ∧ r.2.mem ((c.tc : Thread Cert.Ff2RefIdeal.nD Cert.Ff2RefIdeal.τ).loc Cert.Ff2RefIdeal.main_arg2) = m ((c.tc : Thread Cert.Ff2RefIdeal.nD Cert.Ff2RefIdeal.τ).loc Cert.Ff2RefIdeal.main_arg2)
      ∧ r.2.mem ((c.tc : Thread Cert.Ff2RefIdeal.nD Cert.Ff2RefIdeal.τ).loc Cert.Ff2RefIdeal.main_arg3) = m ((c.tc : Thread Cert.Ff2RefIdeal.nD Cert.Ff2RefIdeal.τ).loc Cert.Ff2RefIdeal.main_arg3))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1)
      ∧ r.2.mem ((c.tc : Thread Cert.OutDxRefIdeal.nD Cert.OutDxRefIdeal.τ).loc Cert.OutDxRefIdeal.main_arg2) = m ((c.tc : Thread Cert.OutDxRefIdeal.nD Cert.OutDxRefIdeal.τ).loc Cert.OutDxRefIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_AdamModRefIdeal [hAdamModRefIdeal : Cert.AdamModRefIdeal.Facts] : Prop :=
  ∀ (m : (ℓ : Loc Cert.AdamModRefIdeal.nD Cert.AdamModRefIdeal.τ Cert.AdamModRefIdeal.sig) → Buf (Elt Ideal) ℓ) (g : Dev Cert.AdamModRefIdeal.nD → PrngReg), Pre_AdamModRefIdeal m →
    θ_run (Cert.AdamModRefIdeal.defs (F := Ideal)) (onTc (τ := Cert.AdamModRefIdeal.τ) (Cert.AdamModRefIdeal.main (F := Ideal))) ⟨m, fun _ => 0, g⟩ (fun r => (∀ c : Dev Cert.AdamModRefIdeal.nD,
      r.2.mem ((c.tc : Thread Cert.AdamModRefIdeal.nD Cert.AdamModRefIdeal.τ).loc Cert.AdamModRefIdeal.main_arg0) = m ((c.tc : Thread Cert.AdamModRefIdeal.nD Cert.AdamModRefIdeal.τ).loc Cert.AdamModRefIdeal.main_arg0)
      ∧ r.2.mem ((c.tc : Thread Cert.AdamModRefIdeal.nD Cert.AdamModRefIdeal.τ).loc Cert.AdamModRefIdeal.main_arg1) = m ((c.tc : Thread Cert.AdamModRefIdeal.nD Cert.AdamModRefIdeal.τ).loc Cert.AdamModRefIdeal.main_arg1)
      ∧ r.2.mem ((c.tc : Thread Cert.AdamModRefIdeal.nD Cert.AdamModRefIdeal.τ).loc Cert.AdamModRefIdeal.main_arg2) = m ((c.tc : Thread Cert.AdamModRefIdeal.nD Cert.AdamModRefIdeal.τ).loc Cert.AdamModRefIdeal.main_arg2)
      ∧ r.2.mem ((c.tc : Thread Cert.AdamModRefIdeal.nD Cert.AdamModRefIdeal.τ).loc Cert.AdamModRefIdeal.main_arg3) = m ((c.tc : Thread Cert.AdamModRefIdeal.nD Cert.AdamModRefIdeal.τ).loc Cert.AdamModRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamUq [hAdamUq : Cert.AdamUq.Facts] : Prop :=
  ∀ (m : (ℓ : Loc Cert.AdamUq.nD Cert.AdamUq.τ Cert.AdamUq.sig) → Buf (Elt Bits) ℓ) (g : Dev Cert.AdamUq.nD → PrngReg), Pre_AdamUq m →
    θ_run (Cert.AdamUq.defs (F := Bits)) (onTc (τ := Cert.AdamUq.τ) (Cert.AdamUq.main (F := Bits))) ⟨m, fun _ => 0, g⟩ (fun r => (∀ c : Dev Cert.AdamUq.nD,
      r.2.mem ((c.tc : Thread Cert.AdamUq.nD Cert.AdamUq.τ).loc Cert.AdamUq.main_arg0) = m ((c.tc : Thread Cert.AdamUq.nD Cert.AdamUq.τ).loc Cert.AdamUq.main_arg0)
      ∧ r.2.mem ((c.tc : Thread Cert.AdamUq.nD Cert.AdamUq.τ).loc Cert.AdamUq.main_arg1) = m ((c.tc : Thread Cert.AdamUq.nD Cert.AdamUq.τ).loc Cert.AdamUq.main_arg1)
      ∧ r.2.mem ((c.tc : Thread Cert.AdamUq.nD Cert.AdamUq.τ).loc Cert.AdamUq.main_arg2) = m ((c.tc : Thread Cert.AdamUq.nD Cert.AdamUq.τ).loc Cert.AdamUq.main_arg2)
      ∧ r.2.mem ((c.tc : Thread Cert.AdamUq.nD Cert.AdamUq.τ).loc Cert.AdamUq.main_arg3) = m ((c.tc : Thread Cert.AdamUq.nD Cert.AdamUq.τ).loc Cert.AdamUq.main_arg3))
      ∧ r.2.sem = fun _ => 0)

def quiescent_AdamUqIdeal [hAdamUqIdeal : Cert.AdamUqIdeal.Facts] : Prop :=
  ∀ (m : (ℓ : Loc Cert.AdamUqIdeal.nD Cert.AdamUqIdeal.τ Cert.AdamUqIdeal.sig) → Buf (Elt Ideal) ℓ) (g : Dev Cert.AdamUqIdeal.nD → PrngReg), Pre_AdamUqIdeal m →
    θ_run (Cert.AdamUqIdeal.defs (F := Ideal)) (onTc (τ := Cert.AdamUqIdeal.τ) (Cert.AdamUqIdeal.main (F := Ideal))) ⟨m, fun _ => 0, g⟩ (fun r => (∀ c : Dev Cert.AdamUqIdeal.nD,
      r.2.mem ((c.tc : Thread Cert.AdamUqIdeal.nD Cert.AdamUqIdeal.τ).loc Cert.AdamUqIdeal.main_arg0) = m ((c.tc : Thread Cert.AdamUqIdeal.nD Cert.AdamUqIdeal.τ).loc Cert.AdamUqIdeal.main_arg0)
      ∧ r.2.mem ((c.tc : Thread Cert.AdamUqIdeal.nD Cert.AdamUqIdeal.τ).loc Cert.AdamUqIdeal.main_arg1) = m ((c.tc : Thread Cert.AdamUqIdeal.nD Cert.AdamUqIdeal.τ).loc Cert.AdamUqIdeal.main_arg1)
      ∧ r.2.mem ((c.tc : Thread Cert.AdamUqIdeal.nD Cert.AdamUqIdeal.τ).loc Cert.AdamUqIdeal.main_arg2) = m ((c.tc : Thread Cert.AdamUqIdeal.nD Cert.AdamUqIdeal.τ).loc Cert.AdamUqIdeal.main_arg2)
      ∧ r.2.mem ((c.tc : Thread Cert.AdamUqIdeal.nD Cert.AdamUqIdeal.τ).loc Cert.AdamUqIdeal.main_arg3) = m ((c.tc : Thread Cert.AdamUqIdeal.nD Cert.AdamUqIdeal.τ).loc Cert.AdamUqIdeal.main_arg3))
      ∧ r.2.sem = fun _ => 0)

def quiescent_AdamUqRefIdeal [hAdamUqRefIdeal : Cert.AdamUqRefIdeal.Facts] : Prop :=
  ∀ (m : (ℓ : Loc Cert.AdamUqRefIdeal.nD Cert.AdamUqRefIdeal.τ Cert.AdamUqRefIdeal.sig) → Buf (Elt Ideal) ℓ) (g : Dev Cert.AdamUqRefIdeal.nD → PrngReg), Pre_AdamUqRefIdeal m →
    θ_run (Cert.AdamUqRefIdeal.defs (F := Ideal)) (onTc (τ := Cert.AdamUqRefIdeal.τ) (Cert.AdamUqRefIdeal.main (F := Ideal))) ⟨m, fun _ => 0, g⟩ (fun r => (∀ c : Dev Cert.AdamUqRefIdeal.nD,
      r.2.mem ((c.tc : Thread Cert.AdamUqRefIdeal.nD Cert.AdamUqRefIdeal.τ).loc Cert.AdamUqRefIdeal.main_arg0) = m ((c.tc : Thread Cert.AdamUqRefIdeal.nD Cert.AdamUqRefIdeal.τ).loc Cert.AdamUqRefIdeal.main_arg0)
      ∧ r.2.mem ((c.tc : Thread Cert.AdamUqRefIdeal.nD Cert.AdamUqRefIdeal.τ).loc Cert.AdamUqRefIdeal.main_arg1) = m ((c.tc : Thread Cert.AdamUqRefIdeal.nD Cert.AdamUqRefIdeal.τ).loc Cert.AdamUqRefIdeal.main_arg1)
      ∧ r.2.mem ((c.tc : Thread Cert.AdamUqRefIdeal.nD Cert.AdamUqRefIdeal.τ).loc Cert.AdamUqRefIdeal.main_arg2) = m ((c.tc : Thread Cert.AdamUqRefIdeal.nD Cert.AdamUqRefIdeal.τ).loc Cert.AdamUqRefIdeal.main_arg2)
      ∧ r.2.mem ((c.tc : Thread Cert.AdamUqRefIdeal.nD Cert.AdamUqRefIdeal.τ).loc Cert.AdamUqRefIdeal.main_arg3) = m ((c.tc : Thread Cert.AdamUqRefIdeal.nD Cert.AdamUqRefIdeal.τ).loc Cert.AdamUqRefIdeal.main_arg3))
      ∧ r.2.sem = fun _ => 0)

def quiescent_AdamUkv [hAdamUkv : Cert.AdamUkv.Facts] : Prop :=
  ∀ (m : (ℓ : Loc Cert.AdamUkv.nD Cert.AdamUkv.τ Cert.AdamUkv.sig) → Buf (Elt Bits) ℓ) (g : Dev Cert.AdamUkv.nD → PrngReg), Pre_AdamUkv m →
    θ_run (Cert.AdamUkv.defs (F := Bits)) (onTc (τ := Cert.AdamUkv.τ) (Cert.AdamUkv.main (F := Bits))) ⟨m, fun _ => 0, g⟩ (fun r => (∀ c : Dev Cert.AdamUkv.nD,
      r.2.mem ((c.tc : Thread Cert.AdamUkv.nD Cert.AdamUkv.τ).loc Cert.AdamUkv.main_arg0) = m ((c.tc : Thread Cert.AdamUkv.nD Cert.AdamUkv.τ).loc Cert.AdamUkv.main_arg0)
      ∧ r.2.mem ((c.tc : Thread Cert.AdamUkv.nD Cert.AdamUkv.τ).loc Cert.AdamUkv.main_arg1) = m ((c.tc : Thread Cert.AdamUkv.nD Cert.AdamUkv.τ).loc Cert.AdamUkv.main_arg1)
      ∧ r.2.mem ((c.tc : Thread Cert.AdamUkv.nD Cert.AdamUkv.τ).loc Cert.AdamUkv.main_arg2) = m ((c.tc : Thread Cert.AdamUkv.nD Cert.AdamUkv.τ).loc Cert.AdamUkv.main_arg2)
      ∧ r.2.mem ((c.tc : Thread Cert.AdamUkv.nD Cert.AdamUkv.τ).loc Cert.AdamUkv.main_arg3) = m ((c.tc : Thread Cert.AdamUkv.nD Cert.AdamUkv.τ).loc Cert.AdamUkv.main_arg3))
      ∧ r.2.sem = fun _ => 0)

def quiescent_AdamUkvIdeal [hAdamUkvIdeal : Cert.AdamUkvIdeal.Facts] : Prop :=
  ∀ (m : (ℓ : Loc Cert.AdamUkvIdeal.nD Cert.AdamUkvIdeal.τ Cert.AdamUkvIdeal.sig) → Buf (Elt Ideal) ℓ) (g : Dev Cert.AdamUkvIdeal.nD → PrngReg), Pre_AdamUkvIdeal m →
    θ_run (Cert.AdamUkvIdeal.defs (F := Ideal)) (onTc (τ := Cert.AdamUkvIdeal.τ) (Cert.AdamUkvIdeal.main (F := Ideal))) ⟨m, fun _ => 0, g⟩ (fun r => (∀ c : Dev Cert.AdamUkvIdeal.nD,
      r.2.mem ((c.tc : Thread Cert.AdamUkvIdeal.nD Cert.AdamUkvIdeal.τ).loc Cert.AdamUkvIdeal.main_arg0) = m ((c.tc : Thread Cert.AdamUkvIdeal.nD Cert.AdamUkvIdeal.τ).loc Cert.AdamUkvIdeal.main_arg0)
      ∧ r.2.mem ((c.tc : Thread Cert.AdamUkvIdeal.nD Cert.AdamUkvIdeal.τ).loc Cert.AdamUkvIdeal.main_arg1) = m ((c.tc : Thread Cert.AdamUkvIdeal.nD Cert.AdamUkvIdeal.τ).loc Cert.AdamUkvIdeal.main_arg1)
      ∧ r.2.mem ((c.tc : Thread Cert.AdamUkvIdeal.nD Cert.AdamUkvIdeal.τ).loc Cert.AdamUkvIdeal.main_arg2) = m ((c.tc : Thread Cert.AdamUkvIdeal.nD Cert.AdamUkvIdeal.τ).loc Cert.AdamUkvIdeal.main_arg2)
      ∧ r.2.mem ((c.tc : Thread Cert.AdamUkvIdeal.nD Cert.AdamUkvIdeal.τ).loc Cert.AdamUkvIdeal.main_arg3) = m ((c.tc : Thread Cert.AdamUkvIdeal.nD Cert.AdamUkvIdeal.τ).loc Cert.AdamUkvIdeal.main_arg3))
      ∧ r.2.sem = fun _ => 0)

def quiescent_AdamUkvRefIdeal [hAdamUkvRefIdeal : Cert.AdamUkvRefIdeal.Facts] : Prop :=
  ∀ (m : (ℓ : Loc Cert.AdamUkvRefIdeal.nD Cert.AdamUkvRefIdeal.τ Cert.AdamUkvRefIdeal.sig) → Buf (Elt Ideal) ℓ) (g : Dev Cert.AdamUkvRefIdeal.nD → PrngReg), Pre_AdamUkvRefIdeal m →
    θ_run (Cert.AdamUkvRefIdeal.defs (F := Ideal)) (onTc (τ := Cert.AdamUkvRefIdeal.τ) (Cert.AdamUkvRefIdeal.main (F := Ideal))) ⟨m, fun _ => 0, g⟩ (fun r => (∀ c : Dev Cert.AdamUkvRefIdeal.nD,
      r.2.mem ((c.tc : Thread Cert.AdamUkvRefIdeal.nD Cert.AdamUkvRefIdeal.τ).loc Cert.AdamUkvRefIdeal.main_arg0) = m ((c.tc : Thread Cert.AdamUkvRefIdeal.nD Cert.AdamUkvRefIdeal.τ).loc Cert.AdamUkvRefIdeal.main_arg0)
      ∧ r.2.mem ((c.tc : Thread Cert.AdamUkvRefIdeal.nD Cert.AdamUkvRefIdeal.τ).loc Cert.AdamUkvRefIdeal.main_arg1) = m ((c.tc : Thread Cert.AdamUkvRefIdeal.nD Cert.AdamUkvRefIdeal.τ).loc Cert.AdamUkvRefIdeal.main_arg1)
      ∧ r.2.mem ((c.tc : Thread Cert.AdamUkvRefIdeal.nD Cert.AdamUkvRefIdeal.τ).loc Cert.AdamUkvRefIdeal.main_arg2) = m ((c.tc : Thread Cert.AdamUkvRefIdeal.nD Cert.AdamUkvRefIdeal.τ).loc Cert.AdamUkvRefIdeal.main_arg2)
      ∧ r.2.mem ((c.tc : Thread Cert.AdamUkvRefIdeal.nD Cert.AdamUkvRefIdeal.τ).loc Cert.AdamUkvRefIdeal.main_arg3) = m ((c.tc : Thread Cert.AdamUkvRefIdeal.nD Cert.AdamUkvRefIdeal.τ).loc Cert.AdamUkvRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamFf1 [hAdamFf1 : Cert.AdamFf1.Facts] : Prop :=
  ∀ (m : (ℓ : Loc Cert.AdamFf1.nD Cert.AdamFf1.τ Cert.AdamFf1.sig) → Buf (Elt Bits) ℓ) (g : Dev Cert.AdamFf1.nD → PrngReg), Pre_AdamFf1 m →
    θ_run (Cert.AdamFf1.defs (F := Bits)) (onTc (τ := Cert.AdamFf1.τ) (Cert.AdamFf1.main (F := Bits))) ⟨m, fun _ => 0, g⟩ (fun r => (∀ c : Dev Cert.AdamFf1.nD,
      r.2.mem ((c.tc : Thread Cert.AdamFf1.nD Cert.AdamFf1.τ).loc Cert.AdamFf1.main_arg0) = m ((c.tc : Thread Cert.AdamFf1.nD Cert.AdamFf1.τ).loc Cert.AdamFf1.main_arg0)
      ∧ r.2.mem ((c.tc : Thread Cert.AdamFf1.nD Cert.AdamFf1.τ).loc Cert.AdamFf1.main_arg1) = m ((c.tc : Thread Cert.AdamFf1.nD Cert.AdamFf1.τ).loc Cert.AdamFf1.main_arg1)
      ∧ r.2.mem ((c.tc : Thread Cert.AdamFf1.nD Cert.AdamFf1.τ).loc Cert.AdamFf1.main_arg2) = m ((c.tc : Thread Cert.AdamFf1.nD Cert.AdamFf1.τ).loc Cert.AdamFf1.main_arg2)
      ∧ r.2.mem ((c.tc : Thread Cert.AdamFf1.nD Cert.AdamFf1.τ).loc Cert.AdamFf1.main_arg3) = m ((c.tc : Thread Cert.AdamFf1.nD Cert.AdamFf1.τ).loc Cert.AdamFf1.main_arg3))
      ∧ r.2.sem = fun _ => 0)

def quiescent_AdamFf1Ideal [hAdamFf1Ideal : Cert.AdamFf1Ideal.Facts] : Prop :=
  ∀ (m : (ℓ : Loc Cert.AdamFf1Ideal.nD Cert.AdamFf1Ideal.τ Cert.AdamFf1Ideal.sig) → Buf (Elt Ideal) ℓ) (g : Dev Cert.AdamFf1Ideal.nD → PrngReg), Pre_AdamFf1Ideal m →
    θ_run (Cert.AdamFf1Ideal.defs (F := Ideal)) (onTc (τ := Cert.AdamFf1Ideal.τ) (Cert.AdamFf1Ideal.main (F := Ideal))) ⟨m, fun _ => 0, g⟩ (fun r => (∀ c : Dev Cert.AdamFf1Ideal.nD,
      r.2.mem ((c.tc : Thread Cert.AdamFf1Ideal.nD Cert.AdamFf1Ideal.τ).loc Cert.AdamFf1Ideal.main_arg0) = m ((c.tc : Thread Cert.AdamFf1Ideal.nD Cert.AdamFf1Ideal.τ).loc Cert.AdamFf1Ideal.main_arg0)
      ∧ r.2.mem ((c.tc : Thread Cert.AdamFf1Ideal.nD Cert.AdamFf1Ideal.τ).loc Cert.AdamFf1Ideal.main_arg1) = m ((c.tc : Thread Cert.AdamFf1Ideal.nD Cert.AdamFf1Ideal.τ).loc Cert.AdamFf1Ideal.main_arg1)
      ∧ r.2.mem ((c.tc : Thread Cert.AdamFf1Ideal.nD Cert.AdamFf1Ideal.τ).loc Cert.AdamFf1Ideal.main_arg2) = m ((c.tc : Thread Cert.AdamFf1Ideal.nD Cert.AdamFf1Ideal.τ).loc Cert.AdamFf1Ideal.main_arg2)
      ∧ r.2.mem ((c.tc : Thread Cert.AdamFf1Ideal.nD Cert.AdamFf1Ideal.τ).loc Cert.AdamFf1Ideal.main_arg3) = m ((c.tc : Thread Cert.AdamFf1Ideal.nD Cert.AdamFf1Ideal.τ).loc Cert.AdamFf1Ideal.main_arg3))
      ∧ r.2.sem = fun _ => 0)

def quiescent_AdamFf1RefIdeal [hAdamFf1RefIdeal : Cert.AdamFf1RefIdeal.Facts] : Prop :=
  ∀ (m : (ℓ : Loc Cert.AdamFf1RefIdeal.nD Cert.AdamFf1RefIdeal.τ Cert.AdamFf1RefIdeal.sig) → Buf (Elt Ideal) ℓ) (g : Dev Cert.AdamFf1RefIdeal.nD → PrngReg), Pre_AdamFf1RefIdeal m →
    θ_run (Cert.AdamFf1RefIdeal.defs (F := Ideal)) (onTc (τ := Cert.AdamFf1RefIdeal.τ) (Cert.AdamFf1RefIdeal.main (F := Ideal))) ⟨m, fun _ => 0, g⟩ (fun r => (∀ c : Dev Cert.AdamFf1RefIdeal.nD,
      r.2.mem ((c.tc : Thread Cert.AdamFf1RefIdeal.nD Cert.AdamFf1RefIdeal.τ).loc Cert.AdamFf1RefIdeal.main_arg0) = m ((c.tc : Thread Cert.AdamFf1RefIdeal.nD Cert.AdamFf1RefIdeal.τ).loc Cert.AdamFf1RefIdeal.main_arg0)
      ∧ r.2.mem ((c.tc : Thread Cert.AdamFf1RefIdeal.nD Cert.AdamFf1RefIdeal.τ).loc Cert.AdamFf1RefIdeal.main_arg1) = m ((c.tc : Thread Cert.AdamFf1RefIdeal.nD Cert.AdamFf1RefIdeal.τ).loc Cert.AdamFf1RefIdeal.main_arg1)
      ∧ r.2.mem ((c.tc : Thread Cert.AdamFf1RefIdeal.nD Cert.AdamFf1RefIdeal.τ).loc Cert.AdamFf1RefIdeal.main_arg2) = m ((c.tc : Thread Cert.AdamFf1RefIdeal.nD Cert.AdamFf1RefIdeal.τ).loc Cert.AdamFf1RefIdeal.main_arg2)
      ∧ r.2.mem ((c.tc : Thread Cert.AdamFf1RefIdeal.nD Cert.AdamFf1RefIdeal.τ).loc Cert.AdamFf1RefIdeal.main_arg3) = m ((c.tc : Thread Cert.AdamFf1RefIdeal.nD Cert.AdamFf1RefIdeal.τ).loc Cert.AdamFf1RefIdeal.main_arg3))
      ∧ r.2.sem = fun _ => 0)

def quiescent_AdamFf2 [hAdamFf2 : Cert.AdamFf2.Facts] : Prop :=
  ∀ (m : (ℓ : Loc Cert.AdamFf2.nD Cert.AdamFf2.τ Cert.AdamFf2.sig) → Buf (Elt Bits) ℓ) (g : Dev Cert.AdamFf2.nD → PrngReg), Pre_AdamFf2 m →
    θ_run (Cert.AdamFf2.defs (F := Bits)) (onTc (τ := Cert.AdamFf2.τ) (Cert.AdamFf2.main (F := Bits))) ⟨m, fun _ => 0, g⟩ (fun r => (∀ c : Dev Cert.AdamFf2.nD,
      r.2.mem ((c.tc : Thread Cert.AdamFf2.nD Cert.AdamFf2.τ).loc Cert.AdamFf2.main_arg0) = m ((c.tc : Thread Cert.AdamFf2.nD Cert.AdamFf2.τ).loc Cert.AdamFf2.main_arg0)
      ∧ r.2.mem ((c.tc : Thread Cert.AdamFf2.nD Cert.AdamFf2.τ).loc Cert.AdamFf2.main_arg1) = m ((c.tc : Thread Cert.AdamFf2.nD Cert.AdamFf2.τ).loc Cert.AdamFf2.main_arg1)
      ∧ r.2.mem ((c.tc : Thread Cert.AdamFf2.nD Cert.AdamFf2.τ).loc Cert.AdamFf2.main_arg2) = m ((c.tc : Thread Cert.AdamFf2.nD Cert.AdamFf2.τ).loc Cert.AdamFf2.main_arg2)
      ∧ r.2.mem ((c.tc : Thread Cert.AdamFf2.nD Cert.AdamFf2.τ).loc Cert.AdamFf2.main_arg3) = m ((c.tc : Thread Cert.AdamFf2.nD Cert.AdamFf2.τ).loc Cert.AdamFf2.main_arg3))
      ∧ r.2.sem = fun _ => 0)

def quiescent_AdamFf2Ideal [hAdamFf2Ideal : Cert.AdamFf2Ideal.Facts] : Prop :=
  ∀ (m : (ℓ : Loc Cert.AdamFf2Ideal.nD Cert.AdamFf2Ideal.τ Cert.AdamFf2Ideal.sig) → Buf (Elt Ideal) ℓ) (g : Dev Cert.AdamFf2Ideal.nD → PrngReg), Pre_AdamFf2Ideal m →
    θ_run (Cert.AdamFf2Ideal.defs (F := Ideal)) (onTc (τ := Cert.AdamFf2Ideal.τ) (Cert.AdamFf2Ideal.main (F := Ideal))) ⟨m, fun _ => 0, g⟩ (fun r => (∀ c : Dev Cert.AdamFf2Ideal.nD,
      r.2.mem ((c.tc : Thread Cert.AdamFf2Ideal.nD Cert.AdamFf2Ideal.τ).loc Cert.AdamFf2Ideal.main_arg0) = m ((c.tc : Thread Cert.AdamFf2Ideal.nD Cert.AdamFf2Ideal.τ).loc Cert.AdamFf2Ideal.main_arg0)
      ∧ r.2.mem ((c.tc : Thread Cert.AdamFf2Ideal.nD Cert.AdamFf2Ideal.τ).loc Cert.AdamFf2Ideal.main_arg1) = m ((c.tc : Thread Cert.AdamFf2Ideal.nD Cert.AdamFf2Ideal.τ).loc Cert.AdamFf2Ideal.main_arg1)
      ∧ r.2.mem ((c.tc : Thread Cert.AdamFf2Ideal.nD Cert.AdamFf2Ideal.τ).loc Cert.AdamFf2Ideal.main_arg2) = m ((c.tc : Thread Cert.AdamFf2Ideal.nD Cert.AdamFf2Ideal.τ).loc Cert.AdamFf2Ideal.main_arg2)
      ∧ r.2.mem ((c.tc : Thread Cert.AdamFf2Ideal.nD Cert.AdamFf2Ideal.τ).loc Cert.AdamFf2Ideal.main_arg3) = m ((c.tc : Thread Cert.AdamFf2Ideal.nD Cert.AdamFf2Ideal.τ).loc Cert.AdamFf2Ideal.main_arg3))
      ∧ r.2.sem = fun _ => 0)

def quiescent_AdamFf2RefIdeal [hAdamFf2RefIdeal : Cert.AdamFf2RefIdeal.Facts] : Prop :=
  ∀ (m : (ℓ : Loc Cert.AdamFf2RefIdeal.nD Cert.AdamFf2RefIdeal.τ Cert.AdamFf2RefIdeal.sig) → Buf (Elt Ideal) ℓ) (g : Dev Cert.AdamFf2RefIdeal.nD → PrngReg), Pre_AdamFf2RefIdeal m →
    θ_run (Cert.AdamFf2RefIdeal.defs (F := Ideal)) (onTc (τ := Cert.AdamFf2RefIdeal.τ) (Cert.AdamFf2RefIdeal.main (F := Ideal))) ⟨m, fun _ => 0, g⟩ (fun r => (∀ c : Dev Cert.AdamFf2RefIdeal.nD,
      r.2.mem ((c.tc : Thread Cert.AdamFf2RefIdeal.nD Cert.AdamFf2RefIdeal.τ).loc Cert.AdamFf2RefIdeal.main_arg0) = m ((c.tc : Thread Cert.AdamFf2RefIdeal.nD Cert.AdamFf2RefIdeal.τ).loc Cert.AdamFf2RefIdeal.main_arg0)
      ∧ r.2.mem ((c.tc : Thread Cert.AdamFf2RefIdeal.nD Cert.AdamFf2RefIdeal.τ).loc Cert.AdamFf2RefIdeal.main_arg1) = m ((c.tc : Thread Cert.AdamFf2RefIdeal.nD Cert.AdamFf2RefIdeal.τ).loc Cert.AdamFf2RefIdeal.main_arg1)
      ∧ r.2.mem ((c.tc : Thread Cert.AdamFf2RefIdeal.nD Cert.AdamFf2RefIdeal.τ).loc Cert.AdamFf2RefIdeal.main_arg2) = m ((c.tc : Thread Cert.AdamFf2RefIdeal.nD Cert.AdamFf2RefIdeal.τ).loc Cert.AdamFf2RefIdeal.main_arg2)
      ∧ r.2.mem ((c.tc : Thread Cert.AdamFf2RefIdeal.nD Cert.AdamFf2RefIdeal.τ).loc Cert.AdamFf2RefIdeal.main_arg3) = m ((c.tc : Thread Cert.AdamFf2RefIdeal.nD Cert.AdamFf2RefIdeal.τ).loc Cert.AdamFf2RefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ff2Dx_Ff2DxIdeal : Prop :=
  True

def algebraic_Ff2DxIdeal_Ff2DxRefIdeal [hFf2DxIdeal : Cert.Ff2DxIdeal.Facts] [hFf2DxRefIdeal : Cert.Ff2DxRefIdeal.Facts] : Prop :=
  ∀ (m : (ℓ : Loc Cert.Ff2DxIdeal.nD Cert.Ff2DxIdeal.τ Cert.Ff2DxIdeal.sig) → Buf (Elt Ideal) ℓ) (g : Dev Cert.Ff2DxIdeal.nD → PrngReg)
    (m' : (ℓ : Loc Cert.Ff2DxRefIdeal.nD Cert.Ff2DxRefIdeal.τ Cert.Ff2DxRefIdeal.sig) → Buf (Elt Ideal) ℓ) (g' : Dev Cert.Ff2DxRefIdeal.nD → PrngReg), Pre_Ff2DxIdeal m →
    (∀ c : Dev Cert.Ff2DxIdeal.nD,
      m' ((c.tc : Thread Cert.Ff2DxRefIdeal.nD Cert.Ff2DxRefIdeal.τ).loc Cert.Ff2DxRefIdeal.main_arg0) = m ((c.tc : Thread Cert.Ff2DxIdeal.nD Cert.Ff2DxIdeal.τ).loc Cert.Ff2DxIdeal.main_arg0)
      ∧ m' ((c.tc : Thread Cert.Ff2DxRefIdeal.nD Cert.Ff2DxRefIdeal.τ).loc Cert.Ff2DxRefIdeal.main_arg1) = m ((c.tc : Thread Cert.Ff2DxIdeal.nD Cert.Ff2DxIdeal.τ).loc Cert.Ff2DxIdeal.main_arg1)
      ∧ m' ((c.tc : Thread Cert.Ff2DxRefIdeal.nD Cert.Ff2DxRefIdeal.τ).loc Cert.Ff2DxRefIdeal.main_arg2) = m ((c.tc : Thread Cert.Ff2DxIdeal.nD Cert.Ff2DxIdeal.τ).loc Cert.Ff2DxIdeal.main_arg2)) →
    ∃ (v0 : (c : Dev Cert.Ff2DxIdeal.nD) → Buf (Elt Ideal) ((c.tc : Thread Cert.Ff2DxIdeal.nD Cert.Ff2DxIdeal.τ).loc Cert.Ff2DxIdeal.main_v3)),
      θ_run (Cert.Ff2DxIdeal.defs (F := Ideal)) (onTc (τ := Cert.Ff2DxIdeal.τ) (Cert.Ff2DxIdeal.main (F := Ideal))) ⟨m, fun _ => 0, g⟩ (fun r => ∀ c : Dev Cert.Ff2DxIdeal.nD,
          r.2.mem ((c.tc : Thread Cert.Ff2DxIdeal.nD Cert.Ff2DxIdeal.τ).loc Cert.Ff2DxIdeal.main_v3) = v0 c
          ∧ r.2.mem ((c.tc : Thread Cert.Ff2DxIdeal.nD Cert.Ff2DxIdeal.τ).loc Cert.Ff2DxIdeal.main_arg0) = m ((c.tc : Thread Cert.Ff2DxIdeal.nD Cert.Ff2DxIdeal.τ).loc Cert.Ff2DxIdeal.main_arg0)
          ∧ r.2.mem ((c.tc : Thread Cert.Ff2DxIdeal.nD Cert.Ff2DxIdeal.τ).loc Cert.Ff2DxIdeal.main_arg1) = m ((c.tc : Thread Cert.Ff2DxIdeal.nD Cert.Ff2DxIdeal.τ).loc Cert.Ff2DxIdeal.main_arg1)
          ∧ r.2.mem ((c.tc : Thread Cert.Ff2DxIdeal.nD Cert.Ff2DxIdeal.τ).loc Cert.Ff2DxIdeal.main_arg2) = m ((c.tc : Thread Cert.Ff2DxIdeal.nD Cert.Ff2DxIdeal.τ).loc Cert.Ff2DxIdeal.main_arg2))
      ∧ θ_run (Cert.Ff2DxRefIdeal.defs (F := Ideal)) (onTc (τ := Cert.Ff2DxRefIdeal.τ) (Cert.Ff2DxRefIdeal.main (F := Ideal))) ⟨m', fun _ => 0, g'⟩ (fun r => ∀ c : Dev Cert.Ff2DxRefIdeal.nD,
          r.2.mem ((c.tc : Thread Cert.Ff2DxRefIdeal.nD Cert.Ff2DxRefIdeal.τ).loc Cert.Ff2DxRefIdeal.main_v14) = v0 c
          ∧ r.2.mem ((c.tc : Thread Cert.Ff2DxRefIdeal.nD Cert.Ff2DxRefIdeal.τ).loc Cert.Ff2DxRefIdeal.main_arg0) = m' ((c.tc : Thread Cert.Ff2DxRefIdeal.nD Cert.Ff2DxRefIdeal.τ).loc Cert.Ff2DxRefIdeal.main_arg0)
          ∧ r.2.mem ((c.tc : Thread Cert.Ff2DxRefIdeal.nD Cert.Ff2DxRefIdeal.τ).loc Cert.Ff2DxRefIdeal.main_arg1) = m' ((c.tc : Thread Cert.Ff2DxRefIdeal.nD Cert.Ff2DxRefIdeal.τ).loc Cert.Ff2DxRefIdeal.main_arg1)
          ∧ r.2.mem ((c.tc : Thread Cert.Ff2DxRefIdeal.nD Cert.Ff2DxRefIdeal.τ).loc Cert.Ff2DxRefIdeal.main_arg2) = m' ((c.tc : Thread Cert.Ff2DxRefIdeal.nD Cert.Ff2DxRefIdeal.τ).loc Cert.Ff2DxRefIdeal.main_arg2))

def preserves_Ff2Dw_Ff2DwIdeal : Prop :=
  True

def algebraic_Ff2DwIdeal_Ff2DwRefIdeal [hFf2DwIdeal : Cert.Ff2DwIdeal.Facts] [hFf2DwRefIdeal : Cert.Ff2DwRefIdeal.Facts] : Prop :=
  ∀ (m : (ℓ : Loc Cert.Ff2DwIdeal.nD Cert.Ff2DwIdeal.τ Cert.Ff2DwIdeal.sig) → Buf (Elt Ideal) ℓ) (g : Dev Cert.Ff2DwIdeal.nD → PrngReg)
    (m' : (ℓ : Loc Cert.Ff2DwRefIdeal.nD Cert.Ff2DwRefIdeal.τ Cert.Ff2DwRefIdeal.sig) → Buf (Elt Ideal) ℓ) (g' : Dev Cert.Ff2DwRefIdeal.nD → PrngReg), Pre_Ff2DwIdeal m →
    (∀ c : Dev Cert.Ff2DwIdeal.nD,
      m' ((c.tc : Thread Cert.Ff2DwRefIdeal.nD Cert.Ff2DwRefIdeal.τ).loc Cert.Ff2DwRefIdeal.main_arg0) = m ((c.tc : Thread Cert.Ff2DwIdeal.nD Cert.Ff2DwIdeal.τ).loc Cert.Ff2DwIdeal.main_arg0)
      ∧ m' ((c.tc : Thread Cert.Ff2DwRefIdeal.nD Cert.Ff2DwRefIdeal.τ).loc Cert.Ff2DwRefIdeal.main_arg1) = m ((c.tc : Thread Cert.Ff2DwIdeal.nD Cert.Ff2DwIdeal.τ).loc Cert.Ff2DwIdeal.main_arg1)
      ∧ m' ((c.tc : Thread Cert.Ff2DwRefIdeal.nD Cert.Ff2DwRefIdeal.τ).loc Cert.Ff2DwRefIdeal.main_arg2) = m ((c.tc : Thread Cert.Ff2DwIdeal.nD Cert.Ff2DwIdeal.τ).loc Cert.Ff2DwIdeal.main_arg2)) →
    ∃ (v0 : (c : Dev Cert.Ff2DwIdeal.nD) → Buf (Elt Ideal) ((c.tc : Thread Cert.Ff2DwIdeal.nD Cert.Ff2DwIdeal.τ).loc Cert.Ff2DwIdeal.main_v4)),
      θ_run (Cert.Ff2DwIdeal.defs (F := Ideal)) (onTc (τ := Cert.Ff2DwIdeal.τ) (Cert.Ff2DwIdeal.main (F := Ideal))) ⟨m, fun _ => 0, g⟩ (fun r => ∀ c : Dev Cert.Ff2DwIdeal.nD,
          r.2.mem ((c.tc : Thread Cert.Ff2DwIdeal.nD Cert.Ff2DwIdeal.τ).loc Cert.Ff2DwIdeal.main_v4) = v0 c
          ∧ r.2.mem ((c.tc : Thread Cert.Ff2DwIdeal.nD Cert.Ff2DwIdeal.τ).loc Cert.Ff2DwIdeal.main_arg0) = m ((c.tc : Thread Cert.Ff2DwIdeal.nD Cert.Ff2DwIdeal.τ).loc Cert.Ff2DwIdeal.main_arg0)
          ∧ r.2.mem ((c.tc : Thread Cert.Ff2DwIdeal.nD Cert.Ff2DwIdeal.τ).loc Cert.Ff2DwIdeal.main_arg1) = m ((c.tc : Thread Cert.Ff2DwIdeal.nD Cert.Ff2DwIdeal.τ).loc Cert.Ff2DwIdeal.main_arg1)
          ∧ r.2.mem ((c.tc : Thread Cert.Ff2DwIdeal.nD Cert.Ff2DwIdeal.τ).loc Cert.Ff2DwIdeal.main_arg2) = m ((c.tc : Thread Cert.Ff2DwIdeal.nD Cert.Ff2DwIdeal.τ).loc Cert.Ff2DwIdeal.main_arg2))
      ∧ θ_run (Cert.Ff2DwRefIdeal.defs (F := Ideal)) (onTc (τ := Cert.Ff2DwRefIdeal.τ) (Cert.Ff2DwRefIdeal.main (F := Ideal))) ⟨m', fun _ => 0, g'⟩ (fun r => ∀ c : Dev Cert.Ff2DwRefIdeal.nD,
          r.2.mem ((c.tc : Thread Cert.Ff2DwRefIdeal.nD Cert.Ff2DwRefIdeal.τ).loc Cert.Ff2DwRefIdeal.main_v14) = v0 c
          ∧ r.2.mem ((c.tc : Thread Cert.Ff2DwRefIdeal.nD Cert.Ff2DwRefIdeal.τ).loc Cert.Ff2DwRefIdeal.main_arg0) = m' ((c.tc : Thread Cert.Ff2DwRefIdeal.nD Cert.Ff2DwRefIdeal.τ).loc Cert.Ff2DwRefIdeal.main_arg0)
          ∧ r.2.mem ((c.tc : Thread Cert.Ff2DwRefIdeal.nD Cert.Ff2DwRefIdeal.τ).loc Cert.Ff2DwRefIdeal.main_arg1) = m' ((c.tc : Thread Cert.Ff2DwRefIdeal.nD Cert.Ff2DwRefIdeal.τ).loc Cert.Ff2DwRefIdeal.main_arg1)
          ∧ r.2.mem ((c.tc : Thread Cert.Ff2DwRefIdeal.nD Cert.Ff2DwRefIdeal.τ).loc Cert.Ff2DwRefIdeal.main_arg2) = m' ((c.tc : Thread Cert.Ff2DwRefIdeal.nD Cert.Ff2DwRefIdeal.τ).loc Cert.Ff2DwRefIdeal.main_arg2))

def preserves_Ff1Dx_Ff1DxIdeal : Prop :=
  True

def algebraic_Ff1DxIdeal_Ff1DxRefIdeal [hFf1DxIdeal : Cert.Ff1DxIdeal.Facts] [hFf1DxRefIdeal : Cert.Ff1DxRefIdeal.Facts] : Prop :=
  ∀ (m : (ℓ : Loc Cert.Ff1DxIdeal.nD Cert.Ff1DxIdeal.τ Cert.Ff1DxIdeal.sig) → Buf (Elt Ideal) ℓ) (g : Dev Cert.Ff1DxIdeal.nD → PrngReg)
    (m' : (ℓ : Loc Cert.Ff1DxRefIdeal.nD Cert.Ff1DxRefIdeal.τ Cert.Ff1DxRefIdeal.sig) → Buf (Elt Ideal) ℓ) (g' : Dev Cert.Ff1DxRefIdeal.nD → PrngReg), Pre_Ff1DxIdeal m →
    (∀ c : Dev Cert.Ff1DxIdeal.nD,
      m' ((c.tc : Thread Cert.Ff1DxRefIdeal.nD Cert.Ff1DxRefIdeal.τ).loc Cert.Ff1DxRefIdeal.main_arg0) = m ((c.tc : Thread Cert.Ff1DxIdeal.nD Cert.Ff1DxIdeal.τ).loc Cert.Ff1DxIdeal.main_arg0)
      ∧ m' ((c.tc : Thread Cert.Ff1DxRefIdeal.nD Cert.Ff1DxRefIdeal.τ).loc Cert.Ff1DxRefIdeal.main_arg1) = m ((c.tc : Thread Cert.Ff1DxIdeal.nD Cert.Ff1DxIdeal.τ).loc Cert.Ff1DxIdeal.main_arg1)
      ∧ m' ((c.tc : Thread Cert.Ff1DxRefIdeal.nD Cert.Ff1DxRefIdeal.τ).loc Cert.Ff1DxRefIdeal.main_arg2) = m ((c.tc : Thread Cert.Ff1DxIdeal.nD Cert.Ff1DxIdeal.τ).loc Cert.Ff1DxIdeal.main_arg2)) →
    ∃ (v0 : (c : Dev Cert.Ff1DxIdeal.nD) → Buf (Elt Ideal) ((c.tc : Thread Cert.Ff1DxIdeal.nD Cert.Ff1DxIdeal.τ).loc Cert.Ff1DxIdeal.main_v4)),
      θ_run (Cert.Ff1DxIdeal.defs (F := Ideal)) (onTc (τ := Cert.Ff1DxIdeal.τ) (Cert.Ff1DxIdeal.main (F := Ideal))) ⟨m, fun _ => 0, g⟩ (fun r => ∀ c : Dev Cert.Ff1DxIdeal.nD,
          r.2.mem ((c.tc : Thread Cert.Ff1DxIdeal.nD Cert.Ff1DxIdeal.τ).loc Cert.Ff1DxIdeal.main_v4) = v0 c
          ∧ r.2.mem ((c.tc : Thread Cert.Ff1DxIdeal.nD Cert.Ff1DxIdeal.τ).loc Cert.Ff1DxIdeal.main_arg0) = m ((c.tc : Thread Cert.Ff1DxIdeal.nD Cert.Ff1DxIdeal.τ).loc Cert.Ff1DxIdeal.main_arg0)
          ∧ r.2.mem ((c.tc : Thread Cert.Ff1DxIdeal.nD Cert.Ff1DxIdeal.τ).loc Cert.Ff1DxIdeal.main_arg1) = m ((c.tc : Thread Cert.Ff1DxIdeal.nD Cert.Ff1DxIdeal.τ).loc Cert.Ff1DxIdeal.main_arg1)
          ∧ r.2.mem ((c.tc : Thread Cert.Ff1DxIdeal.nD Cert.Ff1DxIdeal.τ).loc Cert.Ff1DxIdeal.main_arg2) = m ((c.tc : Thread Cert.Ff1DxIdeal.nD Cert.Ff1DxIdeal.τ).loc Cert.Ff1DxIdeal.main_arg2))
      ∧ θ_run (Cert.Ff1DxRefIdeal.defs (F := Ideal)) (onTc (τ := Cert.Ff1DxRefIdeal.τ) (Cert.Ff1DxRefIdeal.main (F := Ideal))) ⟨m', fun _ => 0, g'⟩ (fun r => ∀ c : Dev Cert.Ff1DxRefIdeal.nD,
          r.2.mem ((c.tc : Thread Cert.Ff1DxRefIdeal.nD Cert.Ff1DxRefIdeal.τ).loc Cert.Ff1DxRefIdeal.main_v3) = v0 c
          ∧ r.2.mem ((c.tc : Thread Cert.Ff1DxRefIdeal.nD Cert.Ff1DxRefIdeal.τ).loc Cert.Ff1DxRefIdeal.main_arg0) = m' ((c.tc : Thread Cert.Ff1DxRefIdeal.nD Cert.Ff1DxRefIdeal.τ).loc Cert.Ff1DxRefIdeal.main_arg0)
          ∧ r.2.mem ((c.tc : Thread Cert.Ff1DxRefIdeal.nD Cert.Ff1DxRefIdeal.τ).loc Cert.Ff1DxRefIdeal.main_arg1) = m' ((c.tc : Thread Cert.Ff1DxRefIdeal.nD Cert.Ff1DxRefIdeal.τ).loc Cert.Ff1DxRefIdeal.main_arg1)
          ∧ r.2.mem ((c.tc : Thread Cert.Ff1DxRefIdeal.nD Cert.Ff1DxRefIdeal.τ).loc Cert.Ff1DxRefIdeal.main_arg2) = m' ((c.tc : Thread Cert.Ff1DxRefIdeal.nD Cert.Ff1DxRefIdeal.τ).loc Cert.Ff1DxRefIdeal.main_arg2))

def preserves_Ff1Dw_Ff1DwIdeal : Prop :=
  True

def algebraic_Ff1DwIdeal_Ff1DwRefIdeal [hFf1DwIdeal : Cert.Ff1DwIdeal.Facts] [hFf1DwRefIdeal : Cert.Ff1DwRefIdeal.Facts] : Prop :=
  ∀ (m : (ℓ : Loc Cert.Ff1DwIdeal.nD Cert.Ff1DwIdeal.τ Cert.Ff1DwIdeal.sig) → Buf (Elt Ideal) ℓ) (g : Dev Cert.Ff1DwIdeal.nD → PrngReg)
    (m' : (ℓ : Loc Cert.Ff1DwRefIdeal.nD Cert.Ff1DwRefIdeal.τ Cert.Ff1DwRefIdeal.sig) → Buf (Elt Ideal) ℓ) (g' : Dev Cert.Ff1DwRefIdeal.nD → PrngReg), Pre_Ff1DwIdeal m →
    (∀ c : Dev Cert.Ff1DwIdeal.nD,
      m' ((c.tc : Thread Cert.Ff1DwRefIdeal.nD Cert.Ff1DwRefIdeal.τ).loc Cert.Ff1DwRefIdeal.main_arg0) = m ((c.tc : Thread Cert.Ff1DwIdeal.nD Cert.Ff1DwIdeal.τ).loc Cert.Ff1DwIdeal.main_arg0)
      ∧ m' ((c.tc : Thread Cert.Ff1DwRefIdeal.nD Cert.Ff1DwRefIdeal.τ).loc Cert.Ff1DwRefIdeal.main_arg1) = m ((c.tc : Thread Cert.Ff1DwIdeal.nD Cert.Ff1DwIdeal.τ).loc Cert.Ff1DwIdeal.main_arg1)
      ∧ m' ((c.tc : Thread Cert.Ff1DwRefIdeal.nD Cert.Ff1DwRefIdeal.τ).loc Cert.Ff1DwRefIdeal.main_arg2) = m ((c.tc : Thread Cert.Ff1DwIdeal.nD Cert.Ff1DwIdeal.τ).loc Cert.Ff1DwIdeal.main_arg2)) →
    ∃ (v0 : (c : Dev Cert.Ff1DwIdeal.nD) → Buf (Elt Ideal) ((c.tc : Thread Cert.Ff1DwIdeal.nD Cert.Ff1DwIdeal.τ).loc Cert.Ff1DwIdeal.main_v2)),
      θ_run (Cert.Ff1DwIdeal.defs (F := Ideal)) (onTc (τ := Cert.Ff1DwIdeal.τ) (Cert.Ff1DwIdeal.main (F := Ideal))) ⟨m, fun _ => 0, g⟩ (fun r => ∀ c : Dev Cert.Ff1DwIdeal.nD,
          r.2.mem ((c.tc : Thread Cert.Ff1DwIdeal.nD Cert.Ff1DwIdeal.τ).loc Cert.Ff1DwIdeal.main_v2) = v0 c
          ∧ r.2.mem ((c.tc : Thread Cert.Ff1DwIdeal.nD Cert.Ff1DwIdeal.τ).loc Cert.Ff1DwIdeal.main_arg0) = m ((c.tc : Thread Cert.Ff1DwIdeal.nD Cert.Ff1DwIdeal.τ).loc Cert.Ff1DwIdeal.main_arg0)
          ∧ r.2.mem ((c.tc : Thread Cert.Ff1DwIdeal.nD Cert.Ff1DwIdeal.τ).loc Cert.Ff1DwIdeal.main_arg1) = m ((c.tc : Thread Cert.Ff1DwIdeal.nD Cert.Ff1DwIdeal.τ).loc Cert.Ff1DwIdeal.main_arg1)
          ∧ r.2.mem ((c.tc : Thread Cert.Ff1DwIdeal.nD Cert.Ff1DwIdeal.τ).loc Cert.Ff1DwIdeal.main_arg2) = m ((c.tc : Thread Cert.Ff1DwIdeal.nD Cert.Ff1DwIdeal.τ).loc Cert.Ff1DwIdeal.main_arg2))
      ∧ θ_run (Cert.Ff1DwRefIdeal.defs (F := Ideal)) (onTc (τ := Cert.Ff1DwRefIdeal.τ) (Cert.Ff1DwRefIdeal.main (F := Ideal))) ⟨m', fun _ => 0, g'⟩ (fun r => ∀ c : Dev Cert.Ff1DwRefIdeal.nD,
          r.2.mem ((c.tc : Thread Cert.Ff1DwRefIdeal.nD Cert.Ff1DwRefIdeal.τ).loc Cert.Ff1DwRefIdeal.main_v21) = v0 c
          ∧ r.2.mem ((c.tc : Thread Cert.Ff1DwRefIdeal.nD Cert.Ff1DwRefIdeal.τ).loc Cert.Ff1DwRefIdeal.main_arg0) = m' ((c.tc : Thread Cert.Ff1DwRefIdeal.nD Cert.Ff1DwRefIdeal.τ).loc Cert.Ff1DwRefIdeal.main_arg0)
          ∧ r.2.mem ((c.tc : Thread Cert.Ff1DwRefIdeal.nD Cert.Ff1DwRefIdeal.τ).loc Cert.Ff1DwRefIdeal.main_arg1) = m' ((c.tc : Thread Cert.Ff1DwRefIdeal.nD Cert.Ff1DwRefIdeal.τ).loc Cert.Ff1DwRefIdeal.main_arg1)
          ∧ r.2.mem ((c.tc : Thread Cert.Ff1DwRefIdeal.nD Cert.Ff1DwRefIdeal.τ).loc Cert.Ff1DwRefIdeal.main_arg2) = m' ((c.tc : Thread Cert.Ff1DwRefIdeal.nD Cert.Ff1DwRefIdeal.τ).loc Cert.Ff1DwRefIdeal.main_arg2))

def preserves_Ff1_Ff1Ideal : Prop :=
  True

def algebraic_Ff1Ideal_Ff1RefIdeal [hFf1Ideal : Cert.Ff1Ideal.Facts] [hFf1RefIdeal : Cert.Ff1RefIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v4_0)) (v1 : (c : Dev Cert.Ff1Ideal.nD) → Buf (Elt Ideal) ((c.tc : Thread Cert.Ff1Ideal.nD Cert.Ff1Ideal.τ).loc Cert.Ff1Ideal.main_v4_1)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v4_0) = v0 c
          ∧ r.2.mem ((c.tc : Thread Cert.Ff1Ideal.nD Cert.Ff1Ideal.τ).loc Cert.Ff1Ideal.main_v4_1) = v1 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v1) = v0 c
          ∧ r.2.mem ((c.tc : Thread Cert.Ff1RefIdeal.nD Cert.Ff1RefIdeal.τ).loc Cert.Ff1RefIdeal.main_v3) = v1 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1))

def preserves_Ff2_Ff2Ideal : Prop :=
  True

def algebraic_Ff2Ideal_Ff2RefIdeal [hFf2Ideal : Cert.Ff2Ideal.Facts] [hFf2RefIdeal : Cert.Ff2RefIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2RefIdeal.nD Cert.Ff2RefIdeal.τ Cert.Ff2RefIdeal.sig) → Buf (Elt Ideal) ℓ) (g' : Dev Cert.Ff2RefIdeal.nD → PrngReg), Pre_Ff2Ideal m →
    (∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)
      ∧ m' ((c.tc : Thread Cert.Ff2RefIdeal.nD Cert.Ff2RefIdeal.τ).loc Cert.Ff2RefIdeal.main_arg2) = m ((c.tc : Thread Cert.Ff2Ideal.nD Cert.Ff2Ideal.τ).loc Cert.Ff2Ideal.main_arg2)
      ∧ m' ((c.tc : Thread Cert.Ff2RefIdeal.nD Cert.Ff2RefIdeal.τ).loc Cert.Ff2RefIdeal.main_arg3) = m ((c.tc : Thread Cert.Ff2Ideal.nD Cert.Ff2Ideal.τ).loc Cert.Ff2Ideal.main_arg3)) →
    ∃ (v0 : (c : Dev Cert.Ff2Ideal.nD) → Buf (Elt Ideal) ((c.tc : Thread Cert.Ff2Ideal.nD Cert.Ff2Ideal.τ).loc Cert.Ff2Ideal.main_v2_0)) (v1 : (c : Dev Cert.Ff2Ideal.nD) → Buf (Elt Ideal) ((c.tc : Thread Cert.Ff2Ideal.nD Cert.Ff2Ideal.τ).loc Cert.Ff2Ideal.main_v2_1)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v2_0) = v0 c
          ∧ r.2.mem ((c.tc : Thread Cert.Ff2Ideal.nD Cert.Ff2Ideal.τ).loc Cert.Ff2Ideal.main_v2_1) = v1 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
          ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2)
          ∧ r.2.mem ((c.tc : Thread Cert.Ff2Ideal.nD Cert.Ff2Ideal.τ).loc Cert.Ff2Ideal.main_arg3) = m ((c.tc : Thread Cert.Ff2Ideal.nD Cert.Ff2Ideal.τ).loc Cert.Ff2Ideal.main_arg3))
      ∧ θ_run (Cert.Ff2RefIdeal.defs (F := Ideal)) (onTc (τ := Cert.Ff2RefIdeal.τ) (Cert.Ff2RefIdeal.main (F := Ideal))) ⟨m', fun _ => 0, g'⟩ (fun r => ∀ c : Dev Cert.Ff2RefIdeal.nD,
          r.2.mem ((c.tc : Thread Cert.Ff2RefIdeal.nD Cert.Ff2RefIdeal.τ).loc Cert.Ff2RefIdeal.main_v1) = v0 c
          ∧ r.2.mem ((c.tc : Thread Cert.Ff2RefIdeal.nD Cert.Ff2RefIdeal.τ).loc Cert.Ff2RefIdeal.main_v4) = v1 c
          ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
          ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1)
          ∧ r.2.mem ((c.tc : Thread Cert.Ff2RefIdeal.nD Cert.Ff2RefIdeal.τ).loc Cert.Ff2RefIdeal.main_arg2) = m' ((c.tc : Thread Cert.Ff2RefIdeal.nD Cert.Ff2RefIdeal.τ).loc Cert.Ff2RefIdeal.main_arg2)
          ∧ r.2.mem ((c.tc : Thread Cert.Ff2RefIdeal.nD Cert.Ff2RefIdeal.τ).loc Cert.Ff2RefIdeal.main_arg3) = m' ((c.tc : Thread Cert.Ff2RefIdeal.nD Cert.Ff2RefIdeal.τ).loc Cert.Ff2RefIdeal.main_arg3))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)
      ∧ m' ((c.tc : Thread Cert.OutDxRefIdeal.nD Cert.OutDxRefIdeal.τ).loc Cert.OutDxRefIdeal.main_arg2) = m ((c.tc : Thread Cert.OutDxIdeal.nD Cert.OutDxIdeal.τ).loc Cert.OutDxIdeal.main_arg2)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v3) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1)
          ∧ r.2.mem ((c.tc : Thread Cert.OutDxRefIdeal.nD Cert.OutDxRefIdeal.τ).loc Cert.OutDxRefIdeal.main_arg2) = m' ((c.tc : Thread Cert.OutDxRefIdeal.nD Cert.OutDxRefIdeal.τ).loc Cert.OutDxRefIdeal.main_arg2))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2_0)) (v1 : (c : Dev Cert.OutIdeal.nD) → Buf (Elt Ideal) ((c.tc : Thread Cert.OutIdeal.nD Cert.OutIdeal.τ).loc Cert.OutIdeal.main_v2_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2_0) = v0 c
          ∧ r.2.mem ((c.tc : Thread Cert.OutIdeal.nD Cert.OutIdeal.τ).loc Cert.OutIdeal.main_v2_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_v4) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_AdamMod_AdamModIdeal : Prop :=
  True

def algebraic_AdamModIdeal_AdamModRefIdeal [hAdamModIdeal : Cert.AdamModIdeal.Facts] [hAdamModRefIdeal : Cert.AdamModRefIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModRefIdeal.nD Cert.AdamModRefIdeal.τ Cert.AdamModRefIdeal.sig) → Buf (Elt Ideal) ℓ) (g' : Dev Cert.AdamModRefIdeal.nD → PrngReg), Pre_AdamModIdeal m →
    (∀ c : Dev Cert.AdamModIdeal.nD,
      m' ((c.tc : Thread Cert.AdamModRefIdeal.nD Cert.AdamModRefIdeal.τ).loc Cert.AdamModRefIdeal.main_arg0) = m ((c.tc : Thread Cert.AdamModIdeal.nD Cert.AdamModIdeal.τ).loc Cert.AdamModIdeal.main_arg0)
      ∧ m' ((c.tc : Thread Cert.AdamModRefIdeal.nD Cert.AdamModRefIdeal.τ).loc Cert.AdamModRefIdeal.main_arg1) = m ((c.tc : Thread Cert.AdamModIdeal.nD Cert.AdamModIdeal.τ).loc Cert.AdamModIdeal.main_arg1)
      ∧ m' ((c.tc : Thread Cert.AdamModRefIdeal.nD Cert.AdamModRefIdeal.τ).loc Cert.AdamModRefIdeal.main_arg2) = m ((c.tc : Thread Cert.AdamModIdeal.nD Cert.AdamModIdeal.τ).loc Cert.AdamModIdeal.main_arg2)
      ∧ m' ((c.tc : Thread Cert.AdamModRefIdeal.nD Cert.AdamModRefIdeal.τ).loc Cert.AdamModRefIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v0_0)) (v1 : (c : Dev Cert.AdamModIdeal.nD) → Buf (Elt Ideal) ((c.tc : Thread Cert.AdamModIdeal.nD Cert.AdamModIdeal.τ).loc Cert.AdamModIdeal.main_v0_1)) (v2 : (c : Dev Cert.AdamModIdeal.nD) → Buf (Elt Ideal) ((c.tc : Thread Cert.AdamModIdeal.nD Cert.AdamModIdeal.τ).loc Cert.AdamModIdeal.main_v0_2)) (v3 : (c : Dev Cert.AdamModIdeal.nD) → Buf (Elt Ideal) ((c.tc : Thread Cert.AdamModIdeal.nD Cert.AdamModIdeal.τ).loc Cert.AdamModIdeal.main_v0_3)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v0_0) = v0 c
          ∧ r.2.mem ((c.tc : Thread Cert.AdamModIdeal.nD Cert.AdamModIdeal.τ).loc Cert.AdamModIdeal.main_v0_1) = v1 c
          ∧ r.2.mem ((c.tc : Thread Cert.AdamModIdeal.nD Cert.AdamModIdeal.τ).loc Cert.AdamModIdeal.main_v0_2) = v2 c
          ∧ r.2.mem ((c.tc : Thread Cert.AdamModIdeal.nD Cert.AdamModIdeal.τ).loc Cert.AdamModIdeal.main_v0_3) = v3 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.AdamModRefIdeal.defs (F := Ideal)) (onTc (τ := Cert.AdamModRefIdeal.τ) (Cert.AdamModRefIdeal.main (F := Ideal))) ⟨m', fun _ => 0, g'⟩ (fun r => ∀ c : Dev Cert.AdamModRefIdeal.nD,
          r.2.mem ((c.tc : Thread Cert.AdamModRefIdeal.nD Cert.AdamModRefIdeal.τ).loc Cert.AdamModRefIdeal.main_arg1) = v0 c
          ∧ r.2.mem ((c.tc : Thread Cert.AdamModRefIdeal.nD Cert.AdamModRefIdeal.τ).loc Cert.AdamModRefIdeal.main_v23) = v1 c
          ∧ r.2.mem ((c.tc : Thread Cert.AdamModRefIdeal.nD Cert.AdamModRefIdeal.τ).loc Cert.AdamModRefIdeal.main_v4) = v2 c
          ∧ r.2.mem ((c.tc : Thread Cert.AdamModRefIdeal.nD Cert.AdamModRefIdeal.τ).loc Cert.AdamModRefIdeal.main_v10) = v3 c
          ∧ r.2.mem ((c.tc : Thread Cert.AdamModRefIdeal.nD Cert.AdamModRefIdeal.τ).loc Cert.AdamModRefIdeal.main_arg0) = m' ((c.tc : Thread Cert.AdamModRefIdeal.nD Cert.AdamModRefIdeal.τ).loc Cert.AdamModRefIdeal.main_arg0)
          ∧ r.2.mem ((c.tc : Thread Cert.AdamModRefIdeal.nD Cert.AdamModRefIdeal.τ).loc Cert.AdamModRefIdeal.main_arg1) = m' ((c.tc : Thread Cert.AdamModRefIdeal.nD Cert.AdamModRefIdeal.τ).loc Cert.AdamModRefIdeal.main_arg1)
          ∧ r.2.mem ((c.tc : Thread Cert.AdamModRefIdeal.nD Cert.AdamModRefIdeal.τ).loc Cert.AdamModRefIdeal.main_arg2) = m' ((c.tc : Thread Cert.AdamModRefIdeal.nD Cert.AdamModRefIdeal.τ).loc Cert.AdamModRefIdeal.main_arg2)
          ∧ r.2.mem ((c.tc : Thread Cert.AdamModRefIdeal.nD Cert.AdamModRefIdeal.τ).loc Cert.AdamModRefIdeal.main_arg3) = m' ((c.tc : Thread Cert.AdamModRefIdeal.nD Cert.AdamModRefIdeal.τ).loc Cert.AdamModRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamUq_AdamUqIdeal : Prop :=
  True

def algebraic_AdamUqIdeal_AdamUqRefIdeal [hAdamUqIdeal : Cert.AdamUqIdeal.Facts] [hAdamUqRefIdeal : Cert.AdamUqRefIdeal.Facts] : Prop :=
  ∀ (m : (ℓ : Loc Cert.AdamUqIdeal.nD Cert.AdamUqIdeal.τ Cert.AdamUqIdeal.sig) → Buf (Elt Ideal) ℓ) (g : Dev Cert.AdamUqIdeal.nD → PrngReg)
    (m' : (ℓ : Loc Cert.AdamUqRefIdeal.nD Cert.AdamUqRefIdeal.τ Cert.AdamUqRefIdeal.sig) → Buf (Elt Ideal) ℓ) (g' : Dev Cert.AdamUqRefIdeal.nD → PrngReg), Pre_AdamUqIdeal m →
    (∀ c : Dev Cert.AdamUqIdeal.nD,
      m' ((c.tc : Thread Cert.AdamUqRefIdeal.nD Cert.AdamUqRefIdeal.τ).loc Cert.AdamUqRefIdeal.main_arg0) = m ((c.tc : Thread Cert.AdamUqIdeal.nD Cert.AdamUqIdeal.τ).loc Cert.AdamUqIdeal.main_arg0)
      ∧ m' ((c.tc : Thread Cert.AdamUqRefIdeal.nD Cert.AdamUqRefIdeal.τ).loc Cert.AdamUqRefIdeal.main_arg1) = m ((c.tc : Thread Cert.AdamUqIdeal.nD Cert.AdamUqIdeal.τ).loc Cert.AdamUqIdeal.main_arg1)
      ∧ m' ((c.tc : Thread Cert.AdamUqRefIdeal.nD Cert.AdamUqRefIdeal.τ).loc Cert.AdamUqRefIdeal.main_arg2) = m ((c.tc : Thread Cert.AdamUqIdeal.nD Cert.AdamUqIdeal.τ).loc Cert.AdamUqIdeal.main_arg2)
      ∧ m' ((c.tc : Thread Cert.AdamUqRefIdeal.nD Cert.AdamUqRefIdeal.τ).loc Cert.AdamUqRefIdeal.main_arg3) = m ((c.tc : Thread Cert.AdamUqIdeal.nD Cert.AdamUqIdeal.τ).loc Cert.AdamUqIdeal.main_arg3)) →
    ∃ (v0 : (c : Dev Cert.AdamUqIdeal.nD) → Buf (Elt Ideal) ((c.tc : Thread Cert.AdamUqIdeal.nD Cert.AdamUqIdeal.τ).loc Cert.AdamUqIdeal.main_v0_0)) (v1 : (c : Dev Cert.AdamUqIdeal.nD) → Buf (Elt Ideal) ((c.tc : Thread Cert.AdamUqIdeal.nD Cert.AdamUqIdeal.τ).loc Cert.AdamUqIdeal.main_v0_1)) (v2 : (c : Dev Cert.AdamUqIdeal.nD) → Buf (Elt Ideal) ((c.tc : Thread Cert.AdamUqIdeal.nD Cert.AdamUqIdeal.τ).loc Cert.AdamUqIdeal.main_v0_2)) (v3 : (c : Dev Cert.AdamUqIdeal.nD) → Buf (Elt Ideal) ((c.tc : Thread Cert.AdamUqIdeal.nD Cert.AdamUqIdeal.τ).loc Cert.AdamUqIdeal.main_v0_3)),
      θ_run (Cert.AdamUqIdeal.defs (F := Ideal)) (onTc (τ := Cert.AdamUqIdeal.τ) (Cert.AdamUqIdeal.main (F := Ideal))) ⟨m, fun _ => 0, g⟩ (fun r => ∀ c : Dev Cert.AdamUqIdeal.nD,
          r.2.mem ((c.tc : Thread Cert.AdamUqIdeal.nD Cert.AdamUqIdeal.τ).loc Cert.AdamUqIdeal.main_v0_0) = v0 c
          ∧ r.2.mem ((c.tc : Thread Cert.AdamUqIdeal.nD Cert.AdamUqIdeal.τ).loc Cert.AdamUqIdeal.main_v0_1) = v1 c
          ∧ r.2.mem ((c.tc : Thread Cert.AdamUqIdeal.nD Cert.AdamUqIdeal.τ).loc Cert.AdamUqIdeal.main_v0_2) = v2 c
          ∧ r.2.mem ((c.tc : Thread Cert.AdamUqIdeal.nD Cert.AdamUqIdeal.τ).loc Cert.AdamUqIdeal.main_v0_3) = v3 c
          ∧ r.2.mem ((c.tc : Thread Cert.AdamUqIdeal.nD Cert.AdamUqIdeal.τ).loc Cert.AdamUqIdeal.main_arg0) = m ((c.tc : Thread Cert.AdamUqIdeal.nD Cert.AdamUqIdeal.τ).loc Cert.AdamUqIdeal.main_arg0)
          ∧ r.2.mem ((c.tc : Thread Cert.AdamUqIdeal.nD Cert.AdamUqIdeal.τ).loc Cert.AdamUqIdeal.main_arg1) = m ((c.tc : Thread Cert.AdamUqIdeal.nD Cert.AdamUqIdeal.τ).loc Cert.AdamUqIdeal.main_arg1)
          ∧ r.2.mem ((c.tc : Thread Cert.AdamUqIdeal.nD Cert.AdamUqIdeal.τ).loc Cert.AdamUqIdeal.main_arg2) = m ((c.tc : Thread Cert.AdamUqIdeal.nD Cert.AdamUqIdeal.τ).loc Cert.AdamUqIdeal.main_arg2)
          ∧ r.2.mem ((c.tc : Thread Cert.AdamUqIdeal.nD Cert.AdamUqIdeal.τ).loc Cert.AdamUqIdeal.main_arg3) = m ((c.tc : Thread Cert.AdamUqIdeal.nD Cert.AdamUqIdeal.τ).loc Cert.AdamUqIdeal.main_arg3))
      ∧ θ_run (Cert.AdamUqRefIdeal.defs (F := Ideal)) (onTc (τ := Cert.AdamUqRefIdeal.τ) (Cert.AdamUqRefIdeal.main (F := Ideal))) ⟨m', fun _ => 0, g'⟩ (fun r => ∀ c : Dev Cert.AdamUqRefIdeal.nD,
          r.2.mem ((c.tc : Thread Cert.AdamUqRefIdeal.nD Cert.AdamUqRefIdeal.τ).loc Cert.AdamUqRefIdeal.main_v1) = v0 c
          ∧ r.2.mem ((c.tc : Thread Cert.AdamUqRefIdeal.nD Cert.AdamUqRefIdeal.τ).loc Cert.AdamUqRefIdeal.main_v25) = v1 c
          ∧ r.2.mem ((c.tc : Thread Cert.AdamUqRefIdeal.nD Cert.AdamUqRefIdeal.τ).loc Cert.AdamUqRefIdeal.main_v6) = v2 c
          ∧ r.2.mem ((c.tc : Thread Cert.AdamUqRefIdeal.nD Cert.AdamUqRefIdeal.τ).loc Cert.AdamUqRefIdeal.main_v12) = v3 c
          ∧ r.2.mem ((c.tc : Thread Cert.AdamUqRefIdeal.nD Cert.AdamUqRefIdeal.τ).loc Cert.AdamUqRefIdeal.main_arg0) = m' ((c.tc : Thread Cert.AdamUqRefIdeal.nD Cert.AdamUqRefIdeal.τ).loc Cert.AdamUqRefIdeal.main_arg0)
          ∧ r.2.mem ((c.tc : Thread Cert.AdamUqRefIdeal.nD Cert.AdamUqRefIdeal.τ).loc Cert.AdamUqRefIdeal.main_arg1) = m' ((c.tc : Thread Cert.AdamUqRefIdeal.nD Cert.AdamUqRefIdeal.τ).loc Cert.AdamUqRefIdeal.main_arg1)
          ∧ r.2.mem ((c.tc : Thread Cert.AdamUqRefIdeal.nD Cert.AdamUqRefIdeal.τ).loc Cert.AdamUqRefIdeal.main_arg2) = m' ((c.tc : Thread Cert.AdamUqRefIdeal.nD Cert.AdamUqRefIdeal.τ).loc Cert.AdamUqRefIdeal.main_arg2)
          ∧ r.2.mem ((c.tc : Thread Cert.AdamUqRefIdeal.nD Cert.AdamUqRefIdeal.τ).loc Cert.AdamUqRefIdeal.main_arg3) = m' ((c.tc : Thread Cert.AdamUqRefIdeal.nD Cert.AdamUqRefIdeal.τ).loc Cert.AdamUqRefIdeal.main_arg3))

def preserves_AdamUkv_AdamUkvIdeal : Prop :=
  True

def algebraic_AdamUkvIdeal_AdamUkvRefIdeal [hAdamUkvIdeal : Cert.AdamUkvIdeal.Facts] [hAdamUkvRefIdeal : Cert.AdamUkvRefIdeal.Facts] : Prop :=
  ∀ (m : (ℓ : Loc Cert.AdamUkvIdeal.nD Cert.AdamUkvIdeal.τ Cert.AdamUkvIdeal.sig) → Buf (Elt Ideal) ℓ) (g : Dev Cert.AdamUkvIdeal.nD → PrngReg)
    (m' : (ℓ : Loc Cert.AdamUkvRefIdeal.nD Cert.AdamUkvRefIdeal.τ Cert.AdamUkvRefIdeal.sig) → Buf (Elt Ideal) ℓ) (g' : Dev Cert.AdamUkvRefIdeal.nD → PrngReg), Pre_AdamUkvIdeal m →
    (∀ c : Dev Cert.AdamUkvIdeal.nD,
      m' ((c.tc : Thread Cert.AdamUkvRefIdeal.nD Cert.AdamUkvRefIdeal.τ).loc Cert.AdamUkvRefIdeal.main_arg0) = m ((c.tc : Thread Cert.AdamUkvIdeal.nD Cert.AdamUkvIdeal.τ).loc Cert.AdamUkvIdeal.main_arg0)
      ∧ m' ((c.tc : Thread Cert.AdamUkvRefIdeal.nD Cert.AdamUkvRefIdeal.τ).loc Cert.AdamUkvRefIdeal.main_arg1) = m ((c.tc : Thread Cert.AdamUkvIdeal.nD Cert.AdamUkvIdeal.τ).loc Cert.AdamUkvIdeal.main_arg1)
      ∧ m' ((c.tc : Thread Cert.AdamUkvRefIdeal.nD Cert.AdamUkvRefIdeal.τ).loc Cert.AdamUkvRefIdeal.main_arg2) = m ((c.tc : Thread Cert.AdamUkvIdeal.nD Cert.AdamUkvIdeal.τ).loc Cert.AdamUkvIdeal.main_arg2)
      ∧ m' ((c.tc : Thread Cert.AdamUkvRefIdeal.nD Cert.AdamUkvRefIdeal.τ).loc Cert.AdamUkvRefIdeal.main_arg3) = m ((c.tc : Thread Cert.AdamUkvIdeal.nD Cert.AdamUkvIdeal.τ).loc Cert.AdamUkvIdeal.main_arg3)) →
    ∃ (v0 : (c : Dev Cert.AdamUkvIdeal.nD) → Buf (Elt Ideal) ((c.tc : Thread Cert.AdamUkvIdeal.nD Cert.AdamUkvIdeal.τ).loc Cert.AdamUkvIdeal.main_v0_0)) (v1 : (c : Dev Cert.AdamUkvIdeal.nD) → Buf (Elt Ideal) ((c.tc : Thread Cert.AdamUkvIdeal.nD Cert.AdamUkvIdeal.τ).loc Cert.AdamUkvIdeal.main_v0_1)) (v2 : (c : Dev Cert.AdamUkvIdeal.nD) → Buf (Elt Ideal) ((c.tc : Thread Cert.AdamUkvIdeal.nD Cert.AdamUkvIdeal.τ).loc Cert.AdamUkvIdeal.main_v0_2)) (v3 : (c : Dev Cert.AdamUkvIdeal.nD) → Buf (Elt Ideal) ((c.tc : Thread Cert.AdamUkvIdeal.nD Cert.AdamUkvIdeal.τ).loc Cert.AdamUkvIdeal.main_v0_3)),
      θ_run (Cert.AdamUkvIdeal.defs (F := Ideal)) (onTc (τ := Cert.AdamUkvIdeal.τ) (Cert.AdamUkvIdeal.main (F := Ideal))) ⟨m, fun _ => 0, g⟩ (fun r => ∀ c : Dev Cert.AdamUkvIdeal.nD,
          r.2.mem ((c.tc : Thread Cert.AdamUkvIdeal.nD Cert.AdamUkvIdeal.τ).loc Cert.AdamUkvIdeal.main_v0_0) = v0 c
          ∧ r.2.mem ((c.tc : Thread Cert.AdamUkvIdeal.nD Cert.AdamUkvIdeal.τ).loc Cert.AdamUkvIdeal.main_v0_1) = v1 c
          ∧ r.2.mem ((c.tc : Thread Cert.AdamUkvIdeal.nD Cert.AdamUkvIdeal.τ).loc Cert.AdamUkvIdeal.main_v0_2) = v2 c
          ∧ r.2.mem ((c.tc : Thread Cert.AdamUkvIdeal.nD Cert.AdamUkvIdeal.τ).loc Cert.AdamUkvIdeal.main_v0_3) = v3 c
          ∧ r.2.mem ((c.tc : Thread Cert.AdamUkvIdeal.nD Cert.AdamUkvIdeal.τ).loc Cert.AdamUkvIdeal.main_arg0) = m ((c.tc : Thread Cert.AdamUkvIdeal.nD Cert.AdamUkvIdeal.τ).loc Cert.AdamUkvIdeal.main_arg0)
          ∧ r.2.mem ((c.tc : Thread Cert.AdamUkvIdeal.nD Cert.AdamUkvIdeal.τ).loc Cert.AdamUkvIdeal.main_arg1) = m ((c.tc : Thread Cert.AdamUkvIdeal.nD Cert.AdamUkvIdeal.τ).loc Cert.AdamUkvIdeal.main_arg1)
          ∧ r.2.mem ((c.tc : Thread Cert.AdamUkvIdeal.nD Cert.AdamUkvIdeal.τ).loc Cert.AdamUkvIdeal.main_arg2) = m ((c.tc : Thread Cert.AdamUkvIdeal.nD Cert.AdamUkvIdeal.τ).loc Cert.AdamUkvIdeal.main_arg2)
          ∧ r.2.mem ((c.tc : Thread Cert.AdamUkvIdeal.nD Cert.AdamUkvIdeal.τ).loc Cert.AdamUkvIdeal.main_arg3) = m ((c.tc : Thread Cert.AdamUkvIdeal.nD Cert.AdamUkvIdeal.τ).loc Cert.AdamUkvIdeal.main_arg3))
      ∧ θ_run (Cert.AdamUkvRefIdeal.defs (F := Ideal)) (onTc (τ := Cert.AdamUkvRefIdeal.τ) (Cert.AdamUkvRefIdeal.main (F := Ideal))) ⟨m', fun _ => 0, g'⟩ (fun r => ∀ c : Dev Cert.AdamUkvRefIdeal.nD,
          r.2.mem ((c.tc : Thread Cert.AdamUkvRefIdeal.nD Cert.AdamUkvRefIdeal.τ).loc Cert.AdamUkvRefIdeal.main_v1) = v0 c
          ∧ r.2.mem ((c.tc : Thread Cert.AdamUkvRefIdeal.nD Cert.AdamUkvRefIdeal.τ).loc Cert.AdamUkvRefIdeal.main_v25) = v1 c
          ∧ r.2.mem ((c.tc : Thread Cert.AdamUkvRefIdeal.nD Cert.AdamUkvRefIdeal.τ).loc Cert.AdamUkvRefIdeal.main_v6) = v2 c
          ∧ r.2.mem ((c.tc : Thread Cert.AdamUkvRefIdeal.nD Cert.AdamUkvRefIdeal.τ).loc Cert.AdamUkvRefIdeal.main_v12) = v3 c
          ∧ r.2.mem ((c.tc : Thread Cert.AdamUkvRefIdeal.nD Cert.AdamUkvRefIdeal.τ).loc Cert.AdamUkvRefIdeal.main_arg0) = m' ((c.tc : Thread Cert.AdamUkvRefIdeal.nD Cert.AdamUkvRefIdeal.τ).loc Cert.AdamUkvRefIdeal.main_arg0)
          ∧ r.2.mem ((c.tc : Thread Cert.AdamUkvRefIdeal.nD Cert.AdamUkvRefIdeal.τ).loc Cert.AdamUkvRefIdeal.main_arg1) = m' ((c.tc : Thread Cert.AdamUkvRefIdeal.nD Cert.AdamUkvRefIdeal.τ).loc Cert.AdamUkvRefIdeal.main_arg1)
          ∧ r.2.mem ((c.tc : Thread Cert.AdamUkvRefIdeal.nD Cert.AdamUkvRefIdeal.τ).loc Cert.AdamUkvRefIdeal.main_arg2) = m' ((c.tc : Thread Cert.AdamUkvRefIdeal.nD Cert.AdamUkvRefIdeal.τ).loc Cert.AdamUkvRefIdeal.main_arg2)
          ∧ r.2.mem ((c.tc : Thread Cert.AdamUkvRefIdeal.nD Cert.AdamUkvRefIdeal.τ).loc Cert.AdamUkvRefIdeal.main_arg3) = m' ((c.tc : Thread Cert.AdamUkvRefIdeal.nD Cert.AdamUkvRefIdeal.τ).loc Cert.AdamUkvRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamFf1_AdamFf1Ideal : Prop :=
  True

def algebraic_AdamFf1Ideal_AdamFf1RefIdeal [hAdamFf1Ideal : Cert.AdamFf1Ideal.Facts] [hAdamFf1RefIdeal : Cert.AdamFf1RefIdeal.Facts] : Prop :=
  ∀ (m : (ℓ : Loc Cert.AdamFf1Ideal.nD Cert.AdamFf1Ideal.τ Cert.AdamFf1Ideal.sig) → Buf (Elt Ideal) ℓ) (g : Dev Cert.AdamFf1Ideal.nD → PrngReg)
    (m' : (ℓ : Loc Cert.AdamFf1RefIdeal.nD Cert.AdamFf1RefIdeal.τ Cert.AdamFf1RefIdeal.sig) → Buf (Elt Ideal) ℓ) (g' : Dev Cert.AdamFf1RefIdeal.nD → PrngReg), Pre_AdamFf1Ideal m →
    (∀ c : Dev Cert.AdamFf1Ideal.nD,
      m' ((c.tc : Thread Cert.AdamFf1RefIdeal.nD Cert.AdamFf1RefIdeal.τ).loc Cert.AdamFf1RefIdeal.main_arg0) = m ((c.tc : Thread Cert.AdamFf1Ideal.nD Cert.AdamFf1Ideal.τ).loc Cert.AdamFf1Ideal.main_arg0)
      ∧ m' ((c.tc : Thread Cert.AdamFf1RefIdeal.nD Cert.AdamFf1RefIdeal.τ).loc Cert.AdamFf1RefIdeal.main_arg1) = m ((c.tc : Thread Cert.AdamFf1Ideal.nD Cert.AdamFf1Ideal.τ).loc Cert.AdamFf1Ideal.main_arg1)
      ∧ m' ((c.tc : Thread Cert.AdamFf1RefIdeal.nD Cert.AdamFf1RefIdeal.τ).loc Cert.AdamFf1RefIdeal.main_arg2) = m ((c.tc : Thread Cert.AdamFf1Ideal.nD Cert.AdamFf1Ideal.τ).loc Cert.AdamFf1Ideal.main_arg2)
      ∧ m' ((c.tc : Thread Cert.AdamFf1RefIdeal.nD Cert.AdamFf1RefIdeal.τ).loc Cert.AdamFf1RefIdeal.main_arg3) = m ((c.tc : Thread Cert.AdamFf1Ideal.nD Cert.AdamFf1Ideal.τ).loc Cert.AdamFf1Ideal.main_arg3)) →
    ∃ (v0 : (c : Dev Cert.AdamFf1Ideal.nD) → Buf (Elt Ideal) ((c.tc : Thread Cert.AdamFf1Ideal.nD Cert.AdamFf1Ideal.τ).loc Cert.AdamFf1Ideal.main_v0_0)) (v1 : (c : Dev Cert.AdamFf1Ideal.nD) → Buf (Elt Ideal) ((c.tc : Thread Cert.AdamFf1Ideal.nD Cert.AdamFf1Ideal.τ).loc Cert.AdamFf1Ideal.main_v0_1)) (v2 : (c : Dev Cert.AdamFf1Ideal.nD) → Buf (Elt Ideal) ((c.tc : Thread Cert.AdamFf1Ideal.nD Cert.AdamFf1Ideal.τ).loc Cert.AdamFf1Ideal.main_v0_2)) (v3 : (c : Dev Cert.AdamFf1Ideal.nD) → Buf (Elt Ideal) ((c.tc : Thread Cert.AdamFf1Ideal.nD Cert.AdamFf1Ideal.τ).loc Cert.AdamFf1Ideal.main_v0_3)),
      θ_run (Cert.AdamFf1Ideal.defs (F := Ideal)) (onTc (τ := Cert.AdamFf1Ideal.τ) (Cert.AdamFf1Ideal.main (F := Ideal))) ⟨m, fun _ => 0, g⟩ (fun r => ∀ c : Dev Cert.AdamFf1Ideal.nD,
          r.2.mem ((c.tc : Thread Cert.AdamFf1Ideal.nD Cert.AdamFf1Ideal.τ).loc Cert.AdamFf1Ideal.main_v0_0) = v0 c
          ∧ r.2.mem ((c.tc : Thread Cert.AdamFf1Ideal.nD Cert.AdamFf1Ideal.τ).loc Cert.AdamFf1Ideal.main_v0_1) = v1 c
          ∧ r.2.mem ((c.tc : Thread Cert.AdamFf1Ideal.nD Cert.AdamFf1Ideal.τ).loc Cert.AdamFf1Ideal.main_v0_2) = v2 c
          ∧ r.2.mem ((c.tc : Thread Cert.AdamFf1Ideal.nD Cert.AdamFf1Ideal.τ).loc Cert.AdamFf1Ideal.main_v0_3) = v3 c
          ∧ r.2.mem ((c.tc : Thread Cert.AdamFf1Ideal.nD Cert.AdamFf1Ideal.τ).loc Cert.AdamFf1Ideal.main_arg0) = m ((c.tc : Thread Cert.AdamFf1Ideal.nD Cert.AdamFf1Ideal.τ).loc Cert.AdamFf1Ideal.main_arg0)
          ∧ r.2.mem ((c.tc : Thread Cert.AdamFf1Ideal.nD Cert.AdamFf1Ideal.τ).loc Cert.AdamFf1Ideal.main_arg1) = m ((c.tc : Thread Cert.AdamFf1Ideal.nD Cert.AdamFf1Ideal.τ).loc Cert.AdamFf1Ideal.main_arg1)
          ∧ r.2.mem ((c.tc : Thread Cert.AdamFf1Ideal.nD Cert.AdamFf1Ideal.τ).loc Cert.AdamFf1Ideal.main_arg2) = m ((c.tc : Thread Cert.AdamFf1Ideal.nD Cert.AdamFf1Ideal.τ).loc Cert.AdamFf1Ideal.main_arg2)
          ∧ r.2.mem ((c.tc : Thread Cert.AdamFf1Ideal.nD Cert.AdamFf1Ideal.τ).loc Cert.AdamFf1Ideal.main_arg3) = m ((c.tc : Thread Cert.AdamFf1Ideal.nD Cert.AdamFf1Ideal.τ).loc Cert.AdamFf1Ideal.main_arg3))
      ∧ θ_run (Cert.AdamFf1RefIdeal.defs (F := Ideal)) (onTc (τ := Cert.AdamFf1RefIdeal.τ) (Cert.AdamFf1RefIdeal.main (F := Ideal))) ⟨m', fun _ => 0, g'⟩ (fun r => ∀ c : Dev Cert.AdamFf1RefIdeal.nD,
          r.2.mem ((c.tc : Thread Cert.AdamFf1RefIdeal.nD Cert.AdamFf1RefIdeal.τ).loc Cert.AdamFf1RefIdeal.main_v1) = v0 c
          ∧ r.2.mem ((c.tc : Thread Cert.AdamFf1RefIdeal.nD Cert.AdamFf1RefIdeal.τ).loc Cert.AdamFf1RefIdeal.main_v25) = v1 c
          ∧ r.2.mem ((c.tc : Thread Cert.AdamFf1RefIdeal.nD Cert.AdamFf1RefIdeal.τ).loc Cert.AdamFf1RefIdeal.main_v6) = v2 c
          ∧ r.2.mem ((c.tc : Thread Cert.AdamFf1RefIdeal.nD Cert.AdamFf1RefIdeal.τ).loc Cert.AdamFf1RefIdeal.main_v12) = v3 c
          ∧ r.2.mem ((c.tc : Thread Cert.AdamFf1RefIdeal.nD Cert.AdamFf1RefIdeal.τ).loc Cert.AdamFf1RefIdeal.main_arg0) = m' ((c.tc : Thread Cert.AdamFf1RefIdeal.nD Cert.AdamFf1RefIdeal.τ).loc Cert.AdamFf1RefIdeal.main_arg0)
          ∧ r.2.mem ((c.tc : Thread Cert.AdamFf1RefIdeal.nD Cert.AdamFf1RefIdeal.τ).loc Cert.AdamFf1RefIdeal.main_arg1) = m' ((c.tc : Thread Cert.AdamFf1RefIdeal.nD Cert.AdamFf1RefIdeal.τ).loc Cert.AdamFf1RefIdeal.main_arg1)
          ∧ r.2.mem ((c.tc : Thread Cert.AdamFf1RefIdeal.nD Cert.AdamFf1RefIdeal.τ).loc Cert.AdamFf1RefIdeal.main_arg2) = m' ((c.tc : Thread Cert.AdamFf1RefIdeal.nD Cert.AdamFf1RefIdeal.τ).loc Cert.AdamFf1RefIdeal.main_arg2)
          ∧ r.2.mem ((c.tc : Thread Cert.AdamFf1RefIdeal.nD Cert.AdamFf1RefIdeal.τ).loc Cert.AdamFf1RefIdeal.main_arg3) = m' ((c.tc : Thread Cert.AdamFf1RefIdeal.nD Cert.AdamFf1RefIdeal.τ).loc Cert.AdamFf1RefIdeal.main_arg3))

def preserves_AdamFf2_AdamFf2Ideal : Prop :=
  True

def algebraic_AdamFf2Ideal_AdamFf2RefIdeal [hAdamFf2Ideal : Cert.AdamFf2Ideal.Facts] [hAdamFf2RefIdeal : Cert.AdamFf2RefIdeal.Facts] : Prop :=
  ∀ (m : (ℓ : Loc Cert.AdamFf2Ideal.nD Cert.AdamFf2Ideal.τ Cert.AdamFf2Ideal.sig) → Buf (Elt Ideal) ℓ) (g : Dev Cert.AdamFf2Ideal.nD → PrngReg)
    (m' : (ℓ : Loc Cert.AdamFf2RefIdeal.nD Cert.AdamFf2RefIdeal.τ Cert.AdamFf2RefIdeal.sig) → Buf (Elt Ideal) ℓ) (g' : Dev Cert.AdamFf2RefIdeal.nD → PrngReg), Pre_AdamFf2Ideal m →
    (∀ c : Dev Cert.AdamFf2Ideal.nD,
      m' ((c.tc : Thread Cert.AdamFf2RefIdeal.nD Cert.AdamFf2RefIdeal.τ).loc Cert.AdamFf2RefIdeal.main_arg0) = m ((c.tc : Thread Cert.AdamFf2Ideal.nD Cert.AdamFf2Ideal.τ).loc Cert.AdamFf2Ideal.main_arg0)
      ∧ m' ((c.tc : Thread Cert.AdamFf2RefIdeal.nD Cert.AdamFf2RefIdeal.τ).loc Cert.AdamFf2RefIdeal.main_arg1) = m ((c.tc : Thread Cert.AdamFf2Ideal.nD Cert.AdamFf2Ideal.τ).loc Cert.AdamFf2Ideal.main_arg1)
      ∧ m' ((c.tc : Thread Cert.AdamFf2RefIdeal.nD Cert.AdamFf2RefIdeal.τ).loc Cert.AdamFf2RefIdeal.main_arg2) = m ((c.tc : Thread Cert.AdamFf2Ideal.nD Cert.AdamFf2Ideal.τ).loc Cert.AdamFf2Ideal.main_arg2)
      ∧ m' ((c.tc : Thread Cert.AdamFf2RefIdeal.nD Cert.AdamFf2RefIdeal.τ).loc Cert.AdamFf2RefIdeal.main_arg3) = m ((c.tc : Thread Cert.AdamFf2Ideal.nD Cert.AdamFf2Ideal.τ).loc Cert.AdamFf2Ideal.main_arg3)) →
    ∃ (v0 : (c : Dev Cert.AdamFf2Ideal.nD) → Buf (Elt Ideal) ((c.tc : Thread Cert.AdamFf2Ideal.nD Cert.AdamFf2Ideal.τ).loc Cert.AdamFf2Ideal.main_v0_0)) (v1 : (c : Dev Cert.AdamFf2Ideal.nD) → Buf (Elt Ideal) ((c.tc : Thread Cert.AdamFf2Ideal.nD Cert.AdamFf2Ideal.τ).loc Cert.AdamFf2Ideal.main_v0_1)) (v2 : (c : Dev Cert.AdamFf2Ideal.nD) → Buf (Elt Ideal) ((c.tc : Thread Cert.AdamFf2Ideal.nD Cert.AdamFf2Ideal.τ).loc Cert.AdamFf2Ideal.main_v0_2)) (v3 : (c : Dev Cert.AdamFf2Ideal.nD) → Buf (Elt Ideal) ((c.tc : Thread Cert.AdamFf2Ideal.nD Cert.AdamFf2Ideal.τ).loc Cert.AdamFf2Ideal.main_v0_3)),
      θ_run (Cert.AdamFf2Ideal.defs (F := Ideal)) (onTc (τ := Cert.AdamFf2Ideal.τ) (Cert.AdamFf2Ideal.main (F := Ideal))) ⟨m, fun _ => 0, g⟩ (fun r => ∀ c : Dev Cert.AdamFf2Ideal.nD,
          r.2.mem ((c.tc : Thread Cert.AdamFf2Ideal.nD Cert.AdamFf2Ideal.τ).loc Cert.AdamFf2Ideal.main_v0_0) = v0 c
          ∧ r.2.mem ((c.tc : Thread Cert.AdamFf2Ideal.nD Cert.AdamFf2Ideal.τ).loc Cert.AdamFf2Ideal.main_v0_1) = v1 c
          ∧ r.2.mem ((c.tc : Thread Cert.AdamFf2Ideal.nD Cert.AdamFf2Ideal.τ).loc Cert.AdamFf2Ideal.main_v0_2) = v2 c
          ∧ r.2.mem ((c.tc : Thread Cert.AdamFf2Ideal.nD Cert.AdamFf2Ideal.τ).loc Cert.AdamFf2Ideal.main_v0_3) = v3 c
          ∧ r.2.mem ((c.tc : Thread Cert.AdamFf2Ideal.nD Cert.AdamFf2Ideal.τ).loc Cert.AdamFf2Ideal.main_arg0) = m ((c.tc : Thread Cert.AdamFf2Ideal.nD Cert.AdamFf2Ideal.τ).loc Cert.AdamFf2Ideal.main_arg0)
          ∧ r.2.mem ((c.tc : Thread Cert.AdamFf2Ideal.nD Cert.AdamFf2Ideal.τ).loc Cert.AdamFf2Ideal.main_arg1) = m ((c.tc : Thread Cert.AdamFf2Ideal.nD Cert.AdamFf2Ideal.τ).loc Cert.AdamFf2Ideal.main_arg1)
          ∧ r.2.mem ((c.tc : Thread Cert.AdamFf2Ideal.nD Cert.AdamFf2Ideal.τ).loc Cert.AdamFf2Ideal.main_arg2) = m ((c.tc : Thread Cert.AdamFf2Ideal.nD Cert.AdamFf2Ideal.τ).loc Cert.AdamFf2Ideal.main_arg2)
          ∧ r.2.mem ((c.tc : Thread Cert.AdamFf2Ideal.nD Cert.AdamFf2Ideal.τ).loc Cert.AdamFf2Ideal.main_arg3) = m ((c.tc : Thread Cert.AdamFf2Ideal.nD Cert.AdamFf2Ideal.τ).loc Cert.AdamFf2Ideal.main_arg3))
      ∧ θ_run (Cert.AdamFf2RefIdeal.defs (F := Ideal)) (onTc (τ := Cert.AdamFf2RefIdeal.τ) (Cert.AdamFf2RefIdeal.main (F := Ideal))) ⟨m', fun _ => 0, g'⟩ (fun r => ∀ c : Dev Cert.AdamFf2RefIdeal.nD,
          r.2.mem ((c.tc : Thread Cert.AdamFf2RefIdeal.nD Cert.AdamFf2RefIdeal.τ).loc Cert.AdamFf2RefIdeal.main_v1) = v0 c
          ∧ r.2.mem ((c.tc : Thread Cert.AdamFf2RefIdeal.nD Cert.AdamFf2RefIdeal.τ).loc Cert.AdamFf2RefIdeal.main_v25) = v1 c
          ∧ r.2.mem ((c.tc : Thread Cert.AdamFf2RefIdeal.nD Cert.AdamFf2RefIdeal.τ).loc Cert.AdamFf2RefIdeal.main_v6) = v2 c
          ∧ r.2.mem ((c.tc : Thread Cert.AdamFf2RefIdeal.nD Cert.AdamFf2RefIdeal.τ).loc Cert.AdamFf2RefIdeal.main_v12) = v3 c
          ∧ r.2.mem ((c.tc : Thread Cert.AdamFf2RefIdeal.nD Cert.AdamFf2RefIdeal.τ).loc Cert.AdamFf2RefIdeal.main_arg0) = m' ((c.tc : Thread Cert.AdamFf2RefIdeal.nD Cert.AdamFf2RefIdeal.τ).loc Cert.AdamFf2RefIdeal.main_arg0)
          ∧ r.2.mem ((c.tc : Thread Cert.AdamFf2RefIdeal.nD Cert.AdamFf2RefIdeal.τ).loc Cert.AdamFf2RefIdeal.main_arg1) = m' ((c.tc : Thread Cert.AdamFf2RefIdeal.nD Cert.AdamFf2RefIdeal.τ).loc Cert.AdamFf2RefIdeal.main_arg1)
          ∧ r.2.mem ((c.tc : Thread Cert.AdamFf2RefIdeal.nD Cert.AdamFf2RefIdeal.τ).loc Cert.AdamFf2RefIdeal.main_arg2) = m' ((c.tc : Thread Cert.AdamFf2RefIdeal.nD Cert.AdamFf2RefIdeal.τ).loc Cert.AdamFf2RefIdeal.main_arg2)
          ∧ r.2.mem ((c.tc : Thread Cert.AdamFf2RefIdeal.nD Cert.AdamFf2RefIdeal.τ).loc Cert.AdamFf2RefIdeal.main_arg3) = m' ((c.tc : Thread Cert.AdamFf2RefIdeal.nD Cert.AdamFf2RefIdeal.τ).loc Cert.AdamFf2RefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hKernel : Cert.Kernel.Facts) (hKernelIdeal : Cert.KernelIdeal.Facts) (hReferenceIdeal : Cert.ReferenceIdeal.Facts) (hFf2Dx : Cert.Ff2Dx.Facts) (hFf2DxIdeal : Cert.Ff2DxIdeal.Facts) (hFf2DxRefIdeal : Cert.Ff2DxRefIdeal.Facts) (hFf2Dw : Cert.Ff2Dw.Facts) (hFf2DwIdeal : Cert.Ff2DwIdeal.Facts) (hFf2DwRefIdeal : Cert.Ff2DwRefIdeal.Facts) (hFf1Dx : Cert.Ff1Dx.Facts) (hFf1DxIdeal : Cert.Ff1DxIdeal.Facts) (hFf1DxRefIdeal : Cert.Ff1DxRefIdeal.Facts) (hFf1Dw : Cert.Ff1Dw.Facts) (hFf1DwIdeal : Cert.Ff1DwIdeal.Facts) (hFf1DwRefIdeal : Cert.Ff1DwRefIdeal.Facts) (hFf1 : Cert.Ff1.Facts) (hFf1Ideal : Cert.Ff1Ideal.Facts) (hFf1RefIdeal : Cert.Ff1RefIdeal.Facts) (hFf2 : Cert.Ff2.Facts) (hFf2Ideal : Cert.Ff2Ideal.Facts) (hFf2RefIdeal : Cert.Ff2RefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hOut : Cert.Out.Facts) (hOutIdeal : Cert.OutIdeal.Facts) (hOutRefIdeal : Cert.OutRefIdeal.Facts) (hAdamMod : Cert.AdamMod.Facts) (hAdamModIdeal : Cert.AdamModIdeal.Facts) (hAdamModRefIdeal : Cert.AdamModRefIdeal.Facts) (hAdamIn : Cert.AdamIn.Facts) (hAdamInIdeal : Cert.AdamInIdeal.Facts) (hAdamInRefIdeal : Cert.AdamInRefIdeal.Facts) (hAdamUq : Cert.AdamUq.Facts) (hAdamUqIdeal : Cert.AdamUqIdeal.Facts) (hAdamUqRefIdeal : Cert.AdamUqRefIdeal.Facts) (hAdamUkv : Cert.AdamUkv.Facts) (hAdamUkvIdeal : Cert.AdamUkvIdeal.Facts) (hAdamUkvRefIdeal : Cert.AdamUkvRefIdeal.Facts) (hAdamOut : Cert.AdamOut.Facts) (hAdamOutIdeal : Cert.AdamOutIdeal.Facts) (hAdamOutRefIdeal : Cert.AdamOutRefIdeal.Facts) (hAdamFf1 : Cert.AdamFf1.Facts) (hAdamFf1Ideal : Cert.AdamFf1Ideal.Facts) (hAdamFf1RefIdeal : Cert.AdamFf1RefIdeal.Facts) (hAdamFf2 : Cert.AdamFf2.Facts) (hAdamFf2Ideal : Cert.AdamFf2Ideal.Facts) (hAdamFf2RefIdeal : Cert.AdamFf2RefIdeal.Facts) (hAdamSmall : Cert.AdamSmall.Facts) (hAdamSmallIdeal : Cert.AdamSmallIdeal.Facts) (hAdamSmallRefIdeal : Cert.AdamSmallRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ff2Dx (hFf2Dx := hFf2Dx)
    ∧ quiescent_Ff2DxIdeal (hFf2DxIdeal := hFf2DxIdeal)
    ∧ quiescent_Ff2DxRefIdeal (hFf2DxRefIdeal := hFf2DxRefIdeal)
    ∧ quiescent_Ff2Dw (hFf2Dw := hFf2Dw)
    ∧ quiescent_Ff2DwIdeal (hFf2DwIdeal := hFf2DwIdeal)
    ∧ quiescent_Ff2DwRefIdeal (hFf2DwRefIdeal := hFf2DwRefIdeal)
    ∧ quiescent_Ff1Dx (hFf1Dx := hFf1Dx)
    ∧ quiescent_Ff1DxIdeal (hFf1DxIdeal := hFf1DxIdeal)
    ∧ quiescent_Ff1DxRefIdeal (hFf1DxRefIdeal := hFf1DxRefIdeal)
    ∧ quiescent_Ff1Dw (hFf1Dw := hFf1Dw)
    ∧ quiescent_Ff1DwIdeal (hFf1DwIdeal := hFf1DwIdeal)
    ∧ quiescent_Ff1DwRefIdeal (hFf1DwRefIdeal := hFf1DwRefIdeal)
    ∧ quiescent_Ff1 (hFf1 := hFf1)
    ∧ quiescent_Ff1Ideal (hFf1Ideal := hFf1Ideal)
    ∧ quiescent_Ff1RefIdeal (hFf1RefIdeal := hFf1RefIdeal)
    ∧ quiescent_Ff2 (hFf2 := hFf2)
    ∧ quiescent_Ff2Ideal (hFf2Ideal := hFf2Ideal)
    ∧ quiescent_Ff2RefIdeal (hFf2RefIdeal := hFf2RefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_Out (hOut := hOut)
    ∧ quiescent_OutIdeal (hOutIdeal := hOutIdeal)
    ∧ quiescent_OutRefIdeal (hOutRefIdeal := hOutRefIdeal)
    ∧ quiescent_AdamMod (hAdamMod := hAdamMod)
    ∧ quiescent_AdamModIdeal (hAdamModIdeal := hAdamModIdeal)
    ∧ quiescent_AdamModRefIdeal (hAdamModRefIdeal := hAdamModRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamUq (hAdamUq := hAdamUq)
    ∧ quiescent_AdamUqIdeal (hAdamUqIdeal := hAdamUqIdeal)
    ∧ quiescent_AdamUqRefIdeal (hAdamUqRefIdeal := hAdamUqRefIdeal)
    ∧ quiescent_AdamUkv (hAdamUkv := hAdamUkv)
    ∧ quiescent_AdamUkvIdeal (hAdamUkvIdeal := hAdamUkvIdeal)
    ∧ quiescent_AdamUkvRefIdeal (hAdamUkvRefIdeal := hAdamUkvRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamFf1 (hAdamFf1 := hAdamFf1)
    ∧ quiescent_AdamFf1Ideal (hAdamFf1Ideal := hAdamFf1Ideal)
    ∧ quiescent_AdamFf1RefIdeal (hAdamFf1RefIdeal := hAdamFf1RefIdeal)
    ∧ quiescent_AdamFf2 (hAdamFf2 := hAdamFf2)
    ∧ quiescent_AdamFf2Ideal (hAdamFf2Ideal := hAdamFf2Ideal)
    ∧ quiescent_AdamFf2RefIdeal (hAdamFf2RefIdeal := hAdamFf2RefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ff2Dx_Ff2DxIdeal
    ∧ algebraic_Ff2DxIdeal_Ff2DxRefIdeal (hFf2DxIdeal := hFf2DxIdeal) (hFf2DxRefIdeal := hFf2DxRefIdeal)
    ∧ preserves_Ff2Dw_Ff2DwIdeal
    ∧ algebraic_Ff2DwIdeal_Ff2DwRefIdeal (hFf2DwIdeal := hFf2DwIdeal) (hFf2DwRefIdeal := hFf2DwRefIdeal)
    ∧ preserves_Ff1Dx_Ff1DxIdeal
    ∧ algebraic_Ff1DxIdeal_Ff1DxRefIdeal (hFf1DxIdeal := hFf1DxIdeal) (hFf1DxRefIdeal := hFf1DxRefIdeal)
    ∧ preserves_Ff1Dw_Ff1DwIdeal
    ∧ algebraic_Ff1DwIdeal_Ff1DwRefIdeal (hFf1DwIdeal := hFf1DwIdeal) (hFf1DwRefIdeal := hFf1DwRefIdeal)
    ∧ preserves_Ff1_Ff1Ideal
    ∧ algebraic_Ff1Ideal_Ff1RefIdeal (hFf1Ideal := hFf1Ideal) (hFf1RefIdeal := hFf1RefIdeal)
    ∧ preserves_Ff2_Ff2Ideal
    ∧ algebraic_Ff2Ideal_Ff2RefIdeal (hFf2Ideal := hFf2Ideal) (hFf2RefIdeal := hFf2RefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_Out_OutIdeal
    ∧ algebraic_OutIdeal_OutRefIdeal (hOutIdeal := hOutIdeal) (hOutRefIdeal := hOutRefIdeal)
    ∧ preserves_AdamMod_AdamModIdeal
    ∧ algebraic_AdamModIdeal_AdamModRefIdeal (hAdamModIdeal := hAdamModIdeal) (hAdamModRefIdeal := hAdamModRefIdeal)
    ∧ preserves_AdamIn_AdamInIdeal
    ∧ algebraic_AdamInIdeal_AdamInRefIdeal (hAdamInIdeal := hAdamInIdeal) (hAdamInRefIdeal := hAdamInRefIdeal)
    ∧ preserves_AdamUq_AdamUqIdeal
    ∧ algebraic_AdamUqIdeal_AdamUqRefIdeal (hAdamUqIdeal := hAdamUqIdeal) (hAdamUqRefIdeal := hAdamUqRefIdeal)
    ∧ preserves_AdamUkv_AdamUkvIdeal
    ∧ algebraic_AdamUkvIdeal_AdamUkvRefIdeal (hAdamUkvIdeal := hAdamUkvIdeal) (hAdamUkvRefIdeal := hAdamUkvRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamFf1_AdamFf1Ideal
    ∧ algebraic_AdamFf1Ideal_AdamFf1RefIdeal (hAdamFf1Ideal := hAdamFf1Ideal) (hAdamFf1RefIdeal := hAdamFf1RefIdeal)
    ∧ preserves_AdamFf2_AdamFf2Ideal
    ∧ algebraic_AdamFf2Ideal_AdamFf2RefIdeal (hAdamFf2Ideal := hAdamFf2Ideal) (hAdamFf2RefIdeal := hAdamFf2RefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_finite.lean ====
abbrev S4096x8x128 : Shape := ⟨3, ![4096, 8, 128]⟩
abbrev S4096x8x64 : Shape := ⟨3, ![4096, 8, 64]⟩
abbrev S4096x64 : Shape := ⟨2, ![4096, 64]⟩
abbrev S4096x2048 : Shape := ⟨2, ![4096, 2048]⟩
abbrev S_ : Shape := ⟨0, ![]⟩
abbrev S4096x1024 : Shape := ⟨2, ![4096, 1024]⟩

class Facts : Prop where
  bcast_S_S4096x8x128 : S_.BroadcastsInDim S4096x8x128 (![] : Fin 0 → Fin S4096x8x128.rank)
  reducesTo_S4096x8x128_S_d0_1_2 : S4096x8x128.ReducesTo [0, 1, 2] S_
  h_S_ : 0 < S_.numel
  bcast_S_S4096x8x64 : S_.BroadcastsInDim S4096x8x64 (![] : Fin 0 → Fin S4096x8x64.rank)
  reducesTo_S4096x8x64_S_d0_1_2 : S4096x8x64.ReducesTo [0, 1, 2] S_
  bcast_S_S4096x64 : S_.BroadcastsInDim S4096x64 (![] : Fin 0 → Fin S4096x64.rank)
  reducesTo_S4096x64_S_d0_1 : S4096x64.ReducesTo [0, 1] S_
  slices_S4096x2048_S4096x1024_0_1024 : S4096x2048.Slices ![0, 1024] S4096x1024
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x8x128 .f32) (main_arg5 : FVec F S4096x2048 .f32) (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  let main_v19 : FVec F S4096x8x128 .f32 := Host.absf main_arg4
  let main_cst_6 : FVec F S_ .f32 := constant S_ .f32 0x7F800000#32
  let main_v20 : FVec F S4096x8x128 .f32 := broadcastInDim S4096x8x128 ![] bcast_S_S4096x8x128 main_cst_6
  let main_v21 : IVec S4096x8x128 1 := cmpf .olt main_v19 main_v20
  let main_c_7 : IVec S_ 1 := constantI S_ 1 1#1
  let main_v22 : IVec S_ 1 := (fun x v => Host.reduce IntOp.andi x v reducesTo_S4096x8x128_S_d0_1_2 h_S_) main_v21 main_c_7
  let main_v23 : IVec S_ 1 := andi main_v18 main_v22
  let main_v24 : FVec F S4096x1024 .f32 := (extractStridedSlice S4096x1024 ![0, 1024] · slices_S4096x2048_S4096x1024_0_1024) main_arg5
  let main_v25 : FVec F S4096x1024 .f32 := Host.absf main_v24
  let main_cst_8 : FVec F S_ .f32 := constant S_ .f32 0x7F800000#32
  let main_v26 : FVec F S4096x1024 .f32 := broadcastInDim S4096x1024 ![] bcast_S_S4096x1024 main_cst_8
  let main_v27 : IVec S4096x1024 1 := cmpf .olt main_v25 main_v26
  let main_c_9 : IVec S_ 1 := constantI S_ 1 1#1
  let main_v28 : IVec S_ 1 := (fun x v => Host.reduce IntOp.andi x v reducesTo_S4096x1024_S_d0_1 h_S_) main_v27 main_c_9
  let main_v29 : IVec S_ 1 := andi main_v23 main_v28
  main_v29

def fn {F : FTy → Type} [FloatOps F] (main_arg0 : FVec F S4096x8x128 .f32) (main_arg1 : FVec F S4096x8x64 .f32) (main_arg2 : FVec F S4096x8x128 .f32) (main_arg3 : FVec F S4096x64 .f32) (main_arg4 : FVec F S4096x8x128 .f32) (main_arg5 : FVec F S4096x2048 .f32) : IVec S_ 1 :=
  let main_v0 : FVec F S4096x8x128 .f32 := Host.absf main_arg0
  let main_cst : FVec F S_ .f32 := constant S_ .f32 0x7F800000#32
  let main_v1 : FVec F S4096x8x128 .f32 := broadcastInDim S4096x8x128 ![] bcast_S_S4096x8x128 main_cst
  let main_v2 : IVec S4096x8x128 1 := cmpf .olt main_v0 main_v1
  let main_c : IVec S_ 1 := constantI S_ 1 1#1
  let main_v3 : IVec S_ 1 := (fun x v => Host.reduce IntOp.andi x v reducesTo_S4096x8x128_S_d0_1_2 h_S_) main_v2 main_c
  let main_v4 : FVec F S4096x8x64 .f32 := Host.absf main_arg1
  let main_cst_0 : FVec F S_ .f32 := constant S_ .f32 0x7F800000#32
  let main_v5 : FVec F S4096x8x64 .f32 := broadcastInDim S4096x8x64 ![] bcast_S_S4096x8x64 main_cst_0
  let main_v6 : IVec S4096x8x64 1 := cmpf .olt main_v4 main_v5
  let main_c_1 : IVec S_ 1 := constantI S_ 1 1#1
  let main_v7 : IVec S_ 1 := (fun x v => Host.reduce IntOp.andi x v reducesTo_S4096x8x64_S_d0_1_2 h_S_) main_v6 main_c_1
  let main_v8 : IVec S_ 1 := andi main_v3 main_v7
  let main_v9 : FVec F S4096x8x128 .f32 := Host.absf main_arg2
  let main_cst_2 : FVec F S_ .f32 := constant S_ .f32 0x7F800000#32
  let main_v10 : FVec F S4096x8x128 .f32 := broadcastInDim S4096x8x128 ![] bcast_S_S4096x8x128 main_cst_2
  let main_v11 : IVec S4096x8x128 1 := cmpf .olt main_v9 main_v10
  let main_c_3 : IVec S_ 1 := constantI S_ 1 1#1
  let main_v12 : IVec S_ 1 := (fun x v => Host.reduce IntOp.andi x v reducesTo_S4096x8x128_S_d0_1_2 h_S_) main_v11 main_c_3
  let main_v13 : IVec S_ 1 := andi main_v8 main_v12
  let main_v14 : FVec F S4096x64 .f32 := Host.absf main_arg3
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_arg4 main_arg5 main_v13 main_v16
-- ==== Kernel.lean ====
abbrev S4096x8x128 : Shape := ⟨3, ![4096, 8, 128]⟩
abbrev S4096x8x64 : Shape := ⟨3, ![4096, 8, 64]⟩
abbrev S4096x64 : Shape := ⟨2, ![4096, 64]⟩
abbrev S4096x2048 : Shape := ⟨2, ![4096, 2048]⟩
abbrev S4096x1x64 : Shape := ⟨3, ![4096, 1, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x4096x128 : Shape := ⟨3, ![8, 4096, 128]⟩
abbrev S4096x1024 : Shape := ⟨2, ![4096, 1024]⟩
abbrev S8x1x4096 : Shape := ⟨3, ![8, 1, 4096]⟩
abbrev S4096x8x256 : Shape := ⟨3, ![4096, 8, 256]⟩
abbrev S8x4096x256 : Shape := ⟨3, ![8, 4096, 256]⟩
abbrev S4x512x256 : Shape := ⟨3, ![4, 512, 256]⟩
abbrev S4x512x128 : Shape := ⟨3, ![4, 512, 128]⟩
abbrev S512x512 : Shape := ⟨2, ![512, 512]⟩
abbrev S4x1x512 : Shape := ⟨3, ![4, 1, 512]⟩
abbrev S4x4096x256 : Shape := ⟨3, ![4, 4096, 256]⟩
abbrev S1x512x256 : Shape := ⟨3, ![1, 512, 256]⟩
abbrev S512x256 : Shape := ⟨2, ![512, 256]⟩
abbrev S512x128 : Shape := ⟨2, ![512, 128]⟩
abbrev S1x1x512 : Shape := ⟨3, ![1, 1, 512]⟩
abbrev S1x512 : Shape := ⟨2, ![1, 512]⟩
abbrev S1x512x128 : Shape := ⟨3, ![1, 512, 128]⟩

abbrev nBuf : Space → Nat
  | .hbm => 62
  | .vmem => 20
  | .smem => 0
  | _ => 0

abbrev bufTy : (tb : Table) → Fin (tcTables nBuf tb) → BufTy
  | .hbm, ⟨0, _⟩ => ⟨S4096x8x128, .f32⟩
  | .hbm, ⟨1, _⟩ => ⟨S4096x8x64, .f32⟩
  | .hbm, ⟨2, _⟩ => ⟨S4096x8x128, .f32⟩
  | .hbm, ⟨3, _⟩ => ⟨S4096x64, .f32⟩
  | .hbm, ⟨4, _⟩ => ⟨S4096x8x128, .f32⟩
  | .hbm, ⟨5, _⟩ => ⟨S4096x2048, .f32⟩
  | .hbm, ⟨6, _⟩ => ⟨S4096x1x64, .f32⟩
  | .hbm, ⟨7, _⟩ => ⟨S4096x8x64, .f32⟩
  | .hbm, ⟨8, _⟩ => ⟨S8x4096x4096, .f32⟩
  | .hbm, ⟨9, _⟩ => ⟨S8x4096x4096, .f32⟩
  | .hbm, ⟨10, _⟩ => ⟨S8x4096x4096, .f32⟩
  | .hbm, ⟨11, _⟩ => ⟨S_, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S1x4096x4096, .i1⟩
  | .hbm, ⟨22, _⟩ => ⟨S_, .f32⟩
  | .hbm, ⟨23, _⟩ => ⟨S_, .f32⟩
  | .hbm, ⟨24, _⟩ => ⟨S8x4096x4096, .i1⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x4096, .f32⟩
  | .hbm, ⟨37, _⟩ => ⟨S8x4096x4096, .f32⟩
  | .hbm, ⟨38, _⟩ => ⟨S8x4096x128, .f32⟩
  | .hbm, ⟨39, _⟩ => ⟨S4096x1024, .f32⟩
  | .hbm, ⟨40, _⟩ => ⟨S4096x8x128, .f32⟩
  | .hbm, ⟨41, _⟩ => ⟨S8x4096x1, .f32⟩
  | .hbm, ⟨42, _⟩ => ⟨S8x4096x1, .f32⟩
  | .hbm, ⟨43, _⟩ => ⟨S8x1x4096, .f32⟩
  | .hbm, ⟨44, _⟩ => ⟨S8x4096x128, .f32⟩
  | .hbm, ⟨45, _⟩ => ⟨S8x4096x128, .f32⟩
  | .hbm, ⟨46, _⟩ => ⟨S_, .f32⟩
  | .hbm, ⟨47, _⟩ => ⟨S8x4096, .f32⟩
  | .hbm, ⟨48, _⟩ => ⟨S8x1x4096, .f32⟩
  | .hbm, ⟨49, _⟩ => ⟨S4096x8x256, .f32⟩
  | .hbm, ⟨50, _⟩ => ⟨S8x4096x256, .f32⟩
  | .hbm, ⟨51, _⟩ => ⟨S8x4096x256, .bf16⟩
  | .hbm, ⟨52, _⟩ => ⟨S_, .f32⟩
  | .hbm, ⟨53, _⟩ => ⟨S4096x8x64, .f32⟩
  | .hbm, ⟨54, _⟩ => ⟨S4096x8x256, .f32⟩
  | .hbm, ⟨55, _⟩ => ⟨S8x4096x256, .f32⟩
  | .hbm, ⟨56, _⟩ => ⟨S8x4096x256, .bf16⟩
  | .hbm, ⟨57, _⟩ => ⟨S8x4096x128, .f32⟩
  | .hbm, ⟨58, _⟩ => ⟨S8x4096x128, .bf16⟩
  | .hbm, ⟨59, _⟩ => ⟨S8x4096x256, .f32⟩
  | .hbm, ⟨60, _⟩ => ⟨S8x4096x256, .bf16⟩
  | .hbm, ⟨61, _⟩ => ⟨S8x4096x128, .bf16⟩
  | .local _ .vmem, ⟨0, _⟩ => ⟨S4x512x256, .bf16⟩
  | .local _ .vmem, ⟨1, _⟩ => ⟨S4x512x256, .bf16⟩
  | .local _ .vmem, ⟨2, _⟩ => ⟨S4x512x256, .bf16⟩
  | .local _ .vmem, ⟨3, _⟩ => ⟨S4x512x256, .bf16⟩
  | .local _ .vmem, ⟨4, _⟩ => ⟨S4x512x128, .bf16⟩
  | .local _ .vmem, ⟨5, _⟩ => ⟨S4x512x128, .bf16⟩
  | .local _ .vmem, ⟨6, _⟩ => ⟨S512x512, .f32⟩
  | .local _ .vmem, ⟨7, _⟩ => ⟨S512x512, .f32⟩
  | .local _ .vmem, ⟨8, _⟩ => ⟨S4x1x512, .f32⟩
  | .local _ .vmem, ⟨9, _⟩ => ⟨S4x1x512, .f32⟩
  | .local _ .vmem, ⟨10, _⟩ => ⟨S4x1x512, .f32⟩
  | .local _ .vmem, ⟨11, _⟩ => ⟨S4x1x512, .f32⟩
  | .local _ .vmem, ⟨12, _⟩ => ⟨S4x4096x256, .f32⟩
  | .local _ .vmem, ⟨13, _⟩ => ⟨S4x4096x256, .f32⟩
  | .local _ .vmem, ⟨14, _⟩ => ⟨S4x512x256, .bf16⟩
  | .local _ .vmem, ⟨15, _⟩ => ⟨S4x512x256, .bf16⟩
  | .local _ .vmem, ⟨16, _⟩ => ⟨S4x512x128, .bf16⟩
  | .local _ .vmem, ⟨17, _⟩ => ⟨S4x512x128, .bf16⟩
  | .local _ .vmem, ⟨18, _⟩ => ⟨S4x512x256, .f32⟩
  | .local _ .vmem, ⟨19, _⟩ => ⟨S4x512x128, .f32⟩
  | _, _ => ⟨S4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44_0 : Ref sig .tc := ⟨.hbm, 59, rfl⟩
abbrev main_v44_1 : Ref sig .tc := ⟨.hbm, 60, rfl⟩
abbrev main_v44_2 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 9], ![false, false, false]⟩

def k0_mult1 (i : grid0.Coords) : BitVec 32 :=
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .slt arg2 v0
  let v4 : BitVec 32 := Scalar.addi arg1 arg2
  let c1_i32 : BitVec 32 := 1#32
  let v5 : BitVec 32 := Scalar.subi arg2 c1_i32
  let v6 : BitVec 32 := Scalar.select v1 v4 v5
  let c512_i32 : BitVec 32 := 512#32
  let v7 : BitVec 32 := Scalar.muli v6 c512_i32
  v7
def k0_cond3 (i : grid0.Coords) : BitVec 1 :=
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .slt arg2 v0
  let v4 : BitVec 32 := Scalar.addi arg1 arg2
  let c1_i32 : BitVec 32 := 1#32
  let v5 : BitVec 32 := Scalar.subi arg2 c1_i32
  let v6 : BitVec 32 := Scalar.select v1 v4 v5
  let c7_i32 : BitVec 32 := 7#32
  let v2 : BitVec 32 := Scalar.subi c7_i32 arg1
  let v3 : BitVec 32 := Scalar.select v1 arg1 v2
  let v17 : BitVec 1 := Scalar.cmpi .sgt v6 v3
  let v18 : BitVec 32 := Scalar.extui v17
  let c0_i32_3 : BitVec 32 := 0#32
  let v19 : BitVec 1 := Scalar.cmpi .ne v18 c0_i32_3
  v19

def k0_off1 (i : grid0.Coords) : Fin 3 → Nat :=
  let c0_41 : Index := 0#32
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .slt arg2 v0
  let v4 : BitVec 32 := Scalar.addi arg1 arg2
  let c1_i32 : BitVec 32 := 1#32
  let v5 : BitVec 32 := Scalar.subi arg2 c1_i32
  let v6 : BitVec 32 := Scalar.select v1 v4 v5
  let c512_i32 : BitVec 32 := 512#32
  let v7 : BitVec 32 := Scalar.muli v6 c512_i32
  let v8 : BitVec 32 := v7
  let v68 : Index := Scalar.indexCast v8
  let c0_42 : Index := 0#32
  ![0, v68.toNat, 0]
def k0_off2 (i : grid0.Coords) : Fin 3 → Nat :=
  let c1_80 : Index := 1#32
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .slt arg2 v0
  let v4 : BitVec 32 := Scalar.addi arg1 arg2
  let c1_i32 : BitVec 32 := 1#32
  let v5 : BitVec 32 := Scalar.subi arg2 c1_i32
  let v6 : BitVec 32 := Scalar.select v1 v4 v5
  let c512_i32 : BitVec 32 := 512#32
  let v7 : BitVec 32 := Scalar.muli v6 c512_i32
  let v8 : BitVec 32 := v7
  let v119 : Index := Scalar.indexCast v8
  let c0_81 : Index := 0#32
  ![1, v119.toNat, 0]
def k0_off3 (i : grid0.Coords) : Fin 3 → Nat :=
  let c2_119 : Index := 2#32
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .slt arg2 v0
  let v4 : BitVec 32 := Scalar.addi arg1 arg2
  let c1_i32 : BitVec 32 := 1#32
  let v5 : BitVec 32 := Scalar.subi arg2 c1_i32
  let v6 : BitVec 32 := Scalar.select v1 v4 v5
  let c512_i32 : BitVec 32 := 512#32
  let v7 : BitVec 32 := Scalar.muli v6 c512_i32
  let v8 : BitVec 32 := v7
  let v170 : Index := Scalar.indexCast v8
  let c0_120 : Index := 0#32
  ![2, v170.toNat, 0]
def k0_off4 (i : grid0.Coords) : Fin 3 → Nat :=
  let c3_158 : Index := 3#32
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .slt arg2 v0
  let v4 : BitVec 32 := Scalar.addi arg1 arg2
  let c1_i32 : BitVec 32 := 1#32
  let v5 : BitVec 32 := Scalar.subi arg2 c1_i32
  let v6 : BitVec 32 := Scalar.select v1 v4 v5
  let c512_i32 : BitVec 32 := 512#32
  let v7 : BitVec 32 := Scalar.muli v6 c512_i32
  let v8 : BitVec 32 := v7
  let v221 : Index := Scalar.indexCast v8
  let c0_159 : Index := 0#32
  ![3, v221.toNat, 0]
def k0_cond4 (i : grid0.Coords) : BitVec 1 :=
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .slt arg2 v0
  let v4 : BitVec 32 := Scalar.addi arg1 arg2
  let c1_i32 : BitVec 32 := 1#32
  let v5 : BitVec 32 := Scalar.subi arg2 c1_i32
  let v6 : BitVec 32 := Scalar.select v1 v4 v5
  let c7_i32 : BitVec 32 := 7#32
  let v2 : BitVec 32 := Scalar.subi c7_i32 arg1
  let v3 : BitVec 32 := Scalar.select v1 arg1 v2
  let v20 : BitVec 1 := Scalar.cmpi .eq v6 v3
  let v21 : BitVec 32 := Scalar.extui v20
  let c0_i32_4 : BitVec 32 := 0#32
  let v22 : BitVec 1 := Scalar.cmpi .ne v21 c0_i32_4
  v22

def k0_off5 (i : grid0.Coords) : Fin 3 → Nat :=
  let c0_42 : Index := 0#32
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .slt arg2 v0
  let v4 : BitVec 32 := Scalar.addi arg1 arg2
  let c1_i32 : BitVec 32 := 1#32
  let v5 : BitVec 32 := Scalar.subi arg2 c1_i32
  let v6 : BitVec 32 := Scalar.select v1 v4 v5
  let c512_i32 : BitVec 32 := 512#32
  let v7 : BitVec 32 := Scalar.muli v6 c512_i32
  let v8 : BitVec 32 := v7
  let v73 : Index := Scalar.indexCast v8
  let c0_43 : Index := 0#32
  ![0, v73.toNat, 0]
def k0_off6 (i : grid0.Coords) : Fin 3 → Nat :=
  let c1_82 : Index := 1#32
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .slt arg2 v0
  let v4 : BitVec 32 := Scalar.addi arg1 arg2
  let c1_i32 : BitVec 32 := 1#32
  let v5 : BitVec 32 := Scalar.subi arg2 c1_i32
  let v6 : BitVec 32 := Scalar.select v1 v4 v5
  let c512_i32 : BitVec 32 := 512#32
  let v7 : BitVec 32 := Scalar.muli v6 c512_i32
  let v8 : BitVec 32 := v7
  let v129 : Index := Scalar.indexCast v8
  let c0_83 : Index := 0#32
  ![1, v129.toNat, 0]
def k0_off7 (i : grid0.Coords) : Fin 3 → Nat :=
  let c2_122 : Index := 2#32
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .slt arg2 v0
  let v4 : BitVec 32 := Scalar.addi arg1 arg2
  let c1_i32 : BitVec 32 := 1#32
  let v5 : BitVec 32 := Scalar.subi arg2 c1_i32
  let v6 : BitVec 32 := Scalar.select v1 v4 v5
  let c512_i32 : BitVec 32 := 512#32
  let v7 : BitVec 32 := Scalar.muli v6 c512_i32
  let v8 : BitVec 32 := v7
  let v185 : Index := Scalar.indexCast v8
  let c0_123 : Index := 0#32
  ![2, v185.toNat, 0]
def k0_off8 (i : grid0.Coords) : Fin 3 → Nat :=
  let c3_162 : Index := 3#32
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .slt arg2 v0
  let v4 : BitVec 32 := Scalar.addi arg1 arg2
  let c1_i32 : BitVec 32 := 1#32
  let v5 : BitVec 32 := Scalar.subi arg2 c1_i32
  let v6 : BitVec 32 := Scalar.select v1 v4 v5
  let c512_i32 : BitVec 32 := 512#32
  let v7 : BitVec 32 := Scalar.muli v6 c512_i32
  let v8 : BitVec 32 := v7
  let v241 : Index := Scalar.indexCast v8
  let c0_163 : Index := 0#32
  ![3, v241.toNat, 0]
def k0_cond2 (i : grid0.Coords) : BitVec 1 :=
  let arg1 : BitVec 32 := BitVec.ofNat 32 (i 1).val
  let c0_i32_0 : BitVec 32 := 0#32
  let v12 : BitVec 1 := Scalar.cmpi .eq arg1 c0_i32_0
  let arg2 : BitVec 32 := BitVec.ofNat 32 (i 2).val
  let c0_i32_1 : BitVec 32 := 0#32
  let v13 : BitVec 1 := Scalar.cmpi .eq arg2 c0_i32_1
  let v14 : BitVec 1 := Scalar.andi v12 v13
  let v15 : BitVec 32 := Scalar.extui v14
  let c0_i32_2 : BitVec 32 := 0#32
  let v16 : BitVec 1 := Scalar.cmpi .ne v15 c0_i32_2
  v16

def k0_cond5 (i : grid0.Coords) : BitVec 1 :=
  let arg2 : BitVec 32 := BitVec.ofNat 32 (i 2).val
  let c8_i32 : BitVec 32 := 8#32
  let arg1 : BitVec 32 := BitVec.ofNat 32 (i 1).val
  let v0 : BitVec 32 := Scalar.subi c8_i32 arg1
  let v1 : BitVec 1 := Scalar.cmpi .slt arg2 v0
  let v4 : BitVec 32 := Scalar.addi arg1 arg2
  let c1_i32 : BitVec 32 := 1#32
  let v5 : BitVec 32 := Scalar.subi arg2 c1_i32
  let v6 : BitVec 32 := Scalar.select v1 v4 v5
  let c7_i32_5 : BitVec 32 := 7#32
  let v23 : BitVec 1 := Scalar.cmpi .eq v6 c7_i32_5
  let v24 : BitVec 32 := Scalar.extui v23
  let c0_i32_6 : BitVec 32 := 0#32
  let v25 : BitVec 1 := Scalar.cmpi .ne v24 c0_i32_6
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let c7_i32 : BitVec 32 := 7#32
  let v2 : BitVec 32 := Scalar.subi c7_i32 arg1
  let v3 : BitVec 32 := Scalar.select v1 arg1 v2
  let v4 : BitVec 32 := Scalar.addi arg1 arg2
  let c1_i32 : BitVec 32 := 1#32
  let v5 : BitVec 32 := Scalar.subi arg2 c1_i32
  let v6 : BitVec 32 := Scalar.select v1 v4 v5
  let c0_i32 : BitVec 32 := 0#32
  let c0_i32_0 : BitVec 32 := 0#32
  ![arg0.toNat, v6.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let c7_i32 : BitVec 32 := 7#32
  let v2 : BitVec 32 := Scalar.subi c7_i32 arg1
  let v3 : BitVec 32 := Scalar.select v1 arg1 v2
  let v4 : BitVec 32 := Scalar.addi arg1 arg2
  let c1_i32 : BitVec 32 := 1#32
  let v5 : BitVec 32 := Scalar.subi arg2 c1_i32
  let v6 : BitVec 32 := Scalar.select v1 v4 v5
  let c0_i32 : BitVec 32 := 0#32
  let c0_i32_0 : BitVec 32 := 0#32
  ![arg0.toNat, v3.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let c7_i32 : BitVec 32 := 7#32
  let v2 : BitVec 32 := Scalar.subi c7_i32 arg1
  let v3 : BitVec 32 := Scalar.select v1 arg1 v2
  let v4 : BitVec 32 := Scalar.addi arg1 arg2
  let c1_i32 : BitVec 32 := 1#32
  let v5 : BitVec 32 := Scalar.subi arg2 c1_i32
  let v6 : BitVec 32 := Scalar.select v1 v4 v5
  let c0_i32 : BitVec 32 := 0#32
  let c0_i32_0 : BitVec 32 := 0#32
  ![arg0.toNat, v3.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let c7_i32 : BitVec 32 := 7#32
  let v2 : BitVec 32 := Scalar.subi c7_i32 arg1
  let v3 : BitVec 32 := Scalar.select v1 arg1 v2
  let v4 : BitVec 32 := Scalar.addi arg1 arg2
  let c1_i32 : BitVec 32 := 1#32
  let v5 : BitVec 32 := Scalar.subi arg2 c1_i32
  let v6 : BitVec 32 := Scalar.select v1 v4 v5
  let c2_i32 : BitVec 32 := 2#32
  let v7 : BitVec 32 := Scalar.addi c2_i32 arg0
  let c0_i32 : BitVec 32 := 0#32
  ![v6.toNat, v7.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let c7_i32 : BitVec 32 := 7#32
  let v2 : BitVec 32 := Scalar.subi c7_i32 arg1
  let v3 : BitVec 32 := Scalar.select v1 arg1 v2
  let v4 : BitVec 32 := Scalar.addi arg1 arg2
  let c1_i32 : BitVec 32 := 1#32
  let v5 : BitVec 32 := Scalar.subi arg2 c1_i32
  let v6 : BitVec 32 := Scalar.select v1 v4 v5
  let c0_i32 : BitVec 32 := 0#32
  let c0_i32_0 : BitVec 32 := 0#32
  ![arg0.toNat, c0_i32.toNat, v6.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let c7_i32 : BitVec 32 := 7#32
  let v2 : BitVec 32 := Scalar.subi c7_i32 arg1
  let v3 : BitVec 32 := Scalar.select v1 arg1 v2
  let v4 : BitVec 32 := Scalar.addi arg1 arg2
  let c1_i32 : BitVec 32 := 1#32
  let v5 : BitVec 32 := Scalar.subi arg2 c1_i32
  let v6 : BitVec 32 := Scalar.select v1 v4 v5
  let c0_i32 : BitVec 32 := 0#32
  let c0_i32_0 : BitVec 32 := 0#32
  ![arg0.toNat, c0_i32.toNat, v6.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let c7_i32 : BitVec 32 := 7#32
  let v2 : BitVec 32 := Scalar.subi c7_i32 arg1
  let v3 : BitVec 32 := Scalar.select v1 arg1 v2
  let v4 : BitVec 32 := Scalar.addi arg1 arg2
  let c1_i32 : BitVec 32 := 1#32
  let v5 : BitVec 32 := Scalar.subi arg2 c1_i32
  let v6 : BitVec 32 := Scalar.select v1 v4 v5
  let c0_i32 : BitVec 32 := 0#32
  let c0_i32_0 : BitVec 32 := 0#32
  ![arg0.toNat, v3.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg1
  let v1 : BitVec 1 := Scalar.cmpi .slt arg2 v0
  let c7_i32 : BitVec 32 := 7#32
  let v2 : BitVec 32 := Scalar.subi c7_i32 arg1
  let v3 : BitVec 32 := Scalar.select v1 arg1 v2
  let v4 : BitVec 32 := Scalar.addi arg1 arg2
  let c1_i32 : BitVec 32 := 1#32
  let v5 : BitVec 32 := Scalar.subi arg2 c1_i32
  let v6 : BitVec 32 := Scalar.select v1 v4 v5
  let c0_i32 : BitVec 32 := 0#32
  let c0_i32_0 : BitVec 32 := 0#32
  ![arg0.toNat, v3.toNat, c0_i32.toNat]

abbrev stage0_0 : Fin 2 → Memref sig .tc .vmem S4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S4x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S4x4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S4x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S4x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "log2e" => some (((Real.log 2)⁻¹ : ℝ) : EReal)
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S4096x8x128 : Shape := ⟨3, ![4096, 8, 128]⟩
abbrev S4096x8x64 : Shape := ⟨3, ![4096, 8, 64]⟩
abbrev S4096x64 : Shape := ⟨2, ![4096, 64]⟩
abbrev S4096x2048 : Shape := ⟨2, ![4096, 2048]⟩
abbrev S4096x1024 : Shape := ⟨2, ![4096, 1024]⟩
abbrev S4096x1x64 : Shape := ⟨3, ![4096, 1, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x64 : Shape := ⟨3, ![8, 4096, 64]⟩
abbrev S8x4096x128 : Shape := ⟨3, ![8, 4096, 128]⟩
abbrev S4096x8x256 : Shape := ⟨3, ![4096, 8, 256]⟩
abbrev S8x4096x256 : Shape := ⟨3, ![8, 4096, 256]⟩

abbrev nBuf : Space → Nat
  | .hbm => 111
  | .vmem => 0
  | .smem => 0
  | _ => 0

abbrev bufTy : (tb : Table) → Fin (tcTables nBuf tb) → BufTy
  | .hbm, ⟨0, _⟩ => ⟨S4096x8x128, .f32⟩
  | .hbm, ⟨1, _⟩ => ⟨S4096x8x64, .f32⟩
  | .hbm, ⟨2, _⟩ => ⟨S4096x8x128, .f32⟩
  | .hbm, ⟨3, _⟩ => ⟨S4096x64, .f32⟩
  | .hbm, ⟨4, _⟩ => ⟨S4096x8x128, .f32⟩
  | .hbm, ⟨5, _⟩ => ⟨S4096x2048, .f32⟩
  | .hbm, ⟨6, _⟩ => ⟨S4096x1024, .f32⟩
  | .hbm, ⟨7, _⟩ => ⟨S4096x8x128, .f32⟩
  | .hbm, ⟨8, _⟩ => ⟨S4096x1x64, .f32⟩
  | .hbm, ⟨9, _⟩ => ⟨S4096x8x64, .f32⟩
  | .hbm, ⟨10, _⟩ => ⟨S8x4096x4096, .f32⟩
  | .hbm, ⟨11, _⟩ => ⟨S8x4096x4096, .f32⟩
  | .hbm, ⟨12, _⟩ => ⟨S8x4096x4096, .f32⟩
  | .hbm, ⟨13, _⟩ => ⟨S_, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S4096, .i32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S1x4096x4096, .i1⟩
  | .hbm, ⟨24, _⟩ => ⟨S_, .f32⟩
  | .hbm, ⟨25, _⟩ => ⟨S_, .f32⟩
  | .hbm, ⟨26, _⟩ => ⟨S8x4096x4096, .i1⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096x4096, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S8x4096x4096, .f32⟩
  | .hbm, ⟨35, _⟩ => ⟨S8x4096x4096, .i1⟩
  | .hbm, ⟨36, _⟩ => ⟨S8x4096x4096, .f32⟩
  | .hbm, ⟨37, _⟩ => ⟨S_, .f32⟩
  | .hbm, ⟨38, _⟩ => ⟨S8x4096, .f32⟩
  | .hbm, ⟨39, _⟩ => ⟨S_, .f32⟩
  | .hbm, ⟨40, _⟩ => ⟨S8x4096, .f32⟩
  | .hbm, ⟨41, _⟩ => ⟨S8x4096, .f32⟩
  | .hbm, ⟨42, _⟩ => ⟨S_, .f32⟩
  | .hbm, ⟨43, _⟩ => ⟨S8x4096, .f32⟩
  | .hbm, ⟨44, _⟩ => ⟨S8x4096, .i1⟩
  | .hbm, ⟨45, _⟩ => ⟨S_, .f32⟩
  | .hbm, ⟨46, _⟩ => ⟨S8x4096, .f32⟩
  | .hbm, ⟨47, _⟩ => ⟨S8x4096, .i1⟩
  | .hbm, ⟨48, _⟩ => ⟨S_, .f32⟩
  | .hbm, ⟨49, _⟩ => ⟨S8x4096, .f32⟩
  | .hbm, ⟨50, _⟩ => ⟨S_, .f32⟩
  | .hbm, ⟨51, _⟩ => ⟨S8x4096, .f32⟩
  | .hbm, ⟨52, _⟩ => ⟨S_, .f32⟩
  | .hbm, ⟨53, _⟩ => ⟨S8x4096, .f32⟩
  | .hbm, ⟨54, _⟩ => ⟨S8x4096, .f32⟩
  | .hbm, ⟨55, _⟩ => ⟨S8x4096, .f32⟩
  | .hbm, ⟨56, _⟩ => ⟨S8x4096x1, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S_, .f32⟩
  | .hbm, ⟨61, _⟩ => ⟨S8x4096, .f32⟩
  | .hbm, ⟨62, _⟩ => ⟨S8x4096x1, .f32⟩
  | .hbm, ⟨63, _⟩ => ⟨S8x4096x4096, .f32⟩
  | .hbm, ⟨64, _⟩ => ⟨S8x4096x4096, .f32⟩
  | .hbm, ⟨65, _⟩ => ⟨S8x4096x1, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S8x128x4096, .f32⟩
  | .hbm, ⟨70, _⟩ => ⟨S4096x8x128, .f32⟩
  | .hbm, ⟨71, _⟩ => ⟨S8x128x4096, .f32⟩
  | .hbm, ⟨72, _⟩ => ⟨S8x4096x4096, .f32⟩
  | .hbm, ⟨73, _⟩ => ⟨S8x128x4096, .f32⟩
  | .hbm, ⟨74, _⟩ => ⟨S4096x8x128, .f32⟩
  | .hbm, ⟨75, _⟩ => ⟨S8x4096x4096, .f32⟩
  | .hbm, ⟨76, _⟩ => ⟨S8x4096x4096, .f32⟩
  | .hbm, ⟨77, _⟩ => ⟨S8x4096x4096, .f32⟩
  | .hbm, ⟨78, _⟩ => ⟨S_, .f32⟩
  | .hbm, ⟨79, _⟩ => ⟨S8x4096, .f32⟩
  | .hbm, ⟨80, _⟩ => ⟨S8x4096x1, .f32⟩
  | .hbm, ⟨81, _⟩ => ⟨S8x4096x1, .f32⟩
  | .hbm, ⟨82, _⟩ => ⟨S8x4096x4096, .f32⟩
  | .hbm, ⟨83, _⟩ => ⟨S8x4096x4096, .f32⟩
  | .hbm, ⟨84, _⟩ => ⟨S_, .f32⟩
  | .hbm, ⟨85, _⟩ => ⟨S8x4096, .f32⟩
  | .hbm, ⟨86, _⟩ => ⟨S8x4096x4096, .f32⟩
  | .hbm, ⟨87, _⟩ => ⟨S8x4096x4096, .f32⟩
  | .hbm, ⟨88, _⟩ => ⟨S8x4096x4096, .f32⟩
  | .hbm, ⟨89, _⟩ => ⟨S_, .f32⟩
  | .hbm, ⟨90, _⟩ => ⟨S8x4096x4096, .f32⟩
  | .hbm, ⟨91, _⟩ => ⟨S8x4096x4096, .f32⟩
  | .hbm, ⟨92, _⟩ => ⟨S8x4096x4096, .f32⟩
  | .hbm, ⟨93, _⟩ => ⟨S8x4096x4096, .f32⟩
  | .hbm, ⟨94, _⟩ => ⟨S8x4096x64, .f32⟩
  | .hbm, ⟨95, _⟩ => ⟨S4096x8x64, .f32⟩
  | .hbm, ⟨96, _⟩ => ⟨S8x4096x64, .f32⟩
  | .hbm, ⟨97, _⟩ => ⟨S4096x8x64, .f32⟩
  | .hbm, ⟨98, _⟩ => ⟨S8x4096x128, .f32⟩
  | .hbm, ⟨99, _⟩ => ⟨S4096x8x128, .f32⟩
  | .hbm, ⟨100, _⟩ => ⟨S8x4096x128, .f32⟩
  | .hbm, ⟨101, _⟩ => ⟨S4096x8x128, .f32⟩
  | .hbm, ⟨102, _⟩ => ⟨S_, .f32⟩
  | .hbm, ⟨103, _⟩ => ⟨S4096x8x64, .f32⟩
  | .hbm, ⟨104, _⟩ => ⟨S4096x8x256, .f32⟩
  | .hbm, ⟨105, _⟩ => ⟨S8x4096x256, .f32⟩
  | .hbm, ⟨106, _⟩ => ⟨S4096x8x256, .f32⟩
  | .hbm, ⟨107, _⟩ => ⟨S8x4096x256, .f32⟩
  | .hbm, ⟨108, _⟩ => ⟨S8x4096x256, .bf16⟩
  | .hbm, ⟨109, _⟩ => ⟨S8x4096x128, .f32⟩
  | .hbm, ⟨110, _⟩ => ⟨S8x4096x128, .bf16⟩
  | _, _ => ⟨S4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_call0_v0 : Ref sig .tc := ⟨.hbm, 25, rfl⟩
abbrev main_v17_1 : Ref sig .tc := ⟨.hbm, 26, rfl⟩
abbrev main_call0_v2 : Ref sig .tc := ⟨.hbm, 27, rfl⟩
abbrev main_v17_0 : Ref sig .tc := ⟨.hbm, 28, rfl⟩
abbrev main_call0_cst : Ref sig .tc := ⟨.hbm, 29, rfl⟩
abbrev main_v17_2 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_call1_cst : Ref sig .tc := ⟨.hbm, 89, rfl⟩
abbrev main_call1_v0 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_13 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩

abbrev nD : Nat := 1
abbrev τ : Topo := Topo.v7x

variable {F : FTy → Type} [FloatOps F]
-- ==== Ff2Dx.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S1024x2048 : Shape := ⟨2, ![1024, 2048]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x2048, .bf16⟩
  | .hbm, ⟨7, _⟩ => ⟨S8192x2048, .bf16⟩
  | .hbm, ⟨8, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff2DxRefIdeal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S2048x8192 : Shape := ⟨2, ![2048, 8192]⟩

abbrev nBuf : Space → Nat
  | .hbm => 23
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x2048, .f32⟩
  | .hbm, ⟨13, _⟩ => ⟨S2048x8192, .f32⟩
  | .hbm, ⟨14, _⟩ => ⟨S8192x2048, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Ff2Dw.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S2048x1024 : Shape := ⟨2, ![2048, 1024]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | .hbm, ⟨8, _⟩ => ⟨S4096x2048, .bf16⟩
  | .hbm, ⟨9, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2DwRefIdeal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S2048x8192 : Shape := ⟨2, ![2048, 8192]⟩

abbrev nBuf : Space → Nat
  | .hbm => 23
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x2048, .f32⟩
  | .hbm, ⟨13, _⟩ => ⟨S2048x8192, .f32⟩
  | .hbm, ⟨14, _⟩ => ⟨S8192x2048, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S8192x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Ff1Dx.lean ====
abbrev S4096x2048 : Shape := ⟨2, ![4096, 2048]⟩
abbrev S2048x8192 : Shape := ⟨2, ![2048, 8192]⟩
abbrev S4096x8192 : Shape := ⟨2, ![4096, 8192]⟩
abbrev S2048x8x1024 : Shape := ⟨3, ![2048, 8, 1024]⟩
abbrev S8x2048x1024 : Shape := ⟨3, ![8, 2048, 1024]⟩
abbrev S1024x2048 : Shape := ⟨2, ![1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x8192, .bf16⟩
  | .hbm, ⟨4, _⟩ => ⟨S2048x8x1024, .f32⟩
  | .hbm, ⟨5, _⟩ => ⟨S8x2048x1024, .f32⟩
  | .hbm, ⟨6, _⟩ => ⟨S8x2048x1024, .bf16⟩
  | .hbm, ⟨7, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_12 : BitVec 32 := 3#32
  let v21 : BitVec 1 := Scalar.cmpi .eq arg2 c3_i32_12
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1DxRefIdeal.lean ====
abbrev S4096x2048 : Shape := ⟨2, ![4096, 2048]⟩
abbrev S2048x8192 : Shape := ⟨2, ![2048, 8192]⟩
abbrev S4096x8192 : Shape := ⟨2, ![4096, 8192]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x8192, .f32⟩
  | .hbm, ⟨4, _⟩ => ⟨S8192x2048, .f32⟩
  | .hbm, ⟨5, _⟩ => ⟨S2048x8192, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Ff1Dw.lean ====
abbrev S4096x2048 : Shape := ⟨2, ![4096, 2048]⟩
abbrev S2048x8192 : Shape := ⟨2, ![2048, 8192]⟩
abbrev S4096x8192 : Shape := ⟨2, ![4096, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x2048, .bf16⟩
  | .hbm, ⟨4, _⟩ => ⟨S4096x8192, .bf16⟩
  | .hbm, ⟨5, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1DwRefIdeal.lean ====
abbrev S4096x2048 : Shape := ⟨2, ![4096, 2048]⟩
abbrev S2048x8192 : Shape := ⟨2, ![2048, 8192]⟩
abbrev S4096x8192 : Shape := ⟨2, ![4096, 8192]⟩
abbrev S8192x2048 : Shape := ⟨2, ![8192, 2048]⟩
abbrev S2048x1024 : Shape := ⟨2, ![2048, 1024]⟩
abbrev S1x2048x1024 : Shape := ⟨3, ![1, 2048, 1024]⟩
abbrev S8x2048x1024 : Shape := ⟨3, ![8, 2048, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x8192, .f32⟩
  | .hbm, ⟨4, _⟩ => ⟨S8192x2048, .f32⟩
  | .hbm, ⟨5, _⟩ => ⟨S2048x8192, .f32⟩
  | .hbm, ⟨6, _⟩ => ⟨S4096x2048, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S1x2048x1024, .f32⟩
  | .hbm, ⟨16, _⟩ => ⟨S1x2048x1024, .f32⟩
  | .hbm, ⟨17, _⟩ => ⟨S1x2048x1024, .f32⟩
  | .hbm, ⟨18, _⟩ => ⟨S1x2048x1024, .f32⟩
  | .hbm, ⟨19, _⟩ => ⟨S1x2048x1024, .f32⟩
  | .hbm, ⟨20, _⟩ => ⟨S1x2048x1024, .f32⟩
  | .hbm, ⟨21, _⟩ => ⟨S1x2048x1024, .f32⟩
  | .hbm, ⟨22, _⟩ => ⟨S1x2048x1024, .f32⟩
  | .hbm, ⟨23, _⟩ => ⟨S8x2048x1024, .f32⟩
  | .hbm, ⟨24, _⟩ => ⟨S8x2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== Ff1.lean ====
abbrev S4096x2048 : Shape := ⟨2, ![4096, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x2048, .bf16⟩
  | .hbm, ⟨3, _⟩ => ⟨S2048x8x1024, .f32⟩
  | .hbm, ⟨4, _⟩ => ⟨S8x2048x1024, .f32⟩
  | .hbm, ⟨5, _⟩ => ⟨S8x2048x1024, .bf16⟩
  | .hbm, ⟨6, _⟩ => ⟨S4096x8192, .f32⟩
  | .hbm, ⟨7, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff1RefIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Ff2.lean ====
abbrev S4096x8192 : Shape := ⟨2, ![4096, 8192]⟩
abbrev S8192x2048 : Shape := ⟨2, ![8192, 2048]⟩
abbrev S4096x2048 : Shape := ⟨2, ![4096, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S1x2048, .f32⟩
  | .hbm, ⟨4, _⟩ => ⟨S4096x8192, .bf16⟩
  | .hbm, ⟨5, _⟩ => ⟨S8192x2048, .bf16⟩
  | .hbm, ⟨6, _⟩ => ⟨S4096x2048, .bf16⟩
  | .hbm, ⟨7, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Ff2RefIdeal.lean ====
abbrev S4096x8192 : Shape := ⟨2, ![4096, 8192]⟩
abbrev S8192x2048 : Shape := ⟨2, ![8192, 2048]⟩
abbrev S4096x2048 : Shape := ⟨2, ![4096, 2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== OutDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S4096x2048, .bf16⟩
  | .hbm, ⟨5, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x2048 : Shape := ⟨2, ![4096, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S4096x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S2048x2048, .bf16⟩
  | .hbm, ⟨6, _⟩ => ⟨S4096x2048, .bf16⟩
  | .hbm, ⟨7, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutRefIdeal.lean ====
abbrev S4096x2048 : Shape := ⟨2, ![4096, 2048]⟩
abbrev S2048x2048 : Shape := ⟨2, ![2048, 2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== AdamMod.lean ====
abbrev S2048x1536 : Shape := ⟨2, ![2048, 1536]⟩
abbrev S128x1536 : Shape := ⟨2, ![128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamModRefIdeal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S256x1856 : Shape := ⟨2, ![256, 1856]⟩
abbrev S4x256x1856 : Shape := ⟨3, ![4, 256, 1856]⟩
abbrev S128x1856 : Shape := ⟨2, ![128, 1856]⟩
abbrev S4x128x1856 : Shape := ⟨3, ![4, 128, 1856]⟩
abbrev S1x128x1856 : Shape := ⟨3, ![1, 128, 1856]⟩

abbrev nBuf : Space → Nat
  | .hbm => 8
  | .vmem => 16
  | .smem => 0
  | _ => 0

abbrev bufTy : (tb : Table) → Fin (tcTables nBuf tb) → BufTy
  | .hbm, ⟨0, _⟩ => ⟨S256x1856, .f32⟩
  | .hbm, ⟨1, _⟩ => ⟨S4x256x1856, .bf16⟩
  | .hbm, ⟨2, _⟩ => ⟨S256x1856, .f32⟩
  | .hbm, ⟨3, _⟩ => ⟨S256x1856, .f32⟩
  | .hbm, ⟨4, _⟩ => ⟨S256x1856, .f32⟩
  | .hbm, ⟨5, _⟩ => ⟨S256x1856, .f32⟩
  | .hbm, ⟨6, _⟩ => ⟨S256x1856, .f32⟩
  | .hbm, ⟨7, _⟩ => ⟨S256x1856, .f32⟩
  | .local _ .vmem, ⟨0, _⟩ => ⟨S128x1856, .f32⟩
  | .local _ .vmem, ⟨1, _⟩ => ⟨S128x1856, .f32⟩
  | .local _ .vmem, ⟨2, _⟩ => ⟨S4x128x1856, .bf16⟩
  | .local _ .vmem, ⟨3, _⟩ => ⟨S4x128x1856, .bf16⟩
  | .local _ .vmem, ⟨4, _⟩ => ⟨S128x1856, .f32⟩
  | .local _ .vmem, ⟨5, _⟩ => ⟨S128x1856, .f32⟩
  | .local _ .vmem, ⟨6, _⟩ => ⟨S128x1856, .f32⟩
  | .local _ .vmem, ⟨7, _⟩ => ⟨S128x1856, .f32⟩
  | .local _ .vmem, ⟨8, _⟩ => ⟨S128x1856, .f32⟩
  | .local _ .vmem, ⟨9, _⟩ => ⟨S128x1856, .f32⟩
  | .local _ .vmem, ⟨10, _⟩ => ⟨S128x1856, .f32⟩
  | .local _ .vmem, ⟨11, _⟩ => ⟨S128x1856, .f32⟩
  | .local _ .vmem, ⟨12, _⟩ => ⟨S128x1856, .f32⟩
  | .local _ .vmem, ⟨13, _⟩ => ⟨S128x1856, .f32⟩
  | .local _ .vmem, ⟨14, _⟩ => ⟨S128x1856, .f32⟩
  | .local _ .vmem, ⟨15, _⟩ => ⟨S128x1856, .f32⟩
  | _, _ => ⟨S256x1856, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1856 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x1856 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1856 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1856 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1856 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1856 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1856 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1856 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S256x1856 : Shape := ⟨2, ![256, 1856]⟩
abbrev S4x256x1856 : Shape := ⟨3, ![4, 256, 1856]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x1856, .f32⟩
  | .hbm, ⟨1, _⟩ => ⟨S4x256x1856, .bf16⟩
  | .hbm, ⟨2, _⟩ => ⟨S256x1856, .f32⟩
  | .hbm, ⟨3, _⟩ => ⟨S256x1856, .f32⟩
  | .hbm, ⟨4, _⟩ => ⟨S4x256x1856, .f32⟩
  | .hbm, ⟨5, _⟩ => ⟨S_, .f32⟩
  | .hbm, ⟨6, _⟩ => ⟨S256x1856, .f32⟩
  | .hbm, ⟨7, _⟩ => ⟨S_, .f32⟩
  | .hbm, ⟨8, _⟩ => ⟨S256x1856, .f32⟩
  | .hbm, ⟨9, _⟩ => ⟨S256x1856, .f32⟩
  | .hbm, ⟨10, _⟩ => ⟨S_, .f32⟩
  | .hbm, ⟨11, _⟩ => ⟨S256x1856, .f32⟩
  | .hbm, ⟨12, _⟩ => ⟨S256x1856, .f32⟩
  | .hbm, ⟨13, _⟩ => ⟨S256x1856, .f32⟩
  | .hbm, ⟨14, _⟩ => ⟨S_, .f32⟩
  | .hbm, ⟨15, _⟩ => ⟨S256x1856, .f32⟩
  | .hbm, ⟨16, _⟩ => ⟨S256x1856, .f32⟩
  | .hbm, ⟨17, _⟩ => ⟨S256x1856, .f32⟩
  | .hbm, ⟨18, _⟩ => ⟨S_, .f32⟩
  | .hbm, ⟨19, _⟩ => ⟨S256x1856, .f32⟩
  | .hbm, ⟨20, _⟩ => ⟨S256x1856, .f32⟩
  | .hbm, ⟨21, _⟩ => ⟨S256x1856, .f32⟩
  | .hbm, ⟨22, _⟩ => ⟨S_, .f32⟩
  | .hbm, ⟨23, _⟩ => ⟨S256x1856, .f32⟩
  | .hbm, ⟨24, _⟩ => ⟨S256x1856, .f32⟩
  | .hbm, ⟨25, _⟩ => ⟨S_, .f32⟩
  | .hbm, ⟨26, _⟩ => ⟨S256x1856, .f32⟩
  | .hbm, ⟨27, _⟩ => ⟨S256x1856, .f32⟩
  | .hbm, ⟨28, _⟩ => ⟨S256x1856, .f32⟩
  | .hbm, ⟨29, _⟩ => ⟨S_, .f32⟩
  | .hbm, ⟨30, _⟩ => ⟨S256x1856, .f32⟩
  | .hbm, ⟨31, _⟩ => ⟨S256x1856, .f32⟩
  | .hbm, ⟨32, _⟩ => ⟨S256x1856, .f32⟩
  | .hbm, ⟨33, _⟩ => ⟨S_, .f32⟩
  | .hbm, ⟨34, _⟩ => ⟨S256x1856, .f32⟩
  | .hbm, ⟨35, _⟩ => ⟨S256x1856, .f32⟩
  | .hbm, ⟨36, _⟩ => ⟨S256x1856, .f32⟩
  | .hbm, ⟨37, _⟩ => ⟨S_, .f32⟩
  | .hbm, ⟨38, _⟩ => ⟨S256x1856, .f32⟩
  | .hbm, ⟨39, _⟩ => ⟨S256x1856, .f32⟩
  | _, _ => ⟨S256x1856, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUq.lean ====
abbrev S384x192 : Shape := ⟨2, ![384, 192]⟩
abbrev S4x384x192 : Shape := ⟨3, ![4, 384, 192]⟩
abbrev S1x384x192 : Shape := ⟨3, ![1, 384, 192]⟩

abbrev nBuf : Space → Nat
  | .hbm => 8
  | .vmem => 8
  | .smem => 0
  | _ => 0

abbrev bufTy : (tb : Table) → Fin (tcTables nBuf tb) → BufTy
  | .hbm, ⟨0, _⟩ => ⟨S384x192, .f32⟩
  | .hbm, ⟨1, _⟩ => ⟨S4x384x192, .bf16⟩
  | .hbm, ⟨2, _⟩ => ⟨S384x192, .f32⟩
  | .hbm, ⟨3, _⟩ => ⟨S384x192, .f32⟩
  | .hbm, ⟨4, _⟩ => ⟨S384x192, .f32⟩
  | .hbm, ⟨5, _⟩ => ⟨S384x192, .f32⟩
  | .hbm, ⟨6, _⟩ => ⟨S384x192, .f32⟩
  | .hbm, ⟨7, _⟩ => ⟨S384x192, .f32⟩
  | .local _ .vmem, ⟨0, _⟩ => ⟨S384x192, .f32⟩
  | .local _ .vmem, ⟨1, _⟩ => ⟨S4x384x192, .bf16⟩
  | .local _ .vmem, ⟨2, _⟩ => ⟨S384x192, .f32⟩
  | .local _ .vmem, ⟨3, _⟩ => ⟨S384x192, .f32⟩
  | .local _ .vmem, ⟨4, _⟩ => ⟨S384x192, .f32⟩
  | .local _ .vmem, ⟨5, _⟩ => ⟨S384x192, .f32⟩
  | .local _ .vmem, ⟨6, _⟩ => ⟨S384x192, .f32⟩
  | .local _ .vmem, ⟨7, _⟩ => ⟨S384x192, .f32⟩
  | _, _ => ⟨S384x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S384x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S384x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S384x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S384x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S384x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S384x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S384x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamUqRefIdeal.lean ====
abbrev S384x192 : Shape := ⟨2, ![384, 192]⟩
abbrev S4x384x192 : Shape := ⟨3, ![4, 384, 192]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S384x192, .f32⟩
  | .hbm, ⟨1, _⟩ => ⟨S4x384x192, .bf16⟩
  | .hbm, ⟨2, _⟩ => ⟨S384x192, .f32⟩
  | .hbm, ⟨3, _⟩ => ⟨S384x192, .f32⟩
  | .hbm, ⟨4, _⟩ => ⟨S4x384x192, .f32⟩
  | .hbm, ⟨5, _⟩ => ⟨S_, .f32⟩
  | .hbm, ⟨6, _⟩ => ⟨S384x192, .f32⟩
  | .hbm, ⟨7, _⟩ => ⟨S_, .f32⟩
  | .hbm, ⟨8, _⟩ => ⟨S384x192, .f32⟩
  | .hbm, ⟨9, _⟩ => ⟨S384x192, .f32⟩
  | .hbm, ⟨10, _⟩ => ⟨S_, .f32⟩
  | .hbm, ⟨11, _⟩ => ⟨S384x192, .f32⟩
  | .hbm, ⟨12, _⟩ => ⟨S384x192, .f32⟩
  | .hbm, ⟨13, _⟩ => ⟨S384x192, .f32⟩
  | .hbm, ⟨14, _⟩ => ⟨S_, .f32⟩
  | .hbm, ⟨15, _⟩ => ⟨S384x192, .f32⟩
  | .hbm, ⟨16, _⟩ => ⟨S384x192, .f32⟩
  | .hbm, ⟨17, _⟩ => ⟨S384x192, .f32⟩
  | .hbm, ⟨18, _⟩ => ⟨S_, .f32⟩
  | .hbm, ⟨19, _⟩ => ⟨S384x192, .f32⟩
  | .hbm, ⟨20, _⟩ => ⟨S384x192, .f32⟩
  | .hbm, ⟨21, _⟩ => ⟨S384x192, .f32⟩
  | .hbm, ⟨22, _⟩ => ⟨S_, .f32⟩
  | .hbm, ⟨23, _⟩ => ⟨S384x192, .f32⟩
  | .hbm, ⟨24, _⟩ => ⟨S384x192, .f32⟩
  | .hbm, ⟨25, _⟩ => ⟨S_, .f32⟩
  | .hbm, ⟨26, _⟩ => ⟨S384x192, .f32⟩
  | .hbm, ⟨27, _⟩ => ⟨S384x192, .f32⟩
  | .hbm, ⟨28, _⟩ => ⟨S384x192, .f32⟩
  | .hbm, ⟨29, _⟩ => ⟨S_, .f32⟩
  | .hbm, ⟨30, _⟩ => ⟨S384x192, .f32⟩
  | .hbm, ⟨31, _⟩ => ⟨S384x192, .f32⟩
  | .hbm, ⟨32, _⟩ => ⟨S384x192, .f32⟩
  | .hbm, ⟨33, _⟩ => ⟨S_, .f32⟩
  | .hbm, ⟨34, _⟩ => ⟨S384x192, .f32⟩
  | .hbm, ⟨35, _⟩ => ⟨S384x192, .f32⟩
  | .hbm, ⟨36, _⟩ => ⟨S384x192, .f32⟩
  | .hbm, ⟨37, _⟩ => ⟨S_, .f32⟩
  | .hbm, ⟨38, _⟩ => ⟨S384x192, .f32⟩
  | .hbm, ⟨39, _⟩ => ⟨S384x192, .f32⟩
  | _, _ => ⟨S384x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUkv.lean ====
abbrev S128x256 : Shape := ⟨2, ![128, 256]⟩
abbrev S4x128x256 : Shape := ⟨3, ![4, 128, 256]⟩
abbrev S1x128x256 : Shape := ⟨3, ![1, 128, 256]⟩

abbrev nBuf : Space → Nat
  | .hbm => 8
  | .vmem => 8
  | .smem => 0
  | _ => 0

abbrev bufTy : (tb : Table) → Fin (tcTables nBuf tb) → BufTy
  | .hbm, ⟨0, _⟩ => ⟨S128x256, .f32⟩
  | .hbm, ⟨1, _⟩ => ⟨S4x128x256, .bf16⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .local _ .vmem, ⟨0, _⟩ => ⟨S128x256, .f32⟩
  | .local _ .vmem, ⟨1, _⟩ => ⟨S4x128x256, .bf16⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamUkvRefIdeal.lean ====
abbrev S128x256 : Shape := ⟨2, ![128, 256]⟩
abbrev S4x128x256 : Shape := ⟨3, ![4, 128, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x256, .f32⟩
  | .hbm, ⟨1, _⟩ => ⟨S4x128x256, .bf16⟩
  | .hbm, ⟨2, _⟩ => ⟨S128x256, .f32⟩
  | .hbm, ⟨3, _⟩ => ⟨S128x256, .f32⟩
  | .hbm, ⟨4, _⟩ => ⟨S4x128x256, .f32⟩
  | .hbm, ⟨5, _⟩ => ⟨S_, .f32⟩
  | .hbm, ⟨6, _⟩ => ⟨S128x256, .f32⟩
  | .hbm, ⟨7, _⟩ => ⟨S_, .f32⟩
  | .hbm, ⟨8, _⟩ => ⟨S128x256, .f32⟩
  | .hbm, ⟨9, _⟩ => ⟨S128x256, .f32⟩
  | .hbm, ⟨10, _⟩ => ⟨S_, .f32⟩
  | .hbm, ⟨11, _⟩ => ⟨S128x256, .f32⟩
  | .hbm, ⟨12, _⟩ => ⟨S128x256, .f32⟩
  | .hbm, ⟨13, _⟩ => ⟨S128x256, .f32⟩
  | .hbm, ⟨14, _⟩ => ⟨S_, .f32⟩
  | .hbm, ⟨15, _⟩ => ⟨S128x256, .f32⟩
  | .hbm, ⟨16, _⟩ => ⟨S128x256, .f32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S128x256, .f32⟩
  | .hbm, ⟨37, _⟩ => ⟨S_, .f32⟩
  | .hbm, ⟨38, _⟩ => ⟨S128x256, .f32⟩
  | .hbm, ⟨39, _⟩ => ⟨S128x256, .f32⟩
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S256x2048 : Shape := ⟨2, ![256, 2048]⟩
abbrev S4x256x2048 : Shape := ⟨3, ![4, 256, 2048]⟩
abbrev S128x2048 : Shape := ⟨2, ![128, 2048]⟩
abbrev S4x128x2048 : Shape := ⟨3, ![4, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S256x2048, .f32⟩
  | .hbm, ⟨1, _⟩ => ⟨S4x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S4x128x2048, .bf16⟩
  | .local _ .vmem, ⟨3, _⟩ => ⟨S4x128x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S256x2048 : Shape := ⟨2, ![256, 2048]⟩
abbrev S4x256x2048 : Shape := ⟨3, ![4, 256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S4x256x2048, .bf16⟩
  | .hbm, ⟨2, _⟩ => ⟨S256x2048, .f32⟩
  | .hbm, ⟨3, _⟩ => ⟨S256x2048, .f32⟩
  | .hbm, ⟨4, _⟩ => ⟨S4x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamFf1.lean ====
abbrev S2048x1024 : Shape := ⟨2, ![2048, 1024]⟩
abbrev S4x2048x1024 : Shape := ⟨3, ![4, 2048, 1024]⟩
abbrev S256x1024 : Shape := ⟨2, ![256, 1024]⟩
abbrev S4x256x1024 : Shape := ⟨3, ![4, 256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S4x2048x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S4x256x1024, .bf16⟩
  | .local _ .vmem, ⟨3, _⟩ => ⟨S4x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFf1RefIdeal.lean ====
abbrev S2048x1024 : Shape := ⟨2, ![2048, 1024]⟩
abbrev S4x2048x1024 : Shape := ⟨3, ![4, 2048, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x2048x1024, .bf16⟩
  | .hbm, ⟨2, _⟩ => ⟨S2048x1024, .f32⟩
  | .hbm, ⟨3, _⟩ => ⟨S2048x1024, .f32⟩
  | .hbm, ⟨4, _⟩ => ⟨S4x2048x1024, .f32⟩
  | .hbm, ⟨5, _⟩ => ⟨S_, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamFf2.lean ====
abbrev S1024x2048 : Shape := ⟨2, ![1024, 2048]⟩
abbrev S4x1024x2048 : Shape := ⟨3, ![4, 1024, 2048]⟩
abbrev S128x2048 : Shape := ⟨2, ![128, 2048]⟩
abbrev S4x128x2048 : Shape := ⟨3, ![4, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1024x2048, .f32⟩
  | .hbm, ⟨1, _⟩ => ⟨S4x1024x2048, .bf16⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S4x128x2048, .bf16⟩
  | .local _ .vmem, ⟨3, _⟩ => ⟨S4x128x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFf2RefIdeal.lean ====
abbrev S1024x2048 : Shape := ⟨2, ![1024, 2048]⟩
abbrev S4x1024x2048 : Shape := ⟨3, ![4, 1024, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S4x1024x2048, .bf16⟩
  | .hbm, ⟨2, _⟩ => ⟨S1024x2048, .f32⟩
  | .hbm, ⟨3, _⟩ => ⟨S1024x2048, .f32⟩
  | .hbm, ⟨4, _⟩ => ⟨S4x1024x2048, .f32⟩
  | .hbm, ⟨5, _⟩ => ⟨S_, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S_, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S_, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S_, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S_, .f32⟩
  | .hbm, ⟨34, _⟩ => ⟨S1024x2048, .f32⟩
  | .hbm, ⟨35, _⟩ => ⟨S1024x2048, .f32⟩
  | .hbm, ⟨36, _⟩ => ⟨S1024x2048, .f32⟩
  | .hbm, ⟨37, _⟩ => ⟨S_, .f32⟩
  | .hbm, ⟨38, _⟩ => ⟨S1024x2048, .f32⟩
  | .hbm, ⟨39, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S160x128 : Shape := ⟨2, ![160, 128]⟩
abbrev S8x160x128 : Shape := ⟨3, ![8, 160, 128]⟩
abbrev S1x160x128 : Shape := ⟨3, ![1, 160, 128]⟩

abbrev nBuf : Space → Nat
  | .hbm => 8
  | .vmem => 8
  | .smem => 0
  | _ => 0

abbrev bufTy : (tb : Table) → Fin (tcTables nBuf tb) → BufTy
  | .hbm, ⟨0, _⟩ => ⟨S160x128, .f32⟩
  | .hbm, ⟨1, _⟩ => ⟨S8x160x128, .f32⟩
  | .hbm, ⟨2, _⟩ => ⟨S160x128, .f32⟩
  | .hbm, ⟨3, _⟩ => ⟨S160x128, .f32⟩
  | .hbm, ⟨4, _⟩ => ⟨S160x128, .f32⟩
  | .hbm, ⟨5, _⟩ => ⟨S160x128, .f32⟩
  | .hbm, ⟨6, _⟩ => ⟨S160x128, .f32⟩
  | .hbm, ⟨7, _⟩ => ⟨S160x128, .f32⟩
  | .local _ .vmem, ⟨0, _⟩ => ⟨S160x128, .f32⟩
  | .local _ .vmem, ⟨1, _⟩ => ⟨S8x160x128, .f32⟩
  | .local _ .vmem, ⟨2, _⟩ => ⟨S160x128, .f32⟩
  | .local _ .vmem, ⟨3, _⟩ => ⟨S160x128, .f32⟩
  | .local _ .vmem, ⟨4, _⟩ => ⟨S160x128, .f32⟩
  | .local _ .vmem, ⟨5, _⟩ => ⟨S160x128, .f32⟩
  | .local _ .vmem, ⟨6, _⟩ => ⟨S160x128, .f32⟩
  | .local _ .vmem, ⟨7, _⟩ => ⟨S160x128, .f32⟩
  | _, _ => ⟨S160x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S160x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S160x128 : Shape := ⟨2, ![160, 128]⟩
abbrev S8x160x128 : Shape := ⟨3, ![8, 160, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S160x128, .f32⟩
  | .hbm, ⟨1, _⟩ => ⟨S8x160x128, .f32⟩
  | .hbm, ⟨2, _⟩ => ⟨S160x128, .f32⟩
  | .hbm, ⟨3, _⟩ => ⟨S160x128, .f32⟩
  | .hbm, ⟨4, _⟩ => ⟨S_, .f32⟩
  | .hbm, ⟨5, _⟩ => ⟨S160x128, .f32⟩
  | .hbm, ⟨6, _⟩ => ⟨S_, .f32⟩
  | .hbm, ⟨7, _⟩ => ⟨S160x128, .f32⟩
  | .hbm, ⟨8, _⟩ => ⟨S160x128, .f32⟩
  | .hbm, ⟨9, _⟩ => ⟨S_, .f32⟩
  | .hbm, ⟨10, _⟩ => ⟨S160x128, .f32⟩
  | .hbm, ⟨11, _⟩ => ⟨S160x128, .f32⟩
  | .hbm, ⟨12, _⟩ => ⟨S160x128, .f32⟩
  | .hbm, ⟨13, _⟩ => ⟨S_, .f32⟩
  | .hbm, ⟨14, _⟩ => ⟨S160x128, .f32⟩
  | .hbm, ⟨15, _⟩ => ⟨S160x128, .f32⟩
  | .hbm, ⟨16, _⟩ => ⟨S160x128, .f32⟩
  | .hbm, ⟨17, _⟩ => ⟨S_, .f32⟩
  | .hbm, ⟨18, _⟩ => ⟨S160x128, .f32⟩
  | .hbm, ⟨19, _⟩ => ⟨S160x128, .f32⟩
  | .hbm, ⟨20, _⟩ => ⟨S160x128, .f32⟩
  | .hbm, ⟨21, _⟩ => ⟨S_, .f32⟩
  | .hbm, ⟨22, _⟩ => ⟨S160x128, .f32⟩
  | .hbm, ⟨23, _⟩ => ⟨S160x128, .f32⟩
  | .hbm, ⟨24, _⟩ => ⟨S_, .f32⟩
  | .hbm, ⟨25, _⟩ => ⟨S160x128, .f32⟩
  | .hbm, ⟨26, _⟩ => ⟨S160x128, .f32⟩
  | .hbm, ⟨27, _⟩ => ⟨S160x128, .f32⟩
  | .hbm, ⟨28, _⟩ => ⟨S_, .f32⟩
  | .hbm, ⟨29, _⟩ => ⟨S160x128, .f32⟩
  | .hbm, ⟨30, _⟩ => ⟨S160x128, .f32⟩
  | .hbm, ⟨31, _⟩ => ⟨S160x128, .f32⟩
  | .hbm, ⟨32, _⟩ => ⟨S_, .f32⟩
  | .hbm, ⟨33, _⟩ => ⟨S160x128, .f32⟩
  | .hbm, ⟨34, _⟩ => ⟨S160x128, .f32⟩
  | .hbm, ⟨35, _⟩ => ⟨S160x128, .f32⟩
  | .hbm, ⟨36, _⟩ => ⟨S_, .f32⟩
  | .hbm, ⟨37, _⟩ => ⟨S160x128, .f32⟩
  | .hbm, ⟨38, _⟩ => ⟨S160x128, .f32⟩
  | _, _ => ⟨S160x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Heads.lean ====
/-
  Blocks of four heads: a load of one head's rows out of such a block, and what four stores, one per head at the same rows,
  leave in it.
-/
module

public import Idealize.ShloMosaic.Lib.VecWindow
public import Idealize.ShloMosaic.Lib.WritesUnit

@[expose] public section

noncomputable section

namespace Cert.Heads

open Idealize.ShloMosaic

/-! ## One head of a block of four -/

theorem head_inb {N B : ℕ} (h : Fin 4) : ∀ a : Fin 3, (![h.val, 0, 0] : Fin 3 → ℕ) a + (![1, N, B] : Fin 3 → ℕ) a ≤ (⟨3, ![4, N, B]⟩ : Shape).size a := by
  intro a; have := h.isLt; fin_cases a <;> simp <;> omega

/-- Head `h` of a block of four heads. -/
def head {α : Type} {N B : ℕ} (x : (⟨3, ![4, N, B]⟩ : Shape).Idx → α) (h : Fin 4) : (⟨3, ![1, N, B]⟩ : Shape).Idx → α :=
  VecWindow.window x ![h.val, 0, 0] ![1, N, B] (head_inb h)

theorem cols_inb (h : Fin 4) : ∀ a : Fin 2, (![0, 128 * h.val] : Fin 2 → ℕ) a + (![512, 128] : Fin 2 → ℕ) a ≤ (⟨2, ![512, 512]⟩ : Shape).size a := by
  intro a; have := h.isLt; fin_cases a <;> simp <;> omega

/-- The columns of head `h` in a block whose columns are four heads of 128. -/
def headCols {α : Type} (x : (⟨2, ![512, 512]⟩ : Shape).Idx → α) (h : Fin 4) : (⟨2, ![512, 128]⟩ : Shape).Idx → α :=
  VecWindow.window x ![0, 128 * h.val] ![512, 128] (cols_inb h)

theorem rows_inb {N T B r : ℕ} (hr : r + T ≤ N) (h : Fin 4) : ∀ a : Fin 3, (![h.val, r, 0] : Fin 3 → ℕ) a + (![1, T, B] : Fin 3 → ℕ) a ≤ (⟨3, ![4, N, B]⟩ : Shape).size a := by
  intro a; have := h.isLt; fin_cases a <;> simp <;> omega

/-- Rows `r, …, r + T - 1` of head `h`. -/
def headRows {α : Type} {N B : ℕ} (T r : ℕ) (hr : r + T ≤ N) (x : (⟨3, ![4, N, B]⟩ : Shape).Idx → α) (h : Fin 4) :
    (⟨3, ![1, T, B]⟩ : Shape).Idx → α :=
  VecWindow.window x ![h.val, r, 0] ![1, T, B] (rows_inb hr h)

/-- The place of row `a` and lane `b` in one head's block. -/
def at3 {T B : ℕ} (a : Fin T) (b : Fin B) : (⟨3, ![1, T, B]⟩ : Shape).Idx := fun | 0 => (0 : Fin 1) | 1 => a | 2 => b

/-- A block of four heads with head `h` (rows `r, …`) replaced by `W h`. -/
def putHeads {α : Type} {N B : ℕ} (T r : ℕ) (x : (⟨3, ![4, N, B]⟩ : Shape).Idx → α) (W : Fin 4 → (⟨3, ![1, T, B]⟩ : Shape).Idx → α) :
    (⟨3, ![4, N, B]⟩ : Shape).Idx → α :=
  fun y => if h : r ≤ (y 1).val ∧ (y 1).val < r + T then W (y 0) (at3 ⟨(y 1).val - r, by omega⟩ (y 2)) else x y

section Quad
variable {sig : RefSig} {κ : Kind} {sp : Space} {e : EltTy} {Val : EltTy → Type}

/-- Four stores, one per head, at the same rows: every place of those rows holds its own head's store. -/
theorem read_quad {N T B r : ℕ} (v : View sig κ sp (⟨3, ![4, N, B]⟩ : Shape) e) (f : v.ty.Contents Val)
    {o0 o1 o2 o3 : Fin 3 → ℕ}
    (i0 : ∀ a, o0 a + (![1, T, B] : Fin 3 → ℕ) a ≤ (⟨3, ![4, N, B]⟩ : Shape).size a)
    (i1 : ∀ a, o1 a + (![1, T, B] : Fin 3 → ℕ) a ≤ (⟨3, ![4, N, B]⟩ : Shape).size a)
    (i2 : ∀ a, o2 a + (![1, T, B] : Fin 3 → ℕ) a ≤ (⟨3, ![4, N, B]⟩ : Shape).size a)
    (i3 : ∀ a, o3 a + (![1, T, B] : Fin 3 → ℕ) a ≤ (⟨3, ![4, N, B]⟩ : Shape).size a)
    (h0 : o0 = ![0, r, 0]) (h1 : o1 = ![1, r, 0]) (h2 : o2 = ![2, r, 0]) (h3 : o3 = ![3, r, 0])
    (W : Fin 4 → (⟨3, ![1, T, B]⟩ : Shape).Idx → Val e) :
    v.read Val (v.writes Val f [⟨Rect.unit o3 ![1, T, B] i3, W 3⟩, ⟨Rect.unit o2 ![1, T, B] i2, W 2⟩,
      ⟨Rect.unit o1 ![1, T, B] i1, W 1⟩, ⟨Rect.unit o0 ![1, T, B] i0, W 0⟩]) = putHeads T r (v.read Val f) W := by
  funext y
  unfold putHeads
  have hit : ∀ (n : Fin 4) (o : Fin 3 → ℕ) (i : ∀ a, o a + (![1, T, B] : Fin 3 → ℕ) a ≤ (⟨3, ![4, N, B]⟩ : Shape).size a)
      (w : (⟨3, ![1, T, B]⟩ : Shape).Idx → Val e) (L : List (View.Piece Val (⟨3, ![4, N, B]⟩ : Shape) e)) (ho : o = ![n.val, r, 0])
      (hy : y 0 = n) (h : r ≤ (y 1).val ∧ (y 1).val < r + T),
      v.read Val (v.writes Val f (⟨Rect.unit o ![1, T, B] i, w⟩ :: L)) y = w (at3 ⟨(y 1).val - r, by omega⟩ (y 2)) := by
    intro n o i w L ho hy h
    refine View.read_writes_cons_unit_of_mem v f i w L y (at3 ⟨(y 1).val - r, by omega⟩ (y 2)) ho ?_
    intro a
    have h00 : (y 0).val = n.val := congrArg Fin.val hy
    fin_cases a
    · show (y 0).val = n.val + 0; omega
    · show (y 1).val = r + ((y 1).val - r); omega
    · show (y 2).val = 0 + (y 2).val; omega
  have miss : ∀ (n : Fin 4) (o : Fin 3 → ℕ) (i : ∀ a, o a + (![1, T, B] : Fin 3 → ℕ) a ≤ (⟨3, ![4, N, B]⟩ : Shape).size a)
      (w : (⟨3, ![1, T, B]⟩ : Shape).Idx → Val e) (L : List (View.Piece Val (⟨3, ![4, N, B]⟩ : Shape) e)) (ho : o = ![n.val, r, 0])
      (hy : y 0 ≠ n),
      v.read Val (v.writes Val f (⟨Rect.unit o ![1, T, B] i, w⟩ :: L)) y = v.read Val (v.writes Val f L) y := by
    intro n o i w L ho hy
    refine View.read_writes_cons_unit_of_not_mem v f i w L y ho 0 ?_
    have h00 : (y 0).val ≠ n.val := fun h => hy (Fin.ext h)
    show (y 0).val < n.val ∨ n.val + 1 ≤ (y 0).val
    omega
  have out : ∀ (n : Fin 4) (o : Fin 3 → ℕ) (i : ∀ a, o a + (![1, T, B] : Fin 3 → ℕ) a ≤ (⟨3, ![4, N, B]⟩ : Shape).size a)
      (w : (⟨3, ![1, T, B]⟩ : Shape).Idx → Val e) (L : List (View.Piece Val (⟨3, ![4, N, B]⟩ : Shape) e)) (ho : o = ![n.val, r, 0])
      (h : ¬ (r ≤ (y 1).val ∧ (y 1).val < r + T)),
      v.read Val (v.writes Val f (⟨Rect.unit o ![1, T, B] i, w⟩ :: L)) y = v.read Val (v.writes Val f L) y := by
    intro n o i w L ho h
    refine View.read_writes_cons_unit_of_not_mem v f i w L y ho 1 ?_
    show (y 1).val < r ∨ r + T ≤ (y 1).val
    omega
  by_cases h : r ≤ (y 1).val ∧ (y 1).val < r + T
  · rw [dif_pos h]
    have c : y 0 = (0 : Fin 4) ∨ y 0 = (1 : Fin 4) ∨ y 0 = (2 : Fin 4) ∨ y 0 = (3 : Fin 4) := by
      have : (y 0).val < 4 := (y 0).isLt
      rcases (by omega : (y 0).val = 0 ∨ (y 0).val = 1 ∨ (y 0).val = 2 ∨ (y 0).val = 3) with c | c | c | c
      · exact .inl (Fin.ext c)
      · exact .inr (.inl (Fin.ext c))
      · exact .inr (.inr (.inl (Fin.ext c)))
      · exact .inr (.inr (.inr (Fin.ext c)))
    rcases c with c | c | c | c
    · rw [miss 3 o3 i3 _ _ h3 (fun hh => absurd (c.symm.trans hh) (by decide : (0 : Fin 4) ≠ 3)), miss 2 o2 i2 _ _ h2 (fun hh => absurd (c.symm.trans hh) (by decide : (0 : Fin 4) ≠ 2)), miss 1 o1 i1 _ _ h1 (fun hh => absurd (c.symm.trans hh) (by decide : (0 : Fin 4) ≠ 1)),
        hit 0 o0 i0 _ _ h0 c h, c]
    · rw [miss 3 o3 i3 _ _ h3 (fun hh => absurd (c.symm.trans hh) (by decide : (1 : Fin 4) ≠ 3)), miss 2 o2 i2 _ _ h2 (fun hh => absurd (c.symm.trans hh) (by decide : (1 : Fin 4) ≠ 2)), hit 1 o1 i1 _ _ h1 c h, c]
    · rw [miss 3 o3 i3 _ _ h3 (fun hh => absurd (c.symm.trans hh) (by decide : (2 : Fin 4) ≠ 3)), hit 2 o2 i2 _ _ h2 c h, c]
    · rw [hit 3 o3 i3 _ _ h3 c h, c]
  · rw [dif_neg h, out 3 o3 i3 _ _ h3 h, out 2 o2 i2 _ _ h2 h, out 1 o1 i1 _ _ h1 h, out 0 o0 i0 _ _ h0 h]
    rfl

/-- The same, each head's store told to be `W`'s. -/
theorem read_quad_eq {N T B r : ℕ} (v : View sig κ sp (⟨3, ![4, N, B]⟩ : Shape) e) (f : v.ty.Contents Val)
    {o0 o1 o2 o3 : Fin 3 → ℕ}
    (i0 : ∀ a, o0 a + (![1, T, B] : Fin 3 → ℕ) a ≤ (⟨3, ![4, N, B]⟩ : Shape).size a)
    (i1 : ∀ a, o1 a + (![1, T, B] : Fin 3 → ℕ) a ≤ (⟨3, ![4, N, B]⟩ : Shape).size a)
    (i2 : ∀ a, o2 a + (![1, T, B] : Fin 3 → ℕ) a ≤ (⟨3, ![4, N, B]⟩ : Shape).size a)
    (i3 : ∀ a, o3 a + (![1, T, B] : Fin 3 → ℕ) a ≤ (⟨3, ![4, N, B]⟩ : Shape).size a)
    {w0 w1 w2 w3 : (⟨3, ![1, T, B]⟩ : Shape).Idx → Val e}
    (h0 : o0 = ![0, r, 0]) (h1 : o1 = ![1, r, 0]) (h2 : o2 = ![2, r, 0]) (h3 : o3 = ![3, r, 0])
    (W : Fin 4 → (⟨3, ![1, T, B]⟩ : Shape).Idx → Val e)
    (e0 : w0 = W 0) (e1 : w1 = W 1) (e2 : w2 = W 2) (e3 : w3 = W 3) :
    v.read Val (v.writes Val f [⟨Rect.unit o3 ![1, T, B] i3, w3⟩, ⟨Rect.unit o2 ![1, T, B] i2, w2⟩,
      ⟨Rect.unit o1 ![1, T, B] i1, w1⟩, ⟨Rect.unit o0 ![1, T, B] i0, w0⟩]) = putHeads T r (v.read Val f) W := by
  subst e0 e1 e2 e3
  exact read_quad v f i0 i1 i2 i3 h0 h1 h2 h3 W

/-- A load of one head's rows, at the kernel's offsets. -/
theorem readAt_rows {N T B r : ℕ} (hr : r + T ≤ N) (v : View sig κ sp (⟨3, ![4, N, B]⟩ : Shape) e) (f : v.ty.Contents Val)
    (h : Fin 4) {o : Fin 3 → ℕ} (i : ∀ a, o a + (![1, T, B] : Fin 3 → ℕ) a ≤ (⟨3, ![4, N, B]⟩ : Shape).size a) (ho : o = ![h.val, r, 0]) :
    v.readAt Val (Rect.unit (s := (⟨3, ![4, N, B]⟩ : Shape)) o ![1, T, B] i).toLoadRect f = headRows T r hr (v.read Val f) h := by
  subst ho
  rfl

end Quad

end Cert.Heads

end
-- ==== Proof.Tiles.lean ====
/-
  The order in which the grid walks the lower triangle of tiles: point `(h, p, u)` works on the tile of queries `qTile p u` and
  the tile of keys `kTile p u`; a row `p` of the grid walks key tile `p` and then key tile `7 - p`.
-/
module

public import Idealize.ShloMosaic.Lib.VecWindow

@[expose] public section

namespace Cert.Tiles

open Idealize.ShloMosaic

/-- The tile of queries of grid point `(h, p, u)`. -/
def qTile (p u : ℕ) : ℕ := if u < 8 - p then p + u else u - 1
/-- The tile of keys of grid point `(h, p, u)`. -/
def kTile (p u : ℕ) : ℕ := if u < 8 - p then p else 7 - p

/-- The word the kernel computes as its first row of queries. -/
def rowWord (p u : ℕ) : BitVec 32 :=
  Scalar.indexCast (Scalar.muli (Scalar.select (Scalar.cmpi .slt (BitVec.ofNat 32 u) (Scalar.subi 8#32 (BitVec.ofNat 32 p)))
    (Scalar.addi (BitVec.ofNat 32 p) (BitVec.ofNat 32 u)) (Scalar.subi (BitVec.ofNat 32 u) 1#32)) 512#32)

theorem rowWord_toNat : ∀ (p : Fin 4) (u : Fin 9), (rowWord p.val u.val).toNat = 512 * qTile p.val u.val := by
  decide +kernel

theorem qTile_lt : ∀ (p : Fin 4) (u : Fin 9), qTile p.val u.val < 8 := by decide +kernel

end Cert.Tiles
-- ==== Proof.Arms.lean ====
module

public import proofs.«01_k».proof.Proof.Gen.KernelIdeal.Frame
public import proofs.«01_k».proof.Proof.Gen.KernelIdeal.Skeleton
public import proofs.«01_k».proof.Proof.Heads
public import proofs.«01_k».proof.Proof.Tiles

@[expose] public section
set_option maxRecDepth 16384

noncomputable section

namespace Cert.KernelIdeal.Hand

open Cert.Heads Cert.Tiles Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Which tiles a grid point works on -/

/-- The tile of queries at the point's coordinates. -/
def qt (i : grid0.Coords) : ℕ := qTile (i 1).val (i 2).val
/-- The tile of keys at the point's coordinates. -/
def kt (i : grid0.Coords) : ℕ := kTile (i 1).val (i 2).val

/-- The row a grid point's queries begin at, as the kernel's offsets have it. -/
theorem row_eq (i : grid0.Coords) (h : ℕ) : (![h, (rowWord (i 1).val (i 2).val).toNat, 0] : Fin 3 → ℕ) = ![h, 512 * qt i, 0] :=
  congrArg (fun r => (![h, r, 0] : Fin 3 → ℕ)) (rowWord_toNat (i 1) (i 2))

theorem off1_eq (i : grid0.Coords) : k0_off1 i = ![0, 512 * qt i, 0] := row_eq i 0
theorem off2_eq (i : grid0.Coords) : k0_off2 i = ![1, 512 * qt i, 0] := row_eq i 1
theorem off3_eq (i : grid0.Coords) : k0_off3 i = ![2, 512 * qt i, 0] := row_eq i 2
theorem off4_eq (i : grid0.Coords) : k0_off4 i = ![3, 512 * qt i, 0] := row_eq i 3
theorem off5_eq (i : grid0.Coords) : k0_off5 i = ![0, 512 * qt i, 0] := row_eq i 0
theorem off6_eq (i : grid0.Coords) : k0_off6 i = ![1, 512 * qt i, 0] := row_eq i 1
theorem off7_eq (i : grid0.Coords) : k0_off7 i = ![2, 512 * qt i, 0] := row_eq i 2
theorem off8_eq (i : grid0.Coords) : k0_off8 i = ![3, 512 * qt i, 0] := row_eq i 3

instance (i : grid0.Coords) : ClosedOff (k0_off1 i) := ⟨![0, 512 * qt i, 0], off1_eq i⟩
instance (i : grid0.Coords) : ClosedOff (k0_off2 i) := ⟨![1, 512 * qt i, 0], off2_eq i⟩
instance (i : grid0.Coords) : ClosedOff (k0_off3 i) := ⟨![2, 512 * qt i, 0], off3_eq i⟩
instance (i : grid0.Coords) : ClosedOff (k0_off4 i) := ⟨![3, 512 * qt i, 0], off4_eq i⟩
instance (i : grid0.Coords) : ClosedOff (k0_off5 i) := ⟨![0, 512 * qt i, 0], off5_eq i⟩
instance (i : grid0.Coords) : ClosedOff (k0_off6 i) := ⟨![1, 512 * qt i, 0], off6_eq i⟩
instance (i : grid0.Coords) : ClosedOff (k0_off7 i) := ⟨![2, 512 * qt i, 0], off7_eq i⟩
instance (i : grid0.Coords) : ClosedOff (k0_off8 i) := ⟨![3, 512 * qt i, 0], off8_eq i⟩

/-! ## The five arms of the body -/

/-- Zeroing the two accumulators. -/
def resetAcc (arg12 : Memref sig .tc .vmem S4x512x256 .f32) (harg12 : arg12.IsWhole) (arg13 : Memref sig .tc .vmem S4x512x128 .f32) (harg13 : arg13.IsWhole)
    (rest : Prog (TpuEff nD τ sig (Elt F) Λ₀ .tc) PUnit) : Prog (TpuEff nD τ sig (Elt F) Λ₀ .tc) PUnit := do
  let v27 : Vec F S4x512x256 .f32 ← Prog.lift (.load arg12 (Rect.unit (s := S4x512x256) ![0, 0, 0] S4x512x256.size inb_S4x512x256_S4x512x256_0_0_0).toLoadRect (View.loadsAt_vmem h_S4x512x256))
  Prog.lift (.store arg12 (Rect.unit (s := S4x512x256) ![0, 0, 0] S4x512x256.size inb_S4x512x256_S4x512x256_0_0_0) (k0_pay1 (F := F)) Finset.univ (View.stores_vmem_bits_univ h_S4x512x256 rfl) (.inl rfl))
  let v31 : Vec F S4x512x128 .f32 ← Prog.lift (.load arg13 (Rect.unit (s := S4x512x128) ![0, 0, 0] S4x512x128.size inb_S4x512x128_S4x512x128_0_0_0).toLoadRect (View.loadsAt_vmem h_S4x512x128))
  Prog.lift (.store arg13 (Rect.unit (s := S4x512x128) ![0, 0, 0] S4x512x128.size inb_S4x512x128_S4x512x128_0_0_0) (k0_pay2 (F := F)) Finset.univ (View.stores_vmem_bits_univ h_S4x512x128 rfl) (.inl rfl))
  rest

/-- Zeroing the block of query gradients. -/
def resetDq (arg9 : Memref sig .tc .vmem S4x4096x256 .f32) (harg9 : arg9.IsWhole)
    (rest : Prog (TpuEff nD τ sig (Elt F) Λ₀ .tc) PUnit) : Prog (TpuEff nD τ sig (Elt F) Λ₀ .tc) PUnit := do
  let v27 : Vec F S4x4096x256 .f32 ← Prog.lift (.load arg9 (Rect.unit (s := S4x4096x256) ![0, 0, 0] S4x4096x256.size inb_S4x4096x256_S4x4096x256_0_0_0).toLoadRect (View.loadsAt_vmem h_S4x4096x256))
  Prog.lift (.store arg9 (Rect.unit (s := S4x4096x256) ![0, 0, 0] S4x4096x256.size inb_S4x4096x256_S4x4096x256_0_0_0) (k0_pay3 (F := F)) Finset.univ (View.stores_vmem_bits_univ h_S4x4096x256 rfl) (.inl rfl))
  rest

/-- The step below the diagonal. -/
def stepOff (i : grid0.Coords) (arg3 : Memref sig .tc .vmem S4x512x256 .bf16) (harg3 : arg3.IsWhole) (arg4 : Memref sig .tc .vmem S4x512x256 .bf16) (harg4 : arg4.IsWhole) (arg5 : Memref sig .tc .vmem S4x512x128 .bf16) (harg5 : arg5.IsWhole) (arg6 : Memref sig .tc .vmem S512x512 .f32) (harg6 : arg6.IsWhole) (arg7 : Memref sig .tc .vmem S4x1x512 .f32) (harg7 : arg7.IsWhole) (arg8 : Memref sig .tc .vmem S4x1x512 .f32) (harg8 : arg8.IsWhole) (arg9 : Memref sig .tc .vmem S4x4096x256 .f32) (harg9 : arg9.IsWhole) (arg10 : Memref sig .tc .vmem S4x512x256 .bf16) (harg10 : arg10.IsWhole) (arg11 : Memref sig .tc .vmem S4x512x128 .bf16) (harg11 : arg11.IsWhole) (arg12 : Memref sig .tc .vmem S4x512x256 .f32) (harg12 : arg12.IsWhole) (arg13 : Memref sig .tc .vmem S4x512x128 .f32) (harg13 : arg13.IsWhole) (k0_h3 : k0_cond3 i = 1#1)
    (rest : Prog (TpuEff nD τ sig (Elt F) Λ₀ .tc) PUnit) : Prog (TpuEff nD τ sig (Elt F) Λ₀ .tc) PUnit := do
  let arg1 : BitVec 32 := BitVec.ofNat 32 (i 1).val
  let arg2 : BitVec 32 := BitVec.ofNat 32 (i 2).val
  let v0 : BitVec 32 := Scalar.subi 8#32 arg1
  let v1 : BitVec 1 := Scalar.cmpi .slt arg2 v0
  let v4 : BitVec 32 := Scalar.addi arg1 arg2
  let v5 : BitVec 32 := Scalar.subi arg2 1#32
  let v6 : BitVec 32 := Scalar.select v1 v4 v5
  let v8 : BitVec 32 := Scalar.muli v6 512#32
  let ⟨v27, v29, v52, v57⟩ : Σ' (v27 : FVec F S512x256 .bf16) (v29 : FVec F S512x256 .bf16) (v52 : FVec F S512x512 .bf16), FVec F S512x128 .f32 ← k0_part1 i arg3 harg3 arg4 harg4 arg5 harg5 arg6 harg6 arg7 harg7 arg8 harg8 arg9 harg9 arg10 harg10 arg11 harg11 arg12 harg12 arg13 harg13
  let ⟨v78, v80, v82, v85, v87, cst_57⟩ : Σ' (v78 : FVec F S512x256 .bf16) (v80 : FVec F S512x256 .bf16) (v82 : FVec F S512x128 .bf16) (v85 : FVec F S512x512 .f32) (v87 : FVec F S1x512 .f32), F .f32 ← k0_part2 i arg3 harg3 arg4 harg4 arg5 harg5 arg6 harg6 arg7 harg7 arg8 harg8 arg9 harg9 arg10 harg10 arg11 harg11 arg12 harg12 arg13 harg13 v8 k0_h3 v27 v29 v52 v57
  let ⟨v103, v121⟩ : Σ' (v103 : FVec F S512x512 .bf16), FVec F S512x256 .f32 ← k0_part3 i arg3 harg3 arg4 harg4 arg5 harg5 arg6 harg6 arg7 harg7 arg8 harg8 arg9 harg9 arg10 harg10 arg11 harg11 arg12 harg12 arg13 harg13 v8 k0_h3 v78 v82 v85 v87 cst_57
  let ⟨v129, v131, v133, v143, v154⟩ : Σ' (v129 : FVec F S512x256 .bf16) (v131 : FVec F S512x256 .bf16) (v133 : FVec F S512x128 .bf16) (v143 : FVec F S512x512 .f32), FVec F S512x512 .bf16 ← k0_part4 i arg3 harg3 arg4 harg4 arg5 harg5 arg6 harg6 arg7 harg7 arg8 harg8 arg9 harg9 arg10 harg10 arg11 harg11 arg12 harg12 arg13 harg13 v8 k0_h3 v80 v103 v121
  let ⟨v180, v182, v184, cst_130⟩ : Σ' (v180 : FVec F S512x256 .bf16) (v182 : FVec F S512x256 .bf16) (v184 : FVec F S512x128 .bf16), FVec F S512x512 .f32 ← k0_part5 i arg3 harg3 arg4 harg4 arg5 harg5 arg6 harg6 arg7 harg7 arg8 harg8 arg9 harg9 arg10 harg10 arg11 harg11 arg12 harg12 arg13 harg13 v8 k0_h3 v129 v131 v133 v143 v154
  let ⟨v205, v217⟩ : Σ' (v205 : FVec F S512x512 .bf16), FVec F S512x256 .f32 ← k0_part6 i arg3 harg3 arg4 harg4 arg5 harg5 arg6 harg6 arg7 harg7 arg8 harg8 arg9 harg9 arg10 harg10 arg11 harg11 arg12 harg12 arg13 harg13 v180 v182 v184 cst_130
  let v218 : Vec F S1x512x256 .f32 ← Prog.lift (.load arg12 (Rect.unit (s := S4x512x256) ![3, 0, 0] S1x512x256.size inb_S4x512x256_S1x512x256_3_0_0).toLoadRect (View.loadsAt_vmem h_S1x512x256))
  Prog.lift (.store arg12 (Rect.unit (s := S4x512x256) ![3, 0, 0] S1x512x256.size inb_S4x512x256_S1x512x256_3_0_0) (k0_pay4 v217) Finset.univ (View.stores_vmem_bits_univ h_S1x512x256 rfl) (.inl rfl))
  let v222 : Vec F S1x512x256 .f32 ← Prog.lift (.load arg9 (Rect.unit (s := S4x4096x256) (k0_off4 i) S1x512x256.size (k0_off4_inb i k0_h3)).toLoadRect (View.loadsAt_vmem h_S1x512x256))
  let v227 : Vec F S1x512x256 .f32 ← Prog.lift (.load arg9 (Rect.unit (s := S4x4096x256) (k0_off4 i) S1x512x256.size (k0_off4_inb i k0_h3)).toLoadRect (View.loadsAt_vmem h_S1x512x256))
  Prog.lift (.store arg9 (Rect.unit (s := S4x4096x256) (k0_off4 i) S1x512x256.size (k0_off4_inb i k0_h3)) (k0_pay5 v182 v205 v222) Finset.univ (View.stores_vmem_bits_univ h_S1x512x256 rfl) (.inl rfl))
  rest

/-- The step on the diagonal. -/
def stepDiag (i : grid0.Coords) (arg3 : Memref sig .tc .vmem S4x512x256 .bf16) (harg3 : arg3.IsWhole) (arg4 : Memref sig .tc .vmem S4x512x256 .bf16) (harg4 : arg4.IsWhole) (arg5 : Memref sig .tc .vmem S4x512x128 .bf16) (harg5 : arg5.IsWhole) (arg6 : Memref sig .tc .vmem S512x512 .f32) (harg6 : arg6.IsWhole) (arg7 : Memref sig .tc .vmem S4x1x512 .f32) (harg7 : arg7.IsWhole) (arg8 : Memref sig .tc .vmem S4x1x512 .f32) (harg8 : arg8.IsWhole) (arg9 : Memref sig .tc .vmem S4x4096x256 .f32) (harg9 : arg9.IsWhole) (arg10 : Memref sig .tc .vmem S4x512x256 .bf16) (harg10 : arg10.IsWhole) (arg11 : Memref sig .tc .vmem S4x512x128 .bf16) (harg11 : arg11.IsWhole) (arg12 : Memref sig .tc .vmem S4x512x256 .f32) (harg12 : arg12.IsWhole) (arg13 : Memref sig .tc .vmem S4x512x128 .f32) (harg13 : arg13.IsWhole) (k0_h4 : k0_cond4 i = 1#1)
    (rest : Prog (TpuEff nD τ sig (Elt F) Λ₀ .tc) PUnit) : Prog (TpuEff nD τ sig (Elt F) Λ₀ .tc) PUnit := do
  let arg1 : BitVec 32 := BitVec.ofNat 32 (i 1).val
  let arg2 : BitVec 32 := BitVec.ofNat 32 (i 2).val
  let v0 : BitVec 32 := Scalar.subi 8#32 arg1
  let v1 : BitVec 1 := Scalar.cmpi .slt arg2 v0
  let v4 : BitVec 32 := Scalar.addi arg1 arg2
  let v5 : BitVec 32 := Scalar.subi arg2 1#32
  let v6 : BitVec 32 := Scalar.select v1 v4 v5
  let v8 : BitVec 32 := Scalar.muli v6 512#32
  let ⟨v27, v29, v31, v46, v57, v59⟩ : Σ' (v27 : FVec F S512x256 .bf16) (v29 : FVec F S512x256 .bf16) (v31 : FVec F S512x128 .bf16) (v46 : FVec F S512x512 .f32) (v57 : FVec F S512x512 .bf16), FVec F S512x128 .f32 ← k0_part7 i arg3 harg3 arg4 harg4 arg5 harg5 arg6 harg6 arg7 harg7 arg8 harg8 arg9 harg9 arg10 harg10 arg11 harg11 arg12 harg12 arg13 harg13
  let ⟨v83, v85, v87, v90⟩ : Σ' (v83 : FVec F S512x256 .bf16) (v85 : FVec F S512x256 .bf16) (v87 : FVec F S512x128 .bf16), FVec F S512x512 .f32 ← k0_part8 i arg3 harg3 arg4 harg4 arg5 harg5 arg6 harg6 arg7 harg7 arg8 harg8 arg9 harg9 arg10 harg10 arg11 harg11 arg12 harg12 arg13 harg13 v8 k0_h4 v27 v29 v31 v46 v57 v59
  let ⟨v113, v125⟩ : Σ' (v113 : FVec F S512x512 .bf16), FVec F S512x256 .f32 ← k0_part9 i arg3 harg3 arg4 harg4 arg5 harg5 arg6 harg6 arg7 harg7 arg8 harg8 arg9 harg9 arg10 harg10 arg11 harg11 arg12 harg12 arg13 harg13 v83 v87 v90
  let ⟨v139, v141, v143, v158⟩ : Σ' (v139 : FVec F S512x256 .bf16) (v141 : FVec F S512x256 .bf16) (v143 : FVec F S512x128 .bf16), FVec F S512x512 .f32 ← k0_part10 i arg3 harg3 arg4 harg4 arg5 harg5 arg6 harg6 arg7 harg7 arg8 harg8 arg9 harg9 arg10 harg10 arg11 harg11 arg12 harg12 arg13 harg13 v8 k0_h4 v85 v113 v125
  let ⟨v189, v191⟩ : Σ' (v189 : FVec F S512x256 .f32), Vec F S1x512x256 .f32 ← k0_part11 i arg3 harg3 arg4 harg4 arg5 harg5 arg6 harg6 arg7 harg7 arg8 harg8 arg9 harg9 arg10 harg10 arg11 harg11 arg12 harg12 arg13 harg13 v8 k0_h4 v139 v141 v143 v158
  let ⟨v195, v197, v199, v214, v225⟩ : Σ' (v195 : FVec F S512x256 .bf16) (v197 : FVec F S512x256 .bf16) (v199 : FVec F S512x128 .bf16) (v214 : FVec F S512x512 .f32), FVec F S512x512 .bf16 ← k0_part12 i arg3 harg3 arg4 harg4 arg5 harg5 arg6 harg6 arg7 harg7 arg8 harg8 arg9 harg9 arg10 harg10 arg11 harg11 arg12 harg12 arg13 harg13 k0_h4 v189 v191
  let v226 : Vec F S1x512x128 .f32 ← Prog.lift (.load arg13 (Rect.unit (s := S4x512x128) ![3, 0, 0] S1x512x128.size inb_S4x512x128_S1x512x128_3_0_0).toLoadRect (View.loadsAt_vmem h_S1x512x128))
  let v231 : Vec F S1x512x128 .f32 ← Prog.lift (.load arg13 (Rect.unit (s := S4x512x128) ![3, 0, 0] S1x512x128.size inb_S4x512x128_S1x512x128_3_0_0).toLoadRect (View.loadsAt_vmem h_S1x512x128))
  Prog.lift (.store arg13 (Rect.unit (s := S4x512x128) ![3, 0, 0] S1x512x128.size inb_S4x512x128_S1x512x128_3_0_0) (k0_pay6 v199 v214 v226) Finset.univ (View.stores_vmem_bits_univ h_S1x512x128 rfl) (.inl rfl))
  let v234 : Vec F S1x512x256 .f32 ← Prog.lift (.load arg12 (Rect.unit (s := S4x512x256) ![3, 0, 0] S1x512x256.size inb_S4x512x256_S1x512x256_3_0_0).toLoadRect (View.loadsAt_vmem h_S1x512x256))
  let v238 : Vec F S1x512x256 .f32 ← Prog.lift (.load arg12 (Rect.unit (s := S4x512x256) ![3, 0, 0] S1x512x256.size inb_S4x512x256_S1x512x256_3_0_0).toLoadRect (View.loadsAt_vmem h_S1x512x256))
  Prog.lift (.store arg12 (Rect.unit (s := S4x512x256) ![3, 0, 0] S1x512x256.size inb_S4x512x256_S1x512x256_3_0_0) (k0_pay7 v195 v225 v234) Finset.univ (View.stores_vmem_bits_univ h_S1x512x256 rfl) (.inl rfl))
  let v242 : Vec F S1x512x256 .f32 ← Prog.lift (.load arg9 (Rect.unit (s := S4x4096x256) (k0_off8 i) S1x512x256.size (k0_off8_inb i k0_h4)).toLoadRect (View.loadsAt_vmem h_S1x512x256))
  let v247 : Vec F S1x512x256 .f32 ← Prog.lift (.load arg9 (Rect.unit (s := S4x4096x256) (k0_off8 i) S1x512x256.size (k0_off8_inb i k0_h4)).toLoadRect (View.loadsAt_vmem h_S1x512x256))
  Prog.lift (.store arg9 (Rect.unit (s := S4x4096x256) (k0_off8 i) S1x512x256.size (k0_off8_inb i k0_h4)) (k0_pay8 v197 v225 v242) Finset.univ (View.stores_vmem_bits_univ h_S1x512x256 rfl) (.inl rfl))
  rest

/-- Writing the accumulators out. -/
def flush (arg10 : Memref sig .tc .vmem S4x512x256 .bf16) (harg10 : arg10.IsWhole) (arg11 : Memref sig .tc .vmem S4x512x128 .bf16) (harg11 : arg11.IsWhole) (arg12 : Memref sig .tc .vmem S4x512x256 .f32) (harg12 : arg12.IsWhole) (arg13 : Memref sig .tc .vmem S4x512x128 .f32) (harg13 : arg13.IsWhole)
    (rest : Prog (TpuEff nD τ sig (Elt F) Λ₀ .tc) PUnit) : Prog (TpuEff nD τ sig (Elt F) Λ₀ .tc) PUnit := do
  let v26 : Vec F S4x512x256 .f32 ← Prog.lift (.load arg12 (Rect.unit (s := S4x512x256) ![0, 0, 0] S4x512x256.size inb_S4x512x256_S4x512x256_0_0_0).toLoadRect (View.loadsAt_vmem h_S4x512x256))
  let v28 : Vec F S4x512x256 .bf16 ← Prog.lift (.load arg10 (Rect.unit (s := S4x512x256) ![0, 0, 0] S4x512x256.size inb_S4x512x256_S4x512x256_0_0_0).toLoadRect (View.loadsAt_vmem h_S4x512x256))
  Prog.lift (.store arg10 (Rect.unit (s := S4x512x256) ![0, 0, 0] S4x512x256.size inb_S4x512x256_S4x512x256_0_0_0) (k0_pay9 v26) Finset.univ (View.stores_vmem h_S4x512x256 (harg10.storeExact_slice rfl _ packedbf16_S4x512x256_S4x512x256_0_0_0) (fun _ => rfl)) (.inl rfl))
  let v29 : Vec F S4x512x128 .f32 ← Prog.lift (.load arg13 (Rect.unit (s := S4x512x128) ![0, 0, 0] S4x512x128.size inb_S4x512x128_S4x512x128_0_0_0).toLoadRect (View.loadsAt_vmem h_S4x512x128))
  let v31 : Vec F S4x512x128 .bf16 ← Prog.lift (.load arg11 (Rect.unit (s := S4x512x128) ![0, 0, 0] S4x512x128.size inb_S4x512x128_S4x512x128_0_0_0).toLoadRect (View.loadsAt_vmem h_S4x512x128))
  Prog.lift (.store arg11 (Rect.unit (s := S4x512x128) ![0, 0, 0] S4x512x128.size inb_S4x512x128_S4x512x128_0_0_0) (k0_pay10 v29) Finset.univ (View.stores_vmem h_S4x512x128 (harg11.storeExact_slice rfl _ packedbf16_S4x512x128_S4x512x128_0_0_0) (fun _ => rfl)) (.inl rfl))
  rest

/-! ## What a step computes, for one head -/

/-- The gradient of the scores below the diagonal (keys by queries), rounded. -/
abbrev dsOff (q k : Vec F S1x512x256 .bf16) (d : Vec F S512x128 .f32) (ls : Vec F S1x1x512 .f32) (v : Vec F S1x512x128 .bf16)
    (dl : Vec F S1x1x512 .f32) : FVec F S512x512 .bf16 := k0_pay15 q k d ls v dl
/-- The gradient of the scores on the diagonal (keys by queries), rounded. -/
abbrev dsDiag (q k : Vec F S1x512x256 .bf16) (d : Vec F S512x128 .f32) (ls : Vec F S1x1x512 .f32) (v : Vec F S1x512x128 .bf16)
    (dl : Vec F S1x1x512 .f32) : FVec F S512x512 .bf16 := k0_pay50 q k d ls v dl
/-- One head's accumulated gradient of the values, after a step below the diagonal. -/
abbrev dvOff (q k : Vec F S1x512x256 .bf16) (d : Vec F S512x128 .f32) (ls : Vec F S1x1x512 .f32) (acc : Vec F S1x512x128 .f32) :
    FVec F S1x512x128 .f32 := k0_pay17 (k0_pay16 q k d ls acc)
/-- The same on the diagonal. -/
abbrev dvDiag (q k : Vec F S1x512x256 .bf16) (d : Vec F S512x128 .f32) (ls : Vec F S1x1x512 .f32) (acc : Vec F S1x512x128 .f32) :
    FVec F S1x512x128 .f32 := k0_pay52 (k0_pay48 d) (k0_pay49 q k ls) (k0_pay51 acc)
/-- One head's accumulated gradient of the keys, after a step whose score gradient is `ds`. -/
abbrev dkNew (q : Vec F S1x512x256 .bf16) (ds : FVec F S512x512 .bf16) (acc : Vec F S1x512x256 .f32) : FVec F S1x512x256 .f32 :=
  k0_pay18 (k0_pay11 q) ds acc
/-- One head's gradient of the step's queries, after a step whose score gradient is `ds`. -/
abbrev dqNew (k : Vec F S1x512x256 .bf16) (ds : FVec F S512x512 .bf16) (acc : Vec F S1x512x256 .f32) : FVec F S1x512x256 .f32 :=
  k0_pay19 (k0_pay12 k) ds acc

theorem qt_lt (i : grid0.Coords) : qt i < 8 := qTile_lt (i 1) (i 2)
theorem qt_rows (i : grid0.Coords) : 512 * qt i + 512 ≤ 4096 := by have := qt_lt i; omega

section Blocks
variable (i : grid0.Coords) (q k : Vec F S4x512x256 .bf16) (v : Vec F S4x512x128 .bf16) (d : Vec F S512x512 .f32)
  (dl ls : Vec F S4x1x512 .f32) (dq : Vec F S4x4096x256 .f32) (dk : Vec F S4x512x256 .f32) (dv : Vec F S4x512x128 .f32)

/-- The score gradients of head `h`, below the diagonal and on it. -/
def dsOffH (h : Fin 4) : FVec F S512x512 .bf16 := dsOff (head q h) (head k h) (headCols d h) (head ls h) (head v h) (head dl h)
def dsDiagH (h : Fin 4) : FVec F S512x512 .bf16 := dsDiag (head q h) (head k h) (headCols d h) (head ls h) (head v h) (head dl h)

/-- The three accumulators after a step below the diagonal, -/
def dvOffB : Vec F S4x512x128 .f32 := putHeads 512 0 dv fun h => dvOff (head q h) (head k h) (headCols d h) (head ls h) (head dv h)
def dkOffB : Vec F S4x512x256 .f32 := putHeads 512 0 dk fun h => dkNew (head q h) (dsOffH q k v d dl ls h) (head dk h)
def dqOffB : Vec F S4x4096x256 .f32 := putHeads 512 (512 * qt i) dq fun h =>
  dqNew (head k h) (dsOffH q k v d dl ls h) (headRows 512 (512 * qt i) (qt_rows i) dq h)
/-- and after a step on it. -/
def dvDiagB : Vec F S4x512x128 .f32 := putHeads 512 0 dv fun h => dvDiag (head q h) (head k h) (headCols d h) (head ls h) (head dv h)
def dkDiagB : Vec F S4x512x256 .f32 := putHeads 512 0 dk fun h => dkNew (head q h) (dsDiagH q k v d dl ls h) (head dk h)
def dqDiagB : Vec F S4x4096x256 .f32 := putHeads 512 (512 * qt i) dq fun h =>
  dqNew (head k h) (dsDiagH q k v d dl ls h) (headRows 512 (512 * qt i) (qt_rows i) dq h)
end Blocks

/-! ## The four heads' payloads are one head's -/

section Payloads
variable (q k : Vec F S1x512x256 .bf16) (d : Vec F S512x128 .f32) (ls dl : Vec F S1x1x512 .f32) (v : Vec F S1x512x128 .bf16)
  (a12 : Vec F S1x512x256 .f32) (a13 : Vec F S1x512x128 .f32)

theorem off_dv1 (c : F .f32) (hc : c = Named.named κ "log2e" 0x3FB8AA3B#32) : k0_pay27 (k0_pay22 d) (k0_pay23 q k) (k0_pay24 ls) c a13 = dvOff q k d ls a13 := by subst hc; rfl
theorem off_dv2 : k0_pay36 (k0_pay33 d) (k0_pay34 q k ls) a13 = dvOff q k d ls a13 := rfl
theorem off_dv3 (c : FVec F S512x512 .f32) (hc : c = constant S512x512 .f32 0x00000000#32) : k0_pay44 (k0_pay39 q) (k0_pay40 k) (k0_pay41 d) c ls a13 = dvOff q k d ls a13 := by subst hc; rfl
theorem off_dk1 (c : F .f32) (hc : c = Named.named κ "log2e" 0x3FB8AA3B#32) : k0_pay28 (k0_pay20 q) (k0_pay22 d) (k0_pay23 q k) (k0_pay24 ls) c v dl a12 = dkNew q (dsOff q k d ls v dl) a12 := by subst hc; rfl
theorem off_dk2 : k0_pay37 (k0_pay31 q) (k0_pay35 q k d ls v dl) a12 = dkNew q (dsOff q k d ls v dl) a12 := rfl
theorem off_dk3 (c : FVec F S512x512 .f32) (hc : c = constant S512x512 .f32 0x00000000#32) : k0_pay4 (k0_pay45 (k0_pay39 q) (k0_pay40 k) (k0_pay41 d) c ls v dl a12) = dkNew q (dsOff q k d ls v dl) a12 := by subst hc; rfl
theorem off_dq1 (c : F .f32) (hc : c = Named.named κ "log2e" 0x3FB8AA3B#32) : k0_pay30 (k0_pay21 k) (k0_pay26 (k0_pay22 d) (k0_pay23 q k) (k0_pay24 ls) c v dl) (k0_pay29 a12)
    = dqNew k (dsOff q k d ls v dl) a12 := by subst hc; rfl
theorem off_dq2 : k0_pay38 (k0_pay32 k) (k0_pay35 q k d ls v dl) a12 = dqNew k (dsOff q k d ls v dl) a12 := rfl
theorem off_dq3 (c : FVec F S512x512 .f32) (hc : c = constant S512x512 .f32 0x00000000#32) : k0_pay5 (k0_pay40 k) (k0_pay43 (k0_pay39 q) (k0_pay40 k) (k0_pay41 d) c ls v dl) a12
    = dqNew k (dsOff q k d ls v dl) a12 := by subst hc; rfl

theorem diag_dv1 : k0_pay61 (k0_pay57 d) (k0_pay58 q k) ls a13 = dvDiag q k d ls a13 := rfl
theorem diag_dv2 : k0_pay70 (k0_pay67 d) (k0_pay68 q k ls) a13 = dvDiag q k d ls a13 := rfl
theorem diag_dv3 : k0_pay6 (k0_pay76 d) (k0_pay77 q k ls) a13 = dvDiag q k d ls a13 := rfl
theorem diag_dk0 : k0_pay53 (k0_pay46 q) (k0_pay50 q k d ls v dl) a12 = dkNew q (dsDiag q k d ls v dl) a12 := rfl
theorem diag_dk1 : k0_pay63 (k0_pay62 (k0_pay55 q) (k0_pay57 d) (k0_pay58 q k) ls v dl a12) = dkNew q (dsDiag q k d ls v dl) a12 := rfl
theorem diag_dk2 : k0_pay71 (k0_pay65 q) (k0_pay67 d) (k0_pay68 q k ls) v dl a12 = dkNew q (dsDiag q k d ls v dl) a12 := rfl
theorem diag_dk3 : k0_pay7 (k0_pay74 q) (k0_pay78 q k d ls v dl) a12 = dkNew q (dsDiag q k d ls v dl) a12 := rfl
theorem diag_dq0 : k0_pay54 (k0_pay47 k) (k0_pay50 q k d ls v dl) a12 = dqNew k (dsDiag q k d ls v dl) a12 := rfl
theorem diag_dq1 : k0_pay64 (k0_pay56 k) (k0_pay60 (k0_pay57 d) (k0_pay58 q k) ls v dl) a12 = dqNew k (dsDiag q k d ls v dl) a12 := rfl
theorem diag_dq2 : k0_pay73 (k0_pay72 (k0_pay66 k) (k0_pay67 d) (k0_pay68 q k ls) v dl a12) = dqNew k (dsDiag q k d ls v dl) a12 := rfl
theorem diag_dq3 : k0_pay8 (k0_pay75 k) (k0_pay78 q k d ls v dl) a12 = dqNew k (dsDiag q k d ls v dl) a12 := rfl

end Payloads

end Cert.KernelIdeal.Hand

end
-- ==== Proof.ArmOff.lean ====
module

public import proofs.«01_k».proof.Proof.Arms

@[expose] public section
set_option maxRecDepth 16384

noncomputable section

namespace Cert.KernelIdeal.Hand

open Cert.Heads Cert.Tiles Cert.KernelIdeal Cert.KernelIdeal.Gen
open Idealize.ShloMosaic Idealize.ShloMosaic.TcCoe Idealize.ShloMosaic.Tactic

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A step below the diagonal takes the three accumulators to `dqOffB`, `dkOffB` and `dvOffB`, and leaves what it reads. -/
theorem stepOff_spec (c : Dev nD) (i : grid0.Coords) (arg3 : Memref sig .tc .vmem S4x512x256 .bf16) (harg3 : arg3.IsWhole) (arg4 : Memref sig .tc .vmem S4x512x256 .bf16) (harg4 : arg4.IsWhole) (arg5 : Memref sig .tc .vmem S4x512x128 .bf16) (harg5 : arg5.IsWhole) (arg6 : Memref sig .tc .vmem S512x512 .f32) (harg6 : arg6.IsWhole) (arg7 : Memref sig .tc .vmem S4x1x512 .f32) (harg7 : arg7.IsWhole) (arg8 : Memref sig .tc .vmem S4x1x512 .f32) (harg8 : arg8.IsWhole) (arg9 : Memref sig .tc .vmem S4x4096x256 .f32) (harg9 : arg9.IsWhole) (arg10 : Memref sig .tc .vmem S4x512x256 .bf16) (harg10 : arg10.IsWhole) (arg11 : Memref sig .tc .vmem S4x512x128 .bf16) (harg11 : arg11.IsWhole) (arg12 : Memref sig .tc .vmem S4x512x256 .f32) (harg12 : arg12.IsWhole) (arg13 : Memref sig .tc .vmem S4x512x128 .f32) (harg13 : arg13.IsWhole)
    (k0_h3 : k0_cond3 i = 1#1) (q : Vec F S4x512x256 .bf16) (k : Vec F S4x512x256 .bf16) (v : Vec F S4x512x128 .bf16)
    (d : Vec F S512x512 .f32) (dl : Vec F S4x1x512 .f32) (ls : Vec F S4x1x512 .f32)
    (dq : Vec F S4x4096x256 .f32) (dk : Vec F S4x512x256 .f32) (dv : Vec F S4x512x128 .f32) (rest : Prog (TpuEff nD τ sig (Elt F) Λ₀ .tc) PUnit) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare d ∗ owns (c : Thread nD τ) arg7 fullShare dl ∗ owns (c : Thread nD τ) arg8 fullShare ls
        ∗ owns (c : Thread nD τ) arg9 fullShare dq ∗ owns (c : Thread nD τ) arg12 fullShare dk ∗ owns (c : Thread nD τ) arg13 fullShare dv
        ∗ (iprop(owns (c : Thread nD τ) arg3 fullShare q ∗ owns (c : Thread nD τ) arg4 fullShare k ∗ owns (c : Thread nD τ) arg5 fullShare v
        ∗ owns (c : Thread nD τ) arg6 fullShare d ∗ owns (c : Thread nD τ) arg7 fullShare dl ∗ owns (c : Thread nD τ) arg8 fullShare ls
        ∗ owns (c : Thread nD τ) arg9 fullShare (dqOffB i q k v d dl ls dq) ∗ owns (c : Thread nD τ) arg12 fullShare (dkOffB q k v d dl ls dk)
        ∗ owns (c : Thread nD τ) arg13 fullShare (dvOffB q k d ls dv)) -∗ wp frame (wpE (defs₀ (F := F)) Variants.none c none) Set.univ rest K))
      ⊢ wp frame (wpE (defs₀ (F := F)) Variants.none c none) Set.univ
          (stepOff (F := F) i arg3 harg3 arg4 harg4 arg5 harg5 arg6 harg6 arg7 harg7 arg8 harg8 arg9 harg9 arg10 harg10 arg11 harg11 arg12 harg12 arg13 harg13 k0_h3 rest) K := by
  unfold stepOff
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f12, %e12, H12⟩, ⟨%f13, %e13, H13⟩, Hk⟩
  sl_exec
  iapply Hk
  isplitl [H3]; · iexists _; isplitr; swap; · iexact H3
                  ipureintro; exact e3
  isplitl [H4]; · iexists _; isplitr; swap; · iexact H4
                  ipureintro; exact e4
  isplitl [H5]; · iexists _; isplitr; swap; · iexact H5
                  ipureintro; exact e5
  isplitl [H6]; · iexists _; isplitr; swap; · iexact H6
                  ipureintro; exact e6
  isplitl [H7]; · iexists _; isplitr; swap; · iexact H7
                  ipureintro; exact e7
  isplitl [H8]; · iexists _; isplitr; swap; · iexact H8
                  ipureintro; exact e8
  isplitl [H9]
  · iexists _; isplitr; swap; · iexact H9
    ipureintro
    subst e3 e4 e5 e6 e7 e8 e9
    refine read_quad_eq arg9.view f9 (k0_off1_inb i k0_h3) (k0_off2_inb i k0_h3) (k0_off3_inb i k0_h3) (k0_off4_inb i k0_h3)
      (off1_eq i) (off2_eq i) (off3_eq i) (off4_eq i)
      (fun h => dqNew (head (arg4.view.read (Elt F) f4) h) (dsOffH (arg3.view.read (Elt F) f3) (arg4.view.read (Elt F) f4) (arg5.view.read (Elt F) f5) (arg6.view.read (Elt F) f6) (arg7.view.read (Elt F) f7) (arg8.view.read (Elt F) f8) h)
        (headRows 512 (512 * qt i) (qt_rows i) (arg9.view.read (Elt F) f9) h)) ?_ ?_ ?_ ?_
    · exact congrArg (dqNew (head (arg4.view.read (Elt F) f4) 0)
        (dsOffH (arg3.view.read (Elt F) f3) (arg4.view.read (Elt F) f4) (arg5.view.read (Elt F) f5) (arg6.view.read (Elt F) f6) (arg7.view.read (Elt F) f7) (arg8.view.read (Elt F) f8) 0)) (readAt_rows (qt_rows i) arg9.view f9 0 (k0_off1_inb i k0_h3) (off1_eq i))
    · dsimp only
      refine (off_dq1 _ _ _ _ _ _ _ _ ?_).trans (congrArg _ ?_)
      · rfl
      · exact readAt_rows (qt_rows i) arg9.view f9 1 (k0_off2_inb i k0_h3) (off2_eq i)
    · exact (off_dq2 _ _ _ _ _ _ _).trans (congrArg (dqNew (head (arg4.view.read (Elt F) f4) 2)
        (dsOffH (arg3.view.read (Elt F) f3) (arg4.view.read (Elt F) f4) (arg5.view.read (Elt F) f5) (arg6.view.read (Elt F) f6) (arg7.view.read (Elt F) f7) (arg8.view.read (Elt F) f8) 2)) (readAt_rows (qt_rows i) arg9.view f9 2 (k0_off3_inb i k0_h3) (off3_eq i)))
    · dsimp only
      refine (off_dq3 _ _ _ _ _ _ _ _ ?_).trans (congrArg _ ?_)
      · rfl
      · exact readAt_rows (qt_rows i) arg9.view f9 3 (k0_off4_inb i k0_h3) (off4_eq i)
  isplitl [H12]
  · iexists _; isplitr; swap; · iexact H12
    ipureintro
    subst e3 e4 e5 e6 e7 e8 e12
    refine read_quad_eq arg12.view f12 _ _ _ _ rfl rfl rfl rfl (fun h => dkNew (head (arg3.view.read (Elt F) f3) h)
      (dsOffH (arg3.view.read (Elt F) f3) (arg4.view.read (Elt F) f4) (arg5.view.read (Elt F) f5) (arg6.view.read (Elt F) f6) (arg7.view.read (Elt F) f7) (arg8.view.read (Elt F) f8) h) (head (arg12.view.read (Elt F) f12) h)) ?_ ?_ ?_ ?_
    · rfl
    · dsimp only
      refine off_dk1 _ _ _ _ _ _ _ _ ?_
      rfl
    · exact off_dk2 _ _ _ _ _ _ _
    · dsimp only
      refine off_dk3 _ _ _ _ _ _ _ _ ?_
      rfl
  iexists _; isplitr; swap; · iexact H13
  ipureintro
  subst e3 e4 e6 e8 e13
  refine read_quad_eq arg13.view f13 _ _ _ _ rfl rfl rfl rfl (fun h => dvOff (head (arg3.view.read (Elt F) f3) h) (head (arg4.view.read (Elt F) f4) h)
    (headCols (arg6.view.read (Elt F) f6) h) (head (arg8.view.read (Elt F) f8) h) (head (arg13.view.read (Elt F) f13) h)) ?_ ?_ ?_ ?_
  · rfl
  · dsimp only
    refine off_dv1 _ _ _ _ _ _ ?_
    rfl
  · exact off_dv2 _ _ _ _ _
  · dsimp only
    refine off_dv3 _ _ _ _ _ _ ?_
    rfl

end Cert.KernelIdeal.Hand

end
-- ==== Proof.ArmDiag.lean ====
module

public import proofs.«01_k».proof.Proof.Arms

@[expose] public section
set_option maxRecDepth 16384

noncomputable section

namespace Cert.KernelIdeal.Hand

open Cert.Heads Cert.Tiles Cert.KernelIdeal Cert.KernelIdeal.Gen
open Idealize.ShloMosaic Idealize.ShloMosaic.TcCoe Idealize.ShloMosaic.Tactic

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The same of a step on the diagonal. -/
theorem stepDiag_spec (c : Dev nD) (i : grid0.Coords) (arg3 : Memref sig .tc .vmem S4x512x256 .bf16) (harg3 : arg3.IsWhole) (arg4 : Memref sig .tc .vmem S4x512x256 .bf16) (harg4 : arg4.IsWhole) (arg5 : Memref sig .tc .vmem S4x512x128 .bf16) (harg5 : arg5.IsWhole) (arg6 : Memref sig .tc .vmem S512x512 .f32) (harg6 : arg6.IsWhole) (arg7 : Memref sig .tc .vmem S4x1x512 .f32) (harg7 : arg7.IsWhole) (arg8 : Memref sig .tc .vmem S4x1x512 .f32) (harg8 : arg8.IsWhole) (arg9 : Memref sig .tc .vmem S4x4096x256 .f32) (harg9 : arg9.IsWhole) (arg10 : Memref sig .tc .vmem S4x512x256 .bf16) (harg10 : arg10.IsWhole) (arg11 : Memref sig .tc .vmem S4x512x128 .bf16) (harg11 : arg11.IsWhole) (arg12 : Memref sig .tc .vmem S4x512x256 .f32) (harg12 : arg12.IsWhole) (arg13 : Memref sig .tc .vmem S4x512x128 .f32) (harg13 : arg13.IsWhole)
    (k0_h4 : k0_cond4 i = 1#1) (q : Vec F S4x512x256 .bf16) (k : Vec F S4x512x256 .bf16) (v : Vec F S4x512x128 .bf16)
    (d : Vec F S512x512 .f32) (dl : Vec F S4x1x512 .f32) (ls : Vec F S4x1x512 .f32)
    (dq : Vec F S4x4096x256 .f32) (dk : Vec F S4x512x256 .f32) (dv : Vec F S4x512x128 .f32) (rest : Prog (TpuEff nD τ sig (Elt F) Λ₀ .tc) PUnit) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare d ∗ owns (c : Thread nD τ) arg7 fullShare dl ∗ owns (c : Thread nD τ) arg8 fullShare ls
        ∗ owns (c : Thread nD τ) arg9 fullShare dq ∗ owns (c : Thread nD τ) arg12 fullShare dk ∗ owns (c : Thread nD τ) arg13 fullShare dv
        ∗ (iprop(owns (c : Thread nD τ) arg3 fullShare q ∗ owns (c : Thread nD τ) arg4 fullShare k ∗ owns (c : Thread nD τ) arg5 fullShare v
        ∗ owns (c : Thread nD τ) arg6 fullShare d ∗ owns (c : Thread nD τ) arg7 fullShare dl ∗ owns (c : Thread nD τ) arg8 fullShare ls
        ∗ owns (c : Thread nD τ) arg9 fullShare (dqDiagB i q k v d dl ls dq) ∗ owns (c : Thread nD τ) arg12 fullShare (dkDiagB q k v d dl ls dk)
        ∗ owns (c : Thread nD τ) arg13 fullShare (dvDiagB q k d ls dv)) -∗ wp frame (wpE (defs₀ (F := F)) Variants.none c none) Set.univ rest K))
      ⊢ wp frame (wpE (defs₀ (F := F)) Variants.none c none) Set.univ
          (stepDiag (F := F) i arg3 harg3 arg4 harg4 arg5 harg5 arg6 harg6 arg7 harg7 arg8 harg8 arg9 harg9 arg10 harg10 arg11 harg11 arg12 harg12 arg13 harg13 k0_h4 rest) K := by
  unfold stepDiag
  simp only [k0_part7_eq_skeleton, k0_part8_eq_skeleton, k0_part9_eq_skeleton, k0_part10_eq_skeleton, k0_part11_eq_skeleton, k0_part12_eq_skeleton]
  unfold k0_part7_skel k0_part8_skel k0_part9_skel k0_part10_skel k0_part11_skel k0_part12_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f12, %e12, H12⟩, ⟨%f13, %e13, H13⟩, Hk⟩
  sl_exec
  iapply Hk
  isplitl [H3]; · iexists _; isplitr; swap; · iexact H3
                  ipureintro; exact e3
  isplitl [H4]; · iexists _; isplitr; swap; · iexact H4
                  ipureintro; exact e4
  isplitl [H5]; · iexists _; isplitr; swap; · iexact H5
                  ipureintro; exact e5
  isplitl [H6]; · iexists _; isplitr; swap; · iexact H6
                  ipureintro; exact e6
  isplitl [H7]; · iexists _; isplitr; swap; · iexact H7
                  ipureintro; exact e7
  isplitl [H8]; · iexists _; isplitr; swap; · iexact H8
                  ipureintro; exact e8
  isplitl [H9]
  · iexists _; isplitr; swap; · iexact H9
    ipureintro
    subst e3 e4 e5 e6 e7 e8 e9
    refine read_quad_eq arg9.view f9 (k0_off5_inb i k0_h4) (k0_off6_inb i k0_h4) (k0_off7_inb i k0_h4) (k0_off8_inb i k0_h4)
      (off5_eq i) (off6_eq i) (off7_eq i) (off8_eq i)
      (fun h => dqNew (head (arg4.view.read (Elt F) f4) h) (dsDiagH (arg3.view.read (Elt F) f3) (arg4.view.read (Elt F) f4) (arg5.view.read (Elt F) f5) (arg6.view.read (Elt F) f6) (arg7.view.read (Elt F) f7) (arg8.view.read (Elt F) f8) h)
        (headRows 512 (512 * qt i) (qt_rows i) (arg9.view.read (Elt F) f9) h)) ?_ ?_ ?_ ?_
    · exact (diag_dq0 _ _ _ _ _ _ _).trans (congrArg (dqNew (head (arg4.view.read (Elt F) f4) 0)
        (dsDiagH (arg3.view.read (Elt F) f3) (arg4.view.read (Elt F) f4) (arg5.view.read (Elt F) f5) (arg6.view.read (Elt F) f6) (arg7.view.read (Elt F) f7) (arg8.view.read (Elt F) f8) 0)) (readAt_rows (qt_rows i) arg9.view f9 0 (k0_off5_inb i k0_h4) (off5_eq i)))
    · exact (diag_dq1 _ _ _ _ _ _ _).trans (congrArg (dqNew (head (arg4.view.read (Elt F) f4) 1)
        (dsDiagH (arg3.view.read (Elt F) f3) (arg4.view.read (Elt F) f4) (arg5.view.read (Elt F) f5) (arg6.view.read (Elt F) f6) (arg7.view.read (Elt F) f7) (arg8.view.read (Elt F) f8) 1)) (readAt_rows (qt_rows i) arg9.view f9 1 (k0_off6_inb i k0_h4) (off6_eq i)))
    · exact (diag_dq2 _ _ _ _ _ _ _).trans (congrArg (dqNew (head (arg4.view.read (Elt F) f4) 2)
        (dsDiagH (arg3.view.read (Elt F) f3) (arg4.view.read (Elt F) f4) (arg5.view.read (Elt F) f5) (arg6.view.read (Elt F) f6) (arg7.view.read (Elt F) f7) (arg8.view.read (Elt F) f8) 2)) (readAt_rows (qt_rows i) arg9.view f9 2 (k0_off7_inb i k0_h4) (off7_eq i)))
    · exact (diag_dq3 _ _ _ _ _ _ _).trans (congrArg (dqNew (head (arg4.view.read (Elt F) f4) 3)
        (dsDiagH (arg3.view.read (Elt F) f3) (arg4.view.read (Elt F) f4) (arg5.view.read (Elt F) f5) (arg6.view.read (Elt F) f6) (arg7.view.read (Elt F) f7) (arg8.view.read (Elt F) f8) 3)) (readAt_rows (qt_rows i) arg9.view f9 3 (k0_off8_inb i k0_h4) (off8_eq i)))
  isplitl [H12]
  · iexists _; isplitr; swap; · iexact H12
    ipureintro
    subst e3 e4 e5 e6 e7 e8 e12
    refine read_quad_eq arg12.view f12 _ _ _ _ rfl rfl rfl rfl (fun h => dkNew (head (arg3.view.read (Elt F) f3) h)
      (dsDiagH (arg3.view.read (Elt F) f3) (arg4.view.read (Elt F) f4) (arg5.view.read (Elt F) f5) (arg6.view.read (Elt F) f6) (arg7.view.read (Elt F) f7) (arg8.view.read (Elt F) f8) h) (head (arg12.view.read (Elt F) f12) h)) ?_ ?_ ?_ ?_
    · exact diag_dk0 _ _ _ _ _ _ _
    · exact diag_dk1 _ _ _ _ _ _ _
    · exact diag_dk2 _ _ _ _ _ _ _
    · exact diag_dk3 _ _ _ _ _ _ _
  iexists _; isplitr; swap; · iexact H13
  ipureintro
  subst e3 e4 e6 e8 e13
  refine read_quad_eq arg13.view f13 _ _ _ _ rfl rfl rfl rfl (fun h => dvDiag (head (arg3.view.read (Elt F) f3) h) (head (arg4.view.read (Elt F) f4) h)
    (headCols (arg6.view.read (Elt F) f6) h) (head (arg8.view.read (Elt F) f8) h) (head (arg13.view.read (Elt F) f13) h)) ?_ ?_ ?_ ?_
  · rfl
  · exact diag_dv1 _ _ _ _ _
  · exact diag_dv2 _ _ _ _ _
  · exact diag_dv3 _ _ _ _ _

end Cert.KernelIdeal.Hand

end
-- ==== Proof.ArmRest.lean ====
module

public import proofs.«01_k».proof.Proof.ArmOff
public import proofs.«01_k».proof.Proof.ArmDiag

@[expose] public section
set_option maxRecDepth 16384

noncomputable section

namespace Cert.KernelIdeal.Hand

open Cert.Heads Cert.Tiles Cert.KernelIdeal Cert.KernelIdeal.Gen
open Idealize.ShloMosaic Idealize.ShloMosaic.TcCoe Idealize.ShloMosaic.Tactic

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Zeroing the two accumulators. -/
theorem resetAcc_spec (c : Dev nD) (arg12 : Memref sig .tc .vmem S4x512x256 .f32) (harg12 : arg12.IsWhole) (arg13 : Memref sig .tc .vmem S4x512x128 .f32) (harg13 : arg13.IsWhole)
    (a : Vec F S4x512x256 .f32) (b : Vec F S4x512x128 .f32) (rest : Prog (TpuEff nD τ sig (Elt F) Λ₀ .tc) PUnit) (K : PUnit → sProp 𝕄) :
    iprop(owns (c : Thread nD τ) arg12 fullShare a ∗ owns (c : Thread nD τ) arg13 fullShare b
        ∗ (iprop(owns (c : Thread nD τ) arg12 fullShare (k0_pay1 (F := F)) ∗ owns (c : Thread nD τ) arg13 fullShare (k0_pay2 (F := F)))
          -∗ wp frame (wpE (defs₀ (F := F)) Variants.none c none) Set.univ rest K))
      ⊢ wp frame (wpE (defs₀ (F := F)) Variants.none c none) Set.univ (resetAcc arg12 harg12 arg13 harg13 rest) K := by
  unfold resetAcc owns
  iintro ⟨⟨%f12, %e12, H12⟩, ⟨%f13, %e13, H13⟩, Hk⟩
  sl_exec
  iapply Hk
  isplitl [H12]
  · iexists _; isplitr; swap; · iexact H12
    ipureintro
    exact View.read_writes_full arg12.view f12 _ _ _
  iexists _; isplitr; swap; · iexact H13
  ipureintro
  exact View.read_writes_full arg13.view f13 _ _ _

/-- Zeroing the query gradients. -/
theorem resetDq_spec (c : Dev nD) (arg9 : Memref sig .tc .vmem S4x4096x256 .f32) (harg9 : arg9.IsWhole)
    (a : Vec F S4x4096x256 .f32) (rest : Prog (TpuEff nD τ sig (Elt F) Λ₀ .tc) PUnit) (K : PUnit → sProp 𝕄) :
    iprop(owns (c : Thread nD τ) arg9 fullShare a ∗ (iprop(owns (c : Thread nD τ) arg9 fullShare (k0_pay3 (F := F))) -∗ wp frame (wpE (defs₀ (F := F)) Variants.none c none) Set.univ rest K))
      ⊢ wp frame (wpE (defs₀ (F := F)) Variants.none c none) Set.univ (resetDq arg9 harg9 rest) K := by
  unfold resetDq owns
  iintro ⟨⟨%f9, %e9, H9⟩, Hk⟩
  sl_exec
  iapply Hk
  iexists _; isplitr; swap; · iexact H9
  ipureintro
  exact View.read_writes_full arg9.view f9 _ _ _

/-- Writing the accumulators out, rounded. -/
theorem flush_spec (c : Dev nD) (arg10 : Memref sig .tc .vmem S4x512x256 .bf16) (harg10 : arg10.IsWhole) (arg11 : Memref sig .tc .vmem S4x512x128 .bf16) (harg11 : arg11.IsWhole) (arg12 : Memref sig .tc .vmem S4x512x256 .f32) (harg12 : arg12.IsWhole) (arg13 : Memref sig .tc .vmem S4x512x128 .f32) (harg13 : arg13.IsWhole)
    (x : Vec F S4x512x256 .bf16) (y : Vec F S4x512x128 .bf16)
    (a : Vec F S4x512x256 .f32) (b : Vec F S4x512x128 .f32) (rest : Prog (TpuEff nD τ sig (Elt F) Λ₀ .tc) PUnit) (K : PUnit → sProp 𝕄) :
    iprop(owns (c : Thread nD τ) arg10 fullShare x ∗ owns (c : Thread nD τ) arg11 fullShare y ∗ owns (c : Thread nD τ) arg12 fullShare a ∗ owns (c : Thread nD τ) arg13 fullShare b
        ∗ (iprop(owns (c : Thread nD τ) arg10 fullShare (k0_pay9 a) ∗ owns (c : Thread nD τ) arg11 fullShare (k0_pay10 b) ∗ owns (c : Thread nD τ) arg12 fullShare a ∗ owns (c : Thread nD τ) arg13 fullShare b)
          -∗ wp frame (wpE (defs₀ (F := F)) Variants.none c none) Set.univ rest K))
      ⊢ wp frame (wpE (defs₀ (F := F)) Variants.none c none) Set.univ (flush arg10 harg10 arg11 harg11 arg12 harg12 arg13 harg13 rest) K := by
  unfold flush owns
  iintro ⟨⟨%f10, %e10, H10⟩, ⟨%f11, %e11, H11⟩, ⟨%f12, %e12, H12⟩, ⟨%f13, %e13, H13⟩, Hk⟩
  sl_exec
  iapply Hk
  isplitl [H10]
  · iexists _; isplitr; swap; · iexact H10
    ipureintro
    subst e12
    exact (View.read_writes_full arg10.view f10 _ _ _).trans (congrArg k0_pay9 (View.readAt_full arg12.view f12 _))
  isplitl [H11]
  · iexists _; isplitr; swap; · iexact H11
    ipureintro
    subst e13
    exact (View.read_writes_full arg11.view f11 _ _ _).trans (congrArg k0_pay10 (View.readAt_full arg13.view f13 _))
  isplitl [H12]
  · iexists _; isplitr; swap; · iexact H12
    ipureintro; exact e12
  iexists _; isplitr; swap; · iexact H13
  ipureintro; exact e13

/-- The body is its five arms, one after the other. -/
theorem body_eq (i : grid0.Coords) (arg3 : Memref sig .tc .vmem S4x512x256 .bf16) (harg3 : arg3.IsWhole) (arg4 : Memref sig .tc .vmem S4x512x256 .bf16) (harg4 : arg4.IsWhole) (arg5 : Memref sig .tc .vmem S4x512x128 .bf16) (harg5 : arg5.IsWhole) (arg6 : Memref sig .tc .vmem S512x512 .f32) (harg6 : arg6.IsWhole) (arg7 : Memref sig .tc .vmem S4x1x512 .f32) (harg7 : arg7.IsWhole) (arg8 : Memref sig .tc .vmem S4x1x512 .f32) (harg8 : arg8.IsWhole) (arg9 : Memref sig .tc .vmem S4x4096x256 .f32) (harg9 : arg9.IsWhole) (arg10 : Memref sig .tc .vmem S4x512x256 .bf16) (harg10 : arg10.IsWhole) (arg11 : Memref sig .tc .vmem S4x512x128 .bf16) (harg11 : arg11.IsWhole) (arg12 : Memref sig .tc .vmem S4x512x256 .f32) (harg12 : arg12.IsWhole) (arg13 : Memref sig .tc .vmem S4x512x128 .f32) (harg13 : arg13.IsWhole) : cc0_mla_bwd (F := F) i arg3 harg3 arg4 harg4 arg5 harg5 arg6 harg6 arg7 harg7 arg8 harg8 arg9 harg9 arg10 harg10 arg11 harg11 arg12 harg12 arg13 harg13 =
    (let r5 : Prog (TpuEff nD τ sig (Elt F) Λ₀ .tc) PUnit := pure ⟨⟩
     let r4 : Prog (TpuEff nD τ sig (Elt F) Λ₀ .tc) PUnit := if h : k0_cond5 i = 1#1 then flush arg10 harg10 arg11 harg11 arg12 harg12 arg13 harg13 r5 else r5
     let r3 : Prog (TpuEff nD τ sig (Elt F) Λ₀ .tc) PUnit := if h : k0_cond4 i = 1#1 then stepDiag i arg3 harg3 arg4 harg4 arg5 harg5 arg6 harg6 arg7 harg7 arg8 harg8 arg9 harg9 arg10 harg10 arg11 harg11 arg12 harg12 arg13 harg13 h r4 else r4
     let r2 : Prog (TpuEff nD τ sig (Elt F) Λ₀ .tc) PUnit := if h : k0_cond3 i = 1#1 then stepOff i arg3 harg3 arg4 harg4 arg5 harg5 arg6 harg6 arg7 harg7 arg8 harg8 arg9 harg9 arg10 harg10 arg11 harg11 arg12 harg12 arg13 harg13 h r3 else r3
     let r1 : Prog (TpuEff nD τ sig (Elt F) Λ₀ .tc) PUnit := if h : k0_cond2 i = 1#1 then resetDq arg9 harg9 r2 else r2
     if h : k0_cond4 i = 1#1 then resetAcc arg12 harg12 arg13 harg13 r1 else r1) := by
  rw [cc0_mla_bwd_eq_skeleton]
  rfl

end Cert.KernelIdeal.Hand

end
-- ==== Proof.Body.lean ====
module

public import proofs.«01_k».proof.Proof.ArmRest

@[expose] public section
set_option maxRecDepth 16384

noncomputable section

namespace Cert.KernelIdeal.Hand

open Cert.Heads Cert.Tiles Cert.KernelIdeal Cert.KernelIdeal.Gen
open Idealize.ShloMosaic Idealize.ShloMosaic.TcCoe Idealize.ShloMosaic.Tactic

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What each optional arm leaves -/

/-- The query gradient after the optional zeroing. -/
def dq0 (i : grid0.Coords)  (dq : Vec F S4x4096x256 .f32) : Vec F S4x4096x256 .f32 := if k0_cond2 i = 1#1 then k0_pay3 (F := F) else dq
/-- The accumulator of the key gradient after the optional zeroing. -/
def dk0 (i : grid0.Coords)  (dk : Vec F S4x512x256 .f32) : Vec F S4x512x256 .f32 := if k0_cond4 i = 1#1 then k0_pay1 (F := F) else dk
/-- The accumulator of the value gradient after the optional zeroing. -/
def dv0 (i : grid0.Coords)  (dv : Vec F S4x512x128 .f32) : Vec F S4x512x128 .f32 := if k0_cond4 i = 1#1 then k0_pay2 (F := F) else dv
/-- The query gradient after the optional step below the diagonal. -/
def dq1 (i : grid0.Coords) (q : Vec F S4x512x256 .bf16) (k : Vec F S4x512x256 .bf16) (v : Vec F S4x512x128 .bf16)
    (d : Vec F S512x512 .f32) (dl : Vec F S4x1x512 .f32) (ls : Vec F S4x1x512 .f32) (dq : Vec F S4x4096x256 .f32) : Vec F S4x4096x256 .f32 := if k0_cond3 i = 1#1 then dqOffB i q k v d dl ls dq else dq
/-- The same of the key gradient. -/
def dk1 (i : grid0.Coords) (q : Vec F S4x512x256 .bf16) (k : Vec F S4x512x256 .bf16) (v : Vec F S4x512x128 .bf16)
    (d : Vec F S512x512 .f32) (dl : Vec F S4x1x512 .f32) (ls : Vec F S4x1x512 .f32) (dk : Vec F S4x512x256 .f32) : Vec F S4x512x256 .f32 := if k0_cond3 i = 1#1 then dkOffB q k v d dl ls dk else dk
/-- The same of the value gradient. -/
def dv1 (i : grid0.Coords) (q k : Vec F S4x512x256 .bf16) (d : Vec F S512x512 .f32) (ls : Vec F S4x1x512 .f32) (dv : Vec F S4x512x128 .f32) : Vec F S4x512x128 .f32 := if k0_cond3 i = 1#1 then dvOffB q k d ls dv else dv
/-- The query gradient after the optional step on the diagonal. -/
def dq2 (i : grid0.Coords) (q : Vec F S4x512x256 .bf16) (k : Vec F S4x512x256 .bf16) (v : Vec F S4x512x128 .bf16)
    (d : Vec F S512x512 .f32) (dl : Vec F S4x1x512 .f32) (ls : Vec F S4x1x512 .f32) (dq : Vec F S4x4096x256 .f32) : Vec F S4x4096x256 .f32 := if k0_cond4 i = 1#1 then dqDiagB i q k v d dl ls dq else dq
/-- The same of the key gradient. -/
def dk2 (i : grid0.Coords) (q : Vec F S4x512x256 .bf16) (k : Vec F S4x512x256 .bf16) (v : Vec F S4x512x128 .bf16)
    (d : Vec F S512x512 .f32) (dl : Vec F S4x1x512 .f32) (ls : Vec F S4x1x512 .f32) (dk : Vec F S4x512x256 .f32) : Vec F S4x512x256 .f32 := if k0_cond4 i = 1#1 then dkDiagB q k v d dl ls dk else dk
/-- The same of the value gradient. -/
def dv2 (i : grid0.Coords) (q k : Vec F S4x512x256 .bf16) (d : Vec F S512x512 .f32) (ls : Vec F S4x1x512 .f32) (dv : Vec F S4x512x128 .f32) : Vec F S4x512x128 .f32 := if k0_cond4 i = 1#1 then dvDiagB q k d ls dv else dv
/-- The stored key gradient, where one is stored. -/
def dkOut (i : grid0.Coords) (a : Vec F S4x512x256 .f32) (x : Vec F S4x512x256 .bf16) : Vec F S4x512x256 .bf16 := if k0_cond5 i = 1#1 then k0_pay9 a else x
/-- The stored value gradient, where one is stored. -/
def dvOut (i : grid0.Coords) (b : Vec F S4x512x128 .f32) (y : Vec F S4x512x128 .bf16) : Vec F S4x512x128 .bf16 := if k0_cond5 i = 1#1 then k0_pay10 b else y

/-! ## The optional arms -/

/-- The accumulators, zeroed where a step on the diagonal follows. -/
@[irreducible] def resetAccIf (i : grid0.Coords) (arg12 : Memref sig .tc .vmem S4x512x256 .f32) (harg12 : arg12.IsWhole) (arg13 : Memref sig .tc .vmem S4x512x128 .f32) (harg13 : arg13.IsWhole) (rest : Prog (TpuEff nD τ sig (Elt F) Λ₀ .tc) PUnit) : Prog (TpuEff nD τ sig (Elt F) Λ₀ .tc) PUnit :=
  if h : k0_cond4 i = 1#1 then resetAcc arg12 harg12 arg13 harg13 rest else rest
/-- What it does. -/
theorem resetAcc_if (c : Dev nD) (i : grid0.Coords) (arg12 : Memref sig .tc .vmem S4x512x256 .f32) (harg12 : arg12.IsWhole) (arg13 : Memref sig .tc .vmem S4x512x128 .f32) (harg13 : arg13.IsWhole) (a : Vec F S4x512x256 .f32) (b : Vec F S4x512x128 .f32) (rest : Prog (TpuEff nD τ sig (Elt F) Λ₀ .tc) PUnit) (K : PUnit → sProp 𝕄) :
    iprop(owns (c : Thread nD τ) arg12 fullShare a ∗ owns (c : Thread nD τ) arg13 fullShare b
        ∗ (iprop(owns (c : Thread nD τ) arg12 fullShare (dk0 i a) ∗ owns (c : Thread nD τ) arg13 fullShare (dv0 i b))
          -∗ wp frame (wpE (defs₀ (F := F)) Variants.none c none) Set.univ rest K))
      ⊢ wp frame (wpE (defs₀ (F := F)) Variants.none c none) Set.univ (resetAccIf i arg12 harg12 arg13 harg13 rest) K := by
  unfold resetAccIf dk0 dv0
  rcases Classical.em (k0_cond4 i = 1#1) with h | h
  · simp only [dif_pos h, if_pos h]; exact resetAcc_spec c arg12 harg12 arg13 harg13 a b rest K
  · simp only [dif_neg h, if_neg h]
    iintro ⟨H12, H13, Hk⟩
    iapply Hk
    isplitl [H12]; · iexact H12
    iexact H13

/-- The query gradient, zeroed at the first point of a group of heads. -/
@[irreducible] def resetDqIf (i : grid0.Coords) (arg9 : Memref sig .tc .vmem S4x4096x256 .f32) (harg9 : arg9.IsWhole) (rest : Prog (TpuEff nD τ sig (Elt F) Λ₀ .tc) PUnit) : Prog (TpuEff nD τ sig (Elt F) Λ₀ .tc) PUnit :=
  if h : k0_cond2 i = 1#1 then resetDq arg9 harg9 rest else rest
/-- What it does. -/
theorem resetDq_if (c : Dev nD) (i : grid0.Coords) (arg9 : Memref sig .tc .vmem S4x4096x256 .f32) (harg9 : arg9.IsWhole) (a : Vec F S4x4096x256 .f32) (rest : Prog (TpuEff nD τ sig (Elt F) Λ₀ .tc) PUnit) (K : PUnit → sProp 𝕄) :
    iprop(owns (c : Thread nD τ) arg9 fullShare a
        ∗ (iprop(owns (c : Thread nD τ) arg9 fullShare (dq0 i a))
          -∗ wp frame (wpE (defs₀ (F := F)) Variants.none c none) Set.univ rest K))
      ⊢ wp frame (wpE (defs₀ (F := F)) Variants.none c none) Set.univ (resetDqIf i arg9 harg9 rest) K := by
  unfold resetDqIf dq0
  rcases Classical.em (k0_cond2 i = 1#1) with h | h
  · simp only [dif_pos h, if_pos h]; exact resetDq_spec c arg9 harg9 a rest K
  · simp only [dif_neg h, if_neg h]
    iintro ⟨H9, Hk⟩
    iapply Hk
    iexact H9

/-- A step below the diagonal, where there is one. -/
@[irreducible] def stepOffIf (i : grid0.Coords) (arg3 : Memref sig .tc .vmem S4x512x256 .bf16) (harg3 : arg3.IsWhole) (arg4 : Memref sig .tc .vmem S4x512x256 .bf16) (harg4 : arg4.IsWhole) (arg5 : Memref sig .tc .vmem S4x512x128 .bf16) (harg5 : arg5.IsWhole) (arg6 : Memref sig .tc .vmem S512x512 .f32) (harg6 : arg6.IsWhole) (arg7 : Memref sig .tc .vmem S4x1x512 .f32) (harg7 : arg7.IsWhole) (arg8 : Memref sig .tc .vmem S4x1x512 .f32) (harg8 : arg8.IsWhole) (arg9 : Memref sig .tc .vmem S4x4096x256 .f32) (harg9 : arg9.IsWhole) (arg10 : Memref sig .tc .vmem S4x512x256 .bf16) (harg10 : arg10.IsWhole) (arg11 : Memref sig .tc .vmem S4x512x128 .bf16) (harg11 : arg11.IsWhole) (arg12 : Memref sig .tc .vmem S4x512x256 .f32) (harg12 : arg12.IsWhole) (arg13 : Memref sig .tc .vmem S4x512x128 .f32) (harg13 : arg13.IsWhole) (rest : Prog (TpuEff nD τ sig (Elt F) Λ₀ .tc) PUnit) : Prog (TpuEff nD τ sig (Elt F) Λ₀ .tc) PUnit :=
  if h : k0_cond3 i = 1#1 then stepOff i arg3 harg3 arg4 harg4 arg5 harg5 arg6 harg6 arg7 harg7 arg8 harg8 arg9 harg9 arg10 harg10 arg11 harg11 arg12 harg12 arg13 harg13 h rest else rest
/-- What it does. -/
theorem stepOff_if (c : Dev nD) (i : grid0.Coords) (arg3 : Memref sig .tc .vmem S4x512x256 .bf16) (harg3 : arg3.IsWhole) (arg4 : Memref sig .tc .vmem S4x512x256 .bf16) (harg4 : arg4.IsWhole) (arg5 : Memref sig .tc .vmem S4x512x128 .bf16) (harg5 : arg5.IsWhole) (arg6 : Memref sig .tc .vmem S512x512 .f32) (harg6 : arg6.IsWhole) (arg7 : Memref sig .tc .vmem S4x1x512 .f32) (harg7 : arg7.IsWhole) (arg8 : Memref sig .tc .vmem S4x1x512 .f32) (harg8 : arg8.IsWhole) (arg9 : Memref sig .tc .vmem S4x4096x256 .f32) (harg9 : arg9.IsWhole) (arg10 : Memref sig .tc .vmem S4x512x256 .bf16) (harg10 : arg10.IsWhole) (arg11 : Memref sig .tc .vmem S4x512x128 .bf16) (harg11 : arg11.IsWhole) (arg12 : Memref sig .tc .vmem S4x512x256 .f32) (harg12 : arg12.IsWhole) (arg13 : Memref sig .tc .vmem S4x512x128 .f32) (harg13 : arg13.IsWhole)
    (q : Vec F S4x512x256 .bf16) (k : Vec F S4x512x256 .bf16) (v : Vec F S4x512x128 .bf16)
    (d : Vec F S512x512 .f32) (dl : Vec F S4x1x512 .f32) (ls : Vec F S4x1x512 .f32)
    (dq : Vec F S4x4096x256 .f32) (dk : Vec F S4x512x256 .f32) (dv : Vec F S4x512x128 .f32) (rest : Prog (TpuEff nD τ sig (Elt F) Λ₀ .tc) PUnit) (K : PUnit → sProp 𝕄) :
    iprop(owns (c : Thread nD τ) arg3 fullShare q ∗ owns (c : Thread nD τ) arg4 fullShare k ∗ owns (c : Thread nD τ) arg5 fullShare v ∗ owns (c : Thread nD τ) arg6 fullShare d ∗ owns (c : Thread nD τ) arg7 fullShare dl ∗ owns (c : Thread nD τ) arg8 fullShare ls ∗ owns (c : Thread nD τ) arg9 fullShare dq ∗ owns (c : Thread nD τ) arg12 fullShare dk ∗ owns (c : Thread nD τ) arg13 fullShare dv
        ∗ (iprop(owns (c : Thread nD τ) arg3 fullShare q ∗ owns (c : Thread nD τ) arg4 fullShare k ∗ owns (c : Thread nD τ) arg5 fullShare v ∗ owns (c : Thread nD τ) arg6 fullShare d ∗ owns (c : Thread nD τ) arg7 fullShare dl ∗ owns (c : Thread nD τ) arg8 fullShare ls ∗ owns (c : Thread nD τ) arg9 fullShare (dq1 i q k v d dl ls dq) ∗ owns (c : Thread nD τ) arg12 fullShare (dk1 i q k v d dl ls dk) ∗ owns (c : Thread nD τ) arg13 fullShare (dv1 i q k d ls dv))
          -∗ wp frame (wpE (defs₀ (F := F)) Variants.none c none) Set.univ rest K))
      ⊢ wp frame (wpE (defs₀ (F := F)) Variants.none c none) Set.univ (stepOffIf i arg3 harg3 arg4 harg4 arg5 harg5 arg6 harg6 arg7 harg7 arg8 harg8 arg9 harg9 arg10 harg10 arg11 harg11 arg12 harg12 arg13 harg13 rest) K := by
  unfold stepOffIf dq1 dk1 dv1
  rcases Classical.em (k0_cond3 i = 1#1) with h | h
  · simp only [dif_pos h, if_pos h]; exact stepOff_spec c i arg3 harg3 arg4 harg4 arg5 harg5 arg6 harg6 arg7 harg7 arg8 harg8 arg9 harg9 arg10 harg10 arg11 harg11 arg12 harg12 arg13 harg13 h q k v d dl ls dq dk dv rest K
  · simp only [dif_neg h, if_neg h]
    iintro ⟨H3, H4, H5, H6, H7, H8, H9, H12, H13, Hk⟩
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H12]; · iexact H12
    iexact H13

/-- A step on the diagonal, where there is one. -/
@[irreducible] def stepDiagIf (i : grid0.Coords) (arg3 : Memref sig .tc .vmem S4x512x256 .bf16) (harg3 : arg3.IsWhole) (arg4 : Memref sig .tc .vmem S4x512x256 .bf16) (harg4 : arg4.IsWhole) (arg5 : Memref sig .tc .vmem S4x512x128 .bf16) (harg5 : arg5.IsWhole) (arg6 : Memref sig .tc .vmem S512x512 .f32) (harg6 : arg6.IsWhole) (arg7 : Memref sig .tc .vmem S4x1x512 .f32) (harg7 : arg7.IsWhole) (arg8 : Memref sig .tc .vmem S4x1x512 .f32) (harg8 : arg8.IsWhole) (arg9 : Memref sig .tc .vmem S4x4096x256 .f32) (harg9 : arg9.IsWhole) (arg10 : Memref sig .tc .vmem S4x512x256 .bf16) (harg10 : arg10.IsWhole) (arg11 : Memref sig .tc .vmem S4x512x128 .bf16) (harg11 : arg11.IsWhole) (arg12 : Memref sig .tc .vmem S4x512x256 .f32) (harg12 : arg12.IsWhole) (arg13 : Memref sig .tc .vmem S4x512x128 .f32) (harg13 : arg13.IsWhole) (rest : Prog (TpuEff nD τ sig (Elt F) Λ₀ .tc) PUnit) : Prog (TpuEff nD τ sig (Elt F) Λ₀ .tc) PUnit :=
  if h : k0_cond4 i = 1#1 then stepDiag i arg3 harg3 arg4 harg4 arg5 harg5 arg6 harg6 arg7 harg7 arg8 harg8 arg9 harg9 arg10 harg10 arg11 harg11 arg12 harg12 arg13 harg13 h rest else rest
/-- What it does. -/
theorem stepDiag_if (c : Dev nD) (i : grid0.Coords) (arg3 : Memref sig .tc .vmem S4x512x256 .bf16) (harg3 : arg3.IsWhole) (arg4 : Memref sig .tc .vmem S4x512x256 .bf16) (harg4 : arg4.IsWhole) (arg5 : Memref sig .tc .vmem S4x512x128 .bf16) (harg5 : arg5.IsWhole) (arg6 : Memref sig .tc .vmem S512x512 .f32) (harg6 : arg6.IsWhole) (arg7 : Memref sig .tc .vmem S4x1x512 .f32) (harg7 : arg7.IsWhole) (arg8 : Memref sig .tc .vmem S4x1x512 .f32) (harg8 : arg8.IsWhole) (arg9 : Memref sig .tc .vmem S4x4096x256 .f32) (harg9 : arg9.IsWhole) (arg10 : Memref sig .tc .vmem S4x512x256 .bf16) (harg10 : arg10.IsWhole) (arg11 : Memref sig .tc .vmem S4x512x128 .bf16) (harg11 : arg11.IsWhole) (arg12 : Memref sig .tc .vmem S4x512x256 .f32) (harg12 : arg12.IsWhole) (arg13 : Memref sig .tc .vmem S4x512x128 .f32) (harg13 : arg13.IsWhole)
    (q : Vec F S4x512x256 .bf16) (k : Vec F S4x512x256 .bf16) (v : Vec F S4x512x128 .bf16)
    (d : Vec F S512x512 .f32) (dl : Vec F S4x1x512 .f32) (ls : Vec F S4x1x512 .f32)
    (dq : Vec F S4x4096x256 .f32) (dk : Vec F S4x512x256 .f32) (dv : Vec F S4x512x128 .f32) (rest : Prog (TpuEff nD τ sig (Elt F) Λ₀ .tc) PUnit) (K : PUnit → sProp 𝕄) :
    iprop(owns (c : Thread nD τ) arg3 fullShare q ∗ owns (c : Thread nD τ) arg4 fullShare k ∗ owns (c : Thread nD τ) arg5 fullShare v ∗ owns (c : Thread nD τ) arg6 fullShare d ∗ owns (c : Thread nD τ) arg7 fullShare dl ∗ owns (c : Thread nD τ) arg8 fullShare ls ∗ owns (c : Thread nD τ) arg9 fullShare dq ∗ owns (c : Thread nD τ) arg12 fullShare dk ∗ owns (c : Thread nD τ) arg13 fullShare dv
        ∗ (iprop(owns (c : Thread nD τ) arg3 fullShare q ∗ owns (c : Thread nD τ) arg4 fullShare k ∗ owns (c : Thread nD τ) arg5 fullShare v ∗ owns (c : Thread nD τ) arg6 fullShare d ∗ owns (c : Thread nD τ) arg7 fullShare dl ∗ owns (c : Thread nD τ) arg8 fullShare ls ∗ owns (c : Thread nD τ) arg9 fullShare (dq2 i q k v d dl ls dq) ∗ owns (c : Thread nD τ) arg12 fullShare (dk2 i q k v d dl ls dk) ∗ owns (c : Thread nD τ) arg13 fullShare (dv2 i q k d ls dv))
          -∗ wp frame (wpE (defs₀ (F := F)) Variants.none c none) Set.univ rest K))
      ⊢ wp frame (wpE (defs₀ (F := F)) Variants.none c none) Set.univ (stepDiagIf i arg3 harg3 arg4 harg4 arg5 harg5 arg6 harg6 arg7 harg7 arg8 harg8 arg9 harg9 arg10 harg10 arg11 harg11 arg12 harg12 arg13 harg13 rest) K := by
  unfold stepDiagIf dq2 dk2 dv2
  rcases Classical.em (k0_cond4 i = 1#1) with h | h
  · simp only [dif_pos h, if_pos h]; exact stepDiag_spec c i arg3 harg3 arg4 harg4 arg5 harg5 arg6 harg6 arg7 harg7 arg8 harg8 arg9 harg9 arg10 harg10 arg11 harg11 arg12 harg12 arg13 harg13 h q k v d dl ls dq dk dv rest K
  · simp only [dif_neg h, if_neg h]
    iintro ⟨H3, H4, H5, H6, H7, H8, H9, H12, H13, Hk⟩
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H12]; · iexact H12
    iexact H13

/-- The accumulators, stored where the last query tile of a key tile is done. -/
@[irreducible] def flushIf (i : grid0.Coords) (arg10 : Memref sig .tc .vmem S4x512x256 .bf16) (harg10 : arg10.IsWhole) (arg11 : Memref sig .tc .vmem S4x512x128 .bf16) (harg11 : arg11.IsWhole) (arg12 : Memref sig .tc .vmem S4x512x256 .f32) (harg12 : arg12.IsWhole) (arg13 : Memref sig .tc .vmem S4x512x128 .f32) (harg13 : arg13.IsWhole) (rest : Prog (TpuEff nD τ sig (Elt F) Λ₀ .tc) PUnit) : Prog (TpuEff nD τ sig (Elt F) Λ₀ .tc) PUnit :=
  if h : k0_cond5 i = 1#1 then flush arg10 harg10 arg11 harg11 arg12 harg12 arg13 harg13 rest else rest
/-- What it does. -/
theorem flush_if (c : Dev nD) (i : grid0.Coords) (arg10 : Memref sig .tc .vmem S4x512x256 .bf16) (harg10 : arg10.IsWhole) (arg11 : Memref sig .tc .vmem S4x512x128 .bf16) (harg11 : arg11.IsWhole) (arg12 : Memref sig .tc .vmem S4x512x256 .f32) (harg12 : arg12.IsWhole) (arg13 : Memref sig .tc .vmem S4x512x128 .f32) (harg13 : arg13.IsWhole) (x : Vec F S4x512x256 .bf16) (y : Vec F S4x512x128 .bf16) (a : Vec F S4x512x256 .f32) (b : Vec F S4x512x128 .f32) (rest : Prog (TpuEff nD τ sig (Elt F) Λ₀ .tc) PUnit) (K : PUnit → sProp 𝕄) :
    iprop(owns (c : Thread nD τ) arg10 fullShare x ∗ owns (c : Thread nD τ) arg11 fullShare y ∗ owns (c : Thread nD τ) arg12 fullShare a ∗ owns (c : Thread nD τ) arg13 fullShare b
        ∗ (iprop(owns (c : Thread nD τ) arg10 fullShare (dkOut i a x) ∗ owns (c : Thread nD τ) arg11 fullShare (dvOut i b y) ∗ owns (c : Thread nD τ) arg12 fullShare a ∗ owns (c : Thread nD τ) arg13 fullShare b)
          -∗ wp frame (wpE (defs₀ (F := F)) Variants.none c none) Set.univ rest K))
      ⊢ wp frame (wpE (defs₀ (F := F)) Variants.none c none) Set.univ (flushIf i arg10 harg10 arg11 harg11 arg12 harg12 arg13 harg13 rest) K := by
  unfold flushIf dkOut dvOut
  rcases Classical.em (k0_cond5 i = 1#1) with h | h
  · simp only [dif_pos h, if_pos h]; exact flush_spec c arg10 harg10 arg11 harg11 arg12 harg12 arg13 harg13 x y a b rest K
  · simp only [dif_neg h, if_neg h]
    iintro ⟨H10, H11, H12, H13, Hk⟩
    iapply Hk
    isplitl [H10]; · iexact H10
    isplitl [H11]; · iexact H11
    isplitl [H12]; · iexact H12
    iexact H13

/-! ## What the body leaves -/

section Step
variable (i : grid0.Coords) (q : Vec F S4x512x256 .bf16) (k : Vec F S4x512x256 .bf16) (v : Vec F S4x512x128 .bf16)
    (d : Vec F S512x512 .f32) (dl : Vec F S4x1x512 .f32) (ls : Vec F S4x1x512 .f32)

/-- The query gradient after a grid point. -/
def dqStep (dq : Vec F S4x4096x256 .f32) : Vec F S4x4096x256 .f32 := dq2 i q k v d dl ls (dq1 i q k v d dl ls (dq0 i dq))
/-- The key gradient's accumulator after a grid point. -/
def dkStep (dk : Vec F S4x512x256 .f32) : Vec F S4x512x256 .f32 := dk2 i q k v d dl ls (dk1 i q k v d dl ls (dk0 i dk))
/-- The value gradient's accumulator after a grid point. -/
def dvStep (dv : Vec F S4x512x128 .f32) : Vec F S4x512x128 .f32 := dv2 i q k d ls (dv1 i q k d ls (dv0 i dv))
end Step

/-- The five optional arms, one after the other. -/
@[irreducible] def bodyArms (i : grid0.Coords) (arg3 : Memref sig .tc .vmem S4x512x256 .bf16) (harg3 : arg3.IsWhole) (arg4 : Memref sig .tc .vmem S4x512x256 .bf16) (harg4 : arg4.IsWhole) (arg5 : Memref sig .tc .vmem S4x512x128 .bf16) (harg5 : arg5.IsWhole) (arg6 : Memref sig .tc .vmem S512x512 .f32) (harg6 : arg6.IsWhole) (arg7 : Memref sig .tc .vmem S4x1x512 .f32) (harg7 : arg7.IsWhole) (arg8 : Memref sig .tc .vmem S4x1x512 .f32) (harg8 : arg8.IsWhole) (arg9 : Memref sig .tc .vmem S4x4096x256 .f32) (harg9 : arg9.IsWhole) (arg10 : Memref sig .tc .vmem S4x512x256 .bf16) (harg10 : arg10.IsWhole) (arg11 : Memref sig .tc .vmem S4x512x128 .bf16) (harg11 : arg11.IsWhole) (arg12 : Memref sig .tc .vmem S4x512x256 .f32) (harg12 : arg12.IsWhole) (arg13 : Memref sig .tc .vmem S4x512x128 .f32) (harg13 : arg13.IsWhole) : Prog (TpuEff nD τ sig (Elt F) Λ₀ .tc) PUnit :=
    resetAccIf i arg12 harg12 arg13 harg13 (resetDqIf i arg9 harg9 (stepOffIf i arg3 harg3 arg4 harg4 arg5 harg5 arg6 harg6 arg7 harg7 arg8 harg8 arg9 harg9 arg10 harg10 arg11 harg11 arg12 harg12 arg13 harg13 (stepDiagIf i arg3 harg3 arg4 harg4 arg5 harg5 arg6 harg6 arg7 harg7 arg8 harg8 arg9 harg9 arg10 harg10 arg11 harg11 arg12 harg12 arg13 harg13 (flushIf i arg10 harg10 arg11 harg11 arg12 harg12 arg13 harg13 (pure ⟨⟩)))))

/-- The body is its five optional arms. -/
theorem body_arms (i : grid0.Coords) (arg3 : Memref sig .tc .vmem S4x512x256 .bf16) (harg3 : arg3.IsWhole) (arg4 : Memref sig .tc .vmem S4x512x256 .bf16) (harg4 : arg4.IsWhole) (arg5 : Memref sig .tc .vmem S4x512x128 .bf16) (harg5 : arg5.IsWhole) (arg6 : Memref sig .tc .vmem S512x512 .f32) (harg6 : arg6.IsWhole) (arg7 : Memref sig .tc .vmem S4x1x512 .f32) (harg7 : arg7.IsWhole) (arg8 : Memref sig .tc .vmem S4x1x512 .f32) (harg8 : arg8.IsWhole) (arg9 : Memref sig .tc .vmem S4x4096x256 .f32) (harg9 : arg9.IsWhole) (arg10 : Memref sig .tc .vmem S4x512x256 .bf16) (harg10 : arg10.IsWhole) (arg11 : Memref sig .tc .vmem S4x512x128 .bf16) (harg11 : arg11.IsWhole) (arg12 : Memref sig .tc .vmem S4x512x256 .f32) (harg12 : arg12.IsWhole) (arg13 : Memref sig .tc .vmem S4x512x128 .f32) (harg13 : arg13.IsWhole) : cc0_mla_bwd (F := F) i arg3 harg3 arg4 harg4 arg5 harg5 arg6 harg6 arg7 harg7 arg8 harg8 arg9 harg9 arg10 harg10 arg11 harg11 arg12 harg12 arg13 harg13 = bodyArms i arg3 harg3 arg4 harg4 arg5 harg5 arg6 harg6 arg7 harg7 arg8 harg8 arg9 harg9 arg10 harg10 arg11 harg11 arg12 harg12 arg13 harg13 :=
  by unfold bodyArms resetAccIf resetDqIf stepOffIf stepDiagIf flushIf; exact body_eq i arg3 harg3 arg4 harg4 arg5 harg5 arg6 harg6 arg7 harg7 arg8 harg8 arg9 harg9 arg10 harg10 arg11 harg11 arg12 harg12 arg13 harg13

/-- The whole body at a grid point. -/
theorem body_spec (c : Dev nD) (i : grid0.Coords) (arg3 : Memref sig .tc .vmem S4x512x256 .bf16) (harg3 : arg3.IsWhole) (arg4 : Memref sig .tc .vmem S4x512x256 .bf16) (harg4 : arg4.IsWhole) (arg5 : Memref sig .tc .vmem S4x512x128 .bf16) (harg5 : arg5.IsWhole) (arg6 : Memref sig .tc .vmem S512x512 .f32) (harg6 : arg6.IsWhole) (arg7 : Memref sig .tc .vmem S4x1x512 .f32) (harg7 : arg7.IsWhole) (arg8 : Memref sig .tc .vmem S4x1x512 .f32) (harg8 : arg8.IsWhole) (arg9 : Memref sig .tc .vmem S4x4096x256 .f32) (harg9 : arg9.IsWhole) (arg10 : Memref sig .tc .vmem S4x512x256 .bf16) (harg10 : arg10.IsWhole) (arg11 : Memref sig .tc .vmem S4x512x128 .bf16) (harg11 : arg11.IsWhole) (arg12 : Memref sig .tc .vmem S4x512x256 .f32) (harg12 : arg12.IsWhole) (arg13 : Memref sig .tc .vmem S4x512x128 .f32) (harg13 : arg13.IsWhole)
    (q : Vec F S4x512x256 .bf16) (k : Vec F S4x512x256 .bf16) (v : Vec F S4x512x128 .bf16)
    (d : Vec F S512x512 .f32) (dl : Vec F S4x1x512 .f32) (ls : Vec F S4x1x512 .f32)
    (dq : Vec F S4x4096x256 .f32) (dk : Vec F S4x512x256 .f32) (dv : Vec F S4x512x128 .f32) (x : Vec F S4x512x256 .bf16) (y : Vec F S4x512x128 .bf16) (K : PUnit → sProp 𝕄) :
    iprop(owns (c : Thread nD τ) arg3 fullShare q ∗ owns (c : Thread nD τ) arg4 fullShare k ∗ owns (c : Thread nD τ) arg5 fullShare v ∗ owns (c : Thread nD τ) arg6 fullShare d ∗ owns (c : Thread nD τ) arg7 fullShare dl ∗ owns (c : Thread nD τ) arg8 fullShare ls ∗ owns (c : Thread nD τ) arg9 fullShare dq ∗ owns (c : Thread nD τ) arg10 fullShare x ∗ owns (c : Thread nD τ) arg11 fullShare y ∗ owns (c : Thread nD τ) arg12 fullShare dk ∗ owns (c : Thread nD τ) arg13 fullShare dv
        ∗ (iprop(owns (c : Thread nD τ) arg3 fullShare q ∗ owns (c : Thread nD τ) arg4 fullShare k ∗ owns (c : Thread nD τ) arg5 fullShare v ∗ owns (c : Thread nD τ) arg6 fullShare d ∗ owns (c : Thread nD τ) arg7 fullShare dl ∗ owns (c : Thread nD τ) arg8 fullShare ls ∗ owns (c : Thread nD τ) arg9 fullShare (dqStep i q k v d dl ls dq) ∗ owns (c : Thread nD τ) arg10 fullShare (dkOut i (dkStep i q k v d dl ls dk) x) ∗ owns (c : Thread nD τ) arg11 fullShare (dvOut i (dvStep i q k d ls dv) y) ∗ owns (c : Thread nD τ) arg12 fullShare (dkStep i q k v d dl ls dk) ∗ owns (c : Thread nD τ) arg13 fullShare (dvStep i q k d ls dv))
          -∗ K ⟨⟩))
      ⊢ wp frame (wpE (defs₀ (F := F)) Variants.none c none) Set.univ (bodyArms (F := F) i arg3 harg3 arg4 harg4 arg5 harg5 arg6 harg6 arg7 harg7 arg8 harg8 arg9 harg9 arg10 harg10 arg11 harg11 arg12 harg12 arg13 harg13) K := by
  unfold bodyArms
  iintro ⟨H3, H4, H5, H6, H7, H8, H9, H10, H11, H12, H13, Hk⟩
  iapply (resetAcc_if c i arg12 harg12 arg13 harg13 dk dv _ K)
  isplitl [H12]; · iexact H12
  isplitl [H13]; · iexact H13
  iintro ⟨H12, H13⟩
  iapply (resetDq_if c i arg9 harg9 dq _ K)
  isplitl [H9]; · iexact H9
  iintro ⟨H9⟩
  iapply (stepOff_if c i arg3 harg3 arg4 harg4 arg5 harg5 arg6 harg6 arg7 harg7 arg8 harg8 arg9 harg9 arg10 harg10 arg11 harg11 arg12 harg12 arg13 harg13 q k v d dl ls _ _ _ _ K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H12]; · iexact H12
  isplitl [H13]; · iexact H13
  iintro ⟨H3, H4, H5, H6, H7, H8, H9, H12, H13⟩
  iapply (stepDiag_if c i arg3 harg3 arg4 harg4 arg5 harg5 arg6 harg6 arg7 harg7 arg8 harg8 arg9 harg9 arg10 harg10 arg11 harg11 arg12 harg12 arg13 harg13 q k v d dl ls _ _ _ _ K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H12]; · iexact H12
  isplitl [H13]; · iexact H13
  iintro ⟨H3, H4, H5, H6, H7, H8, H9, H12, H13⟩
  iapply (flush_if c i arg10 harg10 arg11 harg11 arg12 harg12 arg13 harg13 x y _ _ _ K)
  isplitl [H10]; · iexact H10
  isplitl [H11]; · iexact H11
  isplitl [H12]; · iexact H12
  isplitl [H13]; · iexact H13
  iintro ⟨H10, H11, H12, H13⟩
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.KernelIdeal.Hand

end
-- ==== Proof.Run.lean ====
module

public import proofs.«01_k».proof.Proof.Body
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.FrameBody
public import Idealize.ShloMosaic.Lib.Tactic

@[expose] public section
set_option maxRecDepth 16384

noncomputable section

namespace Cert.KernelIdeal.Hand

open Cert.Heads Cert.Tiles Cert.KernelIdeal Cert.KernelIdeal.Gen
open Idealize.ShloMosaic Idealize.ShloMosaic.TcCoe Idealize.ShloMosaic.Tactic

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The blocks a grid point reads -/

/-- The query tile at a grid point, of the four heads of its group. -/
def qB (c : Dev nD) (t : Fin cfg0.N) : Vec F S4x512x256 .bf16 := iblk m c 0 t
/-- The key tile. -/
def kB (c : Dev nD) (t : Fin cfg0.N) : Vec F S4x512x256 .bf16 := iblk m c 1 t
/-- The value tile. -/
def vB (c : Dev nD) (t : Fin cfg0.N) : Vec F S4x512x128 .bf16 := iblk m c 2 t
/-- The rows of the attention's cotangent, the four heads side by side. -/
def doB (c : Dev nD) (t : Fin cfg0.N) : Vec F S512x512 .f32 := iblk m c 3 t
/-- The rows' sums of cotangent times output. -/
def dlB (c : Dev nD) (t : Fin cfg0.N) : Vec F S4x1x512 .f32 := iblk m c 4 t
/-- The rows' log-sums. -/
def lsB (c : Dev nD) (t : Fin cfg0.N) : Vec F S4x1x512 .f32 := iblk m c 5 t

/-! ## What the three accumulators hold before each grid point -/

/-- The query gradient of the group and the two accumulators before point `n`. -/
def st (c : Dev nD) : ℕ → Vec F S4x4096x256 .f32 × Vec F S4x512x256 .f32 × Vec F S4x512x128 .f32
  | 0 => (k0_pay3 (F := F), k0_pay1 (F := F), k0_pay2 (F := F))
  | n + 1 =>
    if h : n < cfg0.N then
      (dqStep (grid0.coords ⟨n, h⟩) (qB m c ⟨n, h⟩) (kB m c ⟨n, h⟩) (vB m c ⟨n, h⟩) (doB m c ⟨n, h⟩) (dlB m c ⟨n, h⟩) (lsB m c ⟨n, h⟩) (st c n).1,
       dkStep (grid0.coords ⟨n, h⟩) (qB m c ⟨n, h⟩) (kB m c ⟨n, h⟩) (vB m c ⟨n, h⟩) (doB m c ⟨n, h⟩) (dlB m c ⟨n, h⟩) (lsB m c ⟨n, h⟩) (st c n).2.1,
       dvStep (grid0.coords ⟨n, h⟩) (qB m c ⟨n, h⟩) (kB m c ⟨n, h⟩) (doB m c ⟨n, h⟩) (lsB m c ⟨n, h⟩) (st c n).2.2)
    else st c n

theorem st_succ (c : Dev nD) (t : Fin cfg0.N) : st m c (t.val + 1) =
      (dqStep (grid0.coords t) (qB m c t) (kB m c t) (vB m c t) (doB m c t) (dlB m c t) (lsB m c t) (st m c t.val).1,
       dkStep (grid0.coords t) (qB m c t) (kB m c t) (vB m c t) (doB m c t) (dlB m c t) (lsB m c t) (st m c t.val).2.1,
       dvStep (grid0.coords t) (qB m c t) (kB m c t) (doB m c t) (lsB m c t) (st m c t.val).2.2) := by
  rw [st, dif_pos t.isLt]

/-- The two accumulators' buffers. -/
abbrev acc0 : Memref sig .tc .vmem S4x512x256 .f32 := Memref.whole cc0_scratch0
abbrev acc1 : Memref sig .tc .vmem S4x512x128 .f32 := Memref.whole cc0_scratch1

/-- Between grid points: the two accumulators hold what `st` says once the first point is done. -/
def Inv (c : Dev nD) (n : ℕ) : sProp 𝕄 :=
  iprop((∃ a, ∃ b, ⌜n ≠ 0 → a = (st m c n).2.1 ∧ b = (st m c n).2.2⌝ ∗ owns (c : Thread nD τ) acc0 fullShare a ∗ owns (c : Thread nD τ) acc1 fullShare b)
    ∗ ∃ r, prngReg c r)

/-- The proof data of the one launch. -/
def dats (_ : Fin 1) (c : Dev nD) : Dat τ (Elt F) Unit ℕ (UR sig nD τ) ℕ cfg0 c where
  A w := V m c (Pipeline.arrRef spec0 w)
  after w t := match w with
    | ⟨0, _⟩ => qB m c t
    | ⟨1, _⟩ => kB m c t
    | ⟨2, _⟩ => vB m c t
    | ⟨3, _⟩ => doB m c t
    | ⟨4, _⟩ => dlB m c t
    | ⟨5, _⟩ => lsB m c t
    | ⟨6, _⟩ => (st m c (t.val + 1)).1
    | ⟨7, _⟩ => k0_pay9 (st m c (t.val + 1)).2.1
    | ⟨8, _⟩ => k0_pay10 (st m c (t.val + 1)).2.2
  Φ t := Inv m c t.val
  q _ := fullShare
  owed _ := 0

theorem A_eq (c : Dev nD) (w : Fin cfg0.W) : (dats m 0 c).A w = V m c (Pipeline.arrRef spec0 w) := by dsimp only [dats]
theorem Phi_eq (c : Dev nD) (t : Fin (cfg0.N + 1)) : (dats m 0 c).Φ t = Inv m c t.val := by dsimp only [dats]
theorem after0_0 (c : Dev nD) (t : Fin cfg0.N) : (dats m 0 c).after 0 t = qB m c t := by dsimp only [dats]
theorem after0_1 (c : Dev nD) (t : Fin cfg0.N) : (dats m 0 c).after 1 t = kB m c t := by dsimp only [dats]
theorem after0_2 (c : Dev nD) (t : Fin cfg0.N) : (dats m 0 c).after 2 t = vB m c t := by dsimp only [dats]
theorem after0_3 (c : Dev nD) (t : Fin cfg0.N) : (dats m 0 c).after 3 t = doB m c t := by dsimp only [dats]
theorem after0_4 (c : Dev nD) (t : Fin cfg0.N) : (dats m 0 c).after 4 t = dlB m c t := by dsimp only [dats]
theorem after0_5 (c : Dev nD) (t : Fin cfg0.N) : (dats m 0 c).after 5 t = lsB m c t := by dsimp only [dats]
theorem after0_6 (c : Dev nD) (t : Fin cfg0.N) : (dats m 0 c).after 6 t = (st m c (t.val + 1)).1 := by dsimp only [dats]
theorem after0_7 (c : Dev nD) (t : Fin cfg0.N) : (dats m 0 c).after 7 t = k0_pay9 (st m c (t.val + 1)).2.1 := by dsimp only [dats]
theorem after0_8 (c : Dev nD) (t : Fin cfg0.N) : (dats m 0 c).after 8 t = k0_pay10 (st m c (t.val + 1)).2.2 := by dsimp only [dats]

theorem before0_0 (c : Dev nD) (t : Fin cfg0.N) (d) : (dats m 0 c).before 0 t d = qB m c t := before0_0_of m (dats m 0 c) (A_eq m c 0) (after0_0 m c) t d
theorem before0_1 (c : Dev nD) (t : Fin cfg0.N) (d) : (dats m 0 c).before 1 t d = kB m c t := before0_1_of m (dats m 0 c) (A_eq m c 1) (after0_1 m c) t d
theorem before0_2 (c : Dev nD) (t : Fin cfg0.N) (d) : (dats m 0 c).before 2 t d = vB m c t := before0_2_of m (dats m 0 c) (A_eq m c 2) (after0_2 m c) t d
theorem before0_3 (c : Dev nD) (t : Fin cfg0.N) (d) : (dats m 0 c).before 3 t d = doB m c t := before0_3_of m (dats m 0 c) (A_eq m c 3) (after0_3 m c) t d
theorem before0_4 (c : Dev nD) (t : Fin cfg0.N) (d) : (dats m 0 c).before 4 t d = dlB m c t := before0_4_of m (dats m 0 c) (A_eq m c 4) (after0_4 m c) t d
theorem before0_5 (c : Dev nD) (t : Fin cfg0.N) (d) : (dats m 0 c).before 5 t d = lsB m c t := before0_5_of m (dats m 0 c) (A_eq m c 5) (after0_5 m c) t d

/-! ## Facts of the grid -/

/-- A grid point of its three numbers. -/
def coords3 (a : Fin 2) (p : Fin 4) (u : Fin 9) : grid0.Coords := fun k => match k with
  | ⟨0, _⟩ => a
  | ⟨1, _⟩ => p
  | ⟨2, _⟩ => u
theorem coords3_eq (i : grid0.Coords) : coords3 (i 0) (i 1) (i 2) = i := by
  funext k
  match k with
  | ⟨0, _⟩ => rfl
  | ⟨1, _⟩ => rfl
  | ⟨2, _⟩ => rfl

/-- Every grid point takes a step, so the query gradient's buffer is never passed over. -/
theorem live6 : ∀ i : grid0.Coords, idle0 6 i = false := by
  have h : ∀ (a : Fin 2) (p : Fin 4) (u : Fin 9), idle0 6 (coords3 a p u) = false := by decide +kernel
  intro i
  exact (congrArg (idle0 6) (coords3_eq i)).symm.trans (h _ _ _)
/-- A group of heads starts on the diagonal. -/
theorem start_zero : ∀ t : Fin grid0.N, t.val % 36 = 0 → k0_cond2 (grid0.coords t) = 1#1 ∧ k0_cond4 (grid0.coords t) = 1#1 := by
  decide +kernel
/-- The key and value gradients are written back only where they have just been stored. -/
theorem flush_store7 : ∀ t : Fin grid0.N, win0_7.flush t = true → k0_cond5 (grid0.coords t) = 1#1 := by
  decide +kernel
theorem flush_store8 : ∀ t : Fin grid0.N, win0_8.flush t = true → k0_cond5 (grid0.coords t) = 1#1 := by
  decide +kernel

/-- Where the query gradient is not zeroed, its buffer holds what the point before left. -/
theorem before0_6 (c : Dev nD) (t : Fin cfg0.N) (ht : t.val % 36 ≠ 0) (d) : (dats m 0 c).before 6 t d = (st m c t.val).1 := by
  have h0 : t.val ≠ 0 := fun h => ht (by rw [h])
  have hf : (cfg0.win 6).flush ⟨t.val - 1, Nat.lt_of_le_of_lt (Nat.sub_le _ _) t.isLt⟩ = false := by
    rw [Bool.eq_false_iff]; intro h; have := (flush0_6 _).mp h; dsimp only at this; omega
  rw [(dats m 0 c).before_out_kept 6 rfl t h0 hf live6 (fun _ _ => rfl) d, after0_6]
  dsimp only
  rw [Nat.sub_add_cancel (Nat.pos_of_ne_zero h0)]

/-- The step of the query gradient at a point, from what its buffer holds there. -/
theorem dq_step (c : Dev nD) (t : Fin cfg0.N) (d) :
    dqStep (grid0.coords t) (qB m c t) (kB m c t) (vB m c t) (doB m c t) (dlB m c t) (lsB m c t) ((dats m 0 c).before 6 t d) = (st m c (t.val + 1)).1 := by
  rw [st_succ]
  by_cases ht : t.val % 36 = 0
  · have h := (start_zero t ht).1
    have e : ∀ x : Vec F S4x4096x256 .f32, dq0 (grid0.coords t) x = k0_pay3 (F := F) := fun x => by unfold dq0; exact if_pos h
    unfold dqStep; rw [e, e]
  · rw [before0_6 m c t ht]

theorem dk_step (c : Dev nD) (t : Fin cfg0.N) (a : Vec F S4x512x256 .f32) (ha : t.val ≠ 0 → a = (st m c t.val).2.1) :
    dkStep (grid0.coords t) (qB m c t) (kB m c t) (vB m c t) (doB m c t) (dlB m c t) (lsB m c t) a = (st m c (t.val + 1)).2.1 := by
  rw [st_succ]
  by_cases ht : t.val = 0
  · have h := (start_zero t (by rw [ht])).2
    have e : ∀ x : Vec F S4x512x256 .f32, dk0 (grid0.coords t) x = k0_pay1 (F := F) := fun x => by unfold dk0; exact if_pos h
    dsimp only
    unfold dkStep; rw [e, e]
  · rw [ha ht]

theorem dv_step (c : Dev nD) (t : Fin cfg0.N) (b : Vec F S4x512x128 .f32) (hb : t.val ≠ 0 → b = (st m c t.val).2.2) :
    dvStep (grid0.coords t) (qB m c t) (kB m c t) (doB m c t) (lsB m c t) b = (st m c (t.val + 1)).2.2 := by
  rw [st_succ]
  by_cases ht : t.val = 0
  · have h := (start_zero t (by rw [ht])).2
    have e : ∀ x : Vec F S4x512x128 .f32, dv0 (grid0.coords t) x = k0_pay2 (F := F) := fun x => by unfold dv0; exact if_pos h
    dsimp only
    unfold dvStep; rw [e, e]
  · rw [hb ht]

/-! ## One grid point of the launch -/

/-- What a grid point's body is given. -/
def bodyPre (c : Dev nD) (t : Fin cfg0.N) : sProp 𝕄 :=
  iprop(Inv m c t.val ∗ (dats m 0 c).owesAt () t.castSucc
    ∗ owns (c : Thread nD τ) (st0_0 t) fullShare (qB m c t) ∗ owns (c : Thread nD τ) (st0_1 t) fullShare (kB m c t)
    ∗ owns (c : Thread nD τ) (st0_2 t) fullShare (vB m c t) ∗ owns (c : Thread nD τ) (st0_3 t) fullShare (doB m c t)
    ∗ owns (c : Thread nD τ) (st0_4 t) fullShare (dlB m c t) ∗ owns (c : Thread nD τ) (st0_5 t) fullShare (lsB m c t)
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it leaves. -/
def bodyPost (c : Dev nD) (t : Fin cfg0.N) : sProp 𝕄 :=
  iprop(Inv m c (t.val + 1) ∗ (dats m 0 c).owesAt () t.succ
    ∗ owns (c : Thread nD τ) (st0_0 t) fullShare (qB m c t) ∗ owns (c : Thread nD τ) (st0_1 t) fullShare (kB m c t)
    ∗ owns (c : Thread nD τ) (st0_2 t) fullShare (vB m c t) ∗ owns (c : Thread nD τ) (st0_3 t) fullShare (doB m c t)
    ∗ owns (c : Thread nD τ) (st0_4 t) fullShare (dlB m c t) ∗ owns (c : Thread nD τ) (st0_5 t) fullShare (lsB m c t)
    ∗ owns (c : Thread nD τ) (st0_6 t) fullShare (st m c (t.val + 1)).1
    ∗ (∃ d, owns (c : Thread nD τ) (st0_7 t) fullShare (dkOut (grid0.coords t) (st m c (t.val + 1)).2.1 ((dats m 0 c).before 7 t d)))
    ∗ (∃ d, owns (c : Thread nD τ) (st0_8 t) fullShare (dvOut (grid0.coords t) (st m c (t.val + 1)).2.2 ((dats m 0 c).before 8 t d))))

/-- A grid point's body, kept folded. -/
@[irreducible] def bodyT (t : Fin cfg0.N) : Prog (TpuEff nD τ sig (Elt F) Λ₀ .tc) PUnit := bodyAt0 t

theorem sound_body (c : Dev nD) (t : Fin cfg0.N) :
    bodyPre m c t ⊢ wp frame (wpE (defs₀ (F := F)) Variants.none c none) Set.univ (bodyT t) (fun _ => bodyPost m c t) := by
  unfold bodyPre bodyPost bodyT bodyAt0 Inv
  rw [body_arms]
  unfold Dat.owesAt Pipeline.owesWithin
  rw [show (dats m 0 c).owed t.castSucc = 0 from rfl, show (dats m 0 c).owed t.succ = 0 from rfl]
  iintro ⟨⟨⟨%a, %b, %hab, HA, HB⟩, Hg⟩, HW, H0, H1, H2, H3, H4, H5, ⟨%d6, H6⟩, ⟨%d7, H7⟩, ⟨%d8, H8⟩⟩
  iapply (body_spec c (grid0.coords t) _ _ _ _ _ _ _ _ _ _ _ _ _ _ _ _ _ _ _ _ _ _ (qB m c t) (kB m c t) (vB m c t) (doB m c t) (dlB m c t) (lsB m c t)
    ((dats m 0 c).before 6 t d6) a b ((dats m 0 c).before 7 t d7) ((dats m 0 c).before 8 t d8) _)
  rw [dq_step m c t d6, dk_step m c t a (fun h => (hab h).1), dv_step m c t b (fun h => (hab h).2)]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HA]; · iexact HA
  isplitl [HB]; · iexact HB
  iintro ⟨H0, H1, H2, H3, H4, H5, H6, H7, H8, HA, HB⟩
  isplitl [HA HB Hg]
  · isplitl [HA HB]
    · iexists _; iexists _
      isplitr; swap
      · isplitl [HA]; · iexact HA
        iexact HB
      ipureintro; exact fun _ => ⟨rfl, rfl⟩
    iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8

attribute [local irreducible] k0_cond2 k0_cond3 k0_cond4 k0_cond5 Pipeline.Window.flush

theorem not_beq_of_eq {a b : BitVec 1} (h : a = b) : (!(a == b)) = false := by rw [beq_iff_eq.mpr h]; rfl
theorem not_beq_of_ne {a b : BitVec 1} (h : ¬ a = b) : (!(a == b)) = true := by rw [beq_eq_false_iff_ne.mpr h]; rfl
theorem idle7_of (i : grid0.Coords) (h : k0_cond5 i = 1#1) : idle0 7 i = false := not_beq_of_eq (a := k0_cond5 i) (b := 1#1) h
theorem idle7_not (i : grid0.Coords) (h : ¬ k0_cond5 i = 1#1) : idle0 7 i = true := not_beq_of_ne (a := k0_cond5 i) (b := 1#1) h
theorem idle8_of (i : grid0.Coords) (h : k0_cond5 i = 1#1) : idle0 8 i = false := not_beq_of_eq (a := k0_cond5 i) (b := 1#1) h
theorem idle8_not (i : grid0.Coords) (h : ¬ k0_cond5 i = 1#1) : idle0 8 i = true := not_beq_of_ne (a := k0_cond5 i) (b := 1#1) h

/-- What is left in the key gradient's buffer is what the launch asks for: the stored tile where one is stored, else what was there. -/
theorem left7 (c : Dev nD) (t : Fin cfg0.N) :
    iprop(∃ d, owns (c : Thread nD τ) (st0_7 t) fullShare (dkOut (grid0.coords t) (st m c (t.val + 1)).2.1 ((dats m 0 c).before 7 t d)))
      ⊢ (match cfg0.idle 7 (cfg0.grid.coords t) with
        | true => match (cfg0.win 7).flush t with
          | false => iprop(∃ d, owns (c : Thread nD τ) (st0_7 t) fullShare ((dats m 0 c).before 7 t d))
          | true => owns (c : Thread nD τ) (st0_7 t) fullShare ((dats m 0 c).after 7 t)
        | false => owns (c : Thread nD τ) (st0_7 t) fullShare ((dats m 0 c).after 7 t) : sProp 𝕄) := by
  rcases Classical.em (k0_cond5 (grid0.coords t) = 1#1) with h | h
  · rw [show cfg0.idle 7 (cfg0.grid.coords t) = false from idle7_of _ h, after0_7]
    dsimp only
    simp only [show ∀ (a : Vec F S4x512x256 .f32) x, dkOut (grid0.coords t) a x = k0_pay9 a from fun a x => by unfold dkOut; exact if_pos h]
    iintro ⟨%d, H⟩; iexact H
  · rw [show cfg0.idle 7 (cfg0.grid.coords t) = true from idle7_not _ h,
      show (cfg0.win 7).flush t = false from Bool.eq_false_iff.mpr fun hf => h (flush_store7 t hf)]
    dsimp only
    simp only [show ∀ (a : Vec F S4x512x256 .f32) x, dkOut (grid0.coords t) a x = x from fun a x => by unfold dkOut; exact if_neg h]
    exact .rfl
/-- The same of the value gradient's. -/
theorem left8 (c : Dev nD) (t : Fin cfg0.N) :
    iprop(∃ d, owns (c : Thread nD τ) (st0_8 t) fullShare (dvOut (grid0.coords t) (st m c (t.val + 1)).2.2 ((dats m 0 c).before 8 t d)))
      ⊢ (match cfg0.idle 8 (cfg0.grid.coords t) with
        | true => match (cfg0.win 8).flush t with
          | false => iprop(∃ d, owns (c : Thread nD τ) (st0_8 t) fullShare ((dats m 0 c).before 8 t d))
          | true => owns (c : Thread nD τ) (st0_8 t) fullShare ((dats m 0 c).after 8 t)
        | false => owns (c : Thread nD τ) (st0_8 t) fullShare ((dats m 0 c).after 8 t) : sProp 𝕄) := by
  rcases Classical.em (k0_cond5 (grid0.coords t) = 1#1) with h | h
  · rw [show cfg0.idle 8 (cfg0.grid.coords t) = false from idle8_of _ h, after0_8]
    dsimp only
    simp only [show ∀ (a : Vec F S4x512x128 .f32) x, dvOut (grid0.coords t) a x = k0_pay10 a from fun a x => by unfold dvOut; exact if_pos h]
    iintro ⟨%d, H⟩; iexact H
  · rw [show cfg0.idle 8 (cfg0.grid.coords t) = true from idle8_not _ h,
      show (cfg0.win 8).flush t = false from Bool.eq_false_iff.mpr fun hf => h (flush_store8 t hf)]
    dsimp only
    simp only [show ∀ (a : Vec F S4x512x128 .f32) x, dvOut (grid0.coords t) a x = x from fun a x => by unfold dvOut; exact if_neg h]
    exact .rfl

theorem defs₀_row (t : Fin cfg0.N) : defs₀ (F := F) .tc cfg0.body (cfg0.bodyArgs t (cfg0.slots t)) = bodyT t := by
  unfold defs₀ bodyT; rw [Defs.onTc_tc]

theorem body_obligation (c : Dev nD) : BodyObligation (dats (F := F) m 0 c) (defs₀ (F := F)) Variants.none () Set.univ := fun t => by
  rw [bigSep_W0, bigSep_W0, defs₀_row]
  refine triple_restated (sound_body m c t) rfl ?_ fun _ => ?_
  · unfold bodyPre
    rw [Phi_eq, Fin.val_castSucc]
    simp only [before0_0, before0_1, before0_2, before0_3, before0_4, before0_5]
    iintro ⟨HI, HW, ⟨%d0, H0⟩, ⟨%d1, H1⟩, ⟨%d2, H2⟩, ⟨%d3, H3⟩, ⟨%d4, H4⟩, ⟨%d5, H5⟩, H6, H7, H8⟩
    isplitl [HI]; · iexact HI
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · unfold bodyPost
    rw [show cfg0.idle 6 (cfg0.grid.coords t) = false from live6 _]
    rw [Phi_eq, Fin.val_succ, after0_0, after0_1, after0_2, after0_3, after0_4, after0_5, after0_6]
    iintro ⟨HI, HW, H0, H1, H2, H3, H4, H5, H6, H7, H8⟩
    isplitl [HI]; · iexact HI
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (left7 m c t); iexact H7
    iapply (left8 m c t); iexact H8

/-! ## The run and the frame -/

theorem inv_in (c : Dev nD) : Pipeline.ΦA (Val := Elt F) (U := UR sig nD τ) spec0 c ⊢ Inv m c 0 := by
  unfold Pipeline.ΦA Inv acc0 acc1
  rw [scopedRest0_eq]
  simp only [owns_whole]
  iintro ⟨⟨⟨%a, HA⟩, ⟨%b, HB⟩⟩, Hg⟩
  isplitl [HA HB]
  · iexists a; iexists b
    isplitr; · ipureintro; exact fun h => absurd rfl h
    isplitl [HA]; · iexact HA
    iexact HB
  iexact Hg

theorem inv_out (c : Dev nD) (n : ℕ) : Inv m c n ⊢ Pipeline.ΦA (Val := Elt F) (U := UR sig nD τ) spec0 c := by
  unfold Pipeline.ΦA Inv acc0 acc1
  rw [scopedRest0_eq]
  simp only [owns_whole]
  iintro ⟨⟨%a, %b, -, HA, HB⟩, Hg⟩
  isplitl [HA HB]
  · isplitl [HA]; · iexists a; iexact HA
    iexists b; iexact HB
  iexact Hg

attribute [local irreducible] Pipeline.BodyObligation Pipeline.BodyObligationLoose

theorem loose (c : Dev nD) : Pipeline.BodyObligationLoose (dats (F := F) m 0 c) (defs₀ (F := F)) Variants.none () Set.univ :=
  Pipeline.BodyObligation.loose (dats m 0 c) (body_obligation m c)
theorem share_full (c : Dev nD) (w : Fin cfg0.W) : (dats m 0 c).share w = fullShare := (dats m 0 c).share_full (fun _ => rfl) w
theorem owed_zero (c : Dev nD) (t : Fin (cfg0.N + 1)) : (dats m 0 c).owed t = 0 := by dsimp only [dats]
theorem inv_first (c : Dev nD) : Pipeline.ΦA (Val := Elt F) (U := UR sig nD τ) spec0 c ⊢ (dats m 0 c).Φ 0 := by
  rw [Phi_eq]; exact inv_in m c
theorem inv_last (c : Dev nD) : (dats m 0 c).Φ (Fin.last cfg0.N) ⊢ Pipeline.ΦA (Val := Elt F) (U := UR sig nD τ) spec0 c := by
  rw [Phi_eq]; exact inv_out m c _

set_option backward.isDefEq.respectTransparency.types false in
/-- From any memory with its counters at zero the program ends, and each result array holds what the launch's points left; the counters end at zero. -/
theorem run_main : θ_run defs (onTc (τ := τ) (main (F := F))) (s₀ m ρ) (fun r => Pipeline.FramePost cfgs (dats m) 0 (V m) r ∧ r.2.sem = fun _ => 0) :=
  Pipeline.θ_run_frame_track (Q' := fun r => Pipeline.FramePost cfgs (dats m) 0 (V m) r ∧ r.2.sem = fun _ => 0) (hQ' := fun _ h => h) cfgs (dats m) (0 : Fin 1) launch0 defs₀ Variants.none m ρ main
    (hbody := loose m) (hshare := share_full m) (howed := owed_zero m) (V := V m) (hmain := hmain m Variants.none) (hA := A_eq m)
    (hin := inv_first m) (hout := inv_last m)

/-- The program ends with its arguments as they were and its counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).1 3).trans (((dats m 0 c).arrAt_in 3 rfl _).trans ((A_eq m c 3).trans (V_main_arg5 m c)))⟩, h.2⟩) (run_main m ρ)

end Cert.KernelIdeal.Hand

end
-- ==== Proof.Attn.lean ====
/-
  The attention of one layer over the real numbers: its masked softmax and the gradients' formulas.
-/
module

public import Idealize.ShloMosaic.Lib.Pointwise
public import Idealize.ShloMosaic.Lib.ValueIdx

@[expose] public section

noncomputable section

namespace Cert.Attn

open Idealize.ShloMosaic

/-- A finite sum of real numbers, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One over the root of the head width. -/
def c192 : ℝ := (Real.sqrt 192)⁻¹

/-- The column of the output's gradient that holds element `e` of head `h`. -/
def col (h : Fin 8) (e : Fin 128) : Fin 2048 := ⟨1024 + 128 * h.val + e.val, by omega⟩

/-- The arguments as real numbers: the queries' and the keys' two parts, the values and the output's gradient. -/
structure Args where
  qn : Fin 4096 → Fin 8 → Fin 128 → ℝ
  qr : Fin 4096 → Fin 8 → Fin 64 → ℝ
  kn : Fin 4096 → Fin 8 → Fin 128 → ℝ
  kr : Fin 4096 → Fin 64 → ℝ
  v : Fin 4096 → Fin 8 → Fin 128 → ℝ
  d : Fin 4096 → Fin 8 → Fin 128 → ℝ

/-- The arrays hold these numbers. -/
structure Args.Is (A : Args) (x0 : (⟨3, ![4096, 8, 128]⟩ : Shape).Idx → EReal) (x1 : (⟨3, ![4096, 8, 64]⟩ : Shape).Idx → EReal)
    (x2 : (⟨3, ![4096, 8, 128]⟩ : Shape).Idx → EReal) (x3 : (⟨2, ![4096, 64]⟩ : Shape).Idx → EReal)
    (x4 : (⟨3, ![4096, 8, 128]⟩ : Shape).Idx → EReal) (x5 : (⟨2, ![4096, 2048]⟩ : Shape).Idx → EReal) : Prop where
  qn : ∀ q h e, x0 (ix3 q h e) = ((A.qn q h e : ℝ) : EReal)
  qr : ∀ q h e, x1 (ix3 q h e) = ((A.qr q h e : ℝ) : EReal)
  kn : ∀ q h e, x2 (ix3 q h e) = ((A.kn q h e : ℝ) : EReal)
  kr : ∀ q e, x3 (ix2 q e) = ((A.kr q e : ℝ) : EReal)
  v : ∀ q h e, x4 (ix3 q h e) = ((A.v q h e : ℝ) : EReal)
  d : ∀ q h e, x5 (ix2 q (col h e)) = ((A.d q h e : ℝ) : EReal)

namespace Args
variable (A : Args) (h : Fin 8) (q k : Fin 4096)

/-- The scaled score of key `k` for query `q`. -/
def S : ℝ := ((∑ e, A.qn q h e * A.kn k h e) + ∑ e, A.qr q h e * A.kr k e) * c192
/-- The same, `-∞` for a later key. -/
def Sx : EReal := if k ≤ q then ((A.S h q k : ℝ) : EReal) else ⊥
/-- The row's greatest score. -/
def M : ℝ := (Finset.univ.fold max ⊥ (A.Sx h q)).toReal
/-- The exponential of the score above the greatest. -/
def X : ℝ := if k ≤ q then Real.exp (A.S h q k - A.M h q) else 0
/-- The row's sum of them. -/
def Z : ℝ := ∑ k, A.X h q k
/-- The attention's weight. -/
def W : ℝ := A.X h q k / A.Z h q
/-- The weight's gradient. -/
def dW : ℝ := ∑ e, A.d q h e * A.v k h e
/-- The row's mean of the weights' gradients. -/
def mean : ℝ := ∑ k, A.W h q k * A.dW h q k
/-- The gradient of the score before its scale. -/
def G : ℝ := A.W h q k * (A.dW h q k - A.mean h q) * c192

/-- A query's 256 lanes: its two parts, the second twice. -/
def lq (x : Fin 256) : ℝ := if h1 : x.val < 128 then A.qn q h ⟨x.val, h1⟩ else if h2 : x.val - 128 < 64 then A.qr q h ⟨x.val - 128, h2⟩ else A.qr q h ⟨x.val - 128 - 64, by omega⟩
/-- A key's 256 lanes: its two parts, then zeros. -/
def lk (x : Fin 256) : ℝ := if h1 : x.val < 128 then A.kn k h ⟨x.val, h1⟩ else if h2 : x.val - 128 < 64 then A.kr k ⟨x.val - 128, h2⟩ else 0

theorem M_coe : Finset.univ.fold max ⊥ (A.Sx h q) = ((A.M h q : ℝ) : EReal) := by
  refine (EReal.coe_toReal ?_ ?_).symm
  · refine ne_of_lt ((Finset.fold_max_lt _).mpr ⟨bot_lt_top, fun k _ => ?_⟩)
    unfold Sx
    split
    · exact EReal.coe_lt_top _
    · exact bot_lt_top
  · refine ne_of_gt ((Finset.lt_fold_max _).mpr (Or.inr ⟨q, Finset.mem_univ _, ?_⟩))
    unfold Sx
    rw [if_pos le_rfl]
    exact EReal.bot_lt_coe _

theorem X_nonneg : 0 ≤ A.X h q k := by
  unfold X; split
  · exact (Real.exp_pos _).le
  · exact le_rfl
theorem Z_pos : 0 < A.Z h q := by
  refine Finset.sum_pos' (fun k _ => A.X_nonneg h q k) ⟨q, Finset.mem_univ _, ?_⟩
  unfold X; rw [if_pos le_rfl]; exact Real.exp_pos _
theorem Z_ne : A.Z h q ≠ 0 := (A.Z_pos h q).ne'

/-- The exponential of the masked score over the extended reals. -/
theorem exp_Sx : A.Sx h q k - ((A.M h q : ℝ) : EReal) = if k ≤ q then ((A.S h q k - A.M h q : ℝ) : EReal) else ⊥ := by
  unfold Sx; split
  · rw [EReal.coe_sub]
  · exact EReal.bot_sub _

/-- A sum over the 256 lanes. -/
theorem sum_lanes (f : Fin 256 → ℝ) : ∑ x, f x = (∑ e : Fin 128, f ⟨e.val, by omega⟩) + (∑ e : Fin 64, f ⟨128 + e.val, by omega⟩) + ∑ e : Fin 64, f ⟨192 + e.val, by omega⟩ := by
  show ∑ x : Fin (128 + 64 + 64), f x = _
  rw [Fin.sum_univ_add, Fin.sum_univ_add]
  rfl

/-- The lanes' inner product is the score before its scale. -/
theorem lanes : (∑ x, A.lk h k x * A.lq h q x) * c192 = A.S h q k := by
  rw [sum_lanes]
  unfold S
  congr 1
  have e1 : ∀ e : Fin 128, A.lk h k ⟨e.val, by omega⟩ * A.lq h q ⟨e.val, by omega⟩ = A.qn q h e * A.kn k h e := fun e => by
    unfold lk lq
    rw [dif_pos e.isLt, dif_pos e.isLt, mul_comm]
  have e2 : ∀ e : Fin 64, A.lk h k ⟨128 + e.val, by omega⟩ * A.lq h q ⟨128 + e.val, by omega⟩ = A.qr q h e * A.kr k e := fun e => by
    unfold lk lq
    rw [dif_neg (by show ¬ 128 + e.val < 128; omega), dif_pos (by show 128 + e.val - 128 < 64; omega), dif_neg (by show ¬ 128 + e.val < 128; omega), dif_pos (by show 128 + e.val - 128 < 64; omega), mul_comm]
    simp only [Nat.add_sub_cancel_left]
  have e3 : ∀ e : Fin 64, A.lk h k ⟨192 + e.val, by omega⟩ * A.lq h q ⟨192 + e.val, by omega⟩ = 0 := fun e => by
    unfold lk
    rw [dif_neg (by show ¬ 192 + e.val < 128; omega), dif_neg (by show ¬ 192 + e.val - 128 < 64; omega), zero_mul]
  simp only [e1, e2, e3, Finset.sum_const_zero, add_zero]

/-- The weight from the row's log-sum. -/
theorem W_log (hkq : k ≤ q) : Real.exp (A.S h q k - (A.M h q + Real.log (A.Z h q))) = A.W h q k := by
  unfold W X
  rw [if_pos hkq, ← sub_sub, Real.exp_sub, Real.exp_log (A.Z_pos h q)]
theorem W_late (hkq : ¬ k ≤ q) : A.W h q k = 0 := by
  unfold W X
  rw [if_neg hkq, zero_div]

/-- The mean of the gradients, from the attention's output. -/
theorem mean_out : ∑ e, A.d q h e * (∑ k, A.W h q k * A.v k h e) = A.mean h q := by
  unfold mean dW
  simp only [Finset.mul_sum]
  rw [Finset.sum_comm]
  refine Finset.sum_congr rfl fun k _ => Finset.sum_congr rfl fun e _ => by ring
end Args
end Cert.Attn
-- ==== Proof.Words.lean ====
/-
  The words and operations of both programs, over the reals.
-/
module

public import proofs.«01_k».proof.Proof.Attn
public import Idealize.ShloMosaic.Lib.Pointwise
public import Idealize.ShloMosaic.Lib.WordCmp

@[expose] public section

noncomputable section

namespace Cert.Attn
open Idealize.ShloMosaic

theorem word_bot : Ideal.ofBits .f32 0xFF800000#32 = (⊥ : EReal) := by simp [Ideal.ofBits, Ideal.ieee]
theorem word_192 : Ideal.ofBits .f32 0x43400000#32 = ((192 : ℝ) : EReal) := by
  simp [Ideal.ofBits, Ideal.ieee]
  rw [← EReal.coe_mul]
  norm_num
theorem rsqrt_192 : Ideal.rsqrt (Ideal.ofBits .f32 0x43400000#32) = ((c192 : ℝ) : EReal) := by
  rw [word_192, Ideal.rsqrt_coe, if_neg (by norm_num), if_neg (by norm_num)]; rfl
theorem div_real (a : ℝ) {b : ℝ} (hb : b ≠ 0) : Ideal.div (a : EReal) (b : EReal) = ((a / b : ℝ) : EReal) := by
  unfold Ideal.div
  rw [if_neg (by exact_mod_cast hb), div_eq_mul_inv, EReal.coe_mul, EReal.coe_inv]
theorem le_word (k q : Fin 4096) : IntOp.cmpi CmpIPredicate.sle (BitVec.ofNat 32 k.val) (BitVec.ofNat 32 q.val) = BitVec.ofBool (decide (k ≤ q)) := by
  rw [WordCmp.cmpi_sle_ofNat (by omega) (by omega)]
  rfl

end Cert.Attn
-- ==== Proof.RefVal.lean ====
/-
  The reference program's results, over the reals.
-/
module

public import proofs.«01_k».proof.Proof.Gen.ReferenceIdeal.Read
public import proofs.«01_k».proof.Proof.Words

@[expose] public section
set_option maxRecDepth 16384

noncomputable section

namespace Cert.Attn
open Idealize.ShloMosaic

namespace Args
variable (A : Args) (h : Fin 8) (q k : Fin 4096)

/-- The softmax's gradient as the quotient rule gives it. -/
theorem quot : (A.dW h q k / A.Z h q + -∑ j, A.dW h q j * (1 / (A.Z h q * A.Z h q)) * A.X h q j) * A.X h q k = A.W h q k * (A.dW h q k - A.mean h q) := by
  have hz := A.Z_ne h q
  have e : A.mean h q = A.Z h q * ∑ j, A.dW h q j * (1 / (A.Z h q * A.Z h q)) * A.X h q j := by
    unfold mean W
    rw [Finset.mul_sum]
    refine Finset.sum_congr rfl fun j _ => ?_
    field_simp
  rw [e]
  generalize (∑ j, A.dW h q j * (1 / (A.Z h q * A.Z h q)) * A.X h q j) = s
  unfold W
  field_simp
  ring
end Args
end Cert.Attn

namespace Cert.ReferenceIdeal.Read
open Cert.ReferenceIdeal Cert.Attn
open Idealize.ShloMosaic

variable {A : Args} {x0 : (⟨S4096x8x128, .f32⟩ : BufTy).Contents (Elt Ideal)} {x1 : (⟨S4096x8x64, .f32⟩ : BufTy).Contents (Elt Ideal)}
  {x2 : (⟨S4096x8x128, .f32⟩ : BufTy).Contents (Elt Ideal)} {x3 : (⟨S4096x64, .f32⟩ : BufTy).Contents (Elt Ideal)}
  {x4 : (⟨S4096x8x128, .f32⟩ : BufTy).Contents (Elt Ideal)} {x5 : (⟨S4096x2048, .f32⟩ : BufTy).Contents (Elt Ideal)}
  (H : A.Is x0 x1 x2 x3 x4 x5) (h : Fin 8) (q k : Fin 4096)

theorem mask_at : val_main_v17_1 (F := Ideal) (ix3 h q k) = BitVec.ofBool (decide (k ≤ q)) := by
  pointwise [val_main_v17_1, val_main_v16, val_main_v15, val_main_v14, val_main_v13, val_main_v12, val_main_v11, val_main_v10]
  exact le_word k q

theorem rope_at (e : Fin 64) : val_main_v3 (F := Ideal) x3 (ix3 k h e) = x3 (ix2 k e) := by
  pointwise [val_main_v3, val_main_v2]

theorem score_at : val_main_v17_0 (F := Ideal) x0 x1 x2 x3 (ix3 h q k)
    = if k ≤ q then (∑ x, x0 (ix3 q h x) * x2 (ix3 k h x) + ∑ x, x1 (ix3 q h x) * x3 (ix2 k x)) * ((c192 : ℝ) : EReal) else ⊥ := by
  have e : val_main_v17_0 (F := Ideal) x0 x1 x2 x3 (ix3 h q k)
      = Scalar.select (val_main_v17_1 (F := Ideal) (ix3 h q k)) ((∑ x, x0 (ix3 q h x) * x2 (ix3 k h x) + ∑ x, x1 (ix3 q h x) * x3 (ix2 k x)) * ((c192 : ℝ) : EReal)) ⊥ := by
    unfold val_main_v17_0
    generalize val_main_v17_1 (F := Ideal) = mk
    pointwise [val_main_v9, val_main_v8, val_main_v7, val_main_cst, val_main_v6, val_main_v5, val_main_v4, val_main_v3, val_main_v2, val_main_call0_v2, val_main_call0_v0, val_main_cst_0]
    rw [rsqrt_192]
    show Scalar.select _ _ (Ideal.ofBits .f32 0xFF800000#32) = _
    rw [word_bot]
  rw [e, mask_at, WordCmp.select_ofBool]
  simp only [decide_eq_true_eq]

theorem max_at : val_main_v18 (F := Ideal) x0 x1 x2 x3 (ix2 h q) = Finset.fold max ⊥ (fun k => val_main_v17_0 (F := Ideal) x0 x1 x2 x3 (ix3 h q k)) Finset.univ := by
  unfold val_main_v18
  generalize val_main_v17_0 (F := Ideal) x0 x1 x2 x3 = s
  pointwise [val_main_cst_1]
  rw [word_bot]

theorem low_at (i : S8x4096.Idx) : val_main_v24 (F := Ideal) i = (⊥ : EReal) := by
  rw [val_main_v24_apply, val_main_cst_3_apply]
  exact word_bot
theorem top_at (i : S8x4096.Idx) : val_main_v25 (F := Ideal) x0 x1 x2 x3 i = max ⊥ (val_main_v18 (F := Ideal) x0 x1 x2 x3 i) := by
  rw [val_main_v25_apply, low_at]
  rfl

theorem exp_at : val_main_v38 (F := Ideal) x0 x1 x2 x3 (ix3 h q k)
    = Ideal.exp (val_main_v17_0 (F := Ideal) x0 x1 x2 x3 (ix3 h q k) - max ⊥ (val_main_v18 (F := Ideal) x0 x1 x2 x3 (ix2 h q))) := by
  rw [← top_at]
  unfold val_main_v38 val_main_v37 val_main_v36 val_main_v35
  generalize val_main_v25 (F := Ideal) x0 x1 x2 x3 = z
  generalize val_main_v17_0 (F := Ideal) x0 x1 x2 x3 = s
  pointwise []

theorem sum_at : val_main_v39 (F := Ideal) x0 x1 x2 x3 (ix2 h q) = ∑ k, val_main_v38 (F := Ideal) x0 x1 x2 x3 (ix3 h q k) := by
  unfold val_main_v39
  generalize val_main_v38 (F := Ideal) x0 x1 x2 x3 = s
  pointwise [val_main_cst_9]

theorem wt_at : val_main_v42 (F := Ideal) x0 x1 x2 x3 (ix3 h q k)
    = Ideal.div (val_main_v38 (F := Ideal) x0 x1 x2 x3 (ix3 h q k)) (val_main_v39 (F := Ideal) x0 x1 x2 x3 (ix2 h q)) := by
  unfold val_main_v42 val_main_v41 val_main_v40
  generalize val_main_v39 (F := Ideal) x0 x1 x2 x3 = z
  generalize val_main_v38 (F := Ideal) x0 x1 x2 x3 = s
  pointwise []

theorem out_word (e : Fin 128) (p : 1024 + (h.val * 128 + e.val) < 2048) : val_main_v48 (F := Ideal) x5 (ix3 h e q) = x5 (ix2 q ⟨1024 + (h.val * 128 + e.val), p⟩) := by
  pointwise [val_main_v48, val_main_v1, val_main_v0]
theorem out_at (e : Fin 128) : val_main_v48 (F := Ideal) x5 (ix3 h e q) = x5 (ix2 q (col h e)) := by
  rw [out_word h q e (by omega), show (⟨1024 + (h.val * 128 + e.val), by omega⟩ : Fin 2048) = col h e from Fin.ext (by unfold col; dsimp only; omega)]

theorem dwt_at : val_main_v49 (F := Ideal) x4 x5 (ix3 h q k) = ∑ e, val_main_v48 (F := Ideal) x5 (ix3 h e q) * x4 (ix3 k h e) := by
  unfold val_main_v49
  generalize val_main_v48 (F := Ideal) x5 = d
  pointwise []

theorem dv_at (e : Fin 128) : val_main_v82 (F := Ideal) x0 x1 x2 x3 x5 (ix3 h k e)
    = ∑ q, val_main_v48 (F := Ideal) x5 (ix3 h e q) * val_main_v42 (F := Ideal) x0 x1 x2 x3 (ix3 h q k) := by
  unfold val_main_v82 val_main_v81 val_main_v51 val_main_v50
  generalize val_main_v48 (F := Ideal) x5 = d
  generalize val_main_v42 (F := Ideal) x0 x1 x2 x3 = w
  pointwise []

theorem sq_at : val_main_v55 (F := Ideal) x0 x1 x2 x3 x4 x5 (ix2 h q)
    = ∑ k, val_main_v49 (F := Ideal) x4 x5 (ix3 h q k) * Ideal.div ((1 : ℝ) : EReal) (val_main_v39 (F := Ideal) x0 x1 x2 x3 (ix2 h q) * val_main_v39 (F := Ideal) x0 x1 x2 x3 (ix2 h q))
        * val_main_v38 (F := Ideal) x0 x1 x2 x3 (ix3 h q k) := by
  unfold val_main_v55 val_main_v54 val_main_v53 val_main_v52 val_main_v45 val_main_v43 val_main_v40
  generalize val_main_v39 (F := Ideal) x0 x1 x2 x3 = z
  generalize val_main_v38 (F := Ideal) x0 x1 x2 x3 = s
  generalize val_main_v49 (F := Ideal) x4 x5 = w
  pointwise [val_main_v44, val_main_cst_10, val_main_cst_11]
  rfl

theorem ds_at : val_main_v66 (F := Ideal) x0 x1 x2 x3 x4 x5 (ix3 h q k)
    = (if k ≤ q then (Ideal.div (val_main_v49 (F := Ideal) x4 x5 (ix3 h q k)) (val_main_v39 (F := Ideal) x0 x1 x2 x3 (ix2 h q)) + -val_main_v55 (F := Ideal) x0 x1 x2 x3 x4 x5 (ix2 h q))
        * val_main_v38 (F := Ideal) x0 x1 x2 x3 (ix3 h q k) else 0) * ((c192 : ℝ) : EReal) := by
  have e : val_main_v66 (F := Ideal) x0 x1 x2 x3 x4 x5 (ix3 h q k)
      = Scalar.select (val_main_v17_1 (F := Ideal) (ix3 h q k)) ((Ideal.div (val_main_v49 (F := Ideal) x4 x5 (ix3 h q k)) (val_main_v39 (F := Ideal) x0 x1 x2 x3 (ix2 h q)) + -val_main_v55 (F := Ideal) x0 x1 x2 x3 x4 x5 (ix2 h q))
        * val_main_v38 (F := Ideal) x0 x1 x2 x3 (ix3 h q k)) 0 * ((c192 : ℝ) : EReal) := by
    unfold val_main_v66 val_main_v64 val_main_v63 val_main_v62 val_main_v61 val_main_v60 val_main_v59 val_main_v58 val_main_v57 val_main_v56 val_main_v40
    generalize val_main_v55 (F := Ideal) x0 x1 x2 x3 x4 x5 = y
    generalize val_main_v39 (F := Ideal) x0 x1 x2 x3 = z
    generalize val_main_v38 (F := Ideal) x0 x1 x2 x3 = s
    generalize val_main_v49 (F := Ideal) x4 x5 = w
    generalize val_main_v17_1 (F := Ideal) = mk
    pointwise [val_main_v65, val_main_v7, val_main_cst, val_main_call1_v0, val_main_call1_cst, val_main_cst_12]
    rw [rsqrt_192]
    simp only [Finset.univ_unique, Finset.sum_singleton]
  rw [e, mask_at, WordCmp.select_ofBool]
  simp only [decide_eq_true_eq]

theorem dq_at (x : Fin 256) : val_main_v77 (F := Ideal) x0 x1 x2 x3 x4 x5 (ix3 h q x)
    = if h1 : x.val < 128 then ∑ k, val_main_v66 (F := Ideal) x0 x1 x2 x3 x4 x5 (ix3 h q k) * x2 (ix3 k h ⟨x.val, h1⟩)
      else if h2 : x.val - 128 < 64 then ∑ k, val_main_v66 (F := Ideal) x0 x1 x2 x3 x4 x5 (ix3 h q k) * x3 (ix2 k ⟨x.val - 128, h2⟩) else 0 := by
  unfold val_main_v77 val_main_v76 val_main_v74 val_main_v73 val_main_v70 val_main_v69
  generalize val_main_v66 (F := Ideal) x0 x1 x2 x3 x4 x5 = g
  pointwise [val_main_v3, val_main_v2, val_main_v75, val_main_cst_13]

theorem dk_at (x : Fin 256) : val_main_v80 (F := Ideal) x0 x1 x2 x3 x4 x5 (ix3 h k x)
    = if h1 : x.val < 128 then ∑ q, val_main_v66 (F := Ideal) x0 x1 x2 x3 x4 x5 (ix3 h q k) * x0 (ix3 q h ⟨x.val, h1⟩)
      else if h2 : x.val - 128 < 64 then ∑ q, val_main_v66 (F := Ideal) x0 x1 x2 x3 x4 x5 (ix3 h q k) * x1 (ix3 q h ⟨x.val - 128, h2⟩)
      else ∑ q, val_main_v66 (F := Ideal) x0 x1 x2 x3 x4 x5 (ix3 h q k) * x1 (ix3 q h ⟨x.val - 128 - 64, by omega⟩) := by
  unfold val_main_v80 val_main_v79 val_main_v78 val_main_v72 val_main_v71 val_main_v68 val_main_v67
  generalize val_main_v66 (F := Ideal) x0 x1 x2 x3 x4 x5 = g
  pointwise []

/-! ## Over the reals -/

include H
theorem score_real : val_main_v17_0 (F := Ideal) x0 x1 x2 x3 (ix3 h q k) = A.Sx h q k := by
  rw [score_at]
  simp only [H.qn, H.qr, H.kn, H.kr, ← EReal.coe_mul, ← coe_sum, ← EReal.coe_add]
  rfl
theorem max_real : val_main_v18 (F := Ideal) x0 x1 x2 x3 (ix2 h q) = ((A.M h q : ℝ) : EReal) := by
  rw [max_at]
  simp only [score_real H]
  exact A.M_coe h q
theorem exp_real : val_main_v38 (F := Ideal) x0 x1 x2 x3 (ix3 h q k) = ((A.X h q k : ℝ) : EReal) := by
  rw [exp_at, score_real H, max_real H, max_eq_right bot_le, Args.exp_Sx]
  unfold Args.X
  split
  · rw [Ideal.exp_coe]
  · rw [Ideal.exp_bot]; rfl
theorem sum_real : val_main_v39 (F := Ideal) x0 x1 x2 x3 (ix2 h q) = ((A.Z h q : ℝ) : EReal) := by
  rw [sum_at]
  simp only [exp_real H, ← coe_sum]
  rfl
theorem wt_real : val_main_v42 (F := Ideal) x0 x1 x2 x3 (ix3 h q k) = ((A.W h q k : ℝ) : EReal) := by
  rw [wt_at, exp_real H, sum_real H, div_real _ (A.Z_ne h q)]
  rfl
theorem dwt_real : val_main_v49 (F := Ideal) x4 x5 (ix3 h q k) = ((A.dW h q k : ℝ) : EReal) := by
  rw [dwt_at]
  simp only [out_at, H.d, H.v, ← EReal.coe_mul, ← coe_sum]
  rfl
theorem sq_real : val_main_v55 (F := Ideal) x0 x1 x2 x3 x4 x5 (ix2 h q) = ((∑ j, A.dW h q j * (1 / (A.Z h q * A.Z h q)) * A.X h q j : ℝ) : EReal) := by
  rw [sq_at]
  simp only [dwt_real H, sum_real H, exp_real H, ← EReal.coe_mul, div_real _ (mul_ne_zero (A.Z_ne h q) (A.Z_ne h q)), ← coe_sum]
theorem ds_real : val_main_v66 (F := Ideal) x0 x1 x2 x3 x4 x5 (ix3 h q k) = ((A.G h q k : ℝ) : EReal) := by
  rw [ds_at, dwt_real H, sum_real H, sq_real H, exp_real H, div_real _ (A.Z_ne h q), ← EReal.coe_neg, ← EReal.coe_add, ← EReal.coe_mul, A.quot]
  unfold Args.G
  split
  · rw [← EReal.coe_mul]
  · rename_i hkq
    rw [A.W_late h q k hkq, zero_mul, zero_mul, zero_mul]; rfl
theorem dv_real (e : Fin 128) : val_main_v82 (F := Ideal) x0 x1 x2 x3 x5 (ix3 h k e) = ((∑ q, A.W h q k * A.d q h e : ℝ) : EReal) := by
  rw [dv_at]
  simp only [out_at, H.d, wt_real H, ← EReal.coe_mul, ← coe_sum]
  congr 1
  exact Finset.sum_congr rfl fun q _ => mul_comm _ _
theorem dq_real (x : Fin 256) : val_main_v77 (F := Ideal) x0 x1 x2 x3 x4 x5 (ix3 h q x) = ((∑ k, A.G h q k * A.lk h k x : ℝ) : EReal) := by
  rw [dq_at]
  unfold Args.lk
  simp only [ds_real H, H.kn, H.kr, ← EReal.coe_mul, ← coe_sum]
  split
  · rfl
  · split
    · rfl
    · simp
theorem dk_real (x : Fin 256) : val_main_v80 (F := Ideal) x0 x1 x2 x3 x4 x5 (ix3 h k x) = ((∑ q, A.G h q k * A.lq h q x : ℝ) : EReal) := by
  rw [dk_at]
  unfold Args.lq
  simp only [ds_real H, H.qn, H.qr, ← EReal.coe_mul, ← coe_sum]
  split
  · rfl
  · split
    · rfl
    · rfl
end Cert.ReferenceIdeal.Read
-- ==== Proof.Host.lean ====
/-
  What the host computes ahead of the kernel: the arrays its windows read, as functions of the arguments.
-/
module

public import proofs.«01_k».proof.Proof.Run
public import Idealize.ShloMosaic.Lib.StableHlo.Run

@[expose] public section
set_option maxRecDepth 16384

noncomputable section

namespace Cert.KernelIdeal.Hand

open Cert.KernelIdeal Cert.KernelIdeal.Gen
open Idealize.ShloMosaic Idealize.ShloMosaic.TcCoe

section
variable {F : FTy → Type} [FloatOps F] [Named F]

/-- The queries: both parts of each head, the second part twice. -/
def hQ (x0 : (⟨S4096x8x128, .f32⟩ : BufTy).Contents (Elt F)) (x1 : (⟨S4096x8x64, .f32⟩ : BufTy).Contents (Elt F)) :
    (⟨S8x4096x256, .bf16⟩ : BufTy).Contents (Elt F) :=
  truncf .bf16 (transpose S8x4096x256 [1, 0, 2] (concatenate S4096x8x256 2 [⟨S4096x8x128, x0⟩, ⟨S4096x8x64, x1⟩, ⟨S4096x8x64, x1⟩] concatenates_S4096x8x128_S4096x8x64_S4096x8x64_S4096x8x256_d2 : (⟨S4096x8x256, .f32⟩ : BufTy).Contents (Elt F)) transposes_S4096x8x256_S8x4096x256_1_0_2) bitsLt_bf16_f32
/-- The keys' second part, the same for every head. -/
def hR (x3 : (⟨S4096x64, .f32⟩ : BufTy).Contents (Elt F)) : (⟨S4096x8x64, .f32⟩ : BufTy).Contents (Elt F) :=
  broadcastInDim S4096x8x64 ![0, 1, 2] bcast_S4096x1x64_S4096x8x64_0_1_2 (broadcastInDim S4096x1x64 ![0, 2] bcast_S4096x64_S4096x1x64_0_2 x3)
/-- The keys: both parts of each head, then zeros. -/
def hK (x2 : (⟨S4096x8x128, .f32⟩ : BufTy).Contents (Elt F)) (x3 : (⟨S4096x64, .f32⟩ : BufTy).Contents (Elt F)) :
    (⟨S8x4096x256, .bf16⟩ : BufTy).Contents (Elt F) :=
  truncf .bf16 (transpose S8x4096x256 [1, 0, 2] (concatenate S4096x8x256 2 [⟨S4096x8x128, x2⟩, ⟨S4096x8x64, hR x3⟩, ⟨S4096x8x64, broadcastInDim S4096x8x64 ![] bcast_S_S4096x8x64 (constant S_ .f32 0x00000000#32)⟩] concatenates_S4096x8x128_S4096x8x64_S4096x8x64_S4096x8x256_d2 : (⟨S4096x8x256, .f32⟩ : BufTy).Contents (Elt F)) transposes_S4096x8x256_S8x4096x256_1_0_2) bitsLt_bf16_f32
/-- The values, head by head. -/
def hV (x4 : (⟨S4096x8x128, .f32⟩ : BufTy).Contents (Elt F)) : (⟨S8x4096x128, .bf16⟩ : BufTy).Contents (Elt F) :=
  truncf .bf16 (transpose S8x4096x128 [1, 0, 2] x4 transposes_S4096x8x128_S8x4096x128_1_0_2) bitsLt_bf16_f32
/-- Which keys a query sees. -/
def hMask : (⟨S8x4096x4096, .i1⟩ : BufTy).Contents (Elt F) :=
  broadcastInDim S8x4096x4096 ![0, 1, 2] bcast_S1x4096x4096_S8x4096x4096_0_1_2 (broadcastInDim S1x4096x4096 ![1, 2] bcast_S4096x4096_S1x4096x4096_1_2
    (cmpi .sle (broadcastInDim S4096x4096 ![0, 1] bcast_S1x4096_S4096x4096_0_1 (broadcastInDim S1x4096 ![1] bcast_S4096_S1x4096_1 (iotaInDim S4096 32 0 : (⟨S4096, .i32⟩ : BufTy).Contents (Elt F))))
      (broadcastInDim S4096x4096 ![0, 1] bcast_S4096x1_S4096x4096_0_1 (broadcastInDim S4096x1 ![0] bcast_S4096_S4096x1_0 (iotaInDim S4096 32 0 : (⟨S4096, .i32⟩ : BufTy).Contents (Elt F))))))
/-- The scaled scores, `-∞` where the mask is off. -/
def hS (x0 : (⟨S4096x8x128, .f32⟩ : BufTy).Contents (Elt F)) (x1 : (⟨S4096x8x64, .f32⟩ : BufTy).Contents (Elt F)) (x2 : (⟨S4096x8x128, .f32⟩ : BufTy).Contents (Elt F)) (x3 : (⟨S4096x64, .f32⟩ : BufTy).Contents (Elt F)) :
    (⟨S8x4096x4096, .f32⟩ : BufTy).Contents (Elt F) :=
  select (hMask (F := F))
    (mulf (addf (Host.dotGeneral dot_S4096x8x128_S4096x8x128_S8x4096x4096_2_2_0_0_1_1 none x0 x2) (Host.dotGeneral dot_S4096x8x64_S4096x8x64_S8x4096x4096_2_2_0_0_1_1 none x1 (hR x3)))
      (broadcastInDim S8x4096x4096 ![] bcast_S_S8x4096x4096 (Host.rsqrt (constant S_ .f32 0x43400000#32))))
    (broadcastInDim S8x4096x4096 ![] bcast_S_S8x4096x4096 (constant S_ .f32 0xFF800000#32))
/-- Each row's greatest score. -/
def hM (s : (⟨S8x4096x4096, .f32⟩ : BufTy).Contents (Elt F)) : (⟨S8x4096, .f32⟩ : BufTy).Contents (Elt F) :=
  Host.reduce FloatOps.maximumf s (constant S_ .f32 0xFF800000#32) reducesTo_S8x4096x4096_S8x4096_d2 h_S_
/-- Each row's number, along a unit axis. -/
def hCol (x : (⟨S8x4096, .f32⟩ : BufTy).Contents (Elt F)) : (⟨S8x4096x1, .f32⟩ : BufTy).Contents (Elt F) :=
  broadcastInDim S8x4096x1 ![0, 1] bcast_S8x4096_S8x4096x1_0_1 x
/-- Each row's number, along the row. -/
def hRow (x : (⟨S8x4096, .f32⟩ : BufTy).Contents (Elt F)) : (⟨S8x4096x4096, .f32⟩ : BufTy).Contents (Elt F) :=
  broadcastInDim S8x4096x4096 ![0, 1, 2] bcast_S8x4096x1_S8x4096x4096_0_1_2 (hCol x)
/-- The exponentials of the scores above the row's greatest. -/
def hE (s : (⟨S8x4096x4096, .f32⟩ : BufTy).Contents (Elt F)) (x : (⟨S8x4096, .f32⟩ : BufTy).Contents (Elt F)) : (⟨S8x4096x4096, .f32⟩ : BufTy).Contents (Elt F) :=
  Host.exp (subf s (hRow x))
/-- Each row's sum of them. -/
def hZ (e : (⟨S8x4096x4096, .f32⟩ : BufTy).Contents (Elt F)) : (⟨S8x4096, .f32⟩ : BufTy).Contents (Elt F) :=
  Host.reduceAdd e (constant S_ .f32 0x00000000#32) reducesTo_S8x4096x4096_S8x4096_d2 h_S_
/-- The attention's output of the weights. -/
def hO (e : (⟨S8x4096x4096, .f32⟩ : BufTy).Contents (Elt F)) (z : (⟨S8x4096, .f32⟩ : BufTy).Contents (Elt F)) (x4 : (⟨S4096x8x128, .f32⟩ : BufTy).Contents (Elt F)) : (⟨S8x4096x128, .f32⟩ : BufTy).Contents (Elt F) :=
  Host.dotGeneral dot_S8x4096x4096_S4096x8x128_S8x4096x128_2_0_1_2_0_1 none (Host.divf e (hRow z)) x4
/-- The output's gradient, head by head. -/
def hD (x5 : (⟨S4096x2048, .f32⟩ : BufTy).Contents (Elt F)) : (⟨S8x4096x128, .f32⟩ : BufTy).Contents (Elt F) :=
  transpose S8x4096x128 [1, 0, 2] (shapeCast S4096x8x128 (extractStridedSlice S4096x1024 ![0, 1024] x5 slices_S4096x2048_S4096x1024_0_1024) shapeCasts_S4096x1024_S4096x8x128) transposes_S4096x8x128_S8x4096x128_1_0_2
/-- Each row's inner product of the output and its gradient. -/
def hDl (d o : (⟨S8x4096x128, .f32⟩ : BufTy).Contents (Elt F)) : (⟨S8x1x4096, .f32⟩ : BufTy).Contents (Elt F) :=
  shapeCast S8x1x4096 (Host.reduceAdd (mulf d o) (constant S_ .f32 0x00000000#32) reducesTo_S8x4096x128_S8x4096_d2 h_S_) shapeCasts_S8x4096_S8x1x4096
/-- Each row's log-sum. -/
def hL (x z : (⟨S8x4096, .f32⟩ : BufTy).Contents (Elt F)) : (⟨S8x1x4096, .f32⟩ : BufTy).Contents (Elt F) :=
  shapeCast S8x1x4096 (addf (hCol x) (Host.log (hCol z))) shapeCasts_S8x4096x1_S8x1x4096

variable (m : (ℓ : Loc nD τ sig) → Buf (Elt F) ℓ) (c : Dev nD)

/-- The masked scores of the arguments, and what follows from them. -/
def mS : (⟨S8x4096x4096, .f32⟩ : BufTy).Contents (Elt F) :=
  hS (m ((c : Thread nD τ).loc main_arg0)) (m ((c : Thread nD τ).loc main_arg1)) (m ((c : Thread nD τ).loc main_arg2)) (m ((c : Thread nD τ).loc main_arg3))
def mE : (⟨S8x4096x4096, .f32⟩ : BufTy).Contents (Elt F) := hE (mS m c) (hM (mS m c))

/-! ## What the kernel finds in the arrays -/

theorem V_v37 : V m c main_v37 = hQ (m ((c : Thread nD τ).loc main_arg0)) (m ((c : Thread nD τ).loc main_arg1)) := by
  simp only [V, hostOps0, hostOps0_1, hostOps0_2, List.flatten_cons, List.flatten_nil, List.append_nil, List.cons_append, List.nil_append, StableHlo.TRef.nullary, StableHlo.TRef.ternary, StableHlo.TRef.unary, StableHlo.TRef.toBuf, StableHlo.TRef.ofBuf, cast_eq]
  after_results_simp
  rfl
theorem V_v41 : V m c main_v41 = hK (m ((c : Thread nD τ).loc main_arg2)) (m ((c : Thread nD τ).loc main_arg3)) := by
  simp only [V, hostOps0, hostOps0_1, hostOps0_2, List.flatten_cons, List.flatten_nil, List.append_nil, List.cons_append, List.nil_append, StableHlo.TRef.nullary, StableHlo.TRef.ternary, StableHlo.TRef.unary, StableHlo.TRef.toBuf, StableHlo.TRef.ofBuf, cast_eq]
  after_results_simp
  rfl
theorem V_v43 : V m c main_v43 = hV (m ((c : Thread nD τ).loc main_arg4)) := by
  simp only [V, hostOps0, hostOps0_1, hostOps0_2, List.flatten_cons, List.flatten_nil, List.append_nil, List.cons_append, List.nil_append, StableHlo.TRef.nullary, StableHlo.TRef.ternary, StableHlo.TRef.unary, StableHlo.TRef.toBuf, StableHlo.TRef.ofBuf, cast_eq]
  after_results_simp
  rfl
theorem V_arg5 : V m c main_arg5 = m ((c : Thread nD τ).loc main_arg5) := by
  simp only [V, hostOps0, hostOps0_1, hostOps0_2, List.flatten_cons, List.flatten_nil, List.append_nil, List.cons_append, List.nil_append, StableHlo.TRef.nullary, StableHlo.TRef.ternary, StableHlo.TRef.unary, StableHlo.TRef.toBuf, StableHlo.TRef.ofBuf, cast_eq]
  after_results_simp
theorem V_v30 : V m c main_v30 = hL (hM (mS m c)) (hZ (mE m c)) := by
  simp only [V, hostOps0, hostOps0_1, hostOps0_2, List.flatten_cons, List.flatten_nil, List.append_nil, List.cons_append, List.nil_append, StableHlo.TRef.nullary, StableHlo.TRef.ternary, StableHlo.TRef.unary, StableHlo.TRef.toBuf, StableHlo.TRef.ofBuf, cast_eq]
  after_results_simp
  rfl
theorem V_v34 : V m c main_v34 = hDl (hD (m ((c : Thread nD τ).loc main_arg5))) (hO (mE m c) (hZ (mE m c)) (m ((c : Thread nD τ).loc main_arg4))) := by
  simp only [V, hostOps0, hostOps0_1, hostOps0_2, List.flatten_cons, List.flatten_nil, List.append_nil, List.cons_append, List.nil_append, StableHlo.TRef.nullary, StableHlo.TRef.ternary, StableHlo.TRef.unary, StableHlo.TRef.toBuf, StableHlo.TRef.ofBuf, cast_eq]
  after_results_simp
  rfl
end
end Cert.KernelIdeal.Hand
-- ==== Proof.PayVal.lean ====
/-
  What the kernel's step computes, read at an index over the reals.
-/
module

public import proofs.«01_k».proof.Proof.Arms
public import proofs.«01_k».proof.Proof.Attn
public import Idealize.ShloMosaic.Lib.Pointwise
public import Idealize.ShloMosaic.Lib.WordCmp

@[expose] public section
set_option maxRecDepth 16384

noncomputable section

namespace Cert.KernelIdeal.Hand

open Cert.Heads Cert.Tiles Cert.Attn Cert.KernelIdeal Cert.KernelIdeal.Gen
open Idealize.ShloMosaic

theorem named_scale (b : BitVec 32) : (Named.named κ "scale" (φ := .f32) b : Ideal .f32) = ((c192 : ℝ) : EReal) := rfl
theorem named_log2e (b : BitVec 32) : (Named.named κ "log2e" (φ := .f32) b : Ideal .f32) = (((Real.log 2)⁻¹ : ℝ) : EReal) := rfl
theorem named_scale_log2e (b : BitVec 32) :
    (Named.named κ "scale_log2e" (φ := .f32) b : Ideal .f32) = ((c192 * (Real.log 2)⁻¹ : ℝ) : EReal) := rfl

/-- A power of two whose exponent carries the factor `1 / log 2`. -/
theorem two_pow (s l : ℝ) : Real.rpow 2 (s * (c192 * (Real.log 2)⁻¹) - l * (Real.log 2)⁻¹) = Real.exp (s * c192 - l) := by
  have h : Real.log 2 ≠ 0 := (Real.log_pos (by norm_num)).ne'
  rw [Real.rpow_eq_pow, Real.rpow_def_of_pos (by norm_num)]
  congr 1
  field_simp

/-! ## One head of a tile, over the reals -/

section
variable (Q K : Fin 512 → Fin 256 → ℝ) (D V : Fin 512 → Fin 128 → ℝ) (L E : Fin 512 → ℝ)

/-- The weight of key `r` for query `c`, from the row's log-sum `L`. -/
def tP (r c : Fin 512) : ℝ := Real.exp ((∑ x, K r x * Q c x) * c192 - L c)
/-- The same on a diagonal tile, where later keys have none. -/
def tPd (r c : Fin 512) : ℝ := if r ≤ c then tP Q K L r c else 0
/-- The gradient of the scores, from the weights `p`. -/
def tG (p : Fin 512 → Fin 512 → ℝ) (r c : Fin 512) : ℝ := p r c * ((∑ x, V r x * D c x) - E c) * c192
end

section
variable {q k : Vec Ideal S1x512x256 .bf16} {d : Vec Ideal S512x128 .f32} {ls dl : Vec Ideal S1x1x512 .f32} {v : Vec Ideal S1x512x128 .bf16}
  {Q K : Fin 512 → Fin 256 → ℝ} {D V : Fin 512 → Fin 128 → ℝ} {L E : Fin 512 → ℝ}
  (hq : ∀ r x, q (ix3 0 r x) = ((Q r x : ℝ) : EReal)) (hk : ∀ r x, k (ix3 0 r x) = ((K r x : ℝ) : EReal))
  (hd : ∀ r x, d (ix2 r x) = ((D r x : ℝ) : EReal)) (hv : ∀ r x, v (ix3 0 r x) = ((V r x : ℝ) : EReal))
  (hl : ∀ r, ls (ix3 0 0 r) = ((L r : ℝ) : EReal)) (he : ∀ r, dl (ix3 0 0 r) = ((E r : ℝ) : EReal))

theorem exp2_real (x : ℝ) : (FloatOps.exp2 (φ := .f32) (F := Ideal) ((x : ℝ) : EReal)) = ((Real.rpow 2 x : ℝ) : EReal) := rfl

include hq hk hl in
theorem pay14_real (r c : Fin 512) : k0_pay14 q k ls (ix2 r c) = ((tP Q K L r c : ℝ) : EReal) := by
  pointwise [k0_pay14, k0_pay12, k0_pay11]
  simp only [hq, hk, hl, named_log2e, named_scale_log2e, ← EReal.coe_mul, ← coe_sum, ← EReal.coe_sub]
  rw [exp2_real, two_pow]; rfl

include hq hk hl in
theorem pay49_real (r c : Fin 512) : k0_pay49 q k ls (ix2 r c) = ((tPd Q K L r c : ℝ) : EReal) := by
  pointwise [k0_pay49, k0_pay46, k0_pay47]
  simp only [hq, hk, hl, named_log2e, named_scale_log2e, ← EReal.coe_mul, ← coe_sum, ← EReal.coe_sub]
  rw [exp2_real, two_pow, tPd, WordCmp.cmpi_sle_ofNat (by have := r.isLt; omega) (by have := c.isLt; omega)]
  by_cases h : r ≤ c
  · rw [if_pos h, show decide (r.val ≤ c.val) = true from decide_eq_true h]; rfl
  · rw [if_neg h, show decide (r.val ≤ c.val) = false from decide_eq_false h]; rfl

include hq hk hl hd hv he in
theorem dsOff_real (r c : Fin 512) : dsOff q k d ls v dl (ix2 r c) = ((tG D V E (tP Q K L) r c : ℝ) : EReal) := by
  have e : dsOff q k d ls v dl (ix2 r c) = k0_pay14 q k ls (ix2 r c) * (∑ x, v (ix3 0 r x) * d (ix2 c x) - dl (ix3 0 0 c)) * (Named.named κ "scale" (φ := .f32) 0x3D93CD3A#32 : Ideal .f32) := by
    unfold dsOff k0_pay15
    generalize k0_pay14 q k ls = p
    pointwise [k0_pay13]
  rw [e, pay14_real hq hk hl, named_scale]
  simp only [hd, hv, he, ← EReal.coe_mul, ← coe_sum, ← EReal.coe_sub]; rfl

include hq hk hl hd hv he in
theorem dsDiag_real (r c : Fin 512) : dsDiag q k d ls v dl (ix2 r c) = ((tG D V E (tPd Q K L) r c : ℝ) : EReal) := by
  have e : dsDiag q k d ls v dl (ix2 r c) = k0_pay49 q k ls (ix2 r c) * (∑ x, v (ix3 0 r x) * d (ix2 c x) - dl (ix3 0 0 c)) * (Named.named κ "scale" (φ := .f32) 0x3D93CD3A#32 : Ideal .f32) := by
    unfold dsDiag k0_pay50
    generalize k0_pay49 q k ls = p
    pointwise [k0_pay48]
  rw [e, pay49_real hq hk hl, named_scale]
  simp only [hd, hv, he, ← EReal.coe_mul, ← coe_sum, ← EReal.coe_sub]; rfl

include hq hk hl hd in
theorem dvOff_real {a : Vec Ideal S1x512x128 .f32} {A : Fin 512 → Fin 128 → ℝ} (ha : ∀ r x, a (ix3 0 r x) = ((A r x : ℝ) : EReal)) (r : Fin 512) (x : Fin 128) :
    dvOff q k d ls a (ix3 0 r x) = ((A r x + ∑ c, tP Q K L r c * D c x : ℝ) : EReal) := by
  have e : dvOff q k d ls a (ix3 0 r x) = a (ix3 0 r x) + ∑ c, k0_pay14 q k ls (ix2 r c) * d (ix2 c x) := by
    unfold dvOff k0_pay16
    generalize k0_pay14 q k ls = p
    pointwise [k0_pay13, k0_pay17]
  rw [e]
  simp only [pay14_real hq hk hl, hd, ha, ← EReal.coe_mul, ← coe_sum, ← EReal.coe_add]

include hq hk hl hd in
theorem dvDiag_real {a : Vec Ideal S1x512x128 .f32} {A : Fin 512 → Fin 128 → ℝ} (ha : ∀ r x, a (ix3 0 r x) = ((A r x : ℝ) : EReal)) (r : Fin 512) (x : Fin 128) :
    dvDiag q k d ls a (ix3 0 r x) = ((A r x + ∑ c, tPd Q K L r c * D c x : ℝ) : EReal) := by
  have e : dvDiag q k d ls a (ix3 0 r x) = a (ix3 0 r x) + ∑ c, k0_pay49 q k ls (ix2 r c) * d (ix2 c x) := by
    unfold dvDiag
    generalize k0_pay49 q k ls = p
    pointwise [k0_pay52, k0_pay51, k0_pay48]
  rw [e]
  simp only [pay49_real hq hk hl, hd, ha, ← EReal.coe_mul, ← coe_sum, ← EReal.coe_add]

include hq in
theorem dkNew_real {ds : FVec Ideal S512x512 .bf16} {G : Fin 512 → Fin 512 → ℝ} (hg : ∀ r c, ds (ix2 r c) = ((G r c : ℝ) : EReal))
    {a : Vec Ideal S1x512x256 .f32} {A : Fin 512 → Fin 256 → ℝ} (ha : ∀ r x, a (ix3 0 r x) = ((A r x : ℝ) : EReal)) (r : Fin 512) (x : Fin 256) :
    dkNew q ds a (ix3 0 r x) = ((A r x + ∑ c, G r c * Q c x : ℝ) : EReal) := by
  have e : dkNew q ds a (ix3 0 r x) = a (ix3 0 r x) + ∑ c, ds (ix2 r c) * q (ix3 0 c x) := by
    pointwise [dkNew, k0_pay18, k0_pay11]
  rw [e]
  simp only [hg, hq, ha, ← EReal.coe_mul, ← coe_sum, ← EReal.coe_add]

include hk in
theorem dqNew_real {ds : FVec Ideal S512x512 .bf16} {G : Fin 512 → Fin 512 → ℝ} (hg : ∀ r c, ds (ix2 r c) = ((G r c : ℝ) : EReal))
    {a : Vec Ideal S1x512x256 .f32} {A : Fin 512 → Fin 256 → ℝ} (ha : ∀ r x, a (ix3 0 r x) = ((A r x : ℝ) : EReal)) (c : Fin 512) (x : Fin 256) :
    dqNew k ds a (ix3 0 c x) = ((A c x + ∑ r, G r c * K r x : ℝ) : EReal) := by
  have e : dqNew k ds a (ix3 0 c x) = a (ix3 0 c x) + ∑ r, ds (ix2 r c) * k (ix3 0 r x) := by
    pointwise [dqNew, k0_pay19, k0_pay12]
  rw [e]
  simp only [hg, hk, ha, ← EReal.coe_mul, ← coe_sum, ← EReal.coe_add]
end

end Cert.KernelIdeal.Hand

end
-- ==== Proof.TileVal.lean ====
/-
  One grid point's step on a pair of tiles of four heads, read at an index over the reals.
-/
module

public import proofs.«01_k».proof.Proof.PayVal

@[expose] public section
set_option maxRecDepth 16384

noncomputable section

namespace Cert.KernelIdeal.Hand

open Cert.Heads Cert.Tiles Cert.Attn Cert.KernelIdeal Cert.KernelIdeal.Gen
open Idealize.ShloMosaic

/-! ## Reading one head of a block -/

theorem head_ix {α : Type} {N B : ℕ} (x : (⟨3, ![4, N, B]⟩ : Shape).Idx → α) (a : Fin 4) (r : Fin N) (c : Fin B) :
    head x a (ix3 0 r c) = x (ix3 a r c) := by
  refine congrArg x (funext fun k => Fin.ext ?_)
  match k with
  | ⟨0, _⟩ => show a.val + 1 * 0 = a.val; omega
  | ⟨1, _⟩ => show 0 + 1 * r.val = r.val; omega
  | ⟨2, _⟩ => show 0 + 1 * c.val = c.val; omega

/-- The column of lane `x` of head `a` among the four heads' columns. -/
def hcol (a : Fin 4) (x : Fin 128) : Fin 512 := ⟨128 * a.val + x.val, by omega⟩

theorem headCols_ix {α : Type} (d : (⟨2, ![512, 512]⟩ : Shape).Idx → α) (a : Fin 4) (r : Fin 512) (x : Fin 128) :
    headCols d a (ix2 r x) = d (ix2 r (hcol a x)) := by
  refine congrArg d (funext fun k => Fin.ext ?_)
  match k with
  | ⟨0, _⟩ => show 0 + 1 * r.val = r.val; omega
  | ⟨1, _⟩ => show 128 * a.val + 1 * x.val = 128 * a.val + x.val; omega

theorem headRows_ix {α : Type} {N B T r0 : ℕ} (hr : r0 + T ≤ N) (d : (⟨3, ![4, N, B]⟩ : Shape).Idx → α) (a : Fin 4) (r : Fin T) (x : Fin B) :
    headRows T r0 hr d a (ix3 0 r x) = d (ix3 a ⟨r0 + r.val, by omega⟩ x) := by
  refine congrArg d (funext fun k => Fin.ext ?_)
  match k with
  | ⟨0, _⟩ => show a.val + 1 * 0 = a.val; omega
  | ⟨1, _⟩ => show r0 + 1 * r.val = r0 + r.val; omega
  | ⟨2, _⟩ => show 0 + 1 * x.val = x.val; omega

theorem at3_ix {T B : ℕ} (r : Fin T) (x : Fin B) : at3 r x = ix3 0 r x := by
  funext k
  match k with
  | ⟨0, _⟩ => rfl
  | ⟨1, _⟩ => rfl
  | ⟨2, _⟩ => rfl

theorem putHeads_in {α : Type} {N B T r0 : ℕ} (x : (⟨3, ![4, N, B]⟩ : Shape).Idx → α) (W : Fin 4 → (⟨3, ![1, T, B]⟩ : Shape).Idx → α)
    (a : Fin 4) (y : Fin N) (c : Fin B) (h : r0 ≤ y.val ∧ y.val < r0 + T) :
    putHeads T r0 x W (ix3 a y c) = W a (ix3 0 ⟨y.val - r0, by omega⟩ c) := by
  rw [← at3_ix]; unfold putHeads; exact dif_pos h
theorem putHeads_out {α : Type} {N B T r0 : ℕ} (x : (⟨3, ![4, N, B]⟩ : Shape).Idx → α) (W : Fin 4 → (⟨3, ![1, T, B]⟩ : Shape).Idx → α)
    (a : Fin 4) (y : Fin N) (c : Fin B) (h : ¬ (r0 ≤ y.val ∧ y.val < r0 + T)) :
    putHeads T r0 x W (ix3 a y c) = x (ix3 a y c) := by
  unfold putHeads; exact dif_neg h
theorem putHeads_all {α : Type} {B : ℕ} (x : (⟨3, ![4, 512, B]⟩ : Shape).Idx → α) (W : Fin 4 → (⟨3, ![1, 512, B]⟩ : Shape).Idx → α)
    (a : Fin 4) (y : Fin 512) (c : Fin B) : putHeads 512 0 x W (ix3 a y c) = W a (ix3 0 y c) := by
  rw [putHeads_in x W a y c ⟨by omega, by have := y.isLt; omega⟩]; rfl

/-! ## A pair of tiles of four heads -/

/-- The real numbers in the blocks a grid point reads. -/
structure Tile where
  Q : Fin 4 → Fin 512 → Fin 256 → ℝ
  K : Fin 4 → Fin 512 → Fin 256 → ℝ
  V : Fin 4 → Fin 512 → Fin 128 → ℝ
  D : Fin 4 → Fin 512 → Fin 128 → ℝ
  E : Fin 4 → Fin 512 → ℝ
  L : Fin 4 → Fin 512 → ℝ

namespace Tile
variable (T : Tile) (a : Fin 4)
/-- The weights and the score gradients of head `a`, off the diagonal and on it. -/
def P : Fin 512 → Fin 512 → ℝ := tP (T.Q a) (T.K a) (T.L a)
def Pd : Fin 512 → Fin 512 → ℝ := tPd (T.Q a) (T.K a) (T.L a)
def G : Fin 512 → Fin 512 → ℝ := tG (T.D a) (T.V a) (T.E a) (T.P a)
def Gd : Fin 512 → Fin 512 → ℝ := tG (T.D a) (T.V a) (T.E a) (T.Pd a)

/-- The blocks hold these numbers. -/
structure Is (T : Tile) (q k : Vec Ideal S4x512x256 .bf16) (v : Vec Ideal S4x512x128 .bf16) (d : Vec Ideal S512x512 .f32)
    (dl ls : Vec Ideal S4x1x512 .f32) : Prop where
  q : ∀ a r x, q (ix3 a r x) = ((T.Q a r x : ℝ) : EReal)
  k : ∀ a r x, k (ix3 a r x) = ((T.K a r x : ℝ) : EReal)
  v : ∀ a r x, v (ix3 a r x) = ((T.V a r x : ℝ) : EReal)
  d : ∀ a r x, d (ix2 r (hcol a x)) = ((T.D a r x : ℝ) : EReal)
  dl : ∀ a r, dl (ix3 a 0 r) = ((T.E a r : ℝ) : EReal)
  ls : ∀ a r, ls (ix3 a 0 r) = ((T.L a r : ℝ) : EReal)
end Tile

section
variable {T : Tile} {q k : Vec Ideal S4x512x256 .bf16} {v : Vec Ideal S4x512x128 .bf16} {d : Vec Ideal S512x512 .f32}
    {dl ls : Vec Ideal S4x1x512 .f32} (H : T.Is q k v d dl ls)

include H
theorem dsOffH_real (a : Fin 4) (r c : Fin 512) : dsOffH q k v d dl ls a (ix2 r c) = ((T.G a r c : ℝ) : EReal) := by
  unfold dsOffH
  exact dsOff_real (fun r x => (head_ix q a r x).trans (H.q a r x)) (fun r x => (head_ix k a r x).trans (H.k a r x))
    (fun r x => (headCols_ix d a r x).trans (H.d a r x)) (fun r x => (head_ix v a r x).trans (H.v a r x))
    (fun r => (head_ix ls a 0 r).trans (H.ls a r)) (fun r => (head_ix dl a 0 r).trans (H.dl a r)) r c
theorem dsDiagH_real (a : Fin 4) (r c : Fin 512) : dsDiagH q k v d dl ls a (ix2 r c) = ((T.Gd a r c : ℝ) : EReal) := by
  unfold dsDiagH
  exact dsDiag_real (fun r x => (head_ix q a r x).trans (H.q a r x)) (fun r x => (head_ix k a r x).trans (H.k a r x))
    (fun r x => (headCols_ix d a r x).trans (H.d a r x)) (fun r x => (head_ix v a r x).trans (H.v a r x))
    (fun r => (head_ix ls a 0 r).trans (H.ls a r)) (fun r => (head_ix dl a 0 r).trans (H.dl a r)) r c

section
variable {dv : Vec Ideal S4x512x128 .f32} {A : Fin 4 → Fin 512 → Fin 128 → ℝ} (hA : ∀ a r x, dv (ix3 a r x) = ((A a r x : ℝ) : EReal))
include hA
theorem dvOffB_real (a : Fin 4) (r : Fin 512) (x : Fin 128) :
    dvOffB q k d ls dv (ix3 a r x) = ((A a r x + ∑ c, T.P a r c * T.D a c x : ℝ) : EReal) := by
  unfold dvOffB
  rw [putHeads_all]
  exact dvOff_real (fun r x => (head_ix q a r x).trans (H.q a r x)) (fun r x => (head_ix k a r x).trans (H.k a r x))
    (fun r x => (headCols_ix d a r x).trans (H.d a r x)) (fun r => (head_ix ls a 0 r).trans (H.ls a r))
    (fun r x => (head_ix dv a r x).trans (hA a r x)) r x
theorem dvDiagB_real (a : Fin 4) (r : Fin 512) (x : Fin 128) :
    dvDiagB q k d ls dv (ix3 a r x) = ((A a r x + ∑ c, T.Pd a r c * T.D a c x : ℝ) : EReal) := by
  unfold dvDiagB
  rw [putHeads_all]
  exact dvDiag_real (fun r x => (head_ix q a r x).trans (H.q a r x)) (fun r x => (head_ix k a r x).trans (H.k a r x))
    (fun r x => (headCols_ix d a r x).trans (H.d a r x)) (fun r => (head_ix ls a 0 r).trans (H.ls a r))
    (fun r x => (head_ix dv a r x).trans (hA a r x)) r x
end

section
variable {dk : Vec Ideal S4x512x256 .f32} {A : Fin 4 → Fin 512 → Fin 256 → ℝ} (hA : ∀ a r x, dk (ix3 a r x) = ((A a r x : ℝ) : EReal))
include hA
theorem dkOffB_real (a : Fin 4) (r : Fin 512) (x : Fin 256) :
    dkOffB q k v d dl ls dk (ix3 a r x) = ((A a r x + ∑ c, T.G a r c * T.Q a c x : ℝ) : EReal) := by
  unfold dkOffB
  rw [putHeads_all]
  exact dkNew_real (fun r x => (head_ix q a r x).trans (H.q a r x)) (dsOffH_real H a)
    (fun r x => (head_ix dk a r x).trans (hA a r x)) r x
theorem dkDiagB_real (a : Fin 4) (r : Fin 512) (x : Fin 256) :
    dkDiagB q k v d dl ls dk (ix3 a r x) = ((A a r x + ∑ c, T.Gd a r c * T.Q a c x : ℝ) : EReal) := by
  unfold dkDiagB
  rw [putHeads_all]
  exact dkNew_real (fun r x => (head_ix q a r x).trans (H.q a r x)) (dsDiagH_real H a)
    (fun r x => (head_ix dk a r x).trans (hA a r x)) r x
end

section
variable (i : grid0.Coords) {dq : Vec Ideal S4x4096x256 .f32} {A : Fin 4 → Fin 4096 → Fin 256 → ℝ} (hA : ∀ a y x, dq (ix3 a y x) = ((A a y x : ℝ) : EReal))
include hA
theorem dqOffB_in (a : Fin 4) (c : Fin 512) (x : Fin 256) (y : Fin 4096) (hy : y.val = 512 * qt i + c.val) :
    dqOffB i q k v d dl ls dq (ix3 a y x) = ((A a y x + ∑ r, T.G a r c * T.K a r x : ℝ) : EReal) := by
  unfold dqOffB
  rw [putHeads_in _ _ a y x ⟨by omega, by have := c.isLt; omega⟩]
  have e : (⟨y.val - 512 * qt i, by omega⟩ : Fin 512) = c := Fin.ext (by show y.val - _ = _; omega)
  rw [e]
  have := dqNew_real (fun r x => (head_ix k a r x).trans (H.k a r x)) (dsOffH_real H a)
    (a := headRows 512 (512 * qt i) (qt_rows i) dq a) (A := fun r x => A a ⟨512 * qt i + r.val, by have := qt_rows i; have := r.isLt; omega⟩ x)
    (fun r x => (headRows_ix (qt_rows i) dq a r x).trans (hA _ _ _)) c x
  rw [this]
  have e2 : (⟨512 * qt i + c.val, by have := qt_rows i; have := c.isLt; omega⟩ : Fin 4096) = y := Fin.ext hy.symm
  rw [e2]
theorem dqDiagB_in (a : Fin 4) (c : Fin 512) (x : Fin 256) (y : Fin 4096) (hy : y.val = 512 * qt i + c.val) :
    dqDiagB i q k v d dl ls dq (ix3 a y x) = ((A a y x + ∑ r, T.Gd a r c * T.K a r x : ℝ) : EReal) := by
  unfold dqDiagB
  rw [putHeads_in _ _ a y x ⟨by omega, by have := c.isLt; omega⟩]
  have e : (⟨y.val - 512 * qt i, by omega⟩ : Fin 512) = c := Fin.ext (by show y.val - _ = _; omega)
  rw [e]
  have := dqNew_real (fun r x => (head_ix k a r x).trans (H.k a r x)) (dsDiagH_real H a)
    (a := headRows 512 (512 * qt i) (qt_rows i) dq a) (A := fun r x => A a ⟨512 * qt i + r.val, by have := qt_rows i; have := r.isLt; omega⟩ x)
    (fun r x => (headRows_ix (qt_rows i) dq a r x).trans (hA _ _ _)) c x
  rw [this]
  have e2 : (⟨512 * qt i + c.val, by have := qt_rows i; have := c.isLt; omega⟩ : Fin 4096) = y := Fin.ext hy.symm
  rw [e2]
omit H hA
theorem dqOffB_out (a : Fin 4) (x : Fin 256) (y : Fin 4096) (hy : ¬ (512 * qt i ≤ y.val ∧ y.val < 512 * qt i + 512)) :
    dqOffB i q k v d dl ls dq (ix3 a y x) = dq (ix3 a y x) := by
  unfold dqOffB; exact putHeads_out _ _ a y x hy
theorem dqDiagB_out (a : Fin 4) (x : Fin 256) (y : Fin 4096) (hy : ¬ (512 * qt i ≤ y.val ∧ y.val < 512 * qt i + 512)) :
    dqDiagB i q k v d dl ls dq (ix3 a y x) = dq (ix3 a y x) := by
  unfold dqDiagB; exact putHeads_out _ _ a y x hy
end
end

theorem pay1_real (a : Fin 4) (r : Fin 512) (x : Fin 256) : k0_pay1 (F := Ideal) (ix3 a r x) = ((0 : ℝ) : EReal) := by
  pointwise [k0_pay1]
  rfl
theorem pay2_real (a : Fin 4) (r : Fin 512) (x : Fin 128) : k0_pay2 (F := Ideal) (ix3 a r x) = ((0 : ℝ) : EReal) := by
  pointwise [k0_pay2]
  rfl
theorem pay3_real (a : Fin 4) (r : Fin 4096) (x : Fin 256) : k0_pay3 (F := Ideal) (ix3 a r x) = ((0 : ℝ) : EReal) := by
  pointwise [k0_pay3]
  rfl

end Cert.KernelIdeal.Hand

end
-- ==== Proof.Fold.lean ====
/-
  The launch's accumulators in closed form, over the reals: what each holds after each grid point.
-/
module

public import proofs.«01_k».proof.Proof.TileVal
public import proofs.«01_k».proof.Proof.Run

@[expose] public section
set_option maxRecDepth 16384

noncomputable section

namespace Cert.KernelIdeal.Hand

open Cert.Heads Cert.Tiles Cert.Attn Cert.KernelIdeal Cert.KernelIdeal.Gen
open Idealize.ShloMosaic Idealize.ShloMosaic.TcCoe

/-! ## The order of the grid -/

/-- The tile of queries and the tile of keys of point `n` of a group of heads. -/
def qF (n : ℕ) : Fin 8 := Fin.ofNat 8 (qTile (n % 36 / 9) (n % 9))
def kF (n : ℕ) : Fin 8 := Fin.ofNat 8 (kTile (n % 36 / 9) (n % 9))
/-- The group of heads of a grid point. -/
def grp (t : Fin cfg0.N) : Fin 2 := ⟨t.val / 36, by have : t.val < 72 := t.isLt; omega⟩
/-- Head `a` of group `g`. -/
def hd (g : Fin 2) (a : Fin 4) : Fin 8 := ⟨4 * g.val + a.val, by omega⟩
/-- Row `r` of tile `i`. -/
def row (i : Fin 8) (r : Fin 512) : Fin 4096 := ⟨512 * i.val + r.val, by omega⟩

theorem qF_eq : ∀ t : Fin grid0.N, qt (grid0.coords t) = (qF t.val).val := by decide +kernel
theorem cond2_eq : ∀ t : Fin grid0.N, k0_cond2 (grid0.coords t) = 1#1 ↔ t.val % 36 = 0 := by decide +kernel
theorem cond3_eq : ∀ t : Fin grid0.N, k0_cond3 (grid0.coords t) = 1#1 ↔ kF t.val < qF t.val := by decide +kernel
theorem cond4_eq : ∀ t : Fin grid0.N, k0_cond4 (grid0.coords t) = 1#1 ↔ kF t.val = qF t.val := by decide +kernel
theorem kF_le : ∀ t : Fin grid0.N, kF t.val ≤ qF t.val := by decide +kernel
theorem prev_tile : ∀ t : Fin grid0.N, kF t.val < qF t.val → t.val ≠ 0 ∧ kF (t.val - 1) = kF t.val ∧ (qF (t.val - 1)).val + 1 = (qF t.val).val := by decide +kernel
theorem qF_mod (t : ℕ) : qF (t % 36) = qF t := by unfold qF; rw [Nat.mod_mod, show t % 36 % 9 = t % 9 by omega]
theorem kF_mod (t : ℕ) : kF (t % 36) = kF t := by unfold kF; rw [Nat.mod_mod, show t % 36 % 9 = t % 9 by omega]

theorem Icc_self (i : Fin 8) : Finset.Icc i i = {i} := Finset.Icc_self i
theorem Icc_next : ∀ j i i' : Fin 8, i'.val + 1 = i.val → j ≤ i' → i ∉ Finset.Icc j i' ∧ Finset.Icc j i = insert i (Finset.Icc j i') := by decide +kernel

/-! ## The blocks, read off the arrays -/

theorem ix0 : ∀ t : Fin grid0.N, win0_0.index t 0 = t.val / 36 ∧ win0_0.index t 1 = (qF t.val).val ∧ win0_0.index t 2 = 0 := by decide +kernel
theorem ix1 : ∀ t : Fin grid0.N, win0_1.index t 0 = t.val / 36 ∧ win0_1.index t 1 = (kF t.val).val ∧ win0_1.index t 2 = 0 := by decide +kernel
theorem ix2' : ∀ t : Fin grid0.N, win0_2.index t 0 = t.val / 36 ∧ win0_2.index t 1 = (kF t.val).val ∧ win0_2.index t 2 = 0 := by decide +kernel
theorem ix3' : ∀ t : Fin grid0.N, win0_3.index t 0 = (qF t.val).val ∧ win0_3.index t 1 = 2 + t.val / 36 := by decide +kernel
theorem ix4 : ∀ t : Fin grid0.N, win0_4.index t 0 = t.val / 36 ∧ win0_4.index t 1 = 0 ∧ win0_4.index t 2 = (qF t.val).val := by decide +kernel
theorem ix5 : ∀ t : Fin grid0.N, win0_5.index t 0 = t.val / 36 ∧ win0_5.index t 1 = 0 ∧ win0_5.index t 2 = (qF t.val).val := by decide +kernel

section Blocks
variable {F : FTy → Type} [FloatOps F] [Named F]
variable (m : (ℓ : Loc nD τ sig) → Buf (Elt F) ℓ) (c : Dev nD) (t : Fin cfg0.N)

/-- The column of the cotangent that head `h`'s lane `x` lies in. -/
def docol (h : Fin 8) (x : Fin 128) : Fin 2048 := ⟨1024 + 128 * h.val + x.val, by omega⟩

theorem qB_ix (a : Fin 4) (r : Fin 512) (x : Fin 256) : qB m c t (ix3 a r x) = V m c main_v37 (ix3 (hd (grp t) a) (row (qF t.val) r) x) := by
  refine congrArg (V m c main_v37) (funext fun k => Fin.ext ?_)
  obtain ⟨h0, h1, h2⟩ := ix0 t
  match k with
  | ⟨0, _⟩ => show win0_0.index t 0 * 4 + 1 * a.val = 4 * (t.val / 36) + a.val; rw [h0]; omega
  | ⟨1, _⟩ => show win0_0.index t 1 * 512 + 1 * r.val = 512 * (qF t.val).val + r.val; rw [h1]; omega
  | ⟨2, _⟩ => show win0_0.index t 2 * 256 + 1 * x.val = x.val; rw [h2]; omega
theorem kB_ix (a : Fin 4) (r : Fin 512) (x : Fin 256) : kB m c t (ix3 a r x) = V m c main_v41 (ix3 (hd (grp t) a) (row (kF t.val) r) x) := by
  refine congrArg (V m c main_v41) (funext fun k => Fin.ext ?_)
  obtain ⟨h0, h1, h2⟩ := ix1 t
  match k with
  | ⟨0, _⟩ => show win0_1.index t 0 * 4 + 1 * a.val = 4 * (t.val / 36) + a.val; rw [h0]; omega
  | ⟨1, _⟩ => show win0_1.index t 1 * 512 + 1 * r.val = 512 * (kF t.val).val + r.val; rw [h1]; omega
  | ⟨2, _⟩ => show win0_1.index t 2 * 256 + 1 * x.val = x.val; rw [h2]; omega
theorem vB_ix (a : Fin 4) (r : Fin 512) (x : Fin 128) : vB m c t (ix3 a r x) = V m c main_v43 (ix3 (hd (grp t) a) (row (kF t.val) r) x) := by
  refine congrArg (V m c main_v43) (funext fun k => Fin.ext ?_)
  obtain ⟨h0, h1, h2⟩ := ix2' t
  match k with
  | ⟨0, _⟩ => show win0_2.index t 0 * 4 + 1 * a.val = 4 * (t.val / 36) + a.val; rw [h0]; omega
  | ⟨1, _⟩ => show win0_2.index t 1 * 512 + 1 * r.val = 512 * (kF t.val).val + r.val; rw [h1]; omega
  | ⟨2, _⟩ => show win0_2.index t 2 * 128 + 1 * x.val = x.val; rw [h2]; omega
theorem doB_ix (a : Fin 4) (r : Fin 512) (x : Fin 128) : doB m c t (ix2 r (hcol a x)) = V m c main_arg5 (ix2 (row (qF t.val) r) (docol (hd (grp t) a) x)) := by
  refine congrArg (V m c main_arg5) (funext fun k => Fin.ext ?_)
  obtain ⟨h0, h1⟩ := ix3' t
  match k with
  | ⟨0, _⟩ => show win0_3.index t 0 * 512 + 1 * r.val = 512 * (qF t.val).val + r.val; rw [h0]; omega
  | ⟨1, _⟩ => show win0_3.index t 1 * 512 + 1 * (128 * a.val + x.val) = 1024 + 128 * (4 * (t.val / 36) + a.val) + x.val; rw [h1]; omega
theorem dlB_ix (a : Fin 4) (r : Fin 512) : dlB m c t (ix3 a 0 r) = V m c main_v34 (ix3 (hd (grp t) a) 0 (row (qF t.val) r)) := by
  refine congrArg (V m c main_v34) (funext fun k => Fin.ext ?_)
  obtain ⟨h0, h1, h2⟩ := ix4 t
  match k with
  | ⟨0, _⟩ => show win0_4.index t 0 * 4 + 1 * a.val = 4 * (t.val / 36) + a.val; rw [h0]; omega
  | ⟨1, _⟩ => show win0_4.index t 1 * 1 + 1 * 0 = 0; rw [h1]
  | ⟨2, _⟩ => show win0_4.index t 2 * 512 + 1 * r.val = 512 * (qF t.val).val + r.val; rw [h2]; omega
theorem lsB_ix (a : Fin 4) (r : Fin 512) : lsB m c t (ix3 a 0 r) = V m c main_v30 (ix3 (hd (grp t) a) 0 (row (qF t.val) r)) := by
  refine congrArg (V m c main_v30) (funext fun k => Fin.ext ?_)
  obtain ⟨h0, h1, h2⟩ := ix5 t
  match k with
  | ⟨0, _⟩ => show win0_5.index t 0 * 4 + 1 * a.val = 4 * (t.val / 36) + a.val; rw [h0]; omega
  | ⟨1, _⟩ => show win0_5.index t 1 * 1 + 1 * 0 = 0; rw [h1]
  | ⟨2, _⟩ => show win0_5.index t 2 * 512 + 1 * r.val = 512 * (qF t.val).val + r.val; rw [h2]; omega
end Blocks

/-! ## The whole attention's numbers -/

/-- The real numbers in the arrays the launch reads. -/
structure Att where
  Q : Fin 8 → Fin 4096 → Fin 256 → ℝ
  K : Fin 8 → Fin 4096 → Fin 256 → ℝ
  V : Fin 8 → Fin 4096 → Fin 128 → ℝ
  D : Fin 8 → Fin 4096 → Fin 128 → ℝ
  E : Fin 8 → Fin 4096 → ℝ
  L : Fin 8 → Fin 4096 → ℝ

namespace Att
variable (X : Att) (h : Fin 8)
/-- The weight of key `k` for query `q`, nothing for a later key. -/
def P (k q : Fin 4096) : ℝ := if k ≤ q then Real.exp ((∑ x, X.K h k x * X.Q h q x) * c192 - X.L h q) else 0
/-- The gradient of the scaled-down score. -/
def G (k q : Fin 4096) : ℝ := X.P h k q * ((∑ x, X.V h k x * X.D h q x) - X.E h q) * c192
/-- One tile's part of each gradient. -/
def dvT (j i : Fin 8) (r : Fin 512) (x : Fin 128) : ℝ := ∑ c, X.P h (row j r) (row i c) * X.D h (row i c) x
def dkT (j i : Fin 8) (r : Fin 512) (x : Fin 256) : ℝ := ∑ c, X.G h (row j r) (row i c) * X.Q h (row i c) x
def dqT (j i : Fin 8) (c : Fin 512) (x : Fin 256) : ℝ := ∑ r, X.G h (row j r) (row i c) * X.K h (row j r) x

/-- The numbers of a pair of tiles. -/
def tile (g : Fin 2) (j i : Fin 8) : Tile where
  Q a r x := X.Q (hd g a) (row i r) x
  K a r x := X.K (hd g a) (row j r) x
  V a r x := X.V (hd g a) (row j r) x
  D a r x := X.D (hd g a) (row i r) x
  E a r := X.E (hd g a) (row i r)
  L a r := X.L (hd g a) (row i r)

variable {X}
theorem P_off {g : Fin 2} {j i : Fin 8} (hji : j < i) (a : Fin 4) (r c : Fin 512) : (X.tile g j i).P a r c = X.P (hd g a) (row j r) (row i c) := by
  have : row j r ≤ row i c := by
    show 512 * j.val + r.val ≤ 512 * i.val + c.val
    have : j.val < i.val := hji
    omega
  unfold Att.P; rw [if_pos this]; rfl
theorem P_diag {g : Fin 2} {i : Fin 8} (a : Fin 4) (r c : Fin 512) : (X.tile g i i).Pd a r c = X.P (hd g a) (row i r) (row i c) := by
  have : row i r ≤ row i c ↔ r ≤ c := by
    show 512 * i.val + r.val ≤ 512 * i.val + c.val ↔ r.val ≤ c.val
    omega
  unfold Att.P Tile.Pd tPd
  by_cases h : r ≤ c
  · rw [if_pos h, if_pos (this.mpr h)]; rfl
  · rw [if_neg h, if_neg (fun h' => h (this.mp h'))]
theorem G_off {g : Fin 2} {j i : Fin 8} (hji : j < i) (a : Fin 4) (r c : Fin 512) : (X.tile g j i).G a r c = X.G (hd g a) (row j r) (row i c) := by
  unfold Att.G Tile.G tG; rw [P_off hji]; rfl
theorem G_diag {g : Fin 2} {i : Fin 8} (a : Fin 4) (r c : Fin 512) : (X.tile g i i).Gd a r c = X.G (hd g a) (row i r) (row i c) := by
  unfold Att.G Tile.Gd tG; rw [P_diag]; rfl

/-- The arrays hold these numbers when the launch is entered. -/
structure Is (X : Att) (m : (ℓ : Loc nD τ sig) → Buf (Elt Ideal) ℓ) (c : Dev nD) : Prop where
  q : ∀ h r x, Gen.V m c main_v37 (ix3 h r x) = ((X.Q h r x : ℝ) : EReal)
  k : ∀ h r x, Gen.V m c main_v41 (ix3 h r x) = ((X.K h r x : ℝ) : EReal)
  v : ∀ h r x, Gen.V m c main_v43 (ix3 h r x) = ((X.V h r x : ℝ) : EReal)
  d : ∀ h r x, Gen.V m c main_arg5 (ix2 r (docol h x)) = ((X.D h r x : ℝ) : EReal)
  dl : ∀ h r, Gen.V m c main_v34 (ix3 h 0 r) = ((X.E h r : ℝ) : EReal)
  ls : ∀ h r, Gen.V m c main_v30 (ix3 h 0 r) = ((X.L h r : ℝ) : EReal)
end Att

section Fold
variable {X : Att} {m : (ℓ : Loc nD τ sig) → Buf (Elt Ideal) ℓ} {c : Dev nD} (H : X.Is m c)

include H
theorem tile_is (t : Fin cfg0.N) : (X.tile (grp t) (kF t.val) (qF t.val)).Is (qB m c t) (kB m c t) (vB m c t) (doB m c t) (dlB m c t) (lsB m c t) where
  q a r x := (qB_ix m c t a r x).trans (H.q _ _ _)
  k a r x := (kB_ix m c t a r x).trans (H.k _ _ _)
  v a r x := (vB_ix m c t a r x).trans (H.v _ _ _)
  d a r x := (doB_ix m c t a r x).trans (H.d _ _ _)
  dl a r := (dlB_ix m c t a r).trans (H.dl _ _)
  ls a r := (lsB_ix m c t a r).trans (H.ls _ _)

/-- One step of each accumulator: from nothing on the diagonal, else onto what it holds. -/
theorem dv_diag (t : Fin cfg0.N) (h : kF t.val = qF t.val) (x : Vec Ideal S4x512x128 .f32) (a : Fin 4) (r : Fin 512) (e : Fin 128) :
    dvStep (grid0.coords t) (qB m c t) (kB m c t) (doB m c t) (lsB m c t) x (ix3 a r e) = ((X.dvT (hd (grp t) a) (kF t.val) (qF t.val) r e : ℝ) : EReal) := by
  have T := tile_is H t
  unfold dvStep dv2 dv1 dv0
  rw [if_pos ((cond4_eq t).mpr h), if_pos ((cond4_eq t).mpr h), if_neg (fun h' => absurd ((cond3_eq t).mp h') (by rw [h]; exact lt_irrefl _)),
    dvDiagB_real T pay2_real]
  unfold Att.dvT
  rw [h]
  simp only [zero_add, Att.P_diag]; rfl
theorem dk_diag (t : Fin cfg0.N) (h : kF t.val = qF t.val) (x : Vec Ideal S4x512x256 .f32) (a : Fin 4) (r : Fin 512) (e : Fin 256) :
    dkStep (grid0.coords t) (qB m c t) (kB m c t) (vB m c t) (doB m c t) (dlB m c t) (lsB m c t) x (ix3 a r e) = ((X.dkT (hd (grp t) a) (kF t.val) (qF t.val) r e : ℝ) : EReal) := by
  have T := tile_is H t
  unfold dkStep dk2 dk1 dk0
  rw [if_pos ((cond4_eq t).mpr h), if_pos ((cond4_eq t).mpr h), if_neg (fun h' => absurd ((cond3_eq t).mp h') (by rw [h]; exact lt_irrefl _)),
    dkDiagB_real T pay1_real]
  unfold Att.dkT
  rw [h]
  simp only [zero_add, Att.G_diag]; rfl
theorem dv_off (t : Fin cfg0.N) (h : kF t.val < qF t.val) (x : Vec Ideal S4x512x128 .f32) {A : Fin 4 → Fin 512 → Fin 128 → ℝ}
    (hA : ∀ a r e, x (ix3 a r e) = ((A a r e : ℝ) : EReal)) (a : Fin 4) (r : Fin 512) (e : Fin 128) :
    dvStep (grid0.coords t) (qB m c t) (kB m c t) (doB m c t) (lsB m c t) x (ix3 a r e) = ((A a r e + X.dvT (hd (grp t) a) (kF t.val) (qF t.val) r e : ℝ) : EReal) := by
  have T := tile_is H t
  have h4 : ¬ k0_cond4 (grid0.coords t) = 1#1 := fun h' => absurd ((cond4_eq t).mp h') h.ne
  unfold dvStep dv2 dv1 dv0
  rw [if_neg h4, if_neg h4, if_pos ((cond3_eq t).mpr h), dvOffB_real T hA]
  unfold Att.dvT
  simp only [Att.P_off h]; rfl
theorem dk_off (t : Fin cfg0.N) (h : kF t.val < qF t.val) (x : Vec Ideal S4x512x256 .f32) {A : Fin 4 → Fin 512 → Fin 256 → ℝ}
    (hA : ∀ a r e, x (ix3 a r e) = ((A a r e : ℝ) : EReal)) (a : Fin 4) (r : Fin 512) (e : Fin 256) :
    dkStep (grid0.coords t) (qB m c t) (kB m c t) (vB m c t) (doB m c t) (dlB m c t) (lsB m c t) x (ix3 a r e) = ((A a r e + X.dkT (hd (grp t) a) (kF t.val) (qF t.val) r e : ℝ) : EReal) := by
  have T := tile_is H t
  have h4 : ¬ k0_cond4 (grid0.coords t) = 1#1 := fun h' => absurd ((cond4_eq t).mp h') h.ne
  unfold dkStep dk2 dk1 dk0
  rw [if_neg h4, if_neg h4, if_pos ((cond3_eq t).mpr h), dkOffB_real T hA]
  unfold Att.dkT
  simp only [Att.G_off h]; rfl

/-- One step of the query gradient, from what it holds after the optional zeroing: the rows of the step's tile gain the tile's part, -/
theorem dq_in (t : Fin cfg0.N) (x : Vec Ideal S4x4096x256 .f32) {A : Fin 4 → Fin 4096 → Fin 256 → ℝ}
    (hA : ∀ a y e, dq0 (grid0.coords t) x (ix3 a y e) = ((A a y e : ℝ) : EReal)) (a : Fin 4) (s : Fin 512) (e : Fin 256) :
    dqStep (grid0.coords t) (qB m c t) (kB m c t) (vB m c t) (doB m c t) (dlB m c t) (lsB m c t) x (ix3 a (row (qF t.val) s) e)
      = ((A a (row (qF t.val) s) e + X.dqT (hd (grp t) a) (kF t.val) (qF t.val) s e : ℝ) : EReal) := by
  have T := tile_is H t
  have hy : (row (qF t.val) s).val = 512 * qt (grid0.coords t) + s.val := by rw [qF_eq]; rfl
  unfold dqStep dq2 dq1
  rcases (kF_le t).lt_or_eq with h | h
  · rw [if_neg (fun h' => absurd ((cond4_eq t).mp h') h.ne), if_pos ((cond3_eq t).mpr h), dqOffB_in T (grid0.coords t) hA a s e _ hy]
    unfold Att.dqT
    simp only [Att.G_off h]; rfl
  · rw [if_pos ((cond4_eq t).mpr h), if_neg (fun h' => absurd ((cond3_eq t).mp h') (by rw [h]; exact lt_irrefl _)), dqDiagB_in T (grid0.coords t) hA a s e _ hy]
    unfold Att.dqT
    rw [h]
    simp only [Att.G_diag]; rfl
omit H in
/-- and the other rows keep what they hold. -/
theorem dq_out (t : Fin cfg0.N) (x : Vec Ideal S4x4096x256 .f32) (a : Fin 4) (i : Fin 8) (hi : qF t.val ≠ i) (s : Fin 512) (e : Fin 256) :
    dqStep (grid0.coords t) (qB m c t) (kB m c t) (vB m c t) (doB m c t) (dlB m c t) (lsB m c t) x (ix3 a (row i s) e)
      = dq0 (grid0.coords t) x (ix3 a (row i s) e) := by
  have hy : ¬ (512 * qt (grid0.coords t) ≤ (row i s).val ∧ (row i s).val < 512 * qt (grid0.coords t) + 512) := by
    rw [qF_eq]; rintro ⟨h1, h2⟩
    have e1 : (row i s).val = 512 * i.val + s.val := rfl
    exact hi (Fin.ext (by omega))
  unfold dqStep dq2 dq1
  rcases (kF_le t).lt_or_eq with h | h
  · rw [if_neg (fun h' => absurd ((cond4_eq t).mp h') h.ne), if_pos ((cond3_eq t).mpr h), dqOffB_out (grid0.coords t) a e _ hy]
  · rw [if_pos ((cond4_eq t).mpr h), if_neg (fun h' => absurd ((cond3_eq t).mp h') (by rw [h]; exact lt_irrefl _)), dqDiagB_out (grid0.coords t) a e _ hy]

/-- After a point the two accumulators hold the parts of the key tile's queries so far. -/
theorem acc_after : ∀ (n : ℕ) (hn : n < cfg0.N),
    (∀ a r e, (st m c (n + 1)).2.1 (ix3 a r e) = ((∑ i ∈ Finset.Icc (kF n) (qF n), X.dkT (hd (grp ⟨n, hn⟩) a) (kF n) i r e : ℝ) : EReal))
    ∧ (∀ a r e, (st m c (n + 1)).2.2 (ix3 a r e) = ((∑ i ∈ Finset.Icc (kF n) (qF n), X.dvT (hd (grp ⟨n, hn⟩) a) (kF n) i r e : ℝ) : EReal)) := by
  intro n
  induction n with
  | zero =>
    intro hn
    have h : kF 0 = qF 0 := by decide +kernel
    rw [show st m c (0 + 1) = _ from st_succ m c ⟨0, hn⟩]
    dsimp only
    rw [h, Icc_self]
    simp only [Finset.sum_singleton]
    have hk := dk_diag H ⟨0, hn⟩ h
    have hv := dv_diag H ⟨0, hn⟩ h
    dsimp only at hk hv
    rw [h] at hk hv
    exact ⟨hk _, hv _⟩
  | succ n ih =>
    intro hn
    rw [show st m c (n + 1 + 1) = _ from st_succ m c ⟨n + 1, hn⟩]
    dsimp only
    rcases (kF_le ⟨n + 1, hn⟩).lt_or_eq with h | h
    · obtain ⟨-, hk0, hq0⟩ := prev_tile ⟨n + 1, hn⟩ h
      dsimp only at h hk0 hq0
      rw [Nat.add_sub_cancel] at hk0 hq0
      obtain ⟨i1, i2⟩ := ih (by omega)
      have hle : kF (n + 1) ≤ qF n := by show (kF (n + 1)).val ≤ _; have : (kF (n+1)).val < (qF (n+1)).val := h; omega
      obtain ⟨hni, hIcc⟩ := Icc_next (kF (n + 1)) (qF (n + 1)) (qF n) hq0 hle
      have hg : grp ⟨n, by omega⟩ = grp ⟨n + 1, hn⟩ := by
        refine Fin.ext ?_
        show n / 36 = (n + 1) / 36
        have hne : (n + 1) % 36 ≠ 0 := by
          intro h0
          have e1 : kF (n + 1) = kF 0 := by rw [← kF_mod (n + 1), h0]
          have e2 : qF (n + 1) = qF 0 := by rw [← qF_mod (n + 1), h0]
          rw [e1, e2] at h
          exact absurd h (by decide +kernel)
        omega
      rw [hk0, hg] at i1 i2
      rw [hIcc]
      simp only [Finset.sum_insert hni]
      refine ⟨fun a r e => ?_, fun a r e => ?_⟩
      · rw [dk_off H ⟨n + 1, hn⟩ h _ i1, add_comm]
      · rw [dv_off H ⟨n + 1, hn⟩ h _ i2, add_comm]
    · dsimp only at h
      have hk := dk_diag H ⟨n + 1, hn⟩ h
      have hv := dv_diag H ⟨n + 1, hn⟩ h
      dsimp only at hk hv
      rw [h] at hk hv ⊢
      rw [Icc_self]
      simp only [Finset.sum_singleton]
      exact ⟨hk _, hv _⟩

/-- After a point of a group the query gradient holds the parts of the tiles walked so far. -/
theorem dq_after (g : Fin 2) : ∀ (n : ℕ) (hn : n < 36) (a : Fin 4) (i : Fin 8) (s : Fin 512) (e : Fin 256),
    (st m c (36 * g.val + n + 1)).1 (ix3 a (row i s) e) = ((∑ k ∈ (Finset.range (n + 1)).filter (fun k => qF k = i), X.dqT (hd g a) (kF k) i s e : ℝ) : EReal) := by
  have hlt : ∀ n, n < 36 → 36 * g.val + n < cfg0.N := fun n hn => by show _ < 72; omega
  have hgr : ∀ n (hn : n < 36), grp ⟨36 * g.val + n, hlt n hn⟩ = g := fun n hn => Fin.ext (by show (36 * g.val + n) / 36 = g.val; omega)
  have hqF : ∀ n, n < 36 → qF (36 * g.val + n) = qF n := fun n hn => by rw [← qF_mod, show (36 * g.val + n) % 36 = n by omega]
  have hkF : ∀ n, n < 36 → kF (36 * g.val + n) = kF n := fun n hn => by rw [← kF_mod, show (36 * g.val + n) % 36 = n by omega]
  -- one step, from sums over `S`
  have step : ∀ (n : ℕ) (hn : n < 36) (S : ℕ → Finset ℕ) (hS : S n = Finset.range n)
      (h0 : ∀ (a : Fin 4) (i : Fin 8) (s : Fin 512) (e : Fin 256), dq0 (grid0.coords ⟨36 * g.val + n, hlt n hn⟩) (st m c (36 * g.val + n)).1 (ix3 a (row i s) e)
        = ((∑ k ∈ (Finset.range n).filter (fun k => qF k = i), X.dqT (hd g a) (kF k) i s e : ℝ) : EReal))
      (a : Fin 4) (i : Fin 8) (s : Fin 512) (e : Fin 256),
      (st m c (36 * g.val + n + 1)).1 (ix3 a (row i s) e) = ((∑ k ∈ (Finset.range (n + 1)).filter (fun k => qF k = i), X.dqT (hd g a) (kF k) i s e : ℝ) : EReal) := by
    intro n hn S hS h0 a i s e
    rw [show st m c (36 * g.val + n + 1) = _ from st_succ m c ⟨36 * g.val + n, hlt n hn⟩]
    dsimp only
    rw [Finset.range_add_one, Finset.filter_insert]
    by_cases hi : qF n = i
    · rw [if_pos hi, Finset.sum_insert (by simp), add_comm (X.dqT (hd g a) (kF n) i s e)]
      have hrow : ∀ y : Fin 4096, row ⟨y.val / 512, by omega⟩ ⟨y.val % 512, Nat.mod_lt _ (by omega)⟩ = y := fun y => Fin.ext (by show 512 * (y.val / 512) + y.val % 512 = y.val; omega)
      have hA : ∀ (a : Fin 4) (y : Fin 4096) (e : Fin 256), dq0 (grid0.coords ⟨36 * g.val + n, hlt n hn⟩) (st m c (36 * g.val + n)).1 (ix3 a y e)
          = (((fun a y e => ∑ k ∈ (Finset.range n).filter (fun k => qF k = ⟨y.val / 512, by omega⟩), X.dqT (hd g a) (kF k) ⟨y.val / 512, by omega⟩ ⟨y.val % 512, Nat.mod_lt _ (by omega)⟩ e : Fin 4 → Fin 4096 → Fin 256 → ℝ) a y e : ℝ) : EReal) := by
        intro a y e
        have := h0 a ⟨y.val / 512, by omega⟩ ⟨y.val % 512, Nat.mod_lt _ (by omega)⟩ e
        rw [hrow] at this
        exact this
      have := dq_in H ⟨36 * g.val + n, hlt n hn⟩ (st m c (36 * g.val + n)).1 hA a s e
      dsimp only at this
      rw [hqF n hn, hkF n hn, hgr n hn, hi] at this
      rw [this]
      have e1 : (⟨(row i s).val / 512, by have := (row i s).isLt; omega⟩ : Fin 8) = i := Fin.ext (by show (512 * i.val + s.val) / 512 = i.val; omega)
      have e2 : (⟨(row i s).val % 512, Nat.mod_lt _ (by omega)⟩ : Fin 512) = s := Fin.ext (by show (512 * i.val + s.val) % 512 = s.val; omega)
      rw [e1, e2]
    · rw [if_neg hi, dq_out ⟨36 * g.val + n, hlt n hn⟩ _ a i (by dsimp only; rw [hqF n hn]; exact hi), h0]
  intro n
  induction n with
  | zero =>
    intro hn
    refine step 0 hn (fun n => Finset.range n) rfl (fun a i s e => ?_)
    unfold dq0
    rw [if_pos ((cond2_eq _).mpr (by dsimp only; omega)), pay3_real]
    simp
  | succ n ih =>
    intro hn
    refine step (n + 1) hn (fun n => Finset.range n) rfl (fun a i s e => ?_)
    unfold dq0
    rw [if_neg (fun h => absurd ((cond2_eq _).mp h) (by dsimp only; omega))]
    exact ih (by omega) a i s e
end Fold

end Cert.KernelIdeal.Hand

end
-- ==== Proof.HostVal.lean ====
/-
  The arrays the kernel's windows read, over the reals.
-/
module

public import proofs.«01_k».proof.Proof.Host
public import proofs.«01_k».proof.Proof.Fold
public import proofs.«01_k».proof.Proof.Words

@[expose] public section
set_option maxRecDepth 16384

noncomputable section

namespace Cert.KernelIdeal.Hand
open Cert.KernelIdeal Cert.KernelIdeal.Gen Cert.Attn
open Idealize.ShloMosaic Idealize.ShloMosaic.TcCoe

/-! ## The stages at an index -/

section
variable (s : (⟨S8x4096x4096, .f32⟩ : BufTy).Contents (Elt Ideal)) (z y : (⟨S8x4096, .f32⟩ : BufTy).Contents (Elt Ideal))
  (d o : (⟨S8x4096x128, .f32⟩ : BufTy).Contents (Elt Ideal)) (x4 : (⟨S4096x8x128, .f32⟩ : BufTy).Contents (Elt Ideal))
  (x5 : (⟨S4096x2048, .f32⟩ : BufTy).Contents (Elt Ideal)) (h : Fin 8) (q k : Fin 4096)
theorem hM_at : hM (F := Ideal) s (ix2 h q) = Finset.fold max ⊥ (fun x => s (ix3 h q x)) Finset.univ := by
  pointwise [hM]
  rw [word_bot]
theorem hE_at : hE (F := Ideal) s z (ix3 h q k) = Ideal.exp (s (ix3 h q k) - z (ix2 h q)) := by
  pointwise [hE, hRow, hCol]
theorem hZ_at : hZ (F := Ideal) s (ix2 h q) = ∑ x, s (ix3 h q x) := by
  pointwise [hZ]
theorem hO_at (e : Fin 128) : hO (F := Ideal) s z x4 (ix3 h q e) = ∑ x, Ideal.div (s (ix3 h q x)) (z (ix2 h q)) * x4 (ix3 x h e) := by
  pointwise [hO, hRow, hCol]
theorem col_eq (h : Fin 8) (e : Fin 128) (p : 1024 + (h.val * 128 + e.val) < 2048) : (⟨1024 + (h.val * 128 + e.val), p⟩ : Fin 2048) = col h e :=
  Fin.ext (by unfold col; dsimp only; omega)
theorem hD_word (e : Fin 128) (p : 1024 + (h.val * 128 + e.val) < 2048) : hD (F := Ideal) x5 (ix3 h q e) = x5 (ix2 q ⟨1024 + (h.val * 128 + e.val), p⟩) := by
  pointwise [hD]
theorem hD_at (e : Fin 128) : hD (F := Ideal) x5 (ix3 h q e) = x5 (ix2 q (col h e)) := by
  rw [hD_word x5 h q e (by omega), col_eq]
theorem hDl_at : hDl (F := Ideal) d o (ix3 h 0 q) = ∑ x, d (ix3 h q x) * o (ix3 h q x) := by
  pointwise [hDl]
theorem hL_at : hL (F := Ideal) z y (ix3 h 0 q) = z (ix2 h q) + Ideal.log (y (ix2 h q)) := by
  pointwise [hL, hCol]
end

/-! ## Over the reals -/

section
variable {A : Args} {x0 : (⟨S4096x8x128, .f32⟩ : BufTy).Contents (Elt Ideal)} {x1 : (⟨S4096x8x64, .f32⟩ : BufTy).Contents (Elt Ideal)}
  {x2 : (⟨S4096x8x128, .f32⟩ : BufTy).Contents (Elt Ideal)} {x3 : (⟨S4096x64, .f32⟩ : BufTy).Contents (Elt Ideal)}
  {x4 : (⟨S4096x8x128, .f32⟩ : BufTy).Contents (Elt Ideal)} {x5 : (⟨S4096x2048, .f32⟩ : BufTy).Contents (Elt Ideal)}
  (H : A.Is x0 x1 x2 x3 x4 x5) (h : Fin 8) (q k : Fin 4096)

include H
theorem hS_ix : hS (F := Ideal) x0 x1 x2 x3 (ix3 h q k) = A.Sx h q k := by
  pointwise [hS, hR, hMask]
  rw [le_word, WordCmp.select_ofBool, word_bot, rsqrt_192]
  simp only [H.qn, H.qr, H.kn, H.kr, ← EReal.coe_mul, ← coe_sum, ← EReal.coe_add, decide_eq_true_eq]
  rfl
theorem hM_ix : hM (F := Ideal) (hS x0 x1 x2 x3) (ix2 h q) = ((A.M h q : ℝ) : EReal) := by
  rw [hM_at]
  simp only [hS_ix H]
  exact A.M_coe h q
theorem hE_ix : hE (F := Ideal) (hS x0 x1 x2 x3) (hM (hS x0 x1 x2 x3)) (ix3 h q k) = ((A.X h q k : ℝ) : EReal) := by
  rw [hE_at, hS_ix H, hM_ix H, Args.exp_Sx]
  unfold Args.X
  split
  · rw [Ideal.exp_coe]
  · rw [Ideal.exp_bot]; rfl
theorem hZ_ix : hZ (F := Ideal) (hE (hS x0 x1 x2 x3) (hM (hS x0 x1 x2 x3))) (ix2 h q) = ((A.Z h q : ℝ) : EReal) := by
  rw [hZ_at]
  simp only [hE_ix H, ← coe_sum]
  rfl
theorem hO_ix (e : Fin 128) : hO (F := Ideal) (hE (hS x0 x1 x2 x3) (hM (hS x0 x1 x2 x3))) (hZ (hE (hS x0 x1 x2 x3) (hM (hS x0 x1 x2 x3)))) x4 (ix3 h q e)
    = ((∑ k, A.W h q k * A.v k h e : ℝ) : EReal) := by
  rw [hO_at]
  simp only [hE_ix H, hZ_ix H, div_real _ (A.Z_ne h q), H.v, ← EReal.coe_mul, ← coe_sum]
  rfl
theorem hD_ix (e : Fin 128) : hD (F := Ideal) x5 (ix3 h q e) = ((A.d q h e : ℝ) : EReal) := by
  rw [hD_at, H.d]
theorem hDl_ix : hDl (F := Ideal) (hD x5) (hO (hE (hS x0 x1 x2 x3) (hM (hS x0 x1 x2 x3))) (hZ (hE (hS x0 x1 x2 x3) (hM (hS x0 x1 x2 x3)))) x4) (ix3 h 0 q)
    = ((A.mean h q : ℝ) : EReal) := by
  rw [hDl_at]
  simp only [hD_ix H, hO_ix H, ← EReal.coe_mul, ← coe_sum, A.mean_out]
theorem hL_ix : hL (F := Ideal) (hM (hS x0 x1 x2 x3)) (hZ (hE (hS x0 x1 x2 x3) (hM (hS x0 x1 x2 x3)))) (ix3 h 0 q)
    = ((A.M h q + Real.log (A.Z h q) : ℝ) : EReal) := by
  rw [hL_at, hM_ix H, hZ_ix H, Ideal.log_coe, if_neg (not_le.mpr (A.Z_pos h q)), EReal.coe_add]
theorem hQ_ix (x : Fin 256) : hQ (F := Ideal) x0 x1 (ix3 h q x) = ((A.lq h q x : ℝ) : EReal) := by
  pointwise [hQ]
  unfold Args.lq
  simp only [H.qn, H.qr, apply_dite ((↑) : ℝ → EReal)]
theorem hK_ix (x : Fin 256) : hK (F := Ideal) x2 x3 (ix3 h k x) = ((A.lk h k x : ℝ) : EReal) := by
  pointwise [hK, hR]
  unfold Args.lk
  simp only [H.kn, H.kr, apply_dite ((↑) : ℝ → EReal), EReal.coe_zero]
theorem hV_ix (e : Fin 128) : hV (F := Ideal) x4 (ix3 h k e) = ((A.v k h e : ℝ) : EReal) := by
  pointwise [hV]
  exact H.v _ _ _
end

/-- The numbers the kernel's windows hold, from the arguments'. -/
def att (A : Args) : Att where
  Q h q x := A.lq h q x
  K h k x := A.lk h k x
  V h k e := A.v k h e
  D h q e := A.d q h e
  E h q := A.mean h q
  L h q := A.M h q + Real.log (A.Z h q)

variable {A : Args} {m : (ℓ : Loc nD τ sig) → Buf (Elt Ideal) ℓ} {c : Dev nD}

theorem att_is (H : A.Is (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))) : (att A).Is m c where
  q h r x := by rw [V_v37]; exact hQ_ix H h r x
  k h r x := by rw [V_v41]; exact hK_ix H h r x
  v h r x := by rw [V_v43]; exact hV_ix H h r x
  d h r x := by rw [V_arg5]; exact H.d r h x
  dl h r := by rw [V_v34]; exact hDl_ix H h r
  ls h r := by rw [V_v30]; exact hL_ix H h r

theorem att_P (h : Fin 8) (k q : Fin 4096) : (att A).P h k q = A.W h q k := by
  unfold Att.P
  split
  · rename_i hkq
    rw [← A.W_log h q k hkq, ← A.lanes h q k]; rfl
  · rename_i hkq
    rw [A.W_late h q k hkq]
theorem att_G (h : Fin 8) (k q : Fin 4096) : (att A).G h k q = A.G h q k := by
  unfold Att.G Args.G
  rw [att_P]
  unfold Args.dW
  congr 3
  exact Finset.sum_congr rfl fun e _ => mul_comm _ _
end Cert.KernelIdeal.Hand
-- ==== Proof.Final.lean ====
/-
  The three gradients the kernel leaves, as sums over all the rows.
-/
module

public import proofs.«01_k».proof.Proof.Fold
public import Idealize.ShloMosaic.Lib.Pipeline.Value

@[expose] public section
set_option maxRecDepth 16384

noncomputable section

namespace Cert.KernelIdeal.Hand

open Cert.Heads Cert.Tiles Cert.Attn Cert.KernelIdeal Cert.KernelIdeal.Gen
open Idealize.ShloMosaic Idealize.ShloMosaic.TcCoe

/-- A sum over all rows, tile by tile. -/
theorem sum_rows (f : Fin 4096 → ℝ) : ∑ q, f q = ∑ i : Fin 8, ∑ r : Fin 512, f (row i r) := by
  rw [← Fintype.sum_prod_type']
  symm
  refine Fintype.sum_equiv (finProdFinEquiv : Fin 8 × Fin 512 ≃ Fin 4096) _ _ (fun x => congrArg f (Fin.ext ?_))
  show 512 * x.1.val + x.2.val = x.2.val + 512 * x.1.val
  omega
/-- The tiles of keys a tile of queries meets, each once. -/
theorem walk_image : ∀ i : Fin 8, ((Finset.range 36).filter (fun k => qF k = i)).image kF = Finset.Iic i := by decide +kernel
theorem walk_inj : ∀ i : Fin 8, ∀ x ∈ (Finset.range 36).filter (fun k => qF k = i), ∀ y ∈ (Finset.range 36).filter (fun k => qF k = i), kF x = kF y → x = y := by decide +kernel

namespace Att
variable (X : Att) (h : Fin 8)
/-- The whole gradients. -/
def dq (q : Fin 4096) (e : Fin 256) : ℝ := ∑ k, X.G h k q * X.K h k e
def dk (k : Fin 4096) (e : Fin 256) : ℝ := ∑ q, X.G h k q * X.Q h q e
def dv (k : Fin 4096) (e : Fin 128) : ℝ := ∑ q, X.P h k q * X.D h q e

variable {X} {h}
theorem P_zero {i j : Fin 8} (hij : i < j) (r s : Fin 512) : X.P h (row j r) (row i s) = 0 := by
  unfold Att.P
  rw [if_neg]
  show ¬ 512 * j.val + r.val ≤ 512 * i.val + s.val
  have : i.val < j.val := hij
  omega
theorem G_zero {i j : Fin 8} (hij : i < j) (r s : Fin 512) : X.G h (row j r) (row i s) = 0 := by
  unfold Att.G
  rw [P_zero hij, zero_mul, zero_mul]
theorem dv_tiles (j : Fin 8) (r : Fin 512) (e : Fin 128) : ∑ i ∈ Finset.Icc j 7, X.dvT h j i r e = X.dv h (row j r) e := by
  unfold Att.dv
  rw [sum_rows]
  refine Finset.sum_subset (Finset.subset_univ _) (fun i _ hi => Finset.sum_eq_zero fun s _ => ?_)
  rw [P_zero (lt_of_not_ge fun hji => hi (Finset.mem_Icc.mpr ⟨hji, Fin.le_last i⟩)), zero_mul]
theorem dk_tiles (j : Fin 8) (r : Fin 512) (e : Fin 256) : ∑ i ∈ Finset.Icc j 7, X.dkT h j i r e = X.dk h (row j r) e := by
  unfold Att.dk
  rw [sum_rows]
  refine Finset.sum_subset (Finset.subset_univ _) (fun i _ hi => Finset.sum_eq_zero fun s _ => ?_)
  rw [G_zero (lt_of_not_ge fun hji => hi (Finset.mem_Icc.mpr ⟨hji, Fin.le_last i⟩)), zero_mul]
theorem dq_tiles (i : Fin 8) (s : Fin 512) (e : Fin 256) :
    ∑ k ∈ (Finset.range 36).filter (fun k => qF k = i), X.dqT h (kF k) i s e = X.dq h (row i s) e := by
  rw [← Finset.sum_image (f := fun j => X.dqT h j i s e) (walk_inj i), walk_image]
  unfold Att.dq
  rw [sum_rows]
  refine Finset.sum_subset (Finset.subset_univ _) (fun j _ hj => Finset.sum_eq_zero fun r _ => ?_)
  rw [G_zero (lt_of_not_ge fun hji => hj (Finset.mem_Iic.mpr hji)), zero_mul]
end Att

/-! ## Where the results lie -/

theorem ix6 : ∀ t : Fin grid0.N, win0_6.index t 0 = t.val / 36 ∧ win0_6.index t 1 = 0 ∧ win0_6.index t 2 = 0 := by decide +kernel
theorem ix7 : ∀ t : Fin grid0.N, win0_7.index t 0 = t.val / 36 ∧ win0_7.index t 1 = (kF t.val).val ∧ win0_7.index t 2 = 0 := by decide +kernel
theorem ix8 : ∀ t : Fin grid0.N, win0_8.index t 0 = t.val / 36 ∧ win0_8.index t 1 = (kF t.val).val ∧ win0_8.index t 2 = 0 := by decide +kernel
theorem sz6 : ∀ t : Fin grid0.N, win0_6.xsize (grid0.coords t) 0 = 4 ∧ win0_6.xsize (grid0.coords t) 1 = 4096 ∧ win0_6.xsize (grid0.coords t) 2 = 256 := by decide +kernel
theorem sz7 : ∀ t : Fin grid0.N, win0_7.xsize (grid0.coords t) 0 = 4 ∧ win0_7.xsize (grid0.coords t) 1 = 512 ∧ win0_7.xsize (grid0.coords t) 2 = 256 := by decide +kernel
theorem sz8 : ∀ t : Fin grid0.N, win0_8.xsize (grid0.coords t) 0 = 4 ∧ win0_8.xsize (grid0.coords t) 1 = 512 ∧ win0_8.xsize (grid0.coords t) 2 = 128 := by decide +kernel
theorem last7 : ∀ t : Fin grid0.N, win0_7.flush t = true → qF t.val = 7 := by decide +kernel
theorem last8 : ∀ t : Fin grid0.N, win0_8.flush t = true → qF t.val = 7 := by decide +kernel
theorem find7 : ∀ (g : Fin 2) (j : Fin 8), ∃ t : Fin grid0.N, win0_7.flush t = true ∧ t.val / 36 = g.val ∧ kF t.val = j := by decide +kernel
theorem find8 : ∀ (g : Fin 2) (j : Fin 8), ∃ t : Fin grid0.N, win0_8.flush t = true ∧ t.val / 36 = g.val ∧ kF t.val = j := by decide +kernel

/-- The result arrays these numbers make. -/
def tgt6 (X : Att) : (⟨S8x4096x256, .f32⟩ : BufTy).Contents (Elt Ideal) := fun i => ((X.dq (i 0) (i 1) (i 2) : ℝ) : EReal)
def tgt7 (X : Att) : (⟨S8x4096x256, .bf16⟩ : BufTy).Contents (Elt Ideal) := fun i => ((X.dk (i 0) (i 1) (i 2) : ℝ) : EReal)
def tgt8 (X : Att) : (⟨S8x4096x128, .bf16⟩ : BufTy).Contents (Elt Ideal) := fun i => ((X.dv (i 0) (i 1) (i 2) : ℝ) : EReal)

section Results
variable {X : Att} {m : (ℓ : Loc nD τ sig) → Buf (Elt Ideal) ℓ} {c : Dev nD} (H : X.Is m c)

include H
theorem left6 (t : Fin cfg0.N) (ht : t.val % 36 = 35) (a : Fin 4) (y : Fin 4096) (e : Fin 256) :
    (st m c (t.val + 1)).1 (ix3 a y e) = tgt6 X (ix3 (hd (grp t) a) y e) := by
  have hy : y = row ⟨y.val / 512, by omega⟩ ⟨y.val % 512, Nat.mod_lt _ (by omega)⟩ := Fin.ext (by show y.val = 512 * (y.val / 512) + y.val % 512; omega)
  have hn : t.val + 1 = 36 * (grp t).val + 35 + 1 := by show t.val + 1 = 36 * (t.val / 36) + 35 + 1; omega
  rw [hy, hn, dq_after H (grp t) 35 (by omega), Att.dq_tiles]
  rfl
theorem left7' (t : Fin cfg0.N) (ht : qF t.val = 7) (a : Fin 4) (r : Fin 512) (e : Fin 256) :
    k0_pay9 (st m c (t.val + 1)).2.1 (ix3 a r e) = tgt7 X (ix3 (hd (grp t) a) (row (kF t.val) r) e) := by
  have := (acc_after H t.val t.isLt).1 a r e
  rw [ht, Att.dk_tiles] at this
  exact this
theorem left8' (t : Fin cfg0.N) (ht : qF t.val = 7) (a : Fin 4) (r : Fin 512) (e : Fin 128) :
    k0_pay10 (st m c (t.val + 1)).2.2 (ix3 a r e) = tgt8 X (ix3 (hd (grp t) a) (row (kF t.val) r) e) := by
  have := (acc_after H t.val t.isLt).2 a r e
  rw [ht, Att.dv_tiles] at this
  exact this

theorem flushed6 (t : Fin cfg0.N) (hf : (cfg0.win 6).flush t = true) : (dats m 0 c).flushed 6 t = ((cfg0.win 6).blk t).view.read (Elt Ideal) (tgt6 X) := by
  show (cfg0.win 6).cut (grid0.coords t) ((dats m 0 c).after 6 t) = _
  rw [after0_6]
  funext j
  obtain ⟨h0, h1, h2⟩ := ix6 t
  obtain ⟨z0, z1, z2⟩ := sz6 t
  have j0 : (j 0).val < 4 := z0 ▸ (j 0).isLt
  have j1 : (j 1).val < 4096 := z1 ▸ (j 1).isLt
  have j2 : (j 2).val < 256 := z2 ▸ (j 2).isLt
  refine Eq.trans (congrArg (st m c (t.val + 1)).1 (funext fun k => Fin.ext ?_)) ((left6 H t ((flush0_6 t).mp hf) ⟨(j 0).val, j0⟩ ⟨(j 1).val, j1⟩ ⟨(j 2).val, j2⟩).trans
    (congrArg (tgt6 X) (funext fun k => Fin.ext ?_)))
  · match k with
    | ⟨0, _⟩ => rfl
    | ⟨1, _⟩ => rfl
    | ⟨2, _⟩ => rfl
  · match k with
    | ⟨0, _⟩ => show 4 * (t.val / 36) + (j 0).val = win0_6.index t 0 * 4 + 1 * (j 0).val; rw [h0]; omega
    | ⟨1, _⟩ => show (j 1).val = win0_6.index t 1 * 4096 + 1 * (j 1).val; rw [h1]; omega
    | ⟨2, _⟩ => show (j 2).val = win0_6.index t 2 * 256 + 1 * (j 2).val; rw [h2]; omega
theorem flushed7 (t : Fin cfg0.N) (hf : (cfg0.win 7).flush t = true) : (dats m 0 c).flushed 7 t = ((cfg0.win 7).blk t).view.read (Elt Ideal) (tgt7 X) := by
  show (cfg0.win 7).cut (grid0.coords t) ((dats m 0 c).after 7 t) = _
  rw [after0_7]
  funext j
  obtain ⟨h0, h1, h2⟩ := ix7 t
  obtain ⟨z0, z1, z2⟩ := sz7 t
  have j0 : (j 0).val < 4 := z0 ▸ (j 0).isLt
  have j1 : (j 1).val < 512 := z1 ▸ (j 1).isLt
  have j2 : (j 2).val < 256 := z2 ▸ (j 2).isLt
  refine Eq.trans (congrArg (k0_pay9 (st m c (t.val + 1)).2.1) (funext fun k => Fin.ext ?_)) ((left7' H t (last7 t hf) ⟨(j 0).val, j0⟩ ⟨(j 1).val, j1⟩ ⟨(j 2).val, j2⟩).trans
    (congrArg (tgt7 X) (funext fun k => Fin.ext ?_)))
  · match k with
    | ⟨0, _⟩ => rfl
    | ⟨1, _⟩ => rfl
    | ⟨2, _⟩ => rfl
  · match k with
    | ⟨0, _⟩ => show 4 * (t.val / 36) + (j 0).val = win0_7.index t 0 * 4 + 1 * (j 0).val; rw [h0]; omega
    | ⟨1, _⟩ => show 512 * (kF t.val).val + (j 1).val = win0_7.index t 1 * 512 + 1 * (j 1).val; rw [h1]; omega
    | ⟨2, _⟩ => show (j 2).val = win0_7.index t 2 * 256 + 1 * (j 2).val; rw [h2]; omega
theorem flushed8 (t : Fin cfg0.N) (hf : (cfg0.win 8).flush t = true) : (dats m 0 c).flushed 8 t = ((cfg0.win 8).blk t).view.read (Elt Ideal) (tgt8 X) := by
  show (cfg0.win 8).cut (grid0.coords t) ((dats m 0 c).after 8 t) = _
  rw [after0_8]
  funext j
  obtain ⟨h0, h1, h2⟩ := ix8 t
  obtain ⟨z0, z1, z2⟩ := sz8 t
  have j0 : (j 0).val < 4 := z0 ▸ (j 0).isLt
  have j1 : (j 1).val < 512 := z1 ▸ (j 1).isLt
  have j2 : (j 2).val < 128 := z2 ▸ (j 2).isLt
  refine Eq.trans (congrArg (k0_pay10 (st m c (t.val + 1)).2.2) (funext fun k => Fin.ext ?_)) ((left8' H t (last8 t hf) ⟨(j 0).val, j0⟩ ⟨(j 1).val, j1⟩ ⟨(j 2).val, j2⟩).trans
    (congrArg (tgt8 X) (funext fun k => Fin.ext ?_)))
  · match k with
    | ⟨0, _⟩ => rfl
    | ⟨1, _⟩ => rfl
    | ⟨2, _⟩ => rfl
  · match k with
    | ⟨0, _⟩ => show 4 * (t.val / 36) + (j 0).val = win0_8.index t 0 * 4 + 1 * (j 0).val; rw [h0]; omega
    | ⟨1, _⟩ => show 512 * (kF t.val).val + (j 1).val = win0_8.index t 1 * 512 + 1 * (j 1).val; rw [h1]; omega
    | ⟨2, _⟩ => show (j 2).val = win0_8.index t 2 * 128 + 1 * (j 2).val; rw [h2]; omega
end Results

theorem mem6 (t : Fin cfg0.N) (i : S8x4096x256.Idx) (h : t.val / 36 = (i 0).val / 4) : i ∈ ((cfg0.win 6).blk t).view.set := by
  show i ∈ ((View.whole main_v44_0).slice (win0_6.rect t)).set
  rw [View.set_slice_whole, Rect.mem_set_unit]
  obtain ⟨h0, h1, h2⟩ := ix6 t
  obtain ⟨z0, z1, z2⟩ := sz6 t
  have i1 : (i 1).val < 4096 := (i 1).isLt
  have i2 : (i 2).val < 256 := (i 2).isLt
  intro a
  match a with
  | ⟨0, _⟩ => show win0_6.index t 0 * 4 ≤ (i 0).val ∧ (i 0).val < win0_6.index t 0 * 4 + win0_6.xsize (grid0.coords t) 0; rw [h0, z0]; omega
  | ⟨1, _⟩ => show win0_6.index t 1 * 4096 ≤ (i 1).val ∧ (i 1).val < win0_6.index t 1 * 4096 + win0_6.xsize (grid0.coords t) 1; rw [h1, z1]; omega
  | ⟨2, _⟩ => show win0_6.index t 2 * 256 ≤ (i 2).val ∧ (i 2).val < win0_6.index t 2 * 256 + win0_6.xsize (grid0.coords t) 2; rw [h2, z2]; omega
theorem mem7 (t : Fin cfg0.N) (i : S8x4096x256.Idx) (h : t.val / 36 = (i 0).val / 4) (hk : (kF t.val).val = (i 1).val / 512) : i ∈ ((cfg0.win 7).blk t).view.set := by
  show i ∈ ((View.whole main_v44_1).slice (win0_7.rect t)).set
  rw [View.set_slice_whole, Rect.mem_set_unit]
  obtain ⟨h0, h1, h2⟩ := ix7 t
  obtain ⟨z0, z1, z2⟩ := sz7 t
  have i2 : (i 2).val < 256 := (i 2).isLt
  intro a
  match a with
  | ⟨0, _⟩ => show win0_7.index t 0 * 4 ≤ (i 0).val ∧ (i 0).val < win0_7.index t 0 * 4 + win0_7.xsize (grid0.coords t) 0; rw [h0, z0]; omega
  | ⟨1, _⟩ => show win0_7.index t 1 * 512 ≤ (i 1).val ∧ (i 1).val < win0_7.index t 1 * 512 + win0_7.xsize (grid0.coords t) 1; rw [h1, z1]; omega
  | ⟨2, _⟩ => show win0_7.index t 2 * 256 ≤ (i 2).val ∧ (i 2).val < win0_7.index t 2 * 256 + win0_7.xsize (grid0.coords t) 2; rw [h2, z2]; omega
theorem mem8 (t : Fin cfg0.N) (i : S8x4096x128.Idx) (h : t.val / 36 = (i 0).val / 4) (hk : (kF t.val).val = (i 1).val / 512) : i ∈ ((cfg0.win 8).blk t).view.set := by
  show i ∈ ((View.whole main_v44_2).slice (win0_8.rect t)).set
  rw [View.set_slice_whole, Rect.mem_set_unit]
  obtain ⟨h0, h1, h2⟩ := ix8 t
  obtain ⟨z0, z1, z2⟩ := sz8 t
  have i2 : (i 2).val < 128 := (i 2).isLt
  intro a
  match a with
  | ⟨0, _⟩ => show win0_8.index t 0 * 4 ≤ (i 0).val ∧ (i 0).val < win0_8.index t 0 * 4 + win0_8.xsize (grid0.coords t) 0; rw [h0, z0]; omega
  | ⟨1, _⟩ => show win0_8.index t 1 * 512 ≤ (i 1).val ∧ (i 1).val < win0_8.index t 1 * 512 + win0_8.xsize (grid0.coords t) 1; rw [h1, z1]; omega
  | ⟨2, _⟩ => show win0_8.index t 2 * 128 ≤ (i 2).val ∧ (i 2).val < win0_8.index t 2 * 128 + win0_8.xsize (grid0.coords t) 2; rw [h2, z2]; omega

theorem cover6 (i : S8x4096x256.Idx) : ∃ t : Fin cfg0.N, (cfg0.win 6).flush t = true ∧ i ∈ ((cfg0.win 6).blk t).view.set := by
  have i0 : (i 0).val < 8 := (i 0).isLt
  have ht : 36 * ((i 0).val / 4) + 35 < cfg0.N := by show _ < 72; omega
  exact ⟨⟨_, ht⟩, (flush0_6 _).mpr (by dsimp only; omega), mem6 _ i (by dsimp only; omega)⟩
theorem cover7 (i : S8x4096x256.Idx) : ∃ t : Fin cfg0.N, (cfg0.win 7).flush t = true ∧ i ∈ ((cfg0.win 7).blk t).view.set := by
  have i0 : (i 0).val < 8 := (i 0).isLt
  have i1 : (i 1).val < 4096 := (i 1).isLt
  obtain ⟨t, hf, hg, hk⟩ := find7 ⟨(i 0).val / 4, by omega⟩ ⟨(i 1).val / 512, by omega⟩
  exact ⟨t, hf, mem7 t i hg (congrArg Fin.val hk)⟩
theorem cover8 (i : S8x4096x128.Idx) : ∃ t : Fin cfg0.N, (cfg0.win 8).flush t = true ∧ i ∈ ((cfg0.win 8).blk t).view.set := by
  have i0 : (i 0).val < 8 := (i 0).isLt
  have i1 : (i 1).val < 4096 := (i 1).isLt
  obtain ⟨t, hf, hg, hk⟩ := find8 ⟨(i 0).val / 4, by omega⟩ ⟨(i 1).val / 512, by omega⟩
  exact ⟨t, hf, mem8 t i hg (congrArg Fin.val hk)⟩

section Results
variable {X : Att} {m : (ℓ : Loc nD τ sig) → Buf (Elt Ideal) ℓ} {c : Dev nD} (H : X.Is m c)
include H
theorem final6 : (dats m 0 c).arrAt 6 cfg0.N = tgt6 X := (dats m 0 c).arrAt_eq_of_cover 6 (tgt6 X) (flushed6 H) cover6
theorem final7 : (dats m 0 c).arrAt 7 cfg0.N = tgt7 X := (dats m 0 c).arrAt_eq_of_cover 7 (tgt7 X) (flushed7 H) cover7
theorem final8 : (dats m 0 c).arrAt 8 cfg0.N = tgt8 X := (dats m 0 c).arrAt_eq_of_cover 8 (tgt8 X) (flushed8 H) cover8
end Results

end Cert.KernelIdeal.Hand
-- ==== Proof.Entry.lean ====
/-
  What the precondition says: every number read is finite.
-/
module

public import proofs.«01_k».proof.Pre_finite
public import proofs.«01_k».proof.Proof.Words
public import Idealize.ShloMosaic.Lib.ReduceAll

@[expose] public section
set_option maxRecDepth 16384

noncomputable section

namespace Cert.Pre_finite

open Idealize.ShloMosaic Cert.Attn

/-- The shapes the predicate's operations relate. -/
theorem facts : Facts where
  bcast_S_S4096x8x128 := by decide
  reducesTo_S4096x8x128_S_d0_1_2 := by decide
  h_S_ := by decide
  bcast_S_S4096x8x64 := by decide
  reducesTo_S4096x8x64_S_d0_1_2 := by decide
  bcast_S_S4096x64 := by decide
  reducesTo_S4096x64_S_d0_1 := by decide
  slices_S4096x2048_S4096x1024_0_1024 := by decide
  bcast_S_S4096x1024 := by decide
  reducesTo_S4096x1024_S_d0_1 := by decide

theorem word_top : Ideal.ofBits .f32 0x7F800000#32 = (⊤ : EReal) := by simp [Ideal.ofBits, Ideal.ieee]

/-- A number whose size is below infinity is real. -/
theorem real_of_lt (x : EReal) (h : BitVec.ofBool (decide (max x (-x) < Ideal.ofBits .f32 0x7F800000#32)) = 1#1) : x = ((x.toReal : ℝ) : EReal) := by
  rw [word_top] at h
  have h' : max x (-x) < ⊤ := by
    by_contra hn
    rw [decide_eq_false hn] at h
    exact absurd h (by decide)
  refine (EReal.coe_toReal ?_ ?_).symm
  · intro e; rw [e] at h'; simp at h'
  · intro e; rw [e] at h'; simp at h'

instance : Subsingleton S_.Idx := ⟨fun a b => funext fun k => k.elim0⟩

section
variable [Facts]
open Facts
variable (x0 : FVec Ideal S4096x8x128 .f32) (x1 : FVec Ideal S4096x8x64 .f32) (x2 : FVec Ideal S4096x8x128 .f32) (x3 : FVec Ideal S4096x64 .f32)
    (x4 : FVec Ideal S4096x8x128 .f32) (x5 : FVec Ideal S4096x2048 .f32)

theorem parts (h : fn (F := Ideal) x0 x1 x2 x3 x4 x5 = fun _ => 1#1) :
    (∀ i, x0 i = (((x0 i : EReal).toReal : ℝ) : EReal)) ∧ (∀ i, x1 i = (((x1 i : EReal).toReal : ℝ) : EReal)) ∧ (∀ i, x2 i = (((x2 i : EReal).toReal : ℝ) : EReal))
    ∧ (∀ i, x3 i = (((x3 i : EReal).toReal : ℝ) : EReal)) ∧ (∀ i, x4 i = (((x4 i : EReal).toReal : ℝ) : EReal))
    ∧ (∀ i, extractStridedSlice S4096x1024 ![0, 1024] x5 slices_S4096x2048_S4096x1024_0_1024 i
        = (((extractStridedSlice S4096x1024 ![0, 1024] x5 slices_S4096x2048_S4096x1024_0_1024 i : EReal).toReal : ℝ) : EReal)) := by
  have e := congrFun h (fun k => k.elim0)
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i),
    fun i => real_of_lt _ (Host.reduce_andi_all _ _ _ _ _ e4 i), fun i => real_of_lt _ (Host.reduce_andi_all _ _ _ _ _ e5 i)⟩

/-- The numbers the arrays hold. -/
def args : Args where
  qn q h e := (x0 (ix3 q h e) : EReal).toReal
  qr q h e := (x1 (ix3 q h e) : EReal).toReal
  kn q h e := (x2 (ix3 q h e) : EReal).toReal
  kr q e := (x3 (ix2 q e) : EReal).toReal
  v q h e := (x4 (ix3 q h e) : EReal).toReal
  d q h e := (x5 (ix2 q (col h e)) : EReal).toReal

theorem args_is (h : fn (F := Ideal) x0 x1 x2 x3 x4 x5 = fun _ => 1#1) : (args x0 x1 x2 x3 x4 x5).Is x0 x1 x2 x3 x4 x5 := by
  obtain ⟨h0, h1, h2, h3, h4, h5⟩ := parts x0 x1 x2 x3 x4 x5 h
  refine ⟨fun q h e => h0 _, fun q h e => h1 _, fun q h e => h2 _, fun q e => h3 _, fun q h e => h4 _, fun q h e => ?_⟩
  have hc : 128 * h.val + e.val < 1024 := by omega
  have := h5 (ix2 q ⟨128 * h.val + e.val, hc⟩)
  have hi : extractStridedSlice S4096x1024 ![0, 1024] x5 slices_S4096x2048_S4096x1024_0_1024 (ix2 q ⟨128 * h.val + e.val, hc⟩) = x5 (ix2 q (col h e)) := by
    refine congrArg x5 (funext fun k => Fin.ext ?_)
    match k with
    | ⟨0, _⟩ => show 0 + q.val = q.val; omega
    | ⟨1, _⟩ => show 1024 + (128 * h.val + e.val) = (col h e).val; unfold col; dsimp only; omega
  rw [hi] at this
  exact this
end

end Cert.Pre_finite
-- ==== Proof.Match.lean ====
/-
  Both programs end with the same three arrays.
-/
module

public import proofs.«01_k».proof.Defs
public import proofs.«01_k».proof.Proof.Gen.ReferenceIdeal.Run
public import proofs.«01_k».proof.Proof.RefVal
public import proofs.«01_k».proof.Proof.HostVal
public import proofs.«01_k».proof.Proof.Final
public import proofs.«01_k».proof.Proof.Entry
public import proofs.«01_k».proof.Proof.Run

@[expose] public section
set_option maxRecDepth 16384

noncomputable section

namespace Cert.KernelIdeal.Hand
open Cert.KernelIdeal Cert.KernelIdeal.Gen Cert.Attn
open Idealize.ShloMosaic Idealize.ShloMosaic.TcCoe

section
variable {A : Args}
theorem att_dq (h : Fin 8) (q : Fin 4096) (e : Fin 256) : (att A).dq h q e = ∑ k, A.G h q k * A.lk h k e :=
  Finset.sum_congr rfl fun k _ => congrArg (· * A.lk h k e) (att_G h k q)
theorem att_dk (h : Fin 8) (k : Fin 4096) (e : Fin 256) : (att A).dk h k e = ∑ q, A.G h q k * A.lq h q e :=
  Finset.sum_congr rfl fun q _ => congrArg (· * A.lq h q e) (att_G h k q)
theorem att_dv (h : Fin 8) (k : Fin 4096) (e : Fin 128) : (att A).dv h k e = ∑ q, A.W h q k * A.d q h e :=
  Finset.sum_congr rfl fun q _ => congrArg (· * A.d q h e) (att_P h k q)
end

section
variable {A : Args} {x0 x2 x4 : (⟨S4096x8x128, .f32⟩ : BufTy).Contents (Elt Ideal)} {x1 : (⟨S4096x8x64, .f32⟩ : BufTy).Contents (Elt Ideal)}
    {x3 : (⟨S4096x64, .f32⟩ : BufTy).Contents (Elt Ideal)} {x5 : (⟨S4096x2048, .f32⟩ : BufTy).Contents (Elt Ideal)} (H : A.Is x0 x1 x2 x3 x4 x5)
include H
/-- The reference's gradients are the arrays of the whole sums. -/
theorem ref_dq : Cert.ReferenceIdeal.Read.val_main_v77 (F := Ideal) x0 x1 x2 x3 x4 x5 = tgt6 (att A) := by
  funext i
  rw [eq_ix3 i]
  refine (Cert.ReferenceIdeal.Read.dq_real H (i 0) (i 1) (i 2)).trans ?_
  exact congrArg Real.toEReal (att_dq (i 0) (i 1) (i 2)).symm
theorem ref_dk : Cert.ReferenceIdeal.Read.val_main_v80 (F := Ideal) x0 x1 x2 x3 x4 x5 = tgt7 (att A) := by
  funext i
  rw [eq_ix3 i]
  refine (Cert.ReferenceIdeal.Read.dk_real H (i 0) (i 1) (i 2)).trans ?_
  exact congrArg Real.toEReal (att_dk (i 0) (i 1) (i 2)).symm
theorem ref_dv : Cert.ReferenceIdeal.Read.val_main_v82 (F := Ideal) x0 x1 x2 x3 x5 = tgt8 (att A) := by
  funext i
  rw [eq_ix3 i]
  refine (Cert.ReferenceIdeal.Read.dv_real H (i 0) (i 1) (i 2)).trans ?_
  exact congrArg Real.toEReal (att_dv (i 0) (i 1) (i 2)).symm
end

theorem gradients : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hag
  have H : ∀ c : Dev nD, ∃ A : Args, A.Is (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) :=
    fun c => ⟨_, @Cert.Pre_finite.args_is Cert.Pre_finite.facts _ _ _ _ _ _ (hpre c)⟩
  choose A HA using H
  refine ⟨fun c => tgt6 (att (A c)), fun c => tgt7 (att (A c)), fun c => tgt8 (att (A c)), ?_, ?_⟩
  · refine (θ_run _ _ _).mono (fun r h c => ⟨((h.1 c).1 6).trans (final6 (att_is (HA c))), ((h.1 c).1 7).trans (final7 (att_is (HA c))),
      ((h.1 c).1 8).trans (final8 (att_is (HA c))),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).1 3).trans (((dats m 0 c).arrAt_in 3 rfl _).trans ((A_eq m c 3).trans (V_main_arg5 m c)))⟩) (run_main m g)
  · refine (θ_run _ _ _).mono (fun r h c => ?_) (Cert.ReferenceIdeal.Value.run m' g')
    obtain ⟨a0, a1, a2, a3, a4, a5⟩ := hag c
    obtain ⟨h1, h2, h3, h4⟩ := h c
    refine ⟨h1.trans ?_, h2.trans ?_, h3.trans ?_, h4⟩
    · rw [Cert.ReferenceIdeal.Read.val_main_v77_eq, a0, a1, a2, a3, a4, a5]
      exact ref_dq (HA c)
    · rw [Cert.ReferenceIdeal.Read.val_main_v80_eq, a0, a1, a2, a3, a4, a5]
      exact ref_dk (HA c)
    · rw [Cert.ReferenceIdeal.Read.val_main_v82_eq, a0, a1, a2, a3, a5]
      exact ref_dv (HA c)

end Cert.KernelIdeal.Hand
-- ==== Proof.Dots.lean ====
/-
  What the MLP's products share: the words they use, and sums taken block by block.
-/
module

public import Idealize.ShloMosaic.Lib.Pointwise
public import Idealize.ShloMosaic.Lib.WordCmp

@[expose] public section

noncomputable section

namespace Cert.Dots
open Idealize.ShloMosaic

theorem word_two : Ideal.ofBits .f32 0x40000000#32 = ((2 : ℝ) : EReal) := by
  simp [Ideal.ofBits, Ideal.ieee]
  rw [← EReal.coe_mul]
  norm_num

/-- Twice a number that is not negative, times another. -/
theorem mul_two {u : EReal} (hu : 0 ≤ u) (a : EReal) : a * (((2 : ℝ) : EReal) * u) = u * a + a * u := by
  have h2 : ((2 : ℝ) : EReal) = 1 + 1 := by norm_cast
  rw [h2, EReal.right_distrib_of_nonneg zero_le_one zero_le_one, one_mul, EReal.left_distrib_of_nonneg hu hu, mul_comm u a]

/-- The square of the positive part's slope, with and without the case that drops what is not positive. -/
theorem slope (x a : EReal) : (if 0 < x then max x 0 * a + a * max x 0 else 0) = a * (((2 : ℝ) : EReal) * max x 0) := by
  by_cases h : 0 < x
  · rw [if_pos h, mul_two (le_max_right x 0)]
  · rw [if_neg h, max_eq_right (not_lt.mp h), mul_zero, mul_zero]

/-- A sum in two halves, and in four quarters added one after another. -/
theorem sum_halves {n N : ℕ} (hN : N = n * 2) (f : Fin N → EReal) :
    (∑ k : Fin n, f ⟨k.val, by omega⟩) + ∑ k : Fin n, f ⟨n + k.val, by omega⟩ = ∑ k, f k := by
  subst hN
  rw [← Fintype.sum_equiv (finCongr (show n + n = n * 2 by omega)) (fun k => f (Fin.cast (by omega) k)) f (fun k => rfl), Fin.sum_univ_add]
  rfl
theorem sum_quarters {n N : ℕ} (hN : N = n * 4) (f : Fin N → EReal) :
    (((∑ k : Fin n, f ⟨k.val, by omega⟩) + ∑ k : Fin n, f ⟨n + k.val, by omega⟩) + ∑ k : Fin n, f ⟨2 * n + k.val, by omega⟩)
      + ∑ k : Fin n, f ⟨3 * n + k.val, by omega⟩ = ∑ k, f k := by
  rw [← sum_halves (n := n * 2) (by omega) f, ← sum_halves (n := n) rfl (fun k => f ⟨k.val, by omega⟩),
    ← sum_halves (n := n) rfl (fun k => f ⟨n * 2 + k.val, by omega⟩), add_assoc]
  congr 2
  · exact Finset.sum_congr rfl fun k _ => congrArg f (Fin.ext (by show 2 * n + k.val = n * 2 + k.val; omega))
  · exact Finset.sum_congr rfl fun k _ => congrArg f (Fin.ext (by show 3 * n + k.val = n * 2 + (n + k.val); omega))

end Cert.Dots
-- ==== Proof.Ff2DxVal.lean ====
/-
  The gradient of the second product's input: the kernel's array is the reference's.
-/
module

public import proofs.«01_k».proof.Defs
public import proofs.«01_k».proof.Proof.Dots
public import proofs.«01_k».proof.Proof.Gen.Ff2DxIdeal.Value
public import proofs.«01_k».proof.Proof.Gen.Ff2DxRefIdeal.Run
public import proofs.«01_k».proof.Proof.Gen.Ff2DxRefIdeal.Read
public import Idealize.ShloMosaic.Lib.StableHlo.Run

@[expose] public section
set_option maxRecDepth 16384

noncomputable section

namespace Cert.Ff2DxIdeal.Hand
open Cert.Ff2DxIdeal Cert.Ff2DxIdeal.Gen Cert.Dots
open Idealize.ShloMosaic Idealize.ShloMosaic.TcCoe

/-- One tile: the product's entry times the slope of the squared positive part. -/
theorem pay_at (x y : Vec Ideal S1024x2048 .bf16) (u : Vec Ideal S1024x1024 .f32) (r c : Fin 1024) :
    k0_pay1 x y u (ix2 r c) = (∑ k : Fin 2048, x (ix2 r k) * y (ix2 c k)) * (((2 : ℝ) : EReal) * u (ix2 r c)) := by
  pointwise [k0_pay1]
  rw [word_two]

/-- The reference at an index. -/
theorem ref_at (x0 : (⟨S4096x8192, .f32⟩ : BufTy).Contents (Elt Ideal)) (x1 : (⟨S8192x2048, .f32⟩ : BufTy).Contents (Elt Ideal))
    (x2 : (⟨S4096x2048, .f32⟩ : BufTy).Contents (Elt Ideal)) (r : Fin 4096) (c : Fin 8192) :
    Cert.Ff2DxRefIdeal.Read.val_main_v14 (F := Ideal) x0 x1 x2 (ix2 r c)
      = (∑ k : Fin 2048, x2 (ix2 r k) * x1 (ix2 c k)) * (((2 : ℝ) : EReal) * max (x0 (ix2 r c)) 0) := by
  rw [← slope]
  rw [← Cert.Ff2DxRefIdeal.Read.val_main_v14_eq]
  pointwise

/-- The positive part, as the host computes it. -/
def relu (x : (⟨S4096x8192, .f32⟩ : BufTy).Contents (Elt Ideal)) : (⟨S4096x8192, .f32⟩ : BufTy).Contents (Elt Ideal) :=
  maximumf x (broadcastInDim S4096x8192 ![] bcast_S_S4096x8192 (constant (F := Ideal) S_ .f32 0x00000000#32))
theorem relu_at (x : (⟨S4096x8192, .f32⟩ : BufTy).Contents (Elt Ideal)) (r : Fin 4096) (s : Fin 8192) : relu x (ix2 r s) = max (x (ix2 r s)) 0 := by
  pointwise [relu]

section
variable (m : (ℓ : Loc nD τ sig) → Buf (Elt Ideal) ℓ) (c : Dev nD)

theorem V_v0 : V m c main_v0 = relu (m ((c : Thread nD τ).loc main_arg0)) := by
  simp only [V, hostOps0, hostOps0_1, List.flatten_cons, List.flatten_nil, List.append_nil, List.cons_append, List.nil_append, StableHlo.TRef.nullary, StableHlo.TRef.unary, StableHlo.TRef.binary, StableHlo.TRef.toBuf, StableHlo.TRef.ofBuf, cast_eq]
  after_results_simp
  rfl
theorem V_v1 : V m c main_v1 = m ((c : Thread nD τ).loc main_arg2) := by
  simp only [V, hostOps0, hostOps0_1, List.flatten_cons, List.flatten_nil, List.append_nil, List.cons_append, List.nil_append, StableHlo.TRef.nullary, StableHlo.TRef.unary, StableHlo.TRef.binary, StableHlo.TRef.toBuf, StableHlo.TRef.ofBuf, cast_eq]
  after_results_simp
  rfl
theorem V_v2 : V m c main_v2 = m ((c : Thread nD τ).loc main_arg1) := by
  simp only [V, hostOps0, hostOps0_1, List.flatten_cons, List.flatten_nil, List.append_nil, List.cons_append, List.nil_append, StableHlo.TRef.nullary, StableHlo.TRef.unary, StableHlo.TRef.binary, StableHlo.TRef.toBuf, StableHlo.TRef.ofBuf, cast_eq]
  after_results_simp
  rfl

/-! ## Where the blocks lie, from the output's -/

theorem ixs : ∀ t : Fin grid0.N, win0_0.index t 0 = win0_3.index t 0 ∧ win0_0.index t 1 = 0 ∧ win0_1.index t 0 = win0_3.index t 1 ∧ win0_1.index t 1 = 0
    ∧ win0_2.index t 0 = win0_3.index t 0 ∧ win0_2.index t 1 = win0_3.index t 1 ∧ win0_3.index t 0 < 4 ∧ win0_3.index t 1 < 8 := by decide +kernel
theorem szs : ∀ t : Fin grid0.N, win0_3.xsize (grid0.coords t) 0 = 1024 ∧ win0_3.xsize (grid0.coords t) 1 = 1024 := by decide +kernel
theorem find : ∀ (a : Fin 4) (b : Fin 8), ∃ t : Fin grid0.N, win0_3.flush t = true ∧ win0_3.index t 0 = a.val ∧ win0_3.index t 1 = b.val := by decide +kernel

/-- The array the kernel leaves, as the reference's value of the arguments. -/
abbrev tgt : (⟨S4096x8192, .bf16⟩ : BufTy).Contents (Elt Ideal) :=
  Cert.Ff2DxRefIdeal.Read.val_main_v14 (F := Ideal) (m ((c : Thread nD τ).loc main_arg0)) (m ((c : Thread nD τ).loc main_arg1)) (m ((c : Thread nD τ).loc main_arg2))

theorem hz : (![0, 0] : Fin 2 → Nat) = fun _ => 0 := funext fun a => by fin_cases a <;> rfl

def xB (t : Fin cfg0.N) : Vec Ideal S1024x2048 .bf16 := iblk m c 0 t
def yB (t : Fin cfg0.N) : Vec Ideal S1024x2048 .bf16 := iblk m c 1 t
def uB (t : Fin cfg0.N) : Vec Ideal S1024x1024 .f32 := iblk m c 2 t

theorem out_eq (x y : Vec Ideal S1024x2048 .bf16) (u : Vec Ideal S1024x1024 .f32) : out0_3 x y u = k0_pay1 x y u := by
  unfold out0_3
  rw [View.canon_unit_zero hz]
  simp only [View.ld_unit_zero (S := S1024x2048) hz, View.ld_unit_zero (S := S1024x1024) hz]

/-- The row (column) of the output's block that entry `r` of it is. -/
def rw' (t : Fin cfg0.N) (r : Fin 1024) : Fin 4096 := ⟨1024 * win0_3.index t 0 + r.val, by have := (ixs t).2.2.2.2.2.2.1; omega⟩
def cl' (t : Fin cfg0.N) (r : Fin 1024) : Fin 8192 := ⟨1024 * win0_3.index t 1 + r.val, by have := (ixs t).2.2.2.2.2.2.2; omega⟩

theorem xB_at (t : Fin cfg0.N) (r : Fin 1024) (k : Fin 2048) : xB m c t (ix2 r k) = m ((c : Thread nD τ).loc main_arg2) (ix2 (rw' t r) k) := by
  rw [← V_v1 m c]
  refine congrArg (V m c main_v1) (funext fun a => Fin.ext ?_)
  obtain ⟨h0, h1, -⟩ := ixs t
  match a with
  | ⟨0, _⟩ => show win0_0.index t 0 * 1024 + 1 * r.val = 1024 * win0_3.index t 0 + r.val; rw [h0]; omega
  | ⟨1, _⟩ => show win0_0.index t 1 * 2048 + 1 * k.val = k.val; rw [h1]; omega
theorem yB_at (t : Fin cfg0.N) (r : Fin 1024) (k : Fin 2048) : yB m c t (ix2 r k) = m ((c : Thread nD τ).loc main_arg1) (ix2 (cl' t r) k) := by
  rw [← V_v2 m c]
  refine congrArg (V m c main_v2) (funext fun a => Fin.ext ?_)
  obtain ⟨-, -, h0, h1, -⟩ := ixs t
  match a with
  | ⟨0, _⟩ => show win0_1.index t 0 * 1024 + 1 * r.val = 1024 * win0_3.index t 1 + r.val; rw [h0]; omega
  | ⟨1, _⟩ => show win0_1.index t 1 * 2048 + 1 * k.val = k.val; rw [h1]; omega
theorem uB_at (t : Fin cfg0.N) (r s : Fin 1024) : uB m c t (ix2 r s) = relu (m ((c : Thread nD τ).loc main_arg0)) (ix2 (rw' t r) (cl' t s)) := by
  rw [← V_v0 m c]
  refine congrArg (V m c main_v0) (funext fun a => Fin.ext ?_)
  obtain ⟨-, -, -, -, h0, h1, -⟩ := ixs t
  match a with
  | ⟨0, _⟩ => show win0_2.index t 0 * 1024 + 1 * r.val = 1024 * win0_3.index t 0 + r.val; rw [h0]; omega
  | ⟨1, _⟩ => show win0_2.index t 1 * 1024 + 1 * s.val = 1024 * win0_3.index t 1 + s.val; rw [h1]; omega

theorem left (t : Fin cfg0.N) (r s : Fin 1024) : k0_pay1 (xB m c t) (yB m c t) (uB m c t) (ix2 r s) = tgt m c (ix2 (rw' t r) (cl' t s)) := by
  rw [pay_at, uB_at, relu_at]
  refine Eq.trans ?_ (ref_at _ _ _ _ _).symm
  refine congrArg (· * _) (Finset.sum_congr rfl fun k _ => ?_)
  rw [xB_at, yB_at]

theorem flushed (t : Fin cfg0.N) (hf : (cfg0.win 3).flush t = true) : (dats m 0 c).flushed 3 t = ((cfg0.win 3).blk t).view.read (Elt Ideal) (tgt m c) := by
  rw [Value.flushed3]
  show (cfg0.win 3).cut (grid0.coords t) (out0_3 (xB m c t) (yB m c t) (uB m c t)) = _
  rw [out_eq]
  funext j
  obtain ⟨z0, z1⟩ := szs t
  have j0 : (j 0).val < 1024 := z0 ▸ (j 0).isLt
  have j1 : (j 1).val < 1024 := z1 ▸ (j 1).isLt
  refine Eq.trans (congrArg (k0_pay1 (xB m c t) (yB m c t) (uB m c t)) (funext fun k => Fin.ext ?_)) ((left m c t ⟨(j 0).val, j0⟩ ⟨(j 1).val, j1⟩).trans
    (congrArg (tgt m c) (funext fun k => Fin.ext ?_)))
  · match k with
    | ⟨0, _⟩ => rfl
    | ⟨1, _⟩ => rfl
  · match k with
    | ⟨0, _⟩ => show 1024 * win0_3.index t 0 + (j 0).val = win0_3.index t 0 * 1024 + 1 * (j 0).val; omega
    | ⟨1, _⟩ => show 1024 * win0_3.index t 1 + (j 1).val = win0_3.index t 1 * 1024 + 1 * (j 1).val; omega

theorem final : (dats m 0 c).arrAt 3 cfg0.N = tgt m c :=
  (dats m 0 c).arrAt_eq_of_cover 3 (tgt m c) (flushed m c) fun i => by
    have i0 : (i 0 : Nat) < 4096 := (i 0).isLt
    have i1 : (i 1 : Nat) < 8192 := (i 1).isLt
    obtain ⟨t, hf, h0, h1⟩ := find ⟨(i 0 : Nat) / 1024, by omega⟩ ⟨(i 1 : Nat) / 1024, by omega⟩
    refine ⟨t, hf, ?_⟩
    show i ∈ ((View.whole main_v3).slice (win0_3.rect t)).set
    rw [View.set_slice_whole, Rect.mem_set_unit]
    obtain ⟨z0, z1⟩ := szs t
    intro a
    match a with
    | ⟨0, _⟩ =>
      show win0_3.index t 0 * 1024 ≤ (i 0 : Nat) ∧ (i 0 : Nat) < win0_3.index t 0 * 1024 + win0_3.xsize (grid0.coords t) 0
      rw [z0, h0]; dsimp only; omega
    | ⟨1, _⟩ =>
      show win0_3.index t 1 * 1024 ≤ (i 1 : Nat) ∧ (i 1 : Nat) < win0_3.index t 1 * 1024 + win0_3.xsize (grid0.coords t) 1
      rw [z1, h1]; dsimp only; omega
end

theorem same : Cert.algebraic_Ff2DxIdeal_Ff2DxRefIdeal (hFf2DxIdeal := Cert.Ff2DxIdeal.Gen.facts) (hFf2DxRefIdeal := Cert.Ff2DxRefIdeal.Gen.facts) := by
  intro m g m' g' _ hag
  refine ⟨fun c => tgt m c, ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.Ff2DxRefIdeal.Value.run m' g')
    obtain ⟨a0, a1, a2⟩ := hag c
    rw [Cert.Ff2DxRefIdeal.Read.val_main_v14_eq, a0, a1, a2]

end Cert.Ff2DxIdeal.Hand
-- ==== Proof.Ff2DwVal.lean ====
/-
  The gradient of the second product's weights: the kernel's array is the reference's.
-/
module

public import proofs.«01_k».proof.Defs
public import proofs.«01_k».proof.Proof.Dots
public import proofs.«01_k».proof.Proof.Gen.Ff2DwIdeal.Value
public import proofs.«01_k».proof.Proof.Gen.Ff2DwRefIdeal.Run
public import proofs.«01_k».proof.Proof.Gen.Ff2DwRefIdeal.Read
public import Idealize.ShloMosaic.Lib.StableHlo.Run
public import Idealize.ShloMosaic.Lib.Tactic

@[expose] public section
set_option maxRecDepth 16384

noncomputable section

namespace Cert.Ff2DwIdeal.Hand
open Cert.Ff2DwIdeal Cert.Ff2DwIdeal.Gen Cert.Dots
open Idealize.ShloMosaic Idealize.ShloMosaic.TcCoe

/-- One tile's half of the sum: alone, and added onto the first half. -/
theorem pay2_at (x y : Vec Ideal S2048x1024 .bf16) (r c : Fin 1024) : k0_pay2 x y (ix2 r c) = ∑ k : Fin 2048, x (ix2 k r) * y (ix2 k c) := by
  pointwise [k0_pay2, k0_pay1]
theorem pay4_at (x y : Vec Ideal S2048x1024 .bf16) (z : Vec Ideal S1024x1024 .f32) (r c : Fin 1024) :
    k0_pay4 x y z (ix2 r c) = z (ix2 r c) + ∑ k : Fin 2048, x (ix2 k r) * y (ix2 k c) := by
  pointwise [k0_pay4, k0_pay1]

/-- The squared positive part, as the host computes it. -/
def sq (x : (⟨S4096x8192, .f32⟩ : BufTy).Contents (Elt Ideal)) : (⟨S4096x8192, .f32⟩ : BufTy).Contents (Elt Ideal) :=
  mulf (F := Ideal) (maximumf (F := Ideal) x (broadcastInDim S4096x8192 ![] bcast_S_S4096x8192 (constant (F := Ideal) S_ .f32 0x00000000#32)))
    (maximumf (F := Ideal) x (broadcastInDim S4096x8192 ![] bcast_S_S4096x8192 (constant (F := Ideal) S_ .f32 0x00000000#32)))

/-- The reference at an index. -/
theorem ref_at (x0 : (⟨S4096x8192, .f32⟩ : BufTy).Contents (Elt Ideal)) (x2 : (⟨S4096x2048, .f32⟩ : BufTy).Contents (Elt Ideal)) (r : Fin 8192) (c : Fin 2048) :
    Cert.Ff2DwRefIdeal.Read.val_main_v14 (F := Ideal) x0 x2 (ix2 r c) = ∑ k : Fin 4096, sq x0 (ix2 k r) * x2 (ix2 k c) := by
  rw [← Cert.Ff2DwRefIdeal.Read.val_main_v14_eq]
  refine Eq.trans ?_ (Finset.sum_congr rfl fun k _ => mul_comm (x2 (ix2 k c)) (sq x0 (ix2 k r)))
  unfold sq
  pointwise

section
variable (m : (ℓ : Loc nD τ sig) → Buf (Elt Ideal) ℓ) (c : Dev nD)

theorem V_v2 : V m c main_v2 = sq (m ((c : Thread nD τ).loc main_arg0)) := by
  simp only [V, hostOps0, hostOps0_1, List.flatten_cons, List.flatten_nil, List.append_nil, List.cons_append, List.nil_append, StableHlo.TRef.nullary, StableHlo.TRef.unary, StableHlo.TRef.binary, StableHlo.TRef.toBuf, StableHlo.TRef.ofBuf, cast_eq]
  after_results_simp
  rfl
theorem V_v3 : V m c main_v3 = m ((c : Thread nD τ).loc main_arg2) := by
  simp only [V, hostOps0, hostOps0_1, List.flatten_cons, List.flatten_nil, List.append_nil, List.cons_append, List.nil_append, StableHlo.TRef.nullary, StableHlo.TRef.unary, StableHlo.TRef.binary, StableHlo.TRef.toBuf, StableHlo.TRef.ofBuf, cast_eq]
  after_results_simp
  rfl

/-! ## Where the blocks lie, from the output's -/

theorem ixs : ∀ t : Fin grid0.N, win0_0.index t 0 = t.val % 2 ∧ win0_0.index t 1 = win0_2.index t 0 ∧ win0_1.index t 0 = t.val % 2 ∧ win0_1.index t 1 = win0_2.index t 1
    ∧ win0_2.index t 0 < 8 ∧ win0_2.index t 1 < 2 := by decide +kernel
theorem ixp : ∀ t : Fin grid0.N, t.val % 2 = 1 → ∀ u : Fin grid0.N, u.val + 1 = t.val → win0_2.index u 0 = win0_2.index t 0 ∧ win0_2.index u 1 = win0_2.index t 1 := by decide +kernel
theorem szs : ∀ t : Fin grid0.N, win0_2.xsize (grid0.coords t) 0 = 1024 ∧ win0_2.xsize (grid0.coords t) 1 = 1024 := by decide +kernel
theorem find : ∀ (a : Fin 8) (b : Fin 2), ∃ t : Fin grid0.N, win0_2.flush t = true ∧ win0_2.index t 0 = a.val ∧ win0_2.index t 1 = b.val := by decide +kernel

/-- The array the kernel leaves, as the reference's value of the arguments. -/
abbrev tgt : (⟨S8192x2048, .bf16⟩ : BufTy).Contents (Elt Ideal) :=
  Cert.Ff2DwRefIdeal.Read.val_main_v14 (F := Ideal) (m ((c : Thread nD τ).loc main_arg0)) (m ((c : Thread nD τ).loc main_arg2))

theorem hz : (![0, 0] : Fin 2 → Nat) = fun _ => 0 := funext fun a => by fin_cases a <;> rfl

def xB (t : Fin cfg0.N) : Vec Ideal S2048x1024 .bf16 := iblk m c 0 t
def yB (t : Fin cfg0.N) : Vec Ideal S2048x1024 .bf16 := iblk m c 1 t

/-- What the two kinds of point leave: the first half in the carried block, the whole sum in the output's. -/
theorem sout_A (i : grid0.Coords) (a3 : Memref sig .tc .vmem S2048x1024 .bf16) (h3 : a3.IsWhole) (a4 : Memref sig .tc .vmem S2048x1024 .bf16) (h4 : a4.IsWhole)
    (a5 : Memref sig .tc .vmem S1024x1024 .bf16) (h5 : a5.IsWhole) (a6 : Memref sig .tc .vmem S1024x1024 .f32) (h6 : a6.IsWhole) (hc0 : cond0_0 i) (hc1 : ¬cond0_1 i) (hc2 : ¬cond0_2 i)
    (x y : Vec Ideal S2048x1024 .bf16) : sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero hz]
  simp only [View.readAt_eq_ld, h3.read_unread, h4.read_unread, View.ld_unit_zero (S := S2048x1024) hz]
theorem out_B (i : grid0.Coords) (a3 : Memref sig .tc .vmem S2048x1024 .bf16) (h3 : a3.IsWhole) (a4 : Memref sig .tc .vmem S2048x1024 .bf16) (h4 : a4.IsWhole)
    (a5 : Memref sig .tc .vmem S1024x1024 .bf16) (h5 : a5.IsWhole) (a6 : Memref sig .tc .vmem S1024x1024 .f32) (h6 : a6.IsWhole) (hc0 : ¬cond0_0 i) (hc1 : ¬cond0_1 i) (hc2 : cond0_2 i)
    (x y : Vec Ideal S2048x1024 .bf16) (z : Vec Ideal S1024x1024 .f32) : out0_B_2 c i a3 h3 a4 h4 a5 h5 a6 h6 hc0 hc1 hc2 x y z = k0_pay4 x y z := by
  unfold out0_B_2
  rw [View.read_writes_eq_canon _ _ _ (cover0_B_2 c i a3 h3 a4 h4 a5 h5 a6 h6 hc0 hc1 hc2 x y z)]
  unfold kernelRun0_B
  dsimp only
  sl_unfold_words
  rw [View.canon_unit_zero hz]
  simp only [View.readAt_eq_ld, h3.read_unread, h4.read_unread, h6.read_unread, View.ld_unit_zero (S := S2048x1024) hz, View.ld_unit_zero (S := S1024x1024) hz]

/-- The row (column) of the output that entry `r` of its block is, and the row of the half. -/
def rw' (t : Fin cfg0.N) (r : Fin 1024) : Fin 8192 := ⟨1024 * win0_2.index t 0 + r.val, by have := (ixs t).2.2.2.2.1; omega⟩
def cl' (t : Fin cfg0.N) (r : Fin 1024) : Fin 2048 := ⟨1024 * win0_2.index t 1 + r.val, by have := (ixs t).2.2.2.2.2; omega⟩
def half (t : Fin cfg0.N) (k : Fin 2048) : Fin 4096 := ⟨2048 * (t.val % 2) + k.val, by omega⟩

theorem xB_at (t : Fin cfg0.N) (k : Fin 2048) (r : Fin 1024) : xB m c t (ix2 k r) = sq (m ((c : Thread nD τ).loc main_arg0)) (ix2 (half t k) (rw' t r)) := by
  rw [← V_v2 m c]
  refine congrArg (V m c main_v2) (funext fun a => Fin.ext ?_)
  obtain ⟨h0, h1, -⟩ := ixs t
  match a with
  | ⟨0, _⟩ => show win0_0.index t 0 * 2048 + 1 * k.val = 2048 * (t.val % 2) + k.val; rw [h0]; omega
  | ⟨1, _⟩ => show win0_0.index t 1 * 1024 + 1 * r.val = 1024 * win0_2.index t 0 + r.val; rw [h1]; omega
theorem yB_at (t : Fin cfg0.N) (k : Fin 2048) (r : Fin 1024) : yB m c t (ix2 k r) = m ((c : Thread nD τ).loc main_arg2) (ix2 (half t k) (cl' t r)) := by
  rw [← V_v3 m c]
  refine congrArg (V m c main_v3) (funext fun a => Fin.ext ?_)
  obtain ⟨-, -, h0, h1, -⟩ := ixs t
  match a with
  | ⟨0, _⟩ => show win0_1.index t 0 * 2048 + 1 * k.val = 2048 * (t.val % 2) + k.val; rw [h0]; omega
  | ⟨1, _⟩ => show win0_1.index t 1 * 1024 + 1 * r.val = 1024 * win0_2.index t 1 + r.val; rw [h1]; omega

/-- What the point before the last of a block leaves in the carried block. -/
theorem carried (t u : Fin cfg0.N) (ht : t.val % 2 = 1) (hu : u.val + 1 = t.val) (hl : t.val - 1 < cfg0.N) : (outsAt0 m c (t.val - 1) hl).2 = k0_pay2 (xB m c u) (yB m c u) := by
  have e := outsAt0_A m c u (by omega) (by omega)
  have e2 : outsAt0 m c (t.val - 1) hl = outsAt0 m c u.val u.isLt := by
    have : t.val - 1 = u.val := by omega
    simp only [this]
  rw [e2, e]
  dsimp only
  rw [sout_A]
  rfl

theorem left (t : Fin cfg0.N) (ht : t.val % 2 = 1) (hl : t.val - 1 < cfg0.N) (r s : Fin 1024) :
    k0_pay4 (xB m c t) (yB m c t) (outsAt0 m c (t.val - 1) hl).2 (ix2 r s) = tgt m c (ix2 (rw' t r) (cl' t s)) := by
  have hu : (⟨t.val - 1, hl⟩ : Fin cfg0.N).val + 1 = t.val := by dsimp only; omega
  rw [carried m c t ⟨t.val - 1, hl⟩ ht hu, pay4_at, pay2_at]
  refine Eq.trans ?_ (ref_at _ _ _ _).symm
  rw [← sum_halves (n := 2048) rfl]
  obtain ⟨p0, p1⟩ := ixp t ht ⟨t.val - 1, hl⟩ hu
  refine congrArg₂ (· + ·) (Finset.sum_congr rfl fun k _ => ?_) (Finset.sum_congr rfl fun k _ => ?_)
  · rw [xB_at, yB_at]
    have e0 : half ⟨t.val - 1, hl⟩ k = ⟨k.val, by omega⟩ := Fin.ext (by show 2048 * ((t.val - 1) % 2) + k.val = k.val; omega)
    have e1 : rw' ⟨t.val - 1, hl⟩ r = rw' t r := Fin.ext (by show 1024 * win0_2.index ⟨t.val - 1, hl⟩ 0 + r.val = 1024 * win0_2.index t 0 + r.val; rw [p0])
    have e2 : cl' ⟨t.val - 1, hl⟩ s = cl' t s := Fin.ext (by show 1024 * win0_2.index ⟨t.val - 1, hl⟩ 1 + s.val = 1024 * win0_2.index t 1 + s.val; rw [p1])
    rw [e0, e1, e2]
  · rw [xB_at, yB_at]
    have e0 : half t k = ⟨2048 + k.val, by omega⟩ := Fin.ext (by show 2048 * (t.val % 2) + k.val = 2048 + k.val; rw [ht])
    rw [e0]

theorem flush2 (t : Fin cfg0.N) (hf : (cfg0.win 2).flush t = true) : (dats m 0 c).flushed 2 t = ((cfg0.win 2).blk t).view.read (Elt Ideal) (tgt m c) := by
  have ht : t.val % 2 = 1 := (flush0_2 t).mp hf
  have hl : t.val - 1 < cfg0.N := Nat.lt_of_le_of_lt (Nat.sub_le _ _) t.isLt
  rw [Value.flushed2_B m c t (by omega) ht, out_B]
  funext j
  obtain ⟨z0, z1⟩ := szs t
  have j0 : (j 0).val < 1024 := z0 ▸ (j 0).isLt
  have j1 : (j 1).val < 1024 := z1 ▸ (j 1).isLt
  refine Eq.trans (congrArg (k0_pay4 (xB m c t) (yB m c t) (outsAt0 m c (t.val - 1) hl).2) (funext fun k => Fin.ext ?_)) ((left m c t ht hl ⟨(j 0).val, j0⟩ ⟨(j 1).val, j1⟩).trans
    (congrArg (tgt m c) (funext fun k => Fin.ext ?_)))
  · match k with
    | ⟨0, _⟩ => rfl
    | ⟨1, _⟩ => rfl
  · match k with
    | ⟨0, _⟩ => show 1024 * win0_2.index t 0 + (j 0).val = win0_2.index t 0 * 1024 + 1 * (j 0).val; omega
    | ⟨1, _⟩ => show 1024 * win0_2.index t 1 + (j 1).val = win0_2.index t 1 * 1024 + 1 * (j 1).val; omega

theorem final : (dats m 0 c).arrAt 2 cfg0.N = tgt m c :=
  (dats m 0 c).arrAt_eq_of_cover 2 (tgt m c) (flush2 m c) fun i => by
    have i0 : (i 0 : Nat) < 8192 := (i 0).isLt
    have i1 : (i 1 : Nat) < 2048 := (i 1).isLt
    obtain ⟨t, hf, h0, h1⟩ := find ⟨(i 0 : Nat) / 1024, by omega⟩ ⟨(i 1 : Nat) / 1024, by omega⟩
    refine ⟨t, hf, ?_⟩
    show i ∈ ((View.whole main_v4).slice (win0_2.rect t)).set
    rw [View.set_slice_whole, Rect.mem_set_unit]
    obtain ⟨z0, z1⟩ := szs t
    intro a
    match a with
    | ⟨0, _⟩ =>
      show win0_2.index t 0 * 1024 ≤ (i 0 : Nat) ∧ (i 0 : Nat) < win0_2.index t 0 * 1024 + win0_2.xsize (grid0.coords t) 0
      rw [z0, h0]; dsimp only; omega
    | ⟨1, _⟩ =>
      show win0_2.index t 1 * 1024 ≤ (i 1 : Nat) ∧ (i 1 : Nat) < win0_2.index t 1 * 1024 + win0_2.xsize (grid0.coords t) 1
      rw [z1, h1]; dsimp only; omega
end

theorem same : Cert.algebraic_Ff2DwIdeal_Ff2DwRefIdeal (hFf2DwIdeal := Cert.Ff2DwIdeal.Gen.facts) (hFf2DwRefIdeal := Cert.Ff2DwRefIdeal.Gen.facts) := by
  intro m g m' g' _ hag
  refine ⟨fun c => tgt m c, ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.Ff2DwRefIdeal.Value.run m' g')
    obtain ⟨a0, a1, a2⟩ := hag c
    rw [Cert.Ff2DwRefIdeal.Read.val_main_v14_eq, a0, a2]

end Cert.Ff2DwIdeal.Hand
-- ==== Proof.Ff1DxVal.lean ====
/-
  The gradient of the first product's input: the kernel's array is the reference's.
-/
module

public import proofs.«01_k».proof.Defs
public import proofs.«01_k».proof.Proof.Dots
public import proofs.«01_k».proof.Proof.Gen.Ff1DxIdeal.Value
public import proofs.«01_k».proof.Proof.Gen.Ff1DxRefIdeal.Run
public import proofs.«01_k».proof.Proof.Gen.Ff1DxRefIdeal.Read
public import Idealize.ShloMosaic.Lib.StableHlo.Run
public import Idealize.ShloMosaic.Lib.Tactic

@[expose] public section
set_option maxRecDepth 16384

noncomputable section

namespace Cert.Ff1DxIdeal.Hand
open Cert.Ff1DxIdeal Cert.Ff1DxIdeal.Gen Cert.Dots
open Idealize.ShloMosaic Idealize.ShloMosaic.TcCoe

/-- The halves of a block of rows, and the two blocks of the weights. -/
def lo (x : Vec Ideal S1024x2048 .bf16) : Vec Ideal S1024x1024 .bf16 := View.ld x (Rect.unit (s := S1024x2048) ![0, 0] S1024x1024.size inb_S1024x2048_S1024x1024_0_0)
def hi (x : Vec Ideal S1024x2048 .bf16) : Vec Ideal S1024x1024 .bf16 := View.ld x (Rect.unit (s := S1024x2048) ![0, 1024] S1024x1024.size inb_S1024x2048_S1024x1024_0_1024)
def wlo (y : Vec Ideal S2x1024x1024 .bf16) : Vec Ideal S1x1024x1024 .bf16 := View.ld y (Rect.unit (s := S2x1024x1024) ![0, 0, 0] S1x1024x1024.size inb_S2x1024x1024_S1x1024x1024_0_0_0)
def whi (y : Vec Ideal S2x1024x1024 .bf16) : Vec Ideal S1x1024x1024 .bf16 := View.ld y (Rect.unit (s := S2x1024x1024) ![1, 0, 0] S1x1024x1024.size inb_S2x1024x1024_S1x1024x1024_1_0_0)

section
variable (x : Vec Ideal S1024x2048 .bf16) (y : Vec Ideal S2x1024x1024 .bf16) (z : Vec Ideal S1024x1024 .f32) (r c k : Fin 1024)
theorem lo_at : lo x (ix2 r k) = x (ix2 r ⟨k.val, by omega⟩) := by pointwise [lo]
theorem hi_at : hi x (ix2 r k) = x (ix2 r ⟨1024 + k.val, by omega⟩) := by pointwise [hi]
theorem wlo_at : wlo y (ix3 0 c k) = y (ix3 0 c k) := by pointwise [wlo]
theorem whi_at : whi y (ix3 0 c k) = y (ix3 1 c k) := by pointwise [whi]
theorem pay_at (a b : Vec Ideal S1024x1024 .bf16) (u v : Vec Ideal S1x1024x1024 .bf16) :
    k0_pay1 a u b v (ix2 r c) = (∑ k : Fin 1024, a (ix2 r k) * u (ix3 0 c k)) + ∑ k : Fin 1024, b (ix2 r k) * v (ix3 0 c k) := by
  pointwise [k0_pay1]
/-- One tile's quarter of the sum: alone, and added onto the quarters before. -/
theorem pay1_at : k0_pay1 (lo x) (wlo y) (hi x) (whi y) (ix2 r c)
    = (∑ k : Fin 1024, x (ix2 r ⟨k.val, by omega⟩) * y (ix3 0 c k)) + ∑ k : Fin 1024, x (ix2 r ⟨1024 + k.val, by omega⟩) * y (ix3 1 c k) := by
  rw [pay_at]
  simp only [lo_at, hi_at, wlo_at, whi_at]
variable (a b : Vec Ideal S1024x1024 .bf16) (u v : Vec Ideal S1x1024x1024 .bf16)
theorem pay2_at : k0_pay2 a u b v (ix2 r c) = k0_pay1 a u b v (ix2 r c) := by pointwise [k0_pay2]
theorem pay3_at : k0_pay3 a u b v z (ix2 r c) = z (ix2 r c) + k0_pay1 a u b v (ix2 r c) := by pointwise [k0_pay3]
theorem pay4_at : k0_pay4 a u b v z (ix2 r c) = z (ix2 r c) + k0_pay1 a u b v (ix2 r c) := rfl
end

section
variable (x1 : (⟨S2048x8192, .f32⟩ : BufTy).Contents (Elt Ideal)) (x2 : (⟨S4096x8192, .f32⟩ : BufTy).Contents (Elt Ideal))
/-- One term of the product's sum. -/
def term (r : Fin 4096) (c : Fin 2048) (k : Fin 8192) : EReal := x2 (ix2 r k) * x1 (ix2 c k)
/-- The reference at an index. -/
theorem ref_at (r : Fin 4096) (c : Fin 2048) : Cert.Ff1DxRefIdeal.Read.val_main_v3 (F := Ideal) x1 x2 (ix2 r c) = ∑ k, term x1 x2 r c k := by
  rw [← Cert.Ff1DxRefIdeal.Read.val_main_v3_eq]
  unfold term
  pointwise
/-- The weights, eight blocks of columns one after another, as the host lays them out. -/
def gath : (⟨S8x2048x1024, .bf16⟩ : BufTy).Contents (Elt Ideal) :=
  truncf (F := Ideal) .bf16 (transpose S8x2048x1024 [1, 0, 2] (shapeCast S2048x8x1024 x1 shapeCasts_S2048x8192_S2048x8x1024) transposes_S2048x8x1024_S8x2048x1024_1_0_2) bitsLt_bf16_f32
theorem gath_at (b : Fin 8) (k : Fin 2048) (e : Fin 1024) : gath x1 (ix3 b k e) = x1 (ix2 k ⟨1024 * b.val + e.val, by omega⟩) := by
  pointwise [gath]
  refine congrArg x1 (congrArg (ix2 k) (Fin.ext ?_))
  dsimp only; omega
end

section
variable (m : (ℓ : Loc nD τ sig) → Buf (Elt Ideal) ℓ) (c : Dev nD)

theorem V_v0 : V m c main_v0 = m ((c : Thread nD τ).loc main_arg2) := by
  simp only [V, hostOps0, List.flatten_cons, List.flatten_nil, List.append_nil, List.cons_append, List.nil_append]
  after_results_simp
  rfl
theorem V_v3 : V m c main_v3 = gath (m ((c : Thread nD τ).loc main_arg1)) := by
  simp only [V, hostOps0, List.flatten_cons, List.flatten_nil, List.append_nil, List.cons_append, List.nil_append]
  after_results_simp
  rfl

/-! ## Where the blocks lie, from the output's -/

theorem ixs : ∀ t : Fin grid0.N, win0_0.index t 0 = win0_2.index t 0 ∧ win0_0.index t 1 = t.val % 4 ∧ win0_1.index t 0 = t.val % 4 ∧ win0_1.index t 1 = win0_2.index t 1
    ∧ win0_1.index t 2 = 0 ∧ win0_2.index t 0 < 4 ∧ win0_2.index t 1 < 2 := by decide +kernel
theorem ixp : ∀ t : Fin grid0.N, t.val % 4 = 3 → ∀ u : Fin grid0.N, u.val ≤ t.val → t.val ≤ u.val + 3 → win0_2.index u 0 = win0_2.index t 0 ∧ win0_2.index u 1 = win0_2.index t 1 := by decide +kernel
theorem szs : ∀ t : Fin grid0.N, win0_2.xsize (grid0.coords t) 0 = 1024 ∧ win0_2.xsize (grid0.coords t) 1 = 1024 := by decide +kernel
theorem find : ∀ (a : Fin 4) (b : Fin 2), ∃ t : Fin grid0.N, win0_2.flush t = true ∧ win0_2.index t 0 = a.val ∧ win0_2.index t 1 = b.val := by decide +kernel

/-- The array the kernel leaves, as the reference's value of the arguments. -/
abbrev tgt : (⟨S4096x2048, .f32⟩ : BufTy).Contents (Elt Ideal) :=
  Cert.Ff1DxRefIdeal.Read.val_main_v3 (F := Ideal) (m ((c : Thread nD τ).loc main_arg1)) (m ((c : Thread nD τ).loc main_arg2))

theorem hz : (![0, 0] : Fin 2 → Nat) = fun _ => 0 := funext fun a => by fin_cases a <;> rfl

def xB (t : Fin cfg0.N) : Vec Ideal S1024x2048 .bf16 := iblk m c 0 t
def yB (t : Fin cfg0.N) : Vec Ideal S2x1024x1024 .bf16 := iblk m c 1 t
/-- One point's product. -/
def prod (t : Fin cfg0.N) : Vec Ideal S1024x1024 .f32 := k0_pay1 (lo (xB m c t)) (wlo (yB m c t)) (hi (xB m c t)) (whi (yB m c t))

/-! ## What the three kinds of point leave -/

section
variable (i : grid0.Coords) (a3 : Memref sig .tc .vmem S1024x2048 .bf16) (h3 : a3.IsWhole) (a4 : Memref sig .tc .vmem S2x1024x1024 .bf16) (h4 : a4.IsWhole) (a5 : Memref sig .tc .vmem S1024x1024 .f32) (h5 : a5.IsWhole) (a6 : Memref sig .tc .vmem S1024x1024 .f32) (h6 : a6.IsWhole)
theorem sout_A (hc0 : cond0_0 i) (hc1 : ¬cond0_1 i) (hc2 : ¬cond0_2 i) (x : Vec Ideal S1024x2048 .bf16) (y : Vec Ideal S2x1024x1024 .bf16) :
    sout0_A_0 c i a3 h3 a4 h4 a5 h5 a6 h6 hc0 hc1 hc2 x y = k0_pay2 (lo x) (wlo y) (hi x) (whi y) := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero hz]
  simp only [View.readAt_eq_ld, h3.read_unread, h4.read_unread, h6.read_unread, View.ld_unit_zero (S := S1024x1024) hz]
  rfl
theorem sout_B (hc0 : ¬cond0_0 i) (hc1 : cond0_1 i) (hc2 : ¬cond0_2 i) (x : Vec Ideal S1024x2048 .bf16) (y : Vec Ideal S2x1024x1024 .bf16) (z : Vec Ideal S1024x1024 .f32) :
    sout0_B_0 c i a3 h3 a4 h4 a5 h5 a6 h6 hc0 hc1 hc2 x y z = k0_pay3 (lo x) (wlo y) (hi x) (whi y) z := by
  unfold sout0_B_0
  rw [View.read_writes_eq_canon _ _ _ (scover0_B_0 c i a3 h3 a4 h4 a5 h5 a6 h6 hc0 hc1 hc2 x y z)]
  unfold kernelRun0_B
  dsimp only
  sl_unfold_words
  rw [View.canon_unit_zero hz]
  simp only [View.readAt_eq_ld, h3.read_unread, h4.read_unread, h6.read_unread, View.ld_unit_zero (S := S1024x1024) hz]
  rfl
theorem out_C (hc0 : ¬cond0_0 i) (hc1 : ¬cond0_1 i) (hc2 : cond0_2 i) (x : Vec Ideal S1024x2048 .bf16) (y : Vec Ideal S2x1024x1024 .bf16) (z : Vec Ideal S1024x1024 .f32) :
    out0_C_2 c i a3 h3 a4 h4 a5 h5 a6 h6 hc0 hc1 hc2 x y z = k0_pay4 (lo x) (wlo y) (hi x) (whi y) z := by
  unfold out0_C_2
  rw [View.read_writes_eq_canon _ _ _ (cover0_C_2 c i a3 h3 a4 h4 a5 h5 a6 h6 hc0 hc1 hc2 x y z)]
  unfold kernelRun0_C
  dsimp only
  sl_unfold_words
  rw [View.canon_unit_zero hz]
  simp only [View.readAt_eq_ld, h3.read_unread, h4.read_unread, h6.read_unread, View.ld_unit_zero (S := S1024x1024) hz]
  rfl
end

/-- The row (column) of the output that entry `r` of its block is, and the place in the quarter. -/
def rw' (t : Fin cfg0.N) (r : Fin 1024) : Fin 4096 := ⟨1024 * win0_2.index t 0 + r.val, by have := (ixs t).2.2.2.2.2.1; omega⟩
def cl' (t : Fin cfg0.N) (r : Fin 1024) : Fin 2048 := ⟨1024 * win0_2.index t 1 + r.val, by have := (ixs t).2.2.2.2.2.2; omega⟩
def part (t : Fin cfg0.N) (k : Fin 2048) : Fin 8192 := ⟨2048 * (t.val % 4) + k.val, by omega⟩

theorem xB_at (t : Fin cfg0.N) (r : Fin 1024) (k : Fin 2048) : xB m c t (ix2 r k) = m ((c : Thread nD τ).loc main_arg2) (ix2 (rw' t r) (part t k)) := by
  rw [← V_v0 m c]
  refine congrArg (V m c main_v0) (funext fun a => Fin.ext ?_)
  obtain ⟨h0, h1, -⟩ := ixs t
  match a with
  | ⟨0, _⟩ => show win0_0.index t 0 * 1024 + 1 * r.val = 1024 * win0_2.index t 0 + r.val; rw [h0]; omega
  | ⟨1, _⟩ => show win0_0.index t 1 * 2048 + 1 * k.val = 2048 * (t.val % 4) + k.val; rw [h1]; omega
theorem yB_at (t : Fin cfg0.N) (b : Fin 2) (s e : Fin 1024) : yB m c t (ix3 b s e) = m ((c : Thread nD τ).loc main_arg1) (ix2 (cl' t s) (part t ⟨1024 * b.val + e.val, by omega⟩)) := by
  refine Eq.trans ?_ ((gath_at (m ((c : Thread nD τ).loc main_arg1)) ⟨2 * (t.val % 4) + b.val, by omega⟩ (cl' t s) e).trans
    (congrArg (m ((c : Thread nD τ).loc main_arg1)) (congrArg (ix2 (cl' t s)) (Fin.ext ?_))))
  · rw [← V_v3 m c]
    refine congrArg (V m c main_v3) (funext fun a => Fin.ext ?_)
    obtain ⟨-, -, h0, h1, h2, -⟩ := ixs t
    match a with
    | ⟨0, _⟩ => show win0_1.index t 0 * 2 + 1 * b.val = 2 * (t.val % 4) + b.val; rw [h0]; omega
    | ⟨1, _⟩ => show win0_1.index t 1 * 1024 + 1 * s.val = 1024 * win0_2.index t 1 + s.val; rw [h1]; omega
    | ⟨2, _⟩ => show win0_1.index t 2 * 1024 + 1 * e.val = e.val; rw [h2]; omega
  · show 1024 * (2 * (t.val % 4) + b.val) + e.val = 2048 * (t.val % 4) + (1024 * b.val + e.val)
    omega

/-! ## The carried block, point by point -/

theorem first (u : Fin cfg0.N) (h : u.val % 4 = 0) (r s : Fin 1024) : (outsAt0 m c u.val u.isLt).2 (ix2 r s) = prod m c u (ix2 r s) := by
  rw [outsAt0_A m c u h (by omega) (by omega)]
  dsimp only
  rw [sout_A]
  exact pay2_at _ _ _ _ _ _
theorem next (u : Fin cfg0.N) (h : 1 ≤ u.val % 4 ∧ u.val % 4 ≤ 2) (r s : Fin 1024) : (outsAt0 m c u.val u.isLt).2 (ix2 r s)
    = (outsAt0 m c (u.val - 1) (Nat.lt_of_le_of_lt (Nat.sub_le _ _) u.isLt)).2 (ix2 r s) + prod m c u (ix2 r s) := by
  rw [outsAt0_B m c u (by omega) h (by omega)]
  dsimp only
  rw [sout_B]
  exact pay3_at _ _ _ _ _ _ _

/-- One point's product, as a quarter of the whole sum. -/
theorem quarter (t u : Fin cfg0.N) (ht : t.val % 4 = 3) (hu : u.val ≤ t.val) (hu' : t.val ≤ u.val + 3) (r s : Fin 1024) : prod m c u (ix2 r s)
    = ∑ k : Fin 2048, term (m ((c : Thread nD τ).loc main_arg1)) (m ((c : Thread nD τ).loc main_arg2)) (rw' t r) (cl' t s) (part u k) := by
  obtain ⟨p0, p1⟩ := ixp t ht u hu hu'
  have e1 : rw' u r = rw' t r := Fin.ext (by show 1024 * win0_2.index u 0 + r.val = 1024 * win0_2.index t 0 + r.val; rw [p0])
  have e2 : cl' u s = cl' t s := Fin.ext (by show 1024 * win0_2.index u 1 + s.val = 1024 * win0_2.index t 1 + s.val; rw [p1])
  unfold prod
  rw [pay1_at, ← sum_halves (n := 1024) rfl]
  refine congrArg₂ (· + ·) (Finset.sum_congr rfl fun k _ => ?_) (Finset.sum_congr rfl fun k _ => ?_)
  · rw [xB_at, yB_at, e1, e2]
    have e3 : (⟨1024 * (0 : Fin 2).val + k.val, by have := k.isLt; show 1024 * 0 + k.val < 2048; omega⟩ : Fin 2048) = ⟨k.val, by omega⟩ := Fin.ext (by show 1024 * 0 + k.val = k.val; omega)
    rw [e3]
    rfl
  · rw [xB_at, yB_at, e1, e2]
    rfl

theorem left (t : Fin cfg0.N) (ht : t.val % 4 = 3) (hl : t.val - 1 < cfg0.N) (r s : Fin 1024) :
    k0_pay4 (lo (xB m c t)) (wlo (yB m c t)) (hi (xB m c t)) (whi (yB m c t)) (outsAt0 m c (t.val - 1) hl).2 (ix2 r s) = tgt m c (ix2 (rw' t r) (cl' t s)) := by
  have n2 := next m c ⟨t.val - 1, hl⟩ (by dsimp only; omega) r s
  have n1 := next m c ⟨t.val - 1 - 1, by omega⟩ (by dsimp only; omega) r s
  have n0 := first m c ⟨t.val - 1 - 1 - 1, by omega⟩ (by dsimp only; omega) r s
  dsimp only at n2 n1 n0
  rw [pay4_at, n2, n1, n0]
  show _ + prod m c t (ix2 r s) = _
  rw [quarter m c t t ht (by omega) (by omega), quarter m c t ⟨t.val - 1, hl⟩ ht (by dsimp only; omega) (by dsimp only; omega),
    quarter m c t ⟨t.val - 1 - 1, _⟩ ht (by dsimp only; omega) (by dsimp only; omega), quarter m c t ⟨t.val - 1 - 1 - 1, _⟩ ht (by dsimp only; omega) (by dsimp only; omega)]
  refine Eq.trans ?_ (ref_at _ _ _ _).symm
  rw [← sum_quarters (n := 2048) rfl]
  refine congrArg₂ (· + ·) (congrArg₂ (· + ·) (congrArg₂ (· + ·) ?_ ?_) ?_) ?_
  all_goals
    refine Finset.sum_congr rfl fun k _ => ?_
    refine congrArg (term (m ((c : Thread nD τ).loc main_arg1)) (m ((c : Thread nD τ).loc main_arg2)) (rw' t r) (cl' t s)) (Fin.ext ?_)
    simp only [part]
    omega

theorem flush2 (t : Fin cfg0.N) (hf : (cfg0.win 2).flush t = true) : (dats m 0 c).flushed 2 t = ((cfg0.win 2).blk t).view.read (Elt Ideal) (tgt m c) := by
  have ht : t.val % 4 = 3 := (flush0_2 t).mp hf
  have hl : t.val - 1 < cfg0.N := Nat.lt_of_le_of_lt (Nat.sub_le _ _) t.isLt
  rw [Value.flushed2_C m c t (by omega) (by omega) ht, out_C]
  funext j
  obtain ⟨z0, z1⟩ := szs t
  have j0 : (j 0).val < 1024 := z0 ▸ (j 0).isLt
  have j1 : (j 1).val < 1024 := z1 ▸ (j 1).isLt
  refine Eq.trans (congrArg (k0_pay4 (lo (xB m c t)) (wlo (yB m c t)) (hi (xB m c t)) (whi (yB m c t)) (outsAt0 m c (t.val - 1) hl).2) (funext fun k => Fin.ext ?_)) ((left m c t ht hl ⟨(j 0).val, j0⟩ ⟨(j 1).val, j1⟩).trans
    (congrArg (tgt m c) (funext fun k => Fin.ext ?_)))
  · match k with
    | ⟨0, _⟩ => rfl
    | ⟨1, _⟩ => rfl
  · match k with
    | ⟨0, _⟩ => show 1024 * win0_2.index t 0 + (j 0).val = win0_2.index t 0 * 1024 + 1 * (j 0).val; omega
    | ⟨1, _⟩ => show 1024 * win0_2.index t 1 + (j 1).val = win0_2.index t 1 * 1024 + 1 * (j 1).val; omega

theorem final : (dats m 0 c).arrAt 2 cfg0.N = tgt m c :=
  (dats m 0 c).arrAt_eq_of_cover 2 (tgt m c) (flush2 m c) fun i => by
    have i0 : (i 0 : Nat) < 4096 := (i 0).isLt
    have i1 : (i 1 : Nat) < 2048 := (i 1).isLt
    obtain ⟨t, hf, h0, h1⟩ := find ⟨(i 0 : Nat) / 1024, by omega⟩ ⟨(i 1 : Nat) / 1024, by omega⟩
    refine ⟨t, hf, ?_⟩
    show i ∈ ((View.whole main_v4).slice (win0_2.rect t)).set
    rw [View.set_slice_whole, Rect.mem_set_unit]
    obtain ⟨z0, z1⟩ := szs t
    intro a
    match a with
    | ⟨0, _⟩ =>
      show win0_2.index t 0 * 1024 ≤ (i 0 : Nat) ∧ (i 0 : Nat) < win0_2.index t 0 * 1024 + win0_2.xsize (grid0.coords t) 0
      rw [z0, h0]; dsimp only; omega
    | ⟨1, _⟩ =>
      show win0_2.index t 1 * 1024 ≤ (i 1 : Nat) ∧ (i 1 : Nat) < win0_2.index t 1 * 1024 + win0_2.xsize (grid0.coords t) 1
      rw [z1, h1]; dsimp only; omega
end

theorem same : Cert.algebraic_Ff1DxIdeal_Ff1DxRefIdeal (hFf1DxIdeal := Cert.Ff1DxIdeal.Gen.facts) (hFf1DxRefIdeal := Cert.Ff1DxRefIdeal.Gen.facts) := by
  intro m g m' g' _ hag
  refine ⟨fun c => tgt m c, ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.Ff1DxRefIdeal.Value.run m' g')
    obtain ⟨a0, a1, a2⟩ := hag c
    rw [Cert.Ff1DxRefIdeal.Read.val_main_v3_eq, a1, a2]

end Cert.Ff1DxIdeal.Hand
-- ==== Proof.Ff1DwVal.lean ====
/-
  The gradient of the first product's weights, block of columns by block of columns: the kernel's array is the reference's.
-/
module

public import proofs.«01_k».proof.Defs
public import proofs.«01_k».proof.Proof.Dots
public import proofs.«01_k».proof.Proof.Gen.Ff1DwIdeal.Value
public import proofs.«01_k».proof.Proof.Gen.Ff1DwRefIdeal.Run
public import proofs.«01_k».proof.Proof.Gen.Ff1DwRefIdeal.Read
public import Idealize.ShloMosaic.Lib.StableHlo.Run
public import Idealize.ShloMosaic.Lib.Tactic

@[expose] public section
set_option maxRecDepth 16384

noncomputable section

namespace Cert.Ff1DwIdeal.Hand
open Cert.Ff1DwIdeal Cert.Ff1DwIdeal.Gen Cert.Dots
open Idealize.ShloMosaic Idealize.ShloMosaic.TcCoe

/-- One tile's half of the sum: alone, and added onto the first half. -/
theorem pay2_at (x y : Vec Ideal S2048x1024 .bf16) (r c : Fin 1024) : k0_pay2 x y (ix2 r c) = ∑ k : Fin 2048, x (ix2 k r) * y (ix2 k c) := by
  pointwise [k0_pay2, k0_pay1]
theorem pay4_at (x y : Vec Ideal S2048x1024 .bf16) (z : Vec Ideal S1024x1024 .f32) (r c : Fin 1024) :
    k0_pay4 x y z (ix3 0 r c) = z (ix2 r c) + ∑ k : Fin 2048, x (ix2 k r) * y (ix2 k c) := by
  pointwise [k0_pay4, k0_pay1]

section
open Cert.Ff1DwRefIdeal.Read
variable (x0 : (⟨S4096x2048, .f32⟩ : BufTy).Contents (Elt Ideal)) (x2 : (⟨S4096x8192, .f32⟩ : BufTy).Contents (Elt Ideal))

/-- One entry of the whole gradient. -/
def entry (r : Fin 2048) (c : Fin 8192) : EReal := ∑ k : Fin 4096, x0 (ix2 k r) * x2 (ix2 k c)
theorem whole_at (r : Fin 2048) (c : Fin 8192) : val_main_v2 (F := Ideal) x0 x2 (ix2 r c) = entry x0 x2 r c := by
  refine Eq.trans ?_ (Finset.sum_congr rfl fun k _ => mul_comm (x2 (ix2 k c)) (x0 (ix2 k r)))
  pointwise [val_main_v2, val_main_v1]
/-- One of the eight blocks of columns. -/
theorem block_at (r : Fin 2048) (e : Fin 1024) :
    val_main_v12 (F := Ideal) x0 x2 (ix3 0 r e) = entry x0 x2 r ⟨1024 * 0 + e.val, by omega⟩ ∧ val_main_v13 (F := Ideal) x0 x2 (ix3 0 r e) = entry x0 x2 r ⟨1024 * 1 + e.val, by omega⟩
      ∧ val_main_v14 (F := Ideal) x0 x2 (ix3 0 r e) = entry x0 x2 r ⟨1024 * 2 + e.val, by omega⟩ ∧ val_main_v15 (F := Ideal) x0 x2 (ix3 0 r e) = entry x0 x2 r ⟨1024 * 3 + e.val, by omega⟩
      ∧ val_main_v16 (F := Ideal) x0 x2 (ix3 0 r e) = entry x0 x2 r ⟨1024 * 4 + e.val, by omega⟩ ∧ val_main_v17 (F := Ideal) x0 x2 (ix3 0 r e) = entry x0 x2 r ⟨1024 * 5 + e.val, by omega⟩
      ∧ val_main_v18 (F := Ideal) x0 x2 (ix3 0 r e) = entry x0 x2 r ⟨1024 * 6 + e.val, by omega⟩ ∧ val_main_v19 (F := Ideal) x0 x2 (ix3 0 r e) = entry x0 x2 r ⟨1024 * 7 + e.val, by omega⟩ := by
  refine ⟨?_, ?_, ?_, ?_, ?_, ?_, ?_, ?_⟩ <;> refine Eq.trans (congrArg (val_main_v2 (F := Ideal) x0 x2) (funext fun a => Fin.ext ?_)) (whole_at x0 x2 r _)
  all_goals match a with
    | ⟨0, _⟩ => show 0 + r.val = r.val; omega
    | ⟨1, _⟩ => rfl

theorem off (r : Fin 2048) (e : Fin 1024) (b : Fin 8) : ∀ d : Fin Cert.Ff1DwRefIdeal.S1x2048x1024.rank, d.cast rfl ≠ (0 : Fin Cert.Ff1DwRefIdeal.S8x2048x1024.rank) →
    ((ix3 0 r e : Cert.Ff1DwRefIdeal.S1x2048x1024.Idx) d).val = ((ix3 b r e : Cert.Ff1DwRefIdeal.S8x2048x1024.Idx) (d.cast rfl)).val := by
  intro d hd
  match d with
  | ⟨0, _⟩ => exact absurd rfl hd
  | ⟨1, _⟩ => rfl
  | ⟨2, _⟩ => rfl

/-- The reference at an index. -/
theorem ref_at (b : Fin 8) (r : Fin 2048) (e : Fin 1024) : val_main_v21 (F := Ideal) x0 x2 (ix3 b r e) = entry x0 x2 r ⟨1024 * b.val + e.val, by omega⟩ := by
  show val_main_v20 (F := Ideal) x0 x2 (ix3 b r e) = _
  obtain ⟨e0, e1, e2, e3, e4, e5, e6, e7⟩ := block_at x0 x2 r e
  unfold val_main_v20
  match b with
  | ⟨0, _⟩ => exact Eq.trans (concatenate_apply_piece (0 : Fin Cert.Ff1DwRefIdeal.S8x2048x1024.rank) _ _ _ 0 (by show 0 < 8; decide) Cert.Ff1DwRefIdeal.S1x2048x1024 (val_main_v12 (F := Ideal) x0 x2) rfl rfl 0 rfl (ix3 0 r e) (off r e 0) rfl) e0
  | ⟨1, _⟩ => exact Eq.trans (concatenate_apply_piece (0 : Fin Cert.Ff1DwRefIdeal.S8x2048x1024.rank) _ _ _ 1 (by show 1 < 8; decide) Cert.Ff1DwRefIdeal.S1x2048x1024 (val_main_v13 (F := Ideal) x0 x2) rfl rfl 1 rfl (ix3 0 r e) (off r e 1) rfl) e1
  | ⟨2, _⟩ => exact Eq.trans (concatenate_apply_piece (0 : Fin Cert.Ff1DwRefIdeal.S8x2048x1024.rank) _ _ _ 2 (by show 2 < 8; decide) Cert.Ff1DwRefIdeal.S1x2048x1024 (val_main_v14 (F := Ideal) x0 x2) rfl rfl 2 rfl (ix3 0 r e) (off r e 2) rfl) e2
  | ⟨3, _⟩ => exact Eq.trans (concatenate_apply_piece (0 : Fin Cert.Ff1DwRefIdeal.S8x2048x1024.rank) _ _ _ 3 (by show 3 < 8; decide) Cert.Ff1DwRefIdeal.S1x2048x1024 (val_main_v15 (F := Ideal) x0 x2) rfl rfl 3 rfl (ix3 0 r e) (off r e 3) rfl) e3
  | ⟨4, _⟩ => exact Eq.trans (concatenate_apply_piece (0 : Fin Cert.Ff1DwRefIdeal.S8x2048x1024.rank) _ _ _ 4 (by show 4 < 8; decide) Cert.Ff1DwRefIdeal.S1x2048x1024 (val_main_v16 (F := Ideal) x0 x2) rfl rfl 4 rfl (ix3 0 r e) (off r e 4) rfl) e4
  | ⟨5, _⟩ => exact Eq.trans (concatenate_apply_piece (0 : Fin Cert.Ff1DwRefIdeal.S8x2048x1024.rank) _ _ _ 5 (by show 5 < 8; decide) Cert.Ff1DwRefIdeal.S1x2048x1024 (val_main_v17 (F := Ideal) x0 x2) rfl rfl 5 rfl (ix3 0 r e) (off r e 5) rfl) e5
  | ⟨6, _⟩ => exact Eq.trans (concatenate_apply_piece (0 : Fin Cert.Ff1DwRefIdeal.S8x2048x1024.rank) _ _ _ 6 (by show 6 < 8; decide) Cert.Ff1DwRefIdeal.S1x2048x1024 (val_main_v18 (F := Ideal) x0 x2) rfl rfl 6 rfl (ix3 0 r e) (off r e 6) rfl) e6
  | ⟨7, _⟩ => exact Eq.trans (concatenate_apply_piece (0 : Fin Cert.Ff1DwRefIdeal.S8x2048x1024.rank) _ _ _ 7 (by show 7 < 8; decide) Cert.Ff1DwRefIdeal.S1x2048x1024 (val_main_v19 (F := Ideal) x0 x2) rfl rfl 7 rfl (ix3 0 r e) (off r e 7) rfl) e7
end

section
variable (m : (ℓ : Loc nD τ sig) → Buf (Elt Ideal) ℓ) (c : Dev nD)

theorem V_v0 : V m c main_v0 = m ((c : Thread nD τ).loc main_arg0) := by
  simp only [V, hostOps0, List.flatten_cons, List.flatten_nil, List.append_nil, List.cons_append, List.nil_append]
  after_results_simp
  rfl
theorem V_v1 : V m c main_v1 = m ((c : Thread nD τ).loc main_arg2) := by
  simp only [V, hostOps0, List.flatten_cons, List.flatten_nil, List.append_nil, List.cons_append, List.nil_append]
  after_results_simp
  rfl

/-! ## Where the blocks lie, from the output's -/

theorem ixs : ∀ t : Fin grid0.N, win0_0.index t 0 = t.val % 2 ∧ win0_0.index t 1 = win0_2.index t 1 ∧ win0_1.index t 0 = t.val % 2 ∧ win0_1.index t 1 = win0_2.index t 0
    ∧ win0_2.index t 0 < 8 ∧ win0_2.index t 1 < 2 ∧ win0_2.index t 2 = 0 := by decide +kernel
theorem ixp : ∀ t : Fin grid0.N, t.val % 2 = 1 → ∀ u : Fin grid0.N, u.val + 1 = t.val → win0_2.index u 0 = win0_2.index t 0 ∧ win0_2.index u 1 = win0_2.index t 1 := by decide +kernel
theorem szs : ∀ t : Fin grid0.N, win0_2.xsize (grid0.coords t) 0 = 1 ∧ win0_2.xsize (grid0.coords t) 1 = 1024 ∧ win0_2.xsize (grid0.coords t) 2 = 1024 := by decide +kernel
theorem find : ∀ (a : Fin 8) (b : Fin 2), ∃ t : Fin grid0.N, win0_2.flush t = true ∧ win0_2.index t 0 = a.val ∧ win0_2.index t 1 = b.val := by decide +kernel

/-- The array the kernel leaves, as the reference's value of the arguments. -/
abbrev tgt : (⟨S8x2048x1024, .bf16⟩ : BufTy).Contents (Elt Ideal) :=
  Cert.Ff1DwRefIdeal.Read.val_main_v21 (F := Ideal) (m ((c : Thread nD τ).loc main_arg0)) (m ((c : Thread nD τ).loc main_arg2))

theorem hz3 : (![0, 0, 0] : Fin 3 → Nat) = fun _ => 0 := funext fun a => by fin_cases a <;> rfl
theorem hz : (![0, 0] : Fin 2 → Nat) = fun _ => 0 := funext fun a => by fin_cases a <;> rfl

def xB (t : Fin cfg0.N) : Vec Ideal S2048x1024 .bf16 := iblk m c 0 t
def yB (t : Fin cfg0.N) : Vec Ideal S2048x1024 .bf16 := iblk m c 1 t

/-- What the two kinds of point leave: the first half in the carried block, the whole sum in the output's. -/
theorem sout_A (i : grid0.Coords) (a3 : Memref sig .tc .vmem S2048x1024 .bf16) (h3 : a3.IsWhole) (a4 : Memref sig .tc .vmem S2048x1024 .bf16) (h4 : a4.IsWhole)
    (a5 : Memref sig .tc .vmem S1x1024x1024 .bf16) (h5 : a5.IsWhole) (a6 : Memref sig .tc .vmem S1024x1024 .f32) (h6 : a6.IsWhole) (hc0 : cond0_0 i) (hc1 : ¬cond0_1 i) (hc2 : ¬cond0_2 i)
    (x y : Vec Ideal S2048x1024 .bf16) : sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero hz]
  simp only [View.readAt_eq_ld, h3.read_unread, h4.read_unread, View.ld_unit_zero (S := S2048x1024) hz]
theorem out_B (i : grid0.Coords) (a3 : Memref sig .tc .vmem S2048x1024 .bf16) (h3 : a3.IsWhole) (a4 : Memref sig .tc .vmem S2048x1024 .bf16) (h4 : a4.IsWhole)
    (a5 : Memref sig .tc .vmem S1x1024x1024 .bf16) (h5 : a5.IsWhole) (a6 : Memref sig .tc .vmem S1024x1024 .f32) (h6 : a6.IsWhole) (hc0 : ¬cond0_0 i) (hc1 : ¬cond0_1 i) (hc2 : cond0_2 i)
    (x y : Vec Ideal S2048x1024 .bf16) (z : Vec Ideal S1024x1024 .f32) : out0_B_2 c i a3 h3 a4 h4 a5 h5 a6 h6 hc0 hc1 hc2 x y z = k0_pay4 x y z := by
  unfold out0_B_2
  rw [View.read_writes_eq_canon _ _ _ (cover0_B_2 c i a3 h3 a4 h4 a5 h5 a6 h6 hc0 hc1 hc2 x y z)]
  unfold kernelRun0_B
  dsimp only
  sl_unfold_words
  rw [View.canon_unit_zero hz3]
  simp only [View.readAt_eq_ld, h3.read_unread, h4.read_unread, h6.read_unread, View.ld_unit_zero (S := S2048x1024) hz, View.ld_unit_zero (S := S1024x1024) hz]

/-- The row (column) of the gradient that entry `r` of the output's block is, and the row of the half. -/
def rw' (t : Fin cfg0.N) (r : Fin 1024) : Fin 2048 := ⟨1024 * win0_2.index t 1 + r.val, by have := (ixs t).2.2.2.2.2.1; omega⟩
def cl' (t : Fin cfg0.N) (r : Fin 1024) : Fin 8192 := ⟨1024 * win0_2.index t 0 + r.val, by have := (ixs t).2.2.2.2.1; omega⟩
def bk (t : Fin cfg0.N) : Fin 8 := ⟨win0_2.index t 0, (ixs t).2.2.2.2.1⟩
def half (t : Fin cfg0.N) (k : Fin 2048) : Fin 4096 := ⟨2048 * (t.val % 2) + k.val, by omega⟩

theorem xB_at (t : Fin cfg0.N) (k : Fin 2048) (r : Fin 1024) : xB m c t (ix2 k r) = m ((c : Thread nD τ).loc main_arg0) (ix2 (half t k) (rw' t r)) := by
  rw [← V_v0 m c]
  refine congrArg (V m c main_v0) (funext fun a => Fin.ext ?_)
  obtain ⟨h0, h1, -⟩ := ixs t
  match a with
  | ⟨0, _⟩ => show win0_0.index t 0 * 2048 + 1 * k.val = 2048 * (t.val % 2) + k.val; rw [h0]; omega
  | ⟨1, _⟩ => show win0_0.index t 1 * 1024 + 1 * r.val = 1024 * win0_2.index t 1 + r.val; rw [h1]; omega
theorem yB_at (t : Fin cfg0.N) (k : Fin 2048) (r : Fin 1024) : yB m c t (ix2 k r) = m ((c : Thread nD τ).loc main_arg2) (ix2 (half t k) (cl' t r)) := by
  rw [← V_v1 m c]
  refine congrArg (V m c main_v1) (funext fun a => Fin.ext ?_)
  obtain ⟨-, -, h0, h1, -⟩ := ixs t
  match a with
  | ⟨0, _⟩ => show win0_1.index t 0 * 2048 + 1 * k.val = 2048 * (t.val % 2) + k.val; rw [h0]; omega
  | ⟨1, _⟩ => show win0_1.index t 1 * 1024 + 1 * r.val = 1024 * win0_2.index t 0 + r.val; rw [h1]; omega

/-- What the point before the last of a block leaves in the carried block. -/
theorem carried (t u : Fin cfg0.N) (ht : t.val % 2 = 1) (hu : u.val + 1 = t.val) (hl : t.val - 1 < cfg0.N) : (outsAt0 m c (t.val - 1) hl).2 = k0_pay2 (xB m c u) (yB m c u) := by
  have e := outsAt0_A m c u (by omega) (by omega)
  have e2 : outsAt0 m c (t.val - 1) hl = outsAt0 m c u.val u.isLt := by
    have : t.val - 1 = u.val := by omega
    simp only [this]
  rw [e2, e]
  dsimp only
  rw [sout_A]
  rfl

theorem left (t : Fin cfg0.N) (ht : t.val % 2 = 1) (hl : t.val - 1 < cfg0.N) (r s : Fin 1024) :
    k0_pay4 (xB m c t) (yB m c t) (outsAt0 m c (t.val - 1) hl).2 (ix3 0 r s) = tgt m c (ix3 (bk t) (rw' t r) s) := by
  have hu : (⟨t.val - 1, hl⟩ : Fin cfg0.N).val + 1 = t.val := by dsimp only; omega
  rw [carried m c t ⟨t.val - 1, hl⟩ ht hu, pay4_at, pay2_at]
  refine Eq.trans ?_ (ref_at _ _ _ _ _).symm
  unfold entry
  rw [← sum_halves (n := 2048) rfl]
  obtain ⟨p0, p1⟩ := ixp t ht ⟨t.val - 1, hl⟩ hu
  refine congrArg₂ (· + ·) (Finset.sum_congr rfl fun k _ => ?_) (Finset.sum_congr rfl fun k _ => ?_)
  · rw [xB_at, yB_at]
    have e0 : half ⟨t.val - 1, hl⟩ k = ⟨k.val, by omega⟩ := Fin.ext (by show 2048 * ((t.val - 1) % 2) + k.val = k.val; omega)
    have e1 : rw' ⟨t.val - 1, hl⟩ r = rw' t r := Fin.ext (by show 1024 * win0_2.index ⟨t.val - 1, hl⟩ 1 + r.val = 1024 * win0_2.index t 1 + r.val; rw [p1])
    have e2 : cl' ⟨t.val - 1, hl⟩ s = cl' t s := Fin.ext (by show 1024 * win0_2.index ⟨t.val - 1, hl⟩ 0 + s.val = 1024 * win0_2.index t 0 + s.val; rw [p0])
    rw [e0, e1, e2]
    rfl
  · rw [xB_at, yB_at]
    have e0 : half t k = ⟨2048 + k.val, by omega⟩ := Fin.ext (by show 2048 * (t.val % 2) + k.val = 2048 + k.val; rw [ht])
    rw [e0]
    rfl

theorem flush2 (t : Fin cfg0.N) (hf : (cfg0.win 2).flush t = true) : (dats m 0 c).flushed 2 t = ((cfg0.win 2).blk t).view.read (Elt Ideal) (tgt m c) := by
  have ht : t.val % 2 = 1 := (flush0_2 t).mp hf
  have hl : t.val - 1 < cfg0.N := Nat.lt_of_le_of_lt (Nat.sub_le _ _) t.isLt
  rw [Value.flushed2_B m c t (by omega) ht, out_B]
  funext j
  obtain ⟨z0, z1, z2⟩ := szs t
  have j0 : (j 0).val < 1 := z0 ▸ (j 0).isLt
  have j1 : (j 1).val < 1024 := z1 ▸ (j 1).isLt
  have j2 : (j 2).val < 1024 := z2 ▸ (j 2).isLt
  have i2 := (ixs t).2.2.2.2.2.2
  refine Eq.trans (congrArg (k0_pay4 (xB m c t) (yB m c t) (outsAt0 m c (t.val - 1) hl).2) (funext fun k => Fin.ext ?_)) ((left m c t ht hl ⟨(j 1).val, j1⟩ ⟨(j 2).val, j2⟩).trans
    (congrArg (tgt m c) (funext fun k => Fin.ext ?_)))
  · match k with
    | ⟨0, _⟩ => show (j 0).val = 0; omega
    | ⟨1, _⟩ => rfl
    | ⟨2, _⟩ => rfl
  · match k with
    | ⟨0, _⟩ => show win0_2.index t 0 = win0_2.index t 0 * 1 + 1 * (j 0).val; omega
    | ⟨1, _⟩ => show 1024 * win0_2.index t 1 + (j 1).val = win0_2.index t 1 * 1024 + 1 * (j 1).val; omega
    | ⟨2, _⟩ => show (j 2).val = win0_2.index t 2 * 1024 + 1 * (j 2).val; rw [i2]; omega

theorem final : (dats m 0 c).arrAt 2 cfg0.N = tgt m c :=
  (dats m 0 c).arrAt_eq_of_cover 2 (tgt m c) (flush2 m c) fun i => by
    have i0 : (i 0 : Nat) < 8 := (i 0).isLt
    have i1 : (i 1 : Nat) < 2048 := (i 1).isLt
    have i2 : (i 2 : Nat) < 1024 := (i 2).isLt
    obtain ⟨t, hf, h0, h1⟩ := find ⟨(i 0 : Nat), i0⟩ ⟨(i 1 : Nat) / 1024, by omega⟩
    have h2 := (ixs t).2.2.2.2.2.2
    refine ⟨t, hf, ?_⟩
    show i ∈ ((View.whole main_v2).slice (win0_2.rect t)).set
    rw [View.set_slice_whole, Rect.mem_set_unit]
    obtain ⟨z0, z1, z2⟩ := szs t
    intro a
    match a with
    | ⟨0, _⟩ =>
      show win0_2.index t 0 * 1 ≤ (i 0 : Nat) ∧ (i 0 : Nat) < win0_2.index t 0 * 1 + win0_2.xsize (grid0.coords t) 0
      rw [z0, h0]; dsimp only; omega
    | ⟨1, _⟩ =>
      show win0_2.index t 1 * 1024 ≤ (i 1 : Nat) ∧ (i 1 : Nat) < win0_2.index t 1 * 1024 + win0_2.xsize (grid0.coords t) 1
      rw [z1, h1]; dsimp only; omega
    | ⟨2, _⟩ =>
      show win0_2.index t 2 * 1024 ≤ (i 2 : Nat) ∧ (i 2 : Nat) < win0_2.index t 2 * 1024 + win0_2.xsize (grid0.coords t) 2
      rw [z2, h2]; omega
end

theorem same : Cert.algebraic_Ff1DwIdeal_Ff1DwRefIdeal (hFf1DwIdeal := Cert.Ff1DwIdeal.Gen.facts) (hFf1DwRefIdeal := Cert.Ff1DwRefIdeal.Gen.facts) := by
  intro m g m' g' _ hag
  refine ⟨fun c => tgt m c, ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.Ff1DwRefIdeal.Value.run m' g')
    obtain ⟨a0, a1, a2⟩ := hag c
    rw [Cert.Ff1DwRefIdeal.Read.val_main_v21_eq, a0, a2]

end Cert.Ff1DwIdeal.Hand
-- ==== Proof.Ff1Val.lean ====
/-
  The first product and its squared positive part: the kernel's two arrays are the reference's.
-/
module

public import proofs.«01_k».proof.Defs
public import proofs.«01_k».proof.Proof.Dots
public import proofs.«01_k».proof.Proof.Gen.Ff1Ideal.Value
public import proofs.«01_k».proof.Proof.Gen.Ff1RefIdeal.Run
public import proofs.«01_k».proof.Proof.Gen.Ff1RefIdeal.Read
public import Idealize.ShloMosaic.Lib.StableHlo.Run

@[expose] public section
set_option maxRecDepth 16384

noncomputable section

namespace Cert.Ff1Ideal.Hand
open Cert.Ff1Ideal Cert.Ff1Ideal.Gen Cert.Dots
open Idealize.ShloMosaic Idealize.ShloMosaic.TcCoe

/-- One tile: the positive part of the product's entry, and its square. -/
theorem pay1_at (x : Vec Ideal S1024x2048 .bf16) (y : Vec Ideal S1x2048x1024 .bf16) (r c : Fin 1024) :
    k0_pay1 x y (ix2 r c) = max (∑ k : Fin 2048, x (ix2 r k) * y (ix3 0 k c)) 0 := by
  pointwise [k0_pay1]
theorem pay2_at (x : Vec Ideal S1024x2048 .bf16) (y : Vec Ideal S1x2048x1024 .bf16) (r c : Fin 1024) :
    k0_pay2 x y (ix2 r c) = k0_pay1 x y (ix2 r c) * k0_pay1 x y (ix2 r c) := rfl

section
variable (x0 : (⟨S4096x2048, .f32⟩ : BufTy).Contents (Elt Ideal)) (x1 : (⟨S2048x8192, .f32⟩ : BufTy).Contents (Elt Ideal))
/-- The reference at an index. -/
theorem ref1_at (r : Fin 4096) (c : Fin 8192) :
    Cert.Ff1RefIdeal.Read.val_main_v1 (F := Ideal) x0 x1 (ix2 r c) = max (∑ k : Fin 2048, x0 (ix2 r k) * x1 (ix2 k c)) 0 := by
  rw [← Cert.Ff1RefIdeal.Read.val_main_v1_eq]
  pointwise
theorem ref3_at (r : Fin 4096) (c : Fin 8192) :
    Cert.Ff1RefIdeal.Read.val_main_v3 (F := Ideal) x0 x1 (ix2 r c)
      = Cert.Ff1RefIdeal.Read.val_main_v1 (F := Ideal) x0 x1 (ix2 r c) * Cert.Ff1RefIdeal.Read.val_main_v1 (F := Ideal) x0 x1 (ix2 r c) := rfl

/-- The weights, eight blocks of columns one after another, as the host lays them out. -/
def gath : (⟨S8x2048x1024, .bf16⟩ : BufTy).Contents (Elt Ideal) :=
  truncf (F := Ideal) .bf16 (transpose S8x2048x1024 [1, 0, 2] (shapeCast S2048x8x1024 x1 shapeCasts_S2048x8192_S2048x8x1024) transposes_S2048x8x1024_S8x2048x1024_1_0_2) bitsLt_bf16_f32
theorem gath_at (b : Fin 8) (k : Fin 2048) (e : Fin 1024) : gath x1 (ix3 b k e) = x1 (ix2 k ⟨1024 * b.val + e.val, by omega⟩) := by
  pointwise [gath]
  refine congrArg x1 (congrArg (ix2 k) (Fin.ext ?_))
  dsimp only; omega
end

section
variable (m : (ℓ : Loc nD τ sig) → Buf (Elt Ideal) ℓ) (c : Dev nD)

theorem V_v0 : V m c main_v0 = m ((c : Thread nD τ).loc main_arg0) := by
  simp only [V, hostOps0, List.flatten_cons, List.flatten_nil, List.append_nil, List.cons_append, List.nil_append]
  after_results_simp
  rfl
theorem V_v3 : V m c main_v3 = gath (m ((c : Thread nD τ).loc main_arg1)) := by
  simp only [V, hostOps0, List.flatten_cons, List.flatten_nil, List.append_nil, List.cons_append, List.nil_append]
  after_results_simp
  rfl

/-! ## Where the blocks lie, from the outputs' -/

theorem ixs : ∀ t : Fin grid0.N, win0_0.index t 0 = win0_2.index t 0 ∧ win0_0.index t 1 = 0 ∧ win0_1.index t 0 = win0_2.index t 1 ∧ win0_1.index t 1 = 0
    ∧ win0_1.index t 2 = 0 ∧ win0_3.index t 0 = win0_2.index t 0 ∧ win0_3.index t 1 = win0_2.index t 1 ∧ win0_2.index t 0 < 4 ∧ win0_2.index t 1 < 8 := by decide +kernel
theorem szs : ∀ t : Fin grid0.N, win0_2.xsize (grid0.coords t) 0 = 1024 ∧ win0_2.xsize (grid0.coords t) 1 = 1024
    ∧ win0_3.xsize (grid0.coords t) 0 = 1024 ∧ win0_3.xsize (grid0.coords t) 1 = 1024 := by decide +kernel
theorem find : ∀ (a : Fin 4) (b : Fin 8), ∃ t : Fin grid0.N, win0_2.flush t = true ∧ win0_3.flush t = true ∧ win0_2.index t 0 = a.val ∧ win0_2.index t 1 = b.val := by decide +kernel

/-- The arrays the kernel leaves, as the reference's values of the arguments. -/
abbrev tgt2 : (⟨S4096x8192, .f32⟩ : BufTy).Contents (Elt Ideal) :=
  Cert.Ff1RefIdeal.Read.val_main_v1 (F := Ideal) (m ((c : Thread nD τ).loc main_arg0)) (m ((c : Thread nD τ).loc main_arg1))
abbrev tgt3 : (⟨S4096x8192, .bf16⟩ : BufTy).Contents (Elt Ideal) :=
  Cert.Ff1RefIdeal.Read.val_main_v3 (F := Ideal) (m ((c : Thread nD τ).loc main_arg0)) (m ((c : Thread nD τ).loc main_arg1))

theorem hz : (![0, 0] : Fin 2 → Nat) = fun _ => 0 := funext fun a => by fin_cases a <;> rfl
theorem hz3 : (![0, 0, 0] : Fin 3 → Nat) = fun _ => 0 := funext fun a => by fin_cases a <;> rfl

def xB (t : Fin cfg0.N) : Vec Ideal S1024x2048 .bf16 := iblk m c 0 t
def yB (t : Fin cfg0.N) : Vec Ideal S1x2048x1024 .bf16 := iblk m c 1 t

theorem out2_eq (x : Vec Ideal S1024x2048 .bf16) (y : Vec Ideal S1x2048x1024 .bf16) : out0_2 x y = k0_pay1 x y := by
  unfold out0_2
  rw [View.canon_unit_zero hz]
  simp only [View.ld_unit_zero (S := S1024x2048) hz, View.ld_unit_zero (S := S1x2048x1024) hz3]
theorem out3_eq (x : Vec Ideal S1024x2048 .bf16) (y : Vec Ideal S1x2048x1024 .bf16) : out0_3 x y = k0_pay2 x y := by
  unfold out0_3
  rw [View.canon_unit_zero hz]
  simp only [View.ld_unit_zero (S := S1024x2048) hz, View.ld_unit_zero (S := S1x2048x1024) hz3]

/-- The row (column) of the outputs that entry `r` of their block is. -/
def rw' (t : Fin cfg0.N) (r : Fin 1024) : Fin 4096 := ⟨1024 * win0_2.index t 0 + r.val, by have := (ixs t).2.2.2.2.2.2.2.1; omega⟩
def cl' (t : Fin cfg0.N) (r : Fin 1024) : Fin 8192 := ⟨1024 * win0_2.index t 1 + r.val, by have := (ixs t).2.2.2.2.2.2.2.2; omega⟩

theorem xB_at (t : Fin cfg0.N) (r : Fin 1024) (k : Fin 2048) : xB m c t (ix2 r k) = m ((c : Thread nD τ).loc main_arg0) (ix2 (rw' t r) k) := by
  rw [← V_v0 m c]
  refine congrArg (V m c main_v0) (funext fun a => Fin.ext ?_)
  obtain ⟨h0, h1, -⟩ := ixs t
  match a with
  | ⟨0, _⟩ => show win0_0.index t 0 * 1024 + 1 * r.val = 1024 * win0_2.index t 0 + r.val; rw [h0]; omega
  | ⟨1, _⟩ => show win0_0.index t 1 * 2048 + 1 * k.val = k.val; rw [h1]; omega
theorem yB_at (t : Fin cfg0.N) (k : Fin 2048) (e : Fin 1024) : yB m c t (ix3 0 k e) = m ((c : Thread nD τ).loc main_arg1) (ix2 k (cl' t e)) := by
  have hb := (ixs t).2.2.2.2.2.2.2.2
  refine Eq.trans ?_ (gath_at (m ((c : Thread nD τ).loc main_arg1)) ⟨win0_2.index t 1, hb⟩ k e)
  rw [← V_v3 m c]
  refine congrArg (V m c main_v3) (funext fun a => Fin.ext ?_)
  obtain ⟨-, -, h0, h1, h2, -⟩ := ixs t
  match a with
  | ⟨0, _⟩ => show win0_1.index t 0 * 1 + 1 * 0 = win0_2.index t 1; rw [h0]; omega
  | ⟨1, _⟩ => show win0_1.index t 1 * 2048 + 1 * k.val = k.val; rw [h1]; omega
  | ⟨2, _⟩ => show win0_1.index t 2 * 1024 + 1 * e.val = e.val; rw [h2]; omega

theorem left2 (t : Fin cfg0.N) (r s : Fin 1024) : k0_pay1 (xB m c t) (yB m c t) (ix2 r s) = tgt2 m c (ix2 (rw' t r) (cl' t s)) := by
  rw [pay1_at]
  refine Eq.trans ?_ (ref1_at _ _ _ _).symm
  refine congrArg (max · 0) (Finset.sum_congr rfl fun k _ => ?_)
  rw [xB_at, yB_at]
theorem left3 (t : Fin cfg0.N) (r s : Fin 1024) : k0_pay2 (xB m c t) (yB m c t) (ix2 r s) = tgt3 m c (ix2 (rw' t r) (cl' t s)) := by
  rw [pay2_at, left2]
  exact (ref3_at _ _ _ _).symm

theorem flush2 (t : Fin cfg0.N) (hf : (cfg0.win 2).flush t = true) : (dats m 0 c).flushed 2 t = ((cfg0.win 2).blk t).view.read (Elt Ideal) (tgt2 m c) := by
  rw [Value.flushed2]
  show (cfg0.win 2).cut (grid0.coords t) (out0_2 (xB m c t) (yB m c t)) = _
  rw [out2_eq]
  funext j
  obtain ⟨z0, z1, -⟩ := szs t
  have j0 : (j 0).val < 1024 := z0 ▸ (j 0).isLt
  have j1 : (j 1).val < 1024 := z1 ▸ (j 1).isLt
  refine Eq.trans (congrArg (k0_pay1 (xB m c t) (yB m c t)) (funext fun k => Fin.ext ?_)) ((left2 m c t ⟨(j 0).val, j0⟩ ⟨(j 1).val, j1⟩).trans
    (congrArg (tgt2 m c) (funext fun k => Fin.ext ?_)))
  · match k with
    | ⟨0, _⟩ => rfl
    | ⟨1, _⟩ => rfl
  · match k with
    | ⟨0, _⟩ => show 1024 * win0_2.index t 0 + (j 0).val = win0_2.index t 0 * 1024 + 1 * (j 0).val; omega
    | ⟨1, _⟩ => show 1024 * win0_2.index t 1 + (j 1).val = win0_2.index t 1 * 1024 + 1 * (j 1).val; omega

theorem last2 : (dats m 0 c).arrAt 2 cfg0.N = tgt2 m c :=
  (dats m 0 c).arrAt_eq_of_cover 2 (tgt2 m c) (flush2 m c) fun i => by
    have i0 : (i 0 : Nat) < 4096 := (i 0).isLt
    have i1 : (i 1 : Nat) < 8192 := (i 1).isLt
    obtain ⟨t, hf, -, h0, h1⟩ := find ⟨(i 0 : Nat) / 1024, by omega⟩ ⟨(i 1 : Nat) / 1024, by omega⟩
    refine ⟨t, hf, ?_⟩
    show i ∈ ((View.whole main_v4_0).slice (win0_2.rect t)).set
    rw [View.set_slice_whole, Rect.mem_set_unit]
    obtain ⟨z0, z1, -⟩ := szs t
    intro a
    match a with
    | ⟨0, _⟩ =>
      show win0_2.index t 0 * 1024 ≤ (i 0 : Nat) ∧ (i 0 : Nat) < win0_2.index t 0 * 1024 + win0_2.xsize (grid0.coords t) 0
      rw [z0, h0]; dsimp only; omega
    | ⟨1, _⟩ =>
      show win0_2.index t 1 * 1024 ≤ (i 1 : Nat) ∧ (i 1 : Nat) < win0_2.index t 1 * 1024 + win0_2.xsize (grid0.coords t) 1
      rw [z1, h1]; dsimp only; omega
theorem flush3 (t : Fin cfg0.N) (hf : (cfg0.win 3).flush t = true) : (dats m 0 c).flushed 3 t = ((cfg0.win 3).blk t).view.read (Elt Ideal) (tgt3 m c) := by
  rw [Value.flushed3]
  show (cfg0.win 3).cut (grid0.coords t) (out0_3 (xB m c t) (yB m c t)) = _
  rw [out3_eq]
  funext j
  obtain ⟨-, -, z0, z1⟩ := szs t
  obtain ⟨-, -, -, -, -, e0, e1, -⟩ := ixs t
  have j0 : (j 0).val < 1024 := z0 ▸ (j 0).isLt
  have j1 : (j 1).val < 1024 := z1 ▸ (j 1).isLt
  refine Eq.trans (congrArg (k0_pay2 (xB m c t) (yB m c t)) (funext fun k => Fin.ext ?_)) ((left3 m c t ⟨(j 0).val, j0⟩ ⟨(j 1).val, j1⟩).trans
    (congrArg (tgt3 m c) (funext fun k => Fin.ext ?_)))
  · match k with
    | ⟨0, _⟩ => rfl
    | ⟨1, _⟩ => rfl
  · match k with
    | ⟨0, _⟩ => show 1024 * win0_2.index t 0 + (j 0).val = win0_3.index t 0 * 1024 + 1 * (j 0).val; rw [e0]; omega
    | ⟨1, _⟩ => show 1024 * win0_2.index t 1 + (j 1).val = win0_3.index t 1 * 1024 + 1 * (j 1).val; rw [e1]; omega

theorem last3 : (dats m 0 c).arrAt 3 cfg0.N = tgt3 m c :=
  (dats m 0 c).arrAt_eq_of_cover 3 (tgt3 m c) (flush3 m c) fun i => by
    have i0 : (i 0 : Nat) < 4096 := (i 0).isLt
    have i1 : (i 1 : Nat) < 8192 := (i 1).isLt
    obtain ⟨t, -, hf, h0, h1⟩ := find ⟨(i 0 : Nat) / 1024, by omega⟩ ⟨(i 1 : Nat) / 1024, by omega⟩
    refine ⟨t, hf, ?_⟩
    show i ∈ ((View.whole main_v4_1).slice (win0_3.rect t)).set
    rw [View.set_slice_whole, Rect.mem_set_unit]
    obtain ⟨-, -, z0, z1⟩ := szs t
    obtain ⟨-, -, -, -, -, e0, e1, -⟩ := ixs t
    intro a
    match a with
    | ⟨0, _⟩ =>
      show win0_3.index t 0 * 1024 ≤ (i 0 : Nat) ∧ (i 0 : Nat) < win0_3.index t 0 * 1024 + win0_3.xsize (grid0.coords t) 0
      rw [z0, e0, h0]; dsimp only; omega
    | ⟨1, _⟩ =>
      show win0_3.index t 1 * 1024 ≤ (i 1 : Nat) ∧ (i 1 : Nat) < win0_3.index t 1 * 1024 + win0_3.xsize (grid0.coords t) 1
      rw [z1, e1, h1]; dsimp only; omega
end

theorem same : Cert.algebraic_Ff1Ideal_Ff1RefIdeal (hFf1Ideal := Cert.Ff1Ideal.Gen.facts) (hFf1RefIdeal := Cert.Ff1RefIdeal.Gen.facts) := by
  intro m g m' g' _ hag
  refine ⟨fun c => tgt2 m c, fun c => tgt3 m c, ?_, ?_⟩
  · exact (θ_run _ _ _).mono (fun r h c => ⟨(h c).1.trans (last2 m c), (h c).2.1.trans (last3 m c), (h c).2.2⟩) (Value.run_blocks m g)
  · refine (θ_run _ _ _).mono (fun r h c => ⟨(h c).1.trans ?_, (h c).2.1.trans ?_, (h c).2.2⟩) (Cert.Ff1RefIdeal.Value.run m' g')
    · obtain ⟨a0, a1⟩ := hag c
      rw [Cert.Ff1RefIdeal.Read.val_main_v1_eq, a0, a1]
    · obtain ⟨a0, a1⟩ := hag c
      rw [Cert.Ff1RefIdeal.Read.val_main_v3_eq, a0, a1]

end Cert.Ff1Ideal.Hand
-- ==== Proof.Ff2Val.lean ====
/-
  The second product and the block's output: the kernel's two arrays are the reference's.
-/
module

public import proofs.«01_k».proof.Defs
public import proofs.«01_k».proof.Proof.Dots
public import proofs.«01_k».proof.Proof.Gen.Ff2Ideal.Value
public import proofs.«01_k».proof.Proof.Gen.Ff2RefIdeal.Run
public import proofs.«01_k».proof.Proof.Gen.Ff2RefIdeal.Read
public import Idealize.ShloMosaic.Lib.StableHlo.Run
public import Idealize.ShloMosaic.Lib.Tactic

@[expose] public section
set_option maxRecDepth 16384

noncomputable section

namespace Cert.Ff2Ideal.Hand
open Cert.Ff2Ideal Cert.Ff2Ideal.Gen Cert.Dots
open Idealize.ShloMosaic Idealize.ShloMosaic.TcCoe

/-- One tile's quarter of the sum: alone, and added onto the quarters before. -/
theorem pay1_at (x : Vec Ideal S1024x2048 .bf16) (y : Vec Ideal S2048x1024 .bf16) (r c : Fin 1024) : k0_pay1 x y (ix2 r c) = ∑ k : Fin 2048, x (ix2 r k) * y (ix2 k c) := by
  pointwise [k0_pay1]
theorem pay2_at (x : Vec Ideal S1024x2048 .bf16) (y : Vec Ideal S2048x1024 .bf16) (r c : Fin 1024) : k0_pay2 x y (ix2 r c) = k0_pay1 x y (ix2 r c) := by
  pointwise [k0_pay2]
theorem pay3_at (x : Vec Ideal S1024x2048 .bf16) (y : Vec Ideal S2048x1024 .bf16) (z : Vec Ideal S1024x1024 .f32) (r c : Fin 1024) :
    k0_pay3 x y z (ix2 r c) = z (ix2 r c) + k0_pay1 x y (ix2 r c) := by
  pointwise [k0_pay3]
theorem pay5_at (x : Vec Ideal S1024x2048 .bf16) (y : Vec Ideal S2048x1024 .bf16) (z : Vec Ideal S1024x1024 .f32) (r c : Fin 1024) :
    k0_pay5 x y z (ix2 r c) = z (ix2 r c) + k0_pay1 x y (ix2 r c) := rfl
theorem pay6_at (x : Vec Ideal S1024x2048 .bf16) (y : Vec Ideal S2048x1024 .bf16) (z p : Vec Ideal S1024x1024 .f32) (q : Vec Ideal S1x1024 .f32) (r c : Fin 1024) :
    k0_pay6 x y z p q (ix2 r c) = p (ix2 r c) + q (ix2 0 c) * k0_pay5 x y z (ix2 r c) := by
  rw [pay5_at]
  pointwise [k0_pay6, k0_pay4]

section
variable (x0 : (⟨S4096x8192, .f32⟩ : BufTy).Contents (Elt Ideal)) (x1 : (⟨S8192x2048, .f32⟩ : BufTy).Contents (Elt Ideal))
  (x2 : (⟨S4096x2048, .f32⟩ : BufTy).Contents (Elt Ideal)) (x3 : (⟨S1x2048, .f32⟩ : BufTy).Contents (Elt Ideal))
/-- One term of the product's sum. -/
def term (r : Fin 4096) (c : Fin 2048) (k : Fin 8192) : EReal := x0 (ix2 r k) * x1 (ix2 k c)
/-- The reference at an index. -/
theorem ref1_at (r : Fin 4096) (c : Fin 2048) : Cert.Ff2RefIdeal.Read.val_main_v1 (F := Ideal) x0 x1 (ix2 r c) = ∑ k, term x0 x1 r c k := by
  rw [← Cert.Ff2RefIdeal.Read.val_main_v1_eq]
  unfold term
  pointwise
theorem ref4_at (r : Fin 4096) (c : Fin 2048) :
    Cert.Ff2RefIdeal.Read.val_main_v4 (F := Ideal) x0 x1 x2 x3 (ix2 r c) = x2 (ix2 r c) + x3 (ix2 0 c) * Cert.Ff2RefIdeal.Read.val_main_v1 (F := Ideal) x0 x1 (ix2 r c) := by
  rw [ref1_at, ← Cert.Ff2RefIdeal.Read.val_main_v4_eq]
  unfold term
  pointwise
end

section
variable (m : (ℓ : Loc nD τ sig) → Buf (Elt Ideal) ℓ) (c : Dev nD)

theorem V_v0 : V m c main_v0 = m ((c : Thread nD τ).loc main_arg0) := by
  simp only [V, hostOps0, List.flatten_cons, List.flatten_nil, List.append_nil, List.cons_append, List.nil_append]
  after_results_simp
  rfl
theorem V_v1 : V m c main_v1 = m ((c : Thread nD τ).loc main_arg1) := by
  simp only [V, hostOps0, List.flatten_cons, List.flatten_nil, List.append_nil, List.cons_append, List.nil_append]
  after_results_simp
  rfl
theorem V_arg2 : V m c main_arg2 = m ((c : Thread nD τ).loc main_arg2) := by
  simp only [V, hostOps0, List.flatten_cons, List.flatten_nil, List.append_nil, List.cons_append, List.nil_append]
  after_results_simp
theorem V_arg3 : V m c main_arg3 = m ((c : Thread nD τ).loc main_arg3) := by
  simp only [V, hostOps0, List.flatten_cons, List.flatten_nil, List.append_nil, List.cons_append, List.nil_append]
  after_results_simp

/-! ## Where the blocks lie, from the outputs' -/

theorem ixs : ∀ t : Fin grid0.N, win0_0.index t 0 = win0_4.index t 0 ∧ win0_0.index t 1 = t.val % 4 ∧ win0_1.index t 0 = t.val % 4 ∧ win0_1.index t 1 = win0_4.index t 1
    ∧ win0_4.index t 0 < 4 ∧ win0_4.index t 1 < 2 := by decide +kernel
theorem ixo : ∀ t : Fin grid0.N, win0_2.index t 0 = win0_4.index t 0 ∧ win0_2.index t 1 = win0_4.index t 1 ∧ win0_3.index t 0 = 0 ∧ win0_3.index t 1 = win0_4.index t 1
    ∧ win0_5.index t 0 = win0_4.index t 0 ∧ win0_5.index t 1 = win0_4.index t 1 := by decide +kernel
theorem ixp : ∀ t : Fin grid0.N, t.val % 4 = 3 → ∀ u : Fin grid0.N, u.val ≤ t.val → t.val ≤ u.val + 3 → win0_4.index u 0 = win0_4.index t 0 ∧ win0_4.index u 1 = win0_4.index t 1 := by decide +kernel
theorem szs : ∀ t : Fin grid0.N, win0_4.xsize (grid0.coords t) 0 = 1024 ∧ win0_4.xsize (grid0.coords t) 1 = 1024
    ∧ win0_5.xsize (grid0.coords t) 0 = 1024 ∧ win0_5.xsize (grid0.coords t) 1 = 1024 := by decide +kernel
theorem find : ∀ (a : Fin 4) (b : Fin 2), ∃ t : Fin grid0.N, win0_4.flush t = true ∧ win0_5.flush t = true ∧ win0_4.index t 0 = a.val ∧ win0_4.index t 1 = b.val := by decide +kernel

/-- The arrays the kernel leaves, as the reference's values of the arguments. -/
abbrev tgt4 : (⟨S4096x2048, .bf16⟩ : BufTy).Contents (Elt Ideal) :=
  Cert.Ff2RefIdeal.Read.val_main_v1 (F := Ideal) (m ((c : Thread nD τ).loc main_arg0)) (m ((c : Thread nD τ).loc main_arg1))
abbrev tgt5 : (⟨S4096x2048, .f32⟩ : BufTy).Contents (Elt Ideal) :=
  Cert.Ff2RefIdeal.Read.val_main_v4 (F := Ideal) (m ((c : Thread nD τ).loc main_arg0)) (m ((c : Thread nD τ).loc main_arg1)) (m ((c : Thread nD τ).loc main_arg2)) (m ((c : Thread nD τ).loc main_arg3))

theorem hz : (![0, 0] : Fin 2 → Nat) = fun _ => 0 := funext fun a => by fin_cases a <;> rfl

def xB (t : Fin cfg0.N) : Vec Ideal S1024x2048 .bf16 := iblk m c 0 t
def yB (t : Fin cfg0.N) : Vec Ideal S2048x1024 .bf16 := iblk m c 1 t
def pB (t : Fin cfg0.N) : Vec Ideal S1024x1024 .f32 := iblk m c 2 t
def qB (t : Fin cfg0.N) : Vec Ideal S1x1024 .f32 := iblk m c 3 t

/-! ## What the three kinds of point leave -/

section
variable (i : grid0.Coords) (a3 : Memref sig .tc .vmem S1024x2048 .bf16) (h3 : a3.IsWhole) (a4 : Memref sig .tc .vmem S2048x1024 .bf16) (h4 : a4.IsWhole) (a5 : Memref sig .tc .vmem S1024x1024 .f32) (h5 : a5.IsWhole) (a6 : Memref sig .tc .vmem S1x1024 .f32) (h6 : a6.IsWhole) (a7 : Memref sig .tc .vmem S1024x1024 .bf16) (h7 : a7.IsWhole) (a8 : Memref sig .tc .vmem S1024x1024 .f32) (h8 : a8.IsWhole) (a9 : Memref sig .tc .vmem S1024x1024 .f32) (h9 : a9.IsWhole)
theorem sout_A (hc0 : cond0_0 i) (hc1 : ¬cond0_1 i) (hc2 : ¬cond0_2 i) (x : Vec Ideal S1024x2048 .bf16) (y : Vec Ideal S2048x1024 .bf16) (p : Vec Ideal S1024x1024 .f32) (q : Vec Ideal S1x1024 .f32) :
    sout0_A_0 c i a3 h3 a4 h4 a5 h5 a6 h6 a7 h7 a8 h8 a9 h9 hc0 hc1 hc2 x y p q = k0_pay2 x y := by
  unfold sout0_A_0
  rw [View.read_writes_eq_canon _ _ _ (scover0_A_0 c i a3 h3 a4 h4 a5 h5 a6 h6 a7 h7 a8 h8 a9 h9 hc0 hc1 hc2 x y p q)]
  unfold kernelRun0_A
  dsimp only
  sl_unfold_words
  rw [View.canon_unit_zero hz]
  simp only [View.readAt_eq_ld, h3.read_unread, h4.read_unread, h5.read_unread, h6.read_unread, h9.read_unread, View.ld_unit_zero (S := S1024x2048) hz, View.ld_unit_zero (S := S2048x1024) hz,
    View.ld_unit_zero (S := S1024x1024) hz, View.ld_unit_zero (S := S1x1024) hz]
theorem sout_B (hc0 : ¬cond0_0 i) (hc1 : cond0_1 i) (hc2 : ¬cond0_2 i) (x : Vec Ideal S1024x2048 .bf16) (y : Vec Ideal S2048x1024 .bf16) (p : Vec Ideal S1024x1024 .f32) (q : Vec Ideal S1x1024 .f32) (z : Vec Ideal S1024x1024 .f32) :
    sout0_B_0 c i a3 h3 a4 h4 a5 h5 a6 h6 a7 h7 a8 h8 a9 h9 hc0 hc1 hc2 x y p q z = k0_pay3 x y z := by
  unfold sout0_B_0
  rw [View.read_writes_eq_canon _ _ _ (scover0_B_0 c i a3 h3 a4 h4 a5 h5 a6 h6 a7 h7 a8 h8 a9 h9 hc0 hc1 hc2 x y p q z)]
  unfold kernelRun0_B
  dsimp only
  sl_unfold_words
  rw [View.canon_unit_zero hz]
  simp only [View.readAt_eq_ld, h3.read_unread, h4.read_unread, h5.read_unread, h6.read_unread, h9.read_unread, View.ld_unit_zero (S := S1024x2048) hz, View.ld_unit_zero (S := S2048x1024) hz,
    View.ld_unit_zero (S := S1024x1024) hz, View.ld_unit_zero (S := S1x1024) hz]
theorem out_C4 (hc0 : ¬cond0_0 i) (hc1 : ¬cond0_1 i) (hc2 : cond0_2 i) (x : Vec Ideal S1024x2048 .bf16) (y : Vec Ideal S2048x1024 .bf16) (p : Vec Ideal S1024x1024 .f32) (q : Vec Ideal S1x1024 .f32) (z : Vec Ideal S1024x1024 .f32) :
    out0_C_4 c i a3 h3 a4 h4 a5 h5 a6 h6 a7 h7 a8 h8 a9 h9 hc0 hc1 hc2 x y p q z = k0_pay5 x y z := by
  unfold out0_C_4
  rw [View.read_writes_eq_canon _ _ _ (cover0_C_4 c i a3 h3 a4 h4 a5 h5 a6 h6 a7 h7 a8 h8 a9 h9 hc0 hc1 hc2 x y p q z)]
  unfold kernelRun0_C
  dsimp only
  sl_unfold_words
  rw [View.canon_unit_zero hz]
  simp only [View.readAt_eq_ld, h3.read_unread, h4.read_unread, h5.read_unread, h6.read_unread, h9.read_unread, View.ld_unit_zero (S := S1024x2048) hz, View.ld_unit_zero (S := S2048x1024) hz,
    View.ld_unit_zero (S := S1024x1024) hz, View.ld_unit_zero (S := S1x1024) hz]
theorem out_C5 (hc0 : ¬cond0_0 i) (hc1 : ¬cond0_1 i) (hc2 : cond0_2 i) (x : Vec Ideal S1024x2048 .bf16) (y : Vec Ideal S2048x1024 .bf16) (p : Vec Ideal S1024x1024 .f32) (q : Vec Ideal S1x1024 .f32) (z : Vec Ideal S1024x1024 .f32) :
    out0_C_5 c i a3 h3 a4 h4 a5 h5 a6 h6 a7 h7 a8 h8 a9 h9 hc0 hc1 hc2 x y p q z = k0_pay6 x y z p q := by
  unfold out0_C_5
  rw [View.read_writes_eq_canon _ _ _ (cover0_C_5 c i a3 h3 a4 h4 a5 h5 a6 h6 a7 h7 a8 h8 a9 h9 hc0 hc1 hc2 x y p q z)]
  unfold kernelRun0_C
  dsimp only
  sl_unfold_words
  rw [View.canon_unit_zero hz]
  simp only [View.readAt_eq_ld, h3.read_unread, h4.read_unread, h5.read_unread, h6.read_unread, h9.read_unread, View.ld_unit_zero (S := S1024x2048) hz, View.ld_unit_zero (S := S2048x1024) hz,
    View.ld_unit_zero (S := S1024x1024) hz, View.ld_unit_zero (S := S1x1024) hz]
end

/-- The row (column) of the outputs that entry `r` of their block is, and the place in the quarter. -/
def rw' (t : Fin cfg0.N) (r : Fin 1024) : Fin 4096 := ⟨1024 * win0_4.index t 0 + r.val, by have := (ixs t).2.2.2.2.1; omega⟩
def cl' (t : Fin cfg0.N) (r : Fin 1024) : Fin 2048 := ⟨1024 * win0_4.index t 1 + r.val, by have := (ixs t).2.2.2.2.2; omega⟩
def part (t : Fin cfg0.N) (k : Fin 2048) : Fin 8192 := ⟨2048 * (t.val % 4) + k.val, by omega⟩

theorem xB_at (t : Fin cfg0.N) (r : Fin 1024) (k : Fin 2048) : xB m c t (ix2 r k) = m ((c : Thread nD τ).loc main_arg0) (ix2 (rw' t r) (part t k)) := by
  rw [← V_v0 m c]
  refine congrArg (V m c main_v0) (funext fun a => Fin.ext ?_)
  obtain ⟨h0, h1, -⟩ := ixs t
  match a with
  | ⟨0, _⟩ => show win0_0.index t 0 * 1024 + 1 * r.val = 1024 * win0_4.index t 0 + r.val; rw [h0]; omega
  | ⟨1, _⟩ => show win0_0.index t 1 * 2048 + 1 * k.val = 2048 * (t.val % 4) + k.val; rw [h1]; omega
theorem yB_at (t : Fin cfg0.N) (k : Fin 2048) (r : Fin 1024) : yB m c t (ix2 k r) = m ((c : Thread nD τ).loc main_arg1) (ix2 (part t k) (cl' t r)) := by
  rw [← V_v1 m c]
  refine congrArg (V m c main_v1) (funext fun a => Fin.ext ?_)
  obtain ⟨-, -, h0, h1, -⟩ := ixs t
  match a with
  | ⟨0, _⟩ => show win0_1.index t 0 * 2048 + 1 * k.val = 2048 * (t.val % 4) + k.val; rw [h0]; omega
  | ⟨1, _⟩ => show win0_1.index t 1 * 1024 + 1 * r.val = 1024 * win0_4.index t 1 + r.val; rw [h1]; omega
theorem pB_at (t : Fin cfg0.N) (r s : Fin 1024) : pB m c t (ix2 r s) = m ((c : Thread nD τ).loc main_arg2) (ix2 (rw' t r) (cl' t s)) := by
  rw [← V_arg2 m c]
  refine congrArg (V m c main_arg2) (funext fun a => Fin.ext ?_)
  obtain ⟨h0, h1, -⟩ := ixo t
  match a with
  | ⟨0, _⟩ => show win0_2.index t 0 * 1024 + 1 * r.val = 1024 * win0_4.index t 0 + r.val; rw [h0]; omega
  | ⟨1, _⟩ => show win0_2.index t 1 * 1024 + 1 * s.val = 1024 * win0_4.index t 1 + s.val; rw [h1]; omega
theorem qB_at (t : Fin cfg0.N) (s : Fin 1024) : qB m c t (ix2 0 s) = m ((c : Thread nD τ).loc main_arg3) (ix2 0 (cl' t s)) := by
  rw [← V_arg3 m c]
  refine congrArg (V m c main_arg3) (funext fun a => Fin.ext ?_)
  obtain ⟨-, -, h0, h1, -⟩ := ixo t
  match a with
  | ⟨0, _⟩ => show win0_3.index t 0 * 1 + 1 * 0 = 0; rw [h0]
  | ⟨1, _⟩ => show win0_3.index t 1 * 1024 + 1 * s.val = 1024 * win0_4.index t 1 + s.val; rw [h1]; omega

/-! ## The carried block, point by point -/

theorem first (u : Fin cfg0.N) (h : u.val % 4 = 0) : (outsAt0 m c u.val u.isLt).2.2 = k0_pay2 (xB m c u) (yB m c u) := by
  rw [outsAt0_A m c u h (by omega) (by omega)]
  dsimp only
  rw [sout_A]
  rfl
theorem next (u : Fin cfg0.N) (h : 1 ≤ u.val % 4 ∧ u.val % 4 ≤ 2) : (outsAt0 m c u.val u.isLt).2.2
    = k0_pay3 (xB m c u) (yB m c u) (outsAt0 m c (u.val - 1) (Nat.lt_of_le_of_lt (Nat.sub_le _ _) u.isLt)).2.2 := by
  rw [outsAt0_B m c u (by omega) h (by omega)]
  dsimp only
  rw [sout_B]
  rfl

/-- One point's product, as a quarter of the whole sum. -/
theorem quarter (t u : Fin cfg0.N) (ht : t.val % 4 = 3) (hu : u.val ≤ t.val) (hu' : t.val ≤ u.val + 3) (r s : Fin 1024) : k0_pay1 (xB m c u) (yB m c u) (ix2 r s)
    = ∑ k : Fin 2048, (term (m ((c : Thread nD τ).loc main_arg0)) (m ((c : Thread nD τ).loc main_arg1)) (rw' t r) (cl' t s)) (part u k) := by
  rw [pay1_at]
  obtain ⟨p0, p1⟩ := ixp t ht u hu hu'
  refine Finset.sum_congr rfl fun k _ => ?_
  rw [xB_at, yB_at]
  have e1 : rw' u r = rw' t r := Fin.ext (by show 1024 * win0_4.index u 0 + r.val = 1024 * win0_4.index t 0 + r.val; rw [p0])
  have e2 : cl' u s = cl' t s := Fin.ext (by show 1024 * win0_4.index u 1 + s.val = 1024 * win0_4.index t 1 + s.val; rw [p1])
  rw [e1, e2]
  rfl

theorem left4 (t : Fin cfg0.N) (ht : t.val % 4 = 3) (hl : t.val - 1 < cfg0.N) (r s : Fin 1024) :
    k0_pay5 (xB m c t) (yB m c t) (outsAt0 m c (t.val - 1) hl).2.2 (ix2 r s) = tgt4 m c (ix2 (rw' t r) (cl' t s)) := by
  have n2 := next m c ⟨t.val - 1, hl⟩ (by dsimp only; omega)
  have n1 := next m c ⟨t.val - 1 - 1, by omega⟩ (by dsimp only; omega)
  have n0 := first m c ⟨t.val - 1 - 1 - 1, by omega⟩ (by dsimp only; omega)
  dsimp only at n2 n1 n0
  rw [n2, n1, n0, pay5_at, pay3_at, pay3_at, pay2_at, quarter m c t t ht (by omega) (by omega), quarter m c t ⟨t.val - 1, hl⟩ ht (by dsimp only; omega) (by dsimp only; omega),
    quarter m c t ⟨t.val - 1 - 1, _⟩ ht (by dsimp only; omega) (by dsimp only; omega), quarter m c t ⟨t.val - 1 - 1 - 1, _⟩ ht (by dsimp only; omega) (by dsimp only; omega)]
  refine Eq.trans ?_ (ref1_at _ _ _ _).symm
  rw [← sum_quarters (n := 2048) rfl]
  refine congrArg₂ (· + ·) (congrArg₂ (· + ·) (congrArg₂ (· + ·) ?_ ?_) ?_) ?_
  all_goals
    refine Finset.sum_congr rfl fun k _ => ?_
    refine congrArg (term (m ((c : Thread nD τ).loc main_arg0)) (m ((c : Thread nD τ).loc main_arg1)) (rw' t r) (cl' t s)) (Fin.ext ?_)
    simp only [part]
    omega
theorem left5 (t : Fin cfg0.N) (ht : t.val % 4 = 3) (hl : t.val - 1 < cfg0.N) (r s : Fin 1024) :
    k0_pay6 (xB m c t) (yB m c t) (outsAt0 m c (t.val - 1) hl).2.2 (pB m c t) (qB m c t) (ix2 r s) = tgt5 m c (ix2 (rw' t r) (cl' t s)) := by
  rw [pay6_at, left4 m c t ht, pB_at, qB_at]
  exact (ref4_at _ _ _ _ _ _).symm

theorem flush4 (t : Fin cfg0.N) (hf : (cfg0.win 4).flush t = true) : (dats m 0 c).flushed 4 t = ((cfg0.win 4).blk t).view.read (Elt Ideal) (tgt4 m c) := by
  have ht : t.val % 4 = 3 := (flush0_4 t).mp hf
  have hl : t.val - 1 < cfg0.N := Nat.lt_of_le_of_lt (Nat.sub_le _ _) t.isLt
  rw [Value.flushed4_C m c t (by omega) (by omega) ht, out_C4]
  funext j
  obtain ⟨z0, z1, -⟩ := szs t
  have j0 : (j 0).val < 1024 := z0 ▸ (j 0).isLt
  have j1 : (j 1).val < 1024 := z1 ▸ (j 1).isLt
  refine Eq.trans (congrArg (k0_pay5 (xB m c t) (yB m c t) (outsAt0 m c (t.val - 1) hl).2.2) (funext fun k => Fin.ext ?_)) ((left4 m c t ht hl ⟨(j 0).val, j0⟩ ⟨(j 1).val, j1⟩).trans
    (congrArg (tgt4 m c) (funext fun k => Fin.ext ?_)))
  · match k with
    | ⟨0, _⟩ => rfl
    | ⟨1, _⟩ => rfl
  · match k with
    | ⟨0, _⟩ => show 1024 * win0_4.index t 0 + (j 0).val = win0_4.index t 0 * 1024 + 1 * (j 0).val; omega
    | ⟨1, _⟩ => show 1024 * win0_4.index t 1 + (j 1).val = win0_4.index t 1 * 1024 + 1 * (j 1).val; omega

theorem last4 : (dats m 0 c).arrAt 4 cfg0.N = tgt4 m c :=
  (dats m 0 c).arrAt_eq_of_cover 4 (tgt4 m c) (flush4 m c) fun i => by
    have i0 : (i 0 : Nat) < 4096 := (i 0).isLt
    have i1 : (i 1 : Nat) < 2048 := (i 1).isLt
    obtain ⟨t, hf, -, h0, h1⟩ := find ⟨(i 0 : Nat) / 1024, by omega⟩ ⟨(i 1 : Nat) / 1024, by omega⟩
    refine ⟨t, hf, ?_⟩
    show i ∈ ((View.whole main_v2_0).slice (win0_4.rect t)).set
    rw [View.set_slice_whole, Rect.mem_set_unit]
    obtain ⟨z0, z1, -⟩ := szs t
    intro a
    match a with
    | ⟨0, _⟩ =>
      show win0_4.index t 0 * 1024 ≤ (i 0 : Nat) ∧ (i 0 : Nat) < win0_4.index t 0 * 1024 + win0_4.xsize (grid0.coords t) 0
      rw [z0, h0]; dsimp only; omega
    | ⟨1, _⟩ =>
      show win0_4.index t 1 * 1024 ≤ (i 1 : Nat) ∧ (i 1 : Nat) < win0_4.index t 1 * 1024 + win0_4.xsize (grid0.coords t) 1
      rw [z1, h1]; dsimp only; omega
theorem flush5 (t : Fin cfg0.N) (hf : (cfg0.win 5).flush t = true) : (dats m 0 c).flushed 5 t = ((cfg0.win 5).blk t).view.read (Elt Ideal) (tgt5 m c) := by
  have ht : t.val % 4 = 3 := (flush0_5 t).mp hf
  have hl : t.val - 1 < cfg0.N := Nat.lt_of_le_of_lt (Nat.sub_le _ _) t.isLt
  rw [Value.flushed5_C m c t (by omega) (by omega) ht, out_C5]
  funext j
  obtain ⟨-, -, -, -, e0, e1⟩ := ixo t; obtain ⟨-, -, z0, z1⟩ := szs t
  have j0 : (j 0).val < 1024 := z0 ▸ (j 0).isLt
  have j1 : (j 1).val < 1024 := z1 ▸ (j 1).isLt
  refine Eq.trans (congrArg (k0_pay6 (xB m c t) (yB m c t) (outsAt0 m c (t.val - 1) hl).2.2 (pB m c t) (qB m c t)) (funext fun k => Fin.ext ?_)) ((left5 m c t ht hl ⟨(j 0).val, j0⟩ ⟨(j 1).val, j1⟩).trans
    (congrArg (tgt5 m c) (funext fun k => Fin.ext ?_)))
  · match k with
    | ⟨0, _⟩ => rfl
    | ⟨1, _⟩ => rfl
  · match k with
    | ⟨0, _⟩ => show 1024 * win0_4.index t 0 + (j 0).val = win0_5.index t 0 * 1024 + 1 * (j 0).val; rw [e0]; omega
    | ⟨1, _⟩ => show 1024 * win0_4.index t 1 + (j 1).val = win0_5.index t 1 * 1024 + 1 * (j 1).val; rw [e1]; omega

theorem last5 : (dats m 0 c).arrAt 5 cfg0.N = tgt5 m c :=
  (dats m 0 c).arrAt_eq_of_cover 5 (tgt5 m c) (flush5 m c) fun i => by
    have i0 : (i 0 : Nat) < 4096 := (i 0).isLt
    have i1 : (i 1 : Nat) < 2048 := (i 1).isLt
    obtain ⟨t, -, hf, h0, h1⟩ := find ⟨(i 0 : Nat) / 1024, by omega⟩ ⟨(i 1 : Nat) / 1024, by omega⟩
    refine ⟨t, hf, ?_⟩
    show i ∈ ((View.whole main_v2_1).slice (win0_5.rect t)).set
    rw [View.set_slice_whole, Rect.mem_set_unit]
    obtain ⟨-, -, -, -, e0, e1⟩ := ixo t; obtain ⟨-, -, z0, z1⟩ := szs t
    intro a
    match a with
    | ⟨0, _⟩ =>
      show win0_5.index t 0 * 1024 ≤ (i 0 : Nat) ∧ (i 0 : Nat) < win0_5.index t 0 * 1024 + win0_5.xsize (grid0.coords t) 0
      rw [z0, e0, h0]; dsimp only; omega
    | ⟨1, _⟩ =>
      show win0_5.index t 1 * 1024 ≤ (i 1 : Nat) ∧ (i 1 : Nat) < win0_5.index t 1 * 1024 + win0_5.xsize (grid0.coords t) 1
      rw [z1, e1, h1]; dsimp only; omega
end

theorem same : Cert.algebraic_Ff2Ideal_Ff2RefIdeal (hFf2Ideal := Cert.Ff2Ideal.Gen.facts) (hFf2RefIdeal := Cert.Ff2RefIdeal.Gen.facts) := by
  intro m g m' g' _ hag
  refine ⟨fun c => tgt4 m c, fun c => tgt5 m c, ?_, ?_⟩
  · exact (θ_run _ _ _).mono (fun r h c => ⟨(h c).1.trans (last4 m c), (h c).2.1.trans (last5 m c), (h c).2.2⟩) (Value.run_blocks m g)
  · refine (θ_run _ _ _).mono (fun r h c => ⟨(h c).1.trans ?_, (h c).2.1.trans ?_, (h c).2.2⟩) (Cert.Ff2RefIdeal.Value.run m' g')
    · obtain ⟨a0, a1, a2, a3⟩ := hag c
      rw [Cert.Ff2RefIdeal.Read.val_main_v1_eq, a0, a1]
    · obtain ⟨a0, a1, a2, a3⟩ := hag c
      rw [Cert.Ff2RefIdeal.Read.val_main_v4_eq, a0, a1, a2, a3]

end Cert.Ff2Ideal.Hand
-- ==== Proof.OutDxVal.lean ====
/-
  The gradient of the output projection's input: the kernel's array is the reference's.
-/
module

public import proofs.«01_k».proof.Defs
public import proofs.«01_k».proof.Proof.Dots
public import proofs.«01_k».proof.Proof.Gen.OutDxIdeal.Value
public import proofs.«01_k».proof.Proof.Gen.OutDxRefIdeal.Run
public import proofs.«01_k».proof.Proof.Gen.OutDxRefIdeal.Read
public import Idealize.ShloMosaic.Lib.StableHlo.Run

@[expose] public section
set_option maxRecDepth 16384

noncomputable section

namespace Cert.OutDxIdeal.Hand
open Cert.OutDxIdeal Cert.OutDxIdeal.Gen Cert.Dots
open Idealize.ShloMosaic Idealize.ShloMosaic.TcCoe

/-- One tile: the product's entry. -/
theorem pay_at (x y : Vec Ideal S1024x2048 .bf16) (r c : Fin 1024) : k0_pay1 x y (ix2 r c) = ∑ k : Fin 2048, x (ix2 r k) * y (ix2 c k) := by
  pointwise [k0_pay1]

/-- The reference at an index. -/
theorem ref_at (x1 : (⟨S2048x2048, .f32⟩ : BufTy).Contents (Elt Ideal)) (x2 : (⟨S4096x2048, .f32⟩ : BufTy).Contents (Elt Ideal)) (r : Fin 4096) (c : Fin 2048) :
    Cert.OutDxRefIdeal.Read.val_main_v3 (F := Ideal) x1 x2 (ix2 r c) = ∑ k : Fin 2048, x2 (ix2 r k) * x1 (ix2 c k) := by
  rw [← Cert.OutDxRefIdeal.Read.val_main_v3_eq]
  pointwise

section
variable (m : (ℓ : Loc nD τ sig) → Buf (Elt Ideal) ℓ) (c : Dev nD)

theorem V_v0 : V m c main_v0 = m ((c : Thread nD τ).loc main_arg2) := by
  simp only [V, hostOps0, List.flatten_cons, List.flatten_nil, List.append_nil, List.cons_append, List.nil_append]
  after_results_simp
  rfl
theorem V_v1 : V m c main_v1 = m ((c : Thread nD τ).loc main_arg1) := by
  simp only [V, hostOps0, List.flatten_cons, List.flatten_nil, List.append_nil, List.cons_append, List.nil_append]
  after_results_simp
  rfl

/-! ## Where the blocks lie, from the output's -/

theorem ixs : ∀ t : Fin grid0.N, win0_0.index t 0 = win0_2.index t 0 ∧ win0_0.index t 1 = 0 ∧ win0_1.index t 0 = win0_2.index t 1 ∧ win0_1.index t 1 = 0
    ∧ win0_2.index t 0 < 4 ∧ win0_2.index t 1 < 2 := by decide +kernel
theorem szs : ∀ t : Fin grid0.N, win0_2.xsize (grid0.coords t) 0 = 1024 ∧ win0_2.xsize (grid0.coords t) 1 = 1024 := by decide +kernel
theorem find : ∀ (a : Fin 4) (b : Fin 2), ∃ t : Fin grid0.N, win0_2.flush t = true ∧ win0_2.index t 0 = a.val ∧ win0_2.index t 1 = b.val := by decide +kernel

/-- The array the kernel leaves, as the reference's value of the arguments. -/
abbrev tgt : (⟨S4096x2048, .f32⟩ : BufTy).Contents (Elt Ideal) :=
  Cert.OutDxRefIdeal.Read.val_main_v3 (F := Ideal) (m ((c : Thread nD τ).loc main_arg1)) (m ((c : Thread nD τ).loc main_arg2))

theorem hz : (![0, 0] : Fin 2 → Nat) = fun _ => 0 := funext fun a => by fin_cases a <;> rfl

def xB (t : Fin cfg0.N) : Vec Ideal S1024x2048 .bf16 := iblk m c 0 t
def yB (t : Fin cfg0.N) : Vec Ideal S1024x2048 .bf16 := iblk m c 1 t

theorem out_eq (x y : Vec Ideal S1024x2048 .bf16) : out0_2 x y = k0_pay1 x y := by
  unfold out0_2
  rw [View.canon_unit_zero hz]
  simp only [View.ld_unit_zero (S := S1024x2048) hz]

/-- The row (column) of the output's block that entry `r` of it is. -/
def rw' (t : Fin cfg0.N) (r : Fin 1024) : Fin 4096 := ⟨1024 * win0_2.index t 0 + r.val, by have := (ixs t).2.2.2.2.1; omega⟩
def cl' (t : Fin cfg0.N) (r : Fin 1024) : Fin 2048 := ⟨1024 * win0_2.index t 1 + r.val, by have := (ixs t).2.2.2.2.2; omega⟩

theorem xB_at (t : Fin cfg0.N) (r : Fin 1024) (k : Fin 2048) : xB m c t (ix2 r k) = m ((c : Thread nD τ).loc main_arg2) (ix2 (rw' t r) k) := by
  rw [← V_v0 m c]
  refine congrArg (V m c main_v0) (funext fun a => Fin.ext ?_)
  obtain ⟨h0, h1, -⟩ := ixs t
  match a with
  | ⟨0, _⟩ => show win0_0.index t 0 * 1024 + 1 * r.val = 1024 * win0_2.index t 0 + r.val; rw [h0]; omega
  | ⟨1, _⟩ => show win0_0.index t 1 * 2048 + 1 * k.val = k.val; rw [h1]; omega
theorem yB_at (t : Fin cfg0.N) (r : Fin 1024) (k : Fin 2048) : yB m c t (ix2 r k) = m ((c : Thread nD τ).loc main_arg1) (ix2 (cl' t r) k) := by
  rw [← V_v1 m c]
  refine congrArg (V m c main_v1) (funext fun a => Fin.ext ?_)
  obtain ⟨-, -, h0, h1, -⟩ := ixs t
  match a with
  | ⟨0, _⟩ => show win0_1.index t 0 * 1024 + 1 * r.val = 1024 * win0_2.index t 1 + r.val; rw [h0]; omega
  | ⟨1, _⟩ => show win0_1.index t 1 * 2048 + 1 * k.val = k.val; rw [h1]; omega
theorem left (t : Fin cfg0.N) (r s : Fin 1024) : k0_pay1 (xB m c t) (yB m c t) (ix2 r s) = tgt m c (ix2 (rw' t r) (cl' t s)) := by
  rw [pay_at]
  refine Eq.trans ?_ (ref_at _ _ _ _).symm
  refine Finset.sum_congr rfl fun k _ => ?_
  rw [xB_at, yB_at]

theorem flushed (t : Fin cfg0.N) (hf : (cfg0.win 2).flush t = true) : (dats m 0 c).flushed 2 t = ((cfg0.win 2).blk t).view.read (Elt Ideal) (tgt m c) := by
  rw [Value.flushed2]
  show (cfg0.win 2).cut (grid0.coords t) (out0_2 (xB m c t) (yB m c t)) = _
  rw [out_eq]
  funext j
  obtain ⟨z0, z1⟩ := szs t
  have j0 : (j 0).val < 1024 := z0 ▸ (j 0).isLt
  have j1 : (j 1).val < 1024 := z1 ▸ (j 1).isLt
  refine Eq.trans (congrArg (k0_pay1 (xB m c t) (yB m c t)) (funext fun k => Fin.ext ?_)) ((left m c t ⟨(j 0).val, j0⟩ ⟨(j 1).val, j1⟩).trans
    (congrArg (tgt m c) (funext fun k => Fin.ext ?_)))
  · match k with
    | ⟨0, _⟩ => rfl
    | ⟨1, _⟩ => rfl
  · match k with
    | ⟨0, _⟩ => show 1024 * win0_2.index t 0 + (j 0).val = win0_2.index t 0 * 1024 + 1 * (j 0).val; omega
    | ⟨1, _⟩ => show 1024 * win0_2.index t 1 + (j 1).val = win0_2.index t 1 * 1024 + 1 * (j 1).val; omega

theorem final : (dats m 0 c).arrAt 2 cfg0.N = tgt m c :=
  (dats m 0 c).arrAt_eq_of_cover 2 (tgt m c) (flushed m c) fun i => by
    have i0 : (i 0 : Nat) < 4096 := (i 0).isLt
    have i1 : (i 1 : Nat) < 2048 := (i 1).isLt
    obtain ⟨t, hf, h0, h1⟩ := find ⟨(i 0 : Nat) / 1024, by omega⟩ ⟨(i 1 : Nat) / 1024, by omega⟩
    refine ⟨t, hf, ?_⟩
    show i ∈ ((View.whole main_v2).slice (win0_2.rect t)).set
    rw [View.set_slice_whole, Rect.mem_set_unit]
    obtain ⟨z0, z1⟩ := szs t
    intro a
    match a with
    | ⟨0, _⟩ =>
      show win0_2.index t 0 * 1024 ≤ (i 0 : Nat) ∧ (i 0 : Nat) < win0_2.index t 0 * 1024 + win0_2.xsize (grid0.coords t) 0
      rw [z0, h0]; dsimp only; omega
    | ⟨1, _⟩ =>
      show win0_2.index t 1 * 1024 ≤ (i 1 : Nat) ∧ (i 1 : Nat) < win0_2.index t 1 * 1024 + win0_2.xsize (grid0.coords t) 1
      rw [z1, h1]; dsimp only; omega
end

theorem same : Cert.algebraic_OutDxIdeal_OutDxRefIdeal (hOutDxIdeal := Cert.OutDxIdeal.Gen.facts) (hOutDxRefIdeal := Cert.OutDxRefIdeal.Gen.facts) := by
  intro m g m' g' _ hag
  refine ⟨fun c => tgt m c, ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.OutDxRefIdeal.Value.run m' g')
    obtain ⟨a0, a1, a2⟩ := hag c
    rw [Cert.OutDxRefIdeal.Read.val_main_v3_eq, a1, a2]

end Cert.OutDxIdeal.Hand
-- ==== Proof.OutDwVal.lean ====
/-
  The gradient of the output projection's weights: the kernel's array is the reference's.
-/
module

public import proofs.«01_k».proof.Defs
public import proofs.«01_k».proof.Proof.Dots
public import proofs.«01_k».proof.Proof.Gen.OutDwIdeal.Value
public import proofs.«01_k».proof.Proof.Gen.OutDwRefIdeal.Run
public import proofs.«01_k».proof.Proof.Gen.OutDwRefIdeal.Read
public import Idealize.ShloMosaic.Lib.StableHlo.Run
public import Idealize.ShloMosaic.Lib.Tactic

@[expose] public section
set_option maxRecDepth 16384

noncomputable section

namespace Cert.OutDwIdeal.Hand
open Cert.OutDwIdeal Cert.OutDwIdeal.Gen Cert.Dots
open Idealize.ShloMosaic Idealize.ShloMosaic.TcCoe

/-- One tile's half of the sum: alone, and added onto the first half. -/
theorem pay2_at (x y : Vec Ideal S2048x1024 .bf16) (r c : Fin 1024) : k0_pay2 x y (ix2 r c) = ∑ k : Fin 2048, x (ix2 k r) * y (ix2 k c) := by
  pointwise [k0_pay2, k0_pay1]
theorem pay4_at (x y : Vec Ideal S2048x1024 .bf16) (z : Vec Ideal S1024x1024 .f32) (r c : Fin 1024) :
    k0_pay4 x y z (ix2 r c) = z (ix2 r c) + ∑ k : Fin 2048, x (ix2 k r) * y (ix2 k c) := by
  pointwise [k0_pay4, k0_pay1]

/-- The reference at an index. -/
theorem ref_at (x0 : (⟨S4096x2048, .f32⟩ : BufTy).Contents (Elt Ideal)) (x2 : (⟨S4096x2048, .f32⟩ : BufTy).Contents (Elt Ideal)) (r : Fin 2048) (c : Fin 2048) :
    Cert.OutDwRefIdeal.Read.val_main_v4 (F := Ideal) x0 x2 (ix2 r c) = ∑ k : Fin 4096, x0 (ix2 k r) * x2 (ix2 k c) := by
  rw [← Cert.OutDwRefIdeal.Read.val_main_v4_eq]
  refine Eq.trans ?_ (Finset.sum_congr rfl fun k _ => mul_comm (x2 (ix2 k c)) (x0 (ix2 k r)))
  pointwise

section
variable (m : (ℓ : Loc nD τ sig) → Buf (Elt Ideal) ℓ) (c : Dev nD)

theorem V_v0 : V m c main_v0 = m ((c : Thread nD τ).loc main_arg0) := by
  simp only [V, hostOps0, List.flatten_cons, List.flatten_nil, List.append_nil, List.cons_append, List.nil_append]
  after_results_simp
  rfl
theorem V_v1 : V m c main_v1 = m ((c : Thread nD τ).loc main_arg2) := by
  simp only [V, hostOps0, List.flatten_cons, List.flatten_nil, List.append_nil, List.cons_append, List.nil_append]
  after_results_simp
  rfl

/-! ## Where the blocks lie, from the output's -/

theorem ixs : ∀ t : Fin grid0.N, win0_0.index t 0 = t.val % 2 ∧ win0_0.index t 1 = win0_2.index t 0 ∧ win0_1.index t 0 = t.val % 2 ∧ win0_1.index t 1 = win0_2.index t 1
    ∧ win0_2.index t 0 < 2 ∧ win0_2.index t 1 < 2 := by decide +kernel
theorem ixp : ∀ t : Fin grid0.N, t.val % 2 = 1 → ∀ u : Fin grid0.N, u.val + 1 = t.val → win0_2.index u 0 = win0_2.index t 0 ∧ win0_2.index u 1 = win0_2.index t 1 := by decide +kernel
theorem szs : ∀ t : Fin grid0.N, win0_2.xsize (grid0.coords t) 0 = 1024 ∧ win0_2.xsize (grid0.coords t) 1 = 1024 := by decide +kernel
theorem find : ∀ (a : Fin 2) (b : Fin 2), ∃ t : Fin grid0.N, win0_2.flush t = true ∧ win0_2.index t 0 = a.val ∧ win0_2.index t 1 = b.val := by decide +kernel

/-- The array the kernel leaves, as the reference's value of the arguments. -/
abbrev tgt : (⟨S2048x2048, .bf16⟩ : BufTy).Contents (Elt Ideal) :=
  Cert.OutDwRefIdeal.Read.val_main_v4 (F := Ideal) (m ((c : Thread nD τ).loc main_arg0)) (m ((c : Thread nD τ).loc main_arg2))

theorem hz : (![0, 0] : Fin 2 → Nat) = fun _ => 0 := funext fun a => by fin_cases a <;> rfl

def xB (t : Fin cfg0.N) : Vec Ideal S2048x1024 .bf16 := iblk m c 0 t
def yB (t : Fin cfg0.N) : Vec Ideal S2048x1024 .bf16 := iblk m c 1 t

/-- What the two kinds of point leave: the first half in the carried block, the whole sum in the output's. -/
theorem sout_A (i : grid0.Coords) (a3 : Memref sig .tc .vmem S2048x1024 .bf16) (h3 : a3.IsWhole) (a4 : Memref sig .tc .vmem S2048x1024 .bf16) (h4 : a4.IsWhole)
    (a5 : Memref sig .tc .vmem S1024x1024 .bf16) (h5 : a5.IsWhole) (a6 : Memref sig .tc .vmem S1024x1024 .f32) (h6 : a6.IsWhole) (hc0 : cond0_0 i) (hc1 : ¬cond0_1 i) (hc2 : ¬cond0_2 i)
    (x y : Vec Ideal S2048x1024 .bf16) : sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero hz]
  simp only [View.readAt_eq_ld, h3.read_unread, h4.read_unread, View.ld_unit_zero (S := S2048x1024) hz]
theorem out_B (i : grid0.Coords) (a3 : Memref sig .tc .vmem S2048x1024 .bf16) (h3 : a3.IsWhole) (a4 : Memref sig .tc .vmem S2048x1024 .bf16) (h4 : a4.IsWhole)
    (a5 : Memref sig .tc .vmem S1024x1024 .bf16) (h5 : a5.IsWhole) (a6 : Memref sig .tc .vmem S1024x1024 .f32) (h6 : a6.IsWhole) (hc0 : ¬cond0_0 i) (hc1 : ¬cond0_1 i) (hc2 : cond0_2 i)
    (x y : Vec Ideal S2048x1024 .bf16) (z : Vec Ideal S1024x1024 .f32) : out0_B_2 c i a3 h3 a4 h4 a5 h5 a6 h6 hc0 hc1 hc2 x y z = k0_pay4 x y z := by
  unfold out0_B_2
  rw [View.read_writes_eq_canon _ _ _ (cover0_B_2 c i a3 h3 a4 h4 a5 h5 a6 h6 hc0 hc1 hc2 x y z)]
  unfold kernelRun0_B
  dsimp only
  sl_unfold_words
  rw [View.canon_unit_zero hz]
  simp only [View.readAt_eq_ld, h3.read_unread, h4.read_unread, h6.read_unread, View.ld_unit_zero (S := S2048x1024) hz, View.ld_unit_zero (S := S1024x1024) hz]

/-- The row (column) of the output that entry `r` of its block is, and the row of the half. -/
def rw' (t : Fin cfg0.N) (r : Fin 1024) : Fin 2048 := ⟨1024 * win0_2.index t 0 + r.val, by have := (ixs t).2.2.2.2.1; omega⟩
def cl' (t : Fin cfg0.N) (r : Fin 1024) : Fin 2048 := ⟨1024 * win0_2.index t 1 + r.val, by have := (ixs t).2.2.2.2.2; omega⟩
def half (t : Fin cfg0.N) (k : Fin 2048) : Fin 4096 := ⟨2048 * (t.val % 2) + k.val, by omega⟩

theorem xB_at (t : Fin cfg0.N) (k : Fin 2048) (r : Fin 1024) : xB m c t (ix2 k r) = m ((c : Thread nD τ).loc main_arg0) (ix2 (half t k) (rw' t r)) := by
  rw [← V_v0 m c]
  refine congrArg (V m c main_v0) (funext fun a => Fin.ext ?_)
  obtain ⟨h0, h1, -⟩ := ixs t
  match a with
  | ⟨0, _⟩ => show win0_0.index t 0 * 2048 + 1 * k.val = 2048 * (t.val % 2) + k.val; rw [h0]; omega
  | ⟨1, _⟩ => show win0_0.index t 1 * 1024 + 1 * r.val = 1024 * win0_2.index t 0 + r.val; rw [h1]; omega
theorem yB_at (t : Fin cfg0.N) (k : Fin 2048) (r : Fin 1024) : yB m c t (ix2 k r) = m ((c : Thread nD τ).loc main_arg2) (ix2 (half t k) (cl' t r)) := by
  rw [← V_v1 m c]
  refine congrArg (V m c main_v1) (funext fun a => Fin.ext ?_)
  obtain ⟨-, -, h0, h1, -⟩ := ixs t
  match a with
  | ⟨0, _⟩ => show win0_1.index t 0 * 2048 + 1 * k.val = 2048 * (t.val % 2) + k.val; rw [h0]; omega
  | ⟨1, _⟩ => show win0_1.index t 1 * 1024 + 1 * r.val = 1024 * win0_2.index t 1 + r.val; rw [h1]; omega

/-- What the point before the last of a block leaves in the carried block. -/
theorem carried (t u : Fin cfg0.N) (ht : t.val % 2 = 1) (hu : u.val + 1 = t.val) (hl : t.val - 1 < cfg0.N) : (outsAt0 m c (t.val - 1) hl).2 = k0_pay2 (xB m c u) (yB m c u) := by
  have e := outsAt0_A m c u (by omega) (by omega)
  have e2 : outsAt0 m c (t.val - 1) hl = outsAt0 m c u.val u.isLt := by
    have : t.val - 1 = u.val := by omega
    simp only [this]
  rw [e2, e]
  dsimp only
  rw [sout_A]
  rfl

theorem left (t : Fin cfg0.N) (ht : t.val % 2 = 1) (hl : t.val - 1 < cfg0.N) (r s : Fin 1024) :
    k0_pay4 (xB m c t) (yB m c t) (outsAt0 m c (t.val - 1) hl).2 (ix2 r s) = tgt m c (ix2 (rw' t r) (cl' t s)) := by
  have hu : (⟨t.val - 1, hl⟩ : Fin cfg0.N).val + 1 = t.val := by dsimp only; omega
  rw [carried m c t ⟨t.val - 1, hl⟩ ht hu, pay4_at, pay2_at]
  refine Eq.trans ?_ (ref_at _ _ _ _).symm
  rw [← sum_halves (n := 2048) rfl]
  obtain ⟨p0, p1⟩ := ixp t ht ⟨t.val - 1, hl⟩ hu
  refine congrArg₂ (· + ·) (Finset.sum_congr rfl fun k _ => ?_) (Finset.sum_congr rfl fun k _ => ?_)
  · rw [xB_at, yB_at]
    have e0 : half ⟨t.val - 1, hl⟩ k = ⟨k.val, by omega⟩ := Fin.ext (by show 2048 * ((t.val - 1) % 2) + k.val = k.val; omega)
    have e1 : rw' ⟨t.val - 1, hl⟩ r = rw' t r := Fin.ext (by show 1024 * win0_2.index ⟨t.val - 1, hl⟩ 0 + r.val = 1024 * win0_2.index t 0 + r.val; rw [p0])
    have e2 : cl' ⟨t.val - 1, hl⟩ s = cl' t s := Fin.ext (by show 1024 * win0_2.index ⟨t.val - 1, hl⟩ 1 + s.val = 1024 * win0_2.index t 1 + s.val; rw [p1])
    rw [e0, e1, e2]
  · rw [xB_at, yB_at]
    have e0 : half t k = ⟨2048 + k.val, by omega⟩ := Fin.ext (by show 2048 * (t.val % 2) + k.val = 2048 + k.val; rw [ht])
    rw [e0]

theorem flush2 (t : Fin cfg0.N) (hf : (cfg0.win 2).flush t = true) : (dats m 0 c).flushed 2 t = ((cfg0.win 2).blk t).view.read (Elt Ideal) (tgt m c) := by
  have ht : t.val % 2 = 1 := (flush0_2 t).mp hf
  have hl : t.val - 1 < cfg0.N := Nat.lt_of_le_of_lt (Nat.sub_le _ _) t.isLt
  rw [Value.flushed2_B m c t (by omega) ht, out_B]
  funext j
  obtain ⟨z0, z1⟩ := szs t
  have j0 : (j 0).val < 1024 := z0 ▸ (j 0).isLt
  have j1 : (j 1).val < 1024 := z1 ▸ (j 1).isLt
  refine Eq.trans (congrArg (k0_pay4 (xB m c t) (yB m c t) (outsAt0 m c (t.val - 1) hl).2) (funext fun k => Fin.ext ?_)) ((left m c t ht hl ⟨(j 0).val, j0⟩ ⟨(j 1).val, j1⟩).trans
    (congrArg (tgt m c) (funext fun k => Fin.ext ?_)))
  · match k with
    | ⟨0, _⟩ => rfl
    | ⟨1, _⟩ => rfl
  · match k with
    | ⟨0, _⟩ => show 1024 * win0_2.index t 0 + (j 0).val = win0_2.index t 0 * 1024 + 1 * (j 0).val; omega
    | ⟨1, _⟩ => show 1024 * win0_2.index t 1 + (j 1).val = win0_2.index t 1 * 1024 + 1 * (j 1).val; omega

theorem final : (dats m 0 c).arrAt 2 cfg0.N = tgt m c :=
  (dats m 0 c).arrAt_eq_of_cover 2 (tgt m c) (flush2 m c) fun i => by
    have i0 : (i 0 : Nat) < 2048 := (i 0).isLt
    have i1 : (i 1 : Nat) < 2048 := (i 1).isLt
    obtain ⟨t, hf, h0, h1⟩ := find ⟨(i 0 : Nat) / 1024, by omega⟩ ⟨(i 1 : Nat) / 1024, by omega⟩
    refine ⟨t, hf, ?_⟩
    show i ∈ ((View.whole main_v2).slice (win0_2.rect t)).set
    rw [View.set_slice_whole, Rect.mem_set_unit]
    obtain ⟨z0, z1⟩ := szs t
    intro a
    match a with
    | ⟨0, _⟩ =>
      show win0_2.index t 0 * 1024 ≤ (i 0 : Nat) ∧ (i 0 : Nat) < win0_2.index t 0 * 1024 + win0_2.xsize (grid0.coords t) 0
      rw [z0, h0]; dsimp only; omega
    | ⟨1, _⟩ =>
      show win0_2.index t 1 * 1024 ≤ (i 1 : Nat) ∧ (i 1 : Nat) < win0_2.index t 1 * 1024 + win0_2.xsize (grid0.coords t) 1
      rw [z1, h1]; dsimp only; omega
end

theorem same : Cert.algebraic_OutDwIdeal_OutDwRefIdeal (hOutDwIdeal := Cert.OutDwIdeal.Gen.facts) (hOutDwRefIdeal := Cert.OutDwRefIdeal.Gen.facts) := by
  intro m g m' g' _ hag
  refine ⟨fun c => tgt m c, ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.OutDwRefIdeal.Value.run m' g')
    obtain ⟨a0, a1, a2⟩ := hag c
    rw [Cert.OutDwRefIdeal.Read.val_main_v4_eq, a0, a2]

end Cert.OutDwIdeal.Hand
-- ==== Proof.OutVal.lean ====
/-
  The output projection and the block's output: the kernel's two arrays are the reference's.
-/
module

public import proofs.«01_k».proof.Defs
public import proofs.«01_k».proof.Proof.Dots
public import proofs.«01_k».proof.Proof.Gen.OutIdeal.Value
public import proofs.«01_k».proof.Proof.Gen.OutRefIdeal.Run
public import proofs.«01_k».proof.Proof.Gen.OutRefIdeal.Read
public import Idealize.ShloMosaic.Lib.StableHlo.Run
public import Idealize.ShloMosaic.Lib.Tactic

@[expose] public section
set_option maxRecDepth 16384

noncomputable section

namespace Cert.OutIdeal.Hand
open Cert.OutIdeal Cert.OutIdeal.Gen Cert.Dots
open Idealize.ShloMosaic Idealize.ShloMosaic.TcCoe

/-- One tile: the product's entry, and the gated residual. -/
theorem pay2_at (x : Vec Ideal S1024x2048 .bf16) (y : Vec Ideal S2048x1024 .bf16) (r c : Fin 1024) : k0_pay2 x y (ix2 r c) = ∑ k : Fin 2048, x (ix2 r k) * y (ix2 k c) := by
  pointwise [k0_pay2, k0_pay1]
theorem pay3_at (x : Vec Ideal S1024x2048 .bf16) (y : Vec Ideal S2048x1024 .bf16) (p : Vec Ideal S1024x1024 .f32) (q : Vec Ideal S1x1024 .f32) (r c : Fin 1024) :
    k0_pay3 x y p q (ix2 r c) = p (ix2 r c) + q (ix2 0 c) * k0_pay2 x y (ix2 r c) := by
  rw [pay2_at]
  pointwise [k0_pay3, k0_pay1]

section
variable (x0 : (⟨S4096x2048, .f32⟩ : BufTy).Contents (Elt Ideal)) (x1 : (⟨S2048x2048, .f32⟩ : BufTy).Contents (Elt Ideal))
  (x2 : (⟨S4096x2048, .f32⟩ : BufTy).Contents (Elt Ideal)) (x3 : (⟨S1x2048, .f32⟩ : BufTy).Contents (Elt Ideal))
/-- One term of the product's sum. -/
def term (r : Fin 4096) (c : Fin 2048) (k : Fin 2048) : EReal := x0 (ix2 r k) * x1 (ix2 k c)
/-- The reference at an index. -/
theorem ref1_at (r : Fin 4096) (c : Fin 2048) : Cert.OutRefIdeal.Read.val_main_v1 (F := Ideal) x0 x1 (ix2 r c) = ∑ k, term x0 x1 r c k := by
  rw [← Cert.OutRefIdeal.Read.val_main_v1_eq]
  unfold term
  pointwise
theorem ref4_at (r : Fin 4096) (c : Fin 2048) :
    Cert.OutRefIdeal.Read.val_main_v4 (F := Ideal) x0 x1 x2 x3 (ix2 r c) = x2 (ix2 r c) + x3 (ix2 0 c) * Cert.OutRefIdeal.Read.val_main_v1 (F := Ideal) x0 x1 (ix2 r c) := by
  rw [ref1_at, ← Cert.OutRefIdeal.Read.val_main_v4_eq]
  unfold term
  pointwise
end

section
variable (m : (ℓ : Loc nD τ sig) → Buf (Elt Ideal) ℓ) (c : Dev nD)

theorem V_v0 : V m c main_v0 = m ((c : Thread nD τ).loc main_arg0) := by
  simp only [V, hostOps0, List.flatten_cons, List.flatten_nil, List.append_nil, List.cons_append, List.nil_append]
  after_results_simp
  rfl
theorem V_v1 : V m c main_v1 = m ((c : Thread nD τ).loc main_arg1) := by
  simp only [V, hostOps0, List.flatten_cons, List.flatten_nil, List.append_nil, List.cons_append, List.nil_append]
  after_results_simp
  rfl
theorem V_arg2 : V m c main_arg2 = m ((c : Thread nD τ).loc main_arg2) := by
  simp only [V, hostOps0, List.flatten_cons, List.flatten_nil, List.append_nil, List.cons_append, List.nil_append]
  after_results_simp
theorem V_arg3 : V m c main_arg3 = m ((c : Thread nD τ).loc main_arg3) := by
  simp only [V, hostOps0, List.flatten_cons, List.flatten_nil, List.append_nil, List.cons_append, List.nil_append]
  after_results_simp

/-! ## Where the blocks lie, from the outputs' -/

theorem ixs : ∀ t : Fin grid0.N, win0_0.index t 0 = win0_4.index t 0 ∧ win0_0.index t 1 = 0 ∧ win0_1.index t 0 = 0 ∧ win0_1.index t 1 = win0_4.index t 1
    ∧ win0_4.index t 0 < 4 ∧ win0_4.index t 1 < 2 := by decide +kernel
theorem ixo : ∀ t : Fin grid0.N, win0_2.index t 0 = win0_4.index t 0 ∧ win0_2.index t 1 = win0_4.index t 1 ∧ win0_3.index t 0 = 0 ∧ win0_3.index t 1 = win0_4.index t 1
    ∧ win0_5.index t 0 = win0_4.index t 0 ∧ win0_5.index t 1 = win0_4.index t 1 := by decide +kernel
theorem szs : ∀ t : Fin grid0.N, win0_4.xsize (grid0.coords t) 0 = 1024 ∧ win0_4.xsize (grid0.coords t) 1 = 1024
    ∧ win0_5.xsize (grid0.coords t) 0 = 1024 ∧ win0_5.xsize (grid0.coords t) 1 = 1024 := by decide +kernel
theorem find : ∀ (a : Fin 4) (b : Fin 2), ∃ t : Fin grid0.N, win0_4.flush t = true ∧ win0_5.flush t = true ∧ win0_4.index t 0 = a.val ∧ win0_4.index t 1 = b.val := by decide +kernel

/-- The arrays the kernel leaves, as the reference's values of the arguments. -/
abbrev tgt4 : (⟨S4096x2048, .bf16⟩ : BufTy).Contents (Elt Ideal) :=
  Cert.OutRefIdeal.Read.val_main_v1 (F := Ideal) (m ((c : Thread nD τ).loc main_arg0)) (m ((c : Thread nD τ).loc main_arg1))
abbrev tgt5 : (⟨S4096x2048, .f32⟩ : BufTy).Contents (Elt Ideal) :=
  Cert.OutRefIdeal.Read.val_main_v4 (F := Ideal) (m ((c : Thread nD τ).loc main_arg0)) (m ((c : Thread nD τ).loc main_arg1)) (m ((c : Thread nD τ).loc main_arg2)) (m ((c : Thread nD τ).loc main_arg3))

theorem hz : (![0, 0] : Fin 2 → Nat) = fun _ => 0 := funext fun a => by fin_cases a <;> rfl

def xB (t : Fin cfg0.N) : Vec Ideal S1024x2048 .bf16 := iblk m c 0 t
def yB (t : Fin cfg0.N) : Vec Ideal S2048x1024 .bf16 := iblk m c 1 t
def pB (t : Fin cfg0.N) : Vec Ideal S1024x1024 .f32 := iblk m c 2 t
def qB (t : Fin cfg0.N) : Vec Ideal S1x1024 .f32 := iblk m c 3 t

theorem out_4 (x : Vec Ideal S1024x2048 .bf16) (y : Vec Ideal S2048x1024 .bf16) (p : Vec Ideal S1024x1024 .f32) (q : Vec Ideal S1x1024 .f32) : out0_4 x y p q = k0_pay2 x y := by
  unfold out0_4
  rw [View.canon_unit_zero hz]
  simp only [View.ld_unit_zero (S := S1024x2048) hz, View.ld_unit_zero (S := S2048x1024) hz]
theorem out_5 (x : Vec Ideal S1024x2048 .bf16) (y : Vec Ideal S2048x1024 .bf16) (p : Vec Ideal S1024x1024 .f32) (q : Vec Ideal S1x1024 .f32) : out0_5 x y p q = k0_pay3 x y p q := by
  unfold out0_5
  rw [View.canon_unit_zero hz]
  simp only [View.ld_unit_zero (S := S1024x2048) hz, View.ld_unit_zero (S := S2048x1024) hz, View.ld_unit_zero (S := S1024x1024) hz, View.ld_unit_zero (S := S1x1024) hz]

/-- The row (column) of the outputs that entry `r` of their block is. -/
def rw' (t : Fin cfg0.N) (r : Fin 1024) : Fin 4096 := ⟨1024 * win0_4.index t 0 + r.val, by have := (ixs t).2.2.2.2.1; omega⟩
def cl' (t : Fin cfg0.N) (r : Fin 1024) : Fin 2048 := ⟨1024 * win0_4.index t 1 + r.val, by have := (ixs t).2.2.2.2.2; omega⟩

theorem xB_at (t : Fin cfg0.N) (r : Fin 1024) (k : Fin 2048) : xB m c t (ix2 r k) = m ((c : Thread nD τ).loc main_arg0) (ix2 (rw' t r) k) := by
  rw [← V_v0 m c]
  refine congrArg (V m c main_v0) (funext fun a => Fin.ext ?_)
  obtain ⟨h0, h1, -⟩ := ixs t
  match a with
  | ⟨0, _⟩ => show win0_0.index t 0 * 1024 + 1 * r.val = 1024 * win0_4.index t 0 + r.val; rw [h0]; omega
  | ⟨1, _⟩ => show win0_0.index t 1 * 2048 + 1 * k.val = k.val; rw [h1]; omega
theorem yB_at (t : Fin cfg0.N) (k : Fin 2048) (r : Fin 1024) : yB m c t (ix2 k r) = m ((c : Thread nD τ).loc main_arg1) (ix2 k (cl' t r)) := by
  rw [← V_v1 m c]
  refine congrArg (V m c main_v1) (funext fun a => Fin.ext ?_)
  obtain ⟨-, -, h0, h1, -⟩ := ixs t
  match a with
  | ⟨0, _⟩ => show win0_1.index t 0 * 2048 + 1 * k.val = k.val; rw [h0]; omega
  | ⟨1, _⟩ => show win0_1.index t 1 * 1024 + 1 * r.val = 1024 * win0_4.index t 1 + r.val; rw [h1]; omega
theorem pB_at (t : Fin cfg0.N) (r s : Fin 1024) : pB m c t (ix2 r s) = m ((c : Thread nD τ).loc main_arg2) (ix2 (rw' t r) (cl' t s)) := by
  rw [← V_arg2 m c]
  refine congrArg (V m c main_arg2) (funext fun a => Fin.ext ?_)
  obtain ⟨h0, h1, -⟩ := ixo t
  match a with
  | ⟨0, _⟩ => show win0_2.index t 0 * 1024 + 1 * r.val = 1024 * win0_4.index t 0 + r.val; rw [h0]; omega
  | ⟨1, _⟩ => show win0_2.index t 1 * 1024 + 1 * s.val = 1024 * win0_4.index t 1 + s.val; rw [h1]; omega
theorem qB_at (t : Fin cfg0.N) (s : Fin 1024) : qB m c t (ix2 0 s) = m ((c : Thread nD τ).loc main_arg3) (ix2 0 (cl' t s)) := by
  rw [← V_arg3 m c]
  refine congrArg (V m c main_arg3) (funext fun a => Fin.ext ?_)
  obtain ⟨-, -, h0, h1, -⟩ := ixo t
  match a with
  | ⟨0, _⟩ => show win0_3.index t 0 * 1 + 1 * 0 = 0; rw [h0]
  | ⟨1, _⟩ => show win0_3.index t 1 * 1024 + 1 * s.val = 1024 * win0_4.index t 1 + s.val; rw [h1]; omega

theorem left4 (t : Fin cfg0.N) (r s : Fin 1024) : k0_pay2 (xB m c t) (yB m c t) (ix2 r s) = tgt4 m c (ix2 (rw' t r) (cl' t s)) := by
  rw [pay2_at]
  refine Eq.trans ?_ (ref1_at _ _ _ _).symm
  refine Finset.sum_congr rfl fun k _ => ?_
  rw [xB_at, yB_at]
  rfl
theorem left5 (t : Fin cfg0.N) (r s : Fin 1024) : k0_pay3 (xB m c t) (yB m c t) (pB m c t) (qB m c t) (ix2 r s) = tgt5 m c (ix2 (rw' t r) (cl' t s)) := by
  rw [pay3_at, left4 m c t, pB_at, qB_at]
  exact (ref4_at _ _ _ _ _ _).symm

theorem flush4 (t : Fin cfg0.N) (hf : (cfg0.win 4).flush t = true) : (dats m 0 c).flushed 4 t = ((cfg0.win 4).blk t).view.read (Elt Ideal) (tgt4 m c) := by
  rw [Value.flushed4]
  show (cfg0.win 4).cut (grid0.coords t) (out0_4 (xB m c t) (yB m c t) (pB m c t) (qB m c t)) = _
  rw [out_4]
  funext j
  obtain ⟨z0, z1, -⟩ := szs t
  have j0 : (j 0).val < 1024 := z0 ▸ (j 0).isLt
  have j1 : (j 1).val < 1024 := z1 ▸ (j 1).isLt
  refine Eq.trans (congrArg (k0_pay2 (xB m c t) (yB m c t)) (funext fun k => Fin.ext ?_)) ((left4 m c t ⟨(j 0).val, j0⟩ ⟨(j 1).val, j1⟩).trans
    (congrArg (tgt4 m c) (funext fun k => Fin.ext ?_)))
  · match k with
    | ⟨0, _⟩ => rfl
    | ⟨1, _⟩ => rfl
  · match k with
    | ⟨0, _⟩ => show 1024 * win0_4.index t 0 + (j 0).val = win0_4.index t 0 * 1024 + 1 * (j 0).val; omega
    | ⟨1, _⟩ => show 1024 * win0_4.index t 1 + (j 1).val = win0_4.index t 1 * 1024 + 1 * (j 1).val; omega

theorem last4 : (dats m 0 c).arrAt 4 cfg0.N = tgt4 m c :=
  (dats m 0 c).arrAt_eq_of_cover 4 (tgt4 m c) (flush4 m c) fun i => by
    have i0 : (i 0 : Nat) < 4096 := (i 0).isLt
    have i1 : (i 1 : Nat) < 2048 := (i 1).isLt
    obtain ⟨t, hf, -, h0, h1⟩ := find ⟨(i 0 : Nat) / 1024, by omega⟩ ⟨(i 1 : Nat) / 1024, by omega⟩
    refine ⟨t, hf, ?_⟩
    show i ∈ ((View.whole main_v2_0).slice (win0_4.rect t)).set
    rw [View.set_slice_whole, Rect.mem_set_unit]
    obtain ⟨z0, z1, -⟩ := szs t
    intro a
    match a with
    | ⟨0, _⟩ =>
      show win0_4.index t 0 * 1024 ≤ (i 0 : Nat) ∧ (i 0 : Nat) < win0_4.index t 0 * 1024 + win0_4.xsize (grid0.coords t) 0
      rw [z0, h0]; dsimp only; omega
    | ⟨1, _⟩ =>
      show win0_4.index t 1 * 1024 ≤ (i 1 : Nat) ∧ (i 1 : Nat) < win0_4.index t 1 * 1024 + win0_4.xsize (grid0.coords t) 1
      rw [z1, h1]; dsimp only; omega
theorem flush5 (t : Fin cfg0.N) (hf : (cfg0.win 5).flush t = true) : (dats m 0 c).flushed 5 t = ((cfg0.win 5).blk t).view.read (Elt Ideal) (tgt5 m c) := by
  rw [Value.flushed5]
  show (cfg0.win 5).cut (grid0.coords t) (out0_5 (xB m c t) (yB m c t) (pB m c t) (qB m c t)) = _
  rw [out_5]
  funext j
  obtain ⟨-, -, -, -, e0, e1⟩ := ixo t; obtain ⟨-, -, z0, z1⟩ := szs t
  have j0 : (j 0).val < 1024 := z0 ▸ (j 0).isLt
  have j1 : (j 1).val < 1024 := z1 ▸ (j 1).isLt
  refine Eq.trans (congrArg (k0_pay3 (xB m c t) (yB m c t) (pB m c t) (qB m c t)) (funext fun k => Fin.ext ?_)) ((left5 m c t ⟨(j 0).val, j0⟩ ⟨(j 1).val, j1⟩).trans
    (congrArg (tgt5 m c) (funext fun k => Fin.ext ?_)))
  · match k with
    | ⟨0, _⟩ => rfl
    | ⟨1, _⟩ => rfl
  · match k with
    | ⟨0, _⟩ => show 1024 * win0_4.index t 0 + (j 0).val = win0_5.index t 0 * 1024 + 1 * (j 0).val; rw [e0]; omega
    | ⟨1, _⟩ => show 1024 * win0_4.index t 1 + (j 1).val = win0_5.index t 1 * 1024 + 1 * (j 1).val; rw [e1]; omega

theorem last5 : (dats m 0 c).arrAt 5 cfg0.N = tgt5 m c :=
  (dats m 0 c).arrAt_eq_of_cover 5 (tgt5 m c) (flush5 m c) fun i => by
    have i0 : (i 0 : Nat) < 4096 := (i 0).isLt
    have i1 : (i 1 : Nat) < 2048 := (i 1).isLt
    obtain ⟨t, -, hf, h0, h1⟩ := find ⟨(i 0 : Nat) / 1024, by omega⟩ ⟨(i 1 : Nat) / 1024, by omega⟩
    refine ⟨t, hf, ?_⟩
    show i ∈ ((View.whole main_v2_1).slice (win0_5.rect t)).set
    rw [View.set_slice_whole, Rect.mem_set_unit]
    obtain ⟨-, -, -, -, e0, e1⟩ := ixo t; obtain ⟨-, -, z0, z1⟩ := szs t
    intro a
    match a with
    | ⟨0, _⟩ =>
      show win0_5.index t 0 * 1024 ≤ (i 0 : Nat) ∧ (i 0 : Nat) < win0_5.index t 0 * 1024 + win0_5.xsize (grid0.coords t) 0
      rw [z0, e0, h0]; dsimp only; omega
    | ⟨1, _⟩ =>
      show win0_5.index t 1 * 1024 ≤ (i 1 : Nat) ∧ (i 1 : Nat) < win0_5.index t 1 * 1024 + win0_5.xsize (grid0.coords t) 1
      rw [z1, e1, h1]; dsimp only; omega
end

theorem same : Cert.algebraic_OutIdeal_OutRefIdeal (hOutIdeal := Cert.OutIdeal.Gen.facts) (hOutRefIdeal := Cert.OutRefIdeal.Gen.facts) := by
  intro m g m' g' _ hag
  refine ⟨fun c => tgt4 m c, fun c => tgt5 m c, ?_, ?_⟩
  · exact (θ_run _ _ _).mono (fun r h c => ⟨(h c).1.trans (last4 m c), (h c).2.1.trans (last5 m c), (h c).2.2⟩) (Value.run_blocks m g)
  · refine (θ_run _ _ _).mono (fun r h c => ⟨(h c).1.trans ?_, (h c).2.1.trans ?_, (h c).2.2⟩) (Cert.OutRefIdeal.Value.run m' g')
    · obtain ⟨a0, a1, a2, a3⟩ := hag c
      rw [Cert.OutRefIdeal.Read.val_main_v1_eq, a0, a1]
    · obtain ⟨a0, a1, a2, a3⟩ := hag c
      rw [Cert.OutRefIdeal.Read.val_main_v4_eq, a0, a1, a2, a3]

end Cert.OutIdeal.Hand
-- ==== Proof.Adam.lean ====
/-
  One element of the AdamW update, on the extended reals.
-/
module

public import Idealize.ShloMosaic.Lib.Pointwise

@[expose] public section

noncomputable section

namespace Cert.Adam
open Idealize.ShloMosaic

/-- A constant of the update, by its float32 bits. -/
abbrev lit (b : BitVec 32) : EReal := Ideal.ofBits .f32 b
/-- The new first moment of a gradient's element. -/
def fst (m g : EReal) : EReal := lit 0x3F666666#32 * m + lit 0x3DCCCCCD#32 * g
/-- The new second moment. -/
def snd (v g : EReal) : EReal := lit 0x3F7FBE77#32 * v + lit 0x3A83126F#32 * (g * g)
/-- A quotient as the kernel takes it. -/
abbrev over (a b : EReal) : EReal := FloatOps.divf (F := Ideal) (φ := .f32) a b
/-- The step of a weight's element, from the two new moments. -/
def step (w m v : EReal) : EReal :=
  lit 0xBA83126F#32 * (over (over m (lit 0x3F26BD02#32)) (Ideal.sqrt (over v (lit 0x3C231ACC#32)) + lit 0x322BCC77#32) + lit 0x3C23D70A#32 * w)
/-- Parts, added one after another. -/
def parts : {n : Nat} → (Fin (n + 1) → EReal) → EReal
  | 0, p => p 0
  | _ + 1, p => parts (fun k => p k.castSucc) + p (Fin.last _)
theorem parts_sum {n : Nat} (p : Fin (n + 1) → EReal) : parts p = ∑ k, p k := by
  induction n with
  | zero => rw [Fin.sum_univ_one]; rfl
  | succ n ih => rw [Fin.sum_univ_castSucc, ← ih]; rfl
theorem parts_eq {n : Nat} (p : Fin (n + 1) → EReal) : parts p = lit 0x00000000#32 + ∑ k, p k := by
  have h0 : lit 0x00000000#32 = 0 := by simp [lit, Ideal.ofBits, Ideal.ieee]
  rw [h0, zero_add, parts_sum]

/-! The update of a matrix, from the parts of its gradient, element by element -/

section
variable {n r c : Nat}

/-- A matrix, and `n + 1` of them, as functions of their indices. -/
abbrev Mat (r c : Nat) : Type := (⟨2, ![r, c]⟩ : Shape).Idx → EReal
abbrev Mats (n r c : Nat) : Type := (⟨3, ![n + 1, r, c]⟩ : Shape).Idx → EReal
/-- Part `k` at an index. -/
def part (p : Mats n r c) (y : (⟨2, ![r, c]⟩ : Shape).Idx) (k : Fin (n + 1)) : EReal := p (ix3 k (y 0) (y 1))
theorem part_of (p : Mats n r c) (y : (⟨2, ![r, c]⟩ : Shape).Idx) (k : Fin (n + 1)) (z : (⟨3, ![n + 1, r, c]⟩ : Shape).Idx)
    (h0 : (z 0).val = k.val) (h1 : (z 1).val = (y 0).val) (h2 : (z 2).val = (y 1).val) : p z = part p y k :=
  congrArg p (funext fun a => Fin.ext (match a with | ⟨0, _⟩ => h0 | ⟨1, _⟩ => h1 | ⟨2, _⟩ => h2))
def grad (p : Mats n r c) : Mat r c := fun y => parts (part p y)
def newM (p : Mats n r c) (m : Mat r c) : Mat r c := fun y => fst (m y) (grad p y)
def newV (p : Mats n r c) (v : Mat r c) : Mat r c := fun y => snd (v y) (grad p y)
def move (w : Mat r c) (p : Mats n r c) (m v : Mat r c) : Mat r c := fun y => step (w y) (newM p m y) (newV p v y)

/-- The parts read one after another at `y`, and added, are the gradient there. -/
theorem grad_of (p : Mats n r c) (y : (⟨2, ![r, c]⟩ : Shape).Idx) (z : Fin (n + 1) → (⟨3, ![n + 1, r, c]⟩ : Shape).Idx)
    (h0 : ∀ k, (z k 0).val = k.val) (h1 : ∀ k, (z k 1).val = (y 0).val) (h2 : ∀ k, (z k 2).val = (y 1).val) :
    parts (fun k => p (z k)) = grad p y :=
  congrArg parts (funext fun k => part_of p y k (z k) (h0 k) (h1 k) (h2 k))
/-- The sum over the parts is the gradient. -/
theorem sum_grad (p : Mats n r c) (y : (⟨2, ![r, c]⟩ : Shape).Idx) (z : Fin (n + 1) → (⟨3, ![n + 1, r, c]⟩ : Shape).Idx)
    (h0 : ∀ k, (z k 0).val = k.val) (h1 : ∀ k, (z k 1).val = (y 0).val) (h2 : ∀ k, (z k 2).val = (y 1).val) :
    lit 0x00000000#32 + ∑ k, p (z k) = grad p y := by
  rw [← parts_eq (fun k => p (z k)), grad_of p y z h0 h1 h2]

/-! A block's update is the whole's, where the block's entries are the whole's -/
section
variable {R C : Nat} {w m v : Mat r c} {p : Mats n r c} {W M V : Mat R C} {P : Mats n R C}
  {y : (⟨2, ![r, c]⟩ : Shape).Idx} {i : (⟨2, ![R, C]⟩ : Shape).Idx}
theorem grad_block (hp : part p y = part P i) : grad p y = grad P i := congrArg parts hp
theorem newM_block (hp : part p y = part P i) (hm : m y = M i) : newM p m y = newM P M i := congrArg₂ fst hm (grad_block hp)
theorem newV_block (hp : part p y = part P i) (hv : v y = V i) : newV p v y = newV P V i := congrArg₂ snd hv (grad_block hp)
theorem move_block (hw : w y = W i) (hp : part p y = part P i) (hm : m y = M i) (hv : v y = V i) : move w p m v y = move W P M V i := by
  show step _ _ _ = step _ _ _
  rw [hw, newM_block hp hm, newV_block hp hv]
end
end

end Cert.Adam
-- ==== Proof.AdamModVal.lean ====
/-
  The AdamW update of the conditioning's weight: the kernel's four arrays are the reference's.
-/
module

public import proofs.«01_k».proof.Defs
public import proofs.«01_k».proof.Proof.Adam
public import proofs.«01_k».proof.Proof.Gen.AdamModIdeal.Value
public import proofs.«01_k».proof.Proof.Gen.AdamModRefIdeal.Run
public import proofs.«01_k».proof.Proof.Gen.AdamModRefIdeal.Read
public import Idealize.ShloMosaic.Lib.StableHlo.Run
public import Idealize.ShloMosaic.Lib.Pipeline.ValueKit

@[expose] public section
set_option maxRecDepth 16384

noncomputable section

namespace Cert.AdamModIdeal.Hand
open Cert.AdamModIdeal Cert.AdamModIdeal.Gen Cert.Adam
open Idealize.ShloMosaic Idealize.ShloMosaic.TcCoe

abbrev Block : Type := Vec Ideal S128x1536 .f32
abbrev Whole : Type := (⟨S2048x1536, .f32⟩ : BufTy).Contents (Elt Ideal)

/-- The kernel's payloads at an index. -/
theorem pay1_at (g m : Block) (y : S128x1536.Idx) : k0_pay1 g m y = fst (m y) (g y) := rfl
theorem pay2_at (g v : Block) (y : S128x1536.Idx) : k0_pay2 g v y = snd (v y) (g y) := rfl
theorem pay3_at (g m v w : Block) (y : S128x1536.Idx) : k0_pay3 g m v w y = step (w y) (fst (m y) (g y)) (snd (v y) (g y)) := rfl

/-- The reference at an index. -/
theorem ref4_at (g m : Whole) (i : S2048x1536.Idx) : Cert.AdamModRefIdeal.Read.val_main_v4 (F := Ideal) g m i = fst (m i) (g i) := rfl
theorem ref10_at (g v : Whole) (i : S2048x1536.Idx) : Cert.AdamModRefIdeal.Read.val_main_v10 (F := Ideal) g v i = snd (v i) (g i) := rfl
theorem ref23_at (w g m v : Whole) (i : S2048x1536.Idx) :
    Cert.AdamModRefIdeal.Read.val_main_v23 (F := Ideal) w g m v i = step (w i) (fst (m i) (g i)) (snd (v i) (g i)) := rfl

section
variable (m : (ℓ : Loc nD τ sig) → Buf (Elt Ideal) ℓ) (c : Dev nD)

/-- The arguments: the weight, its gradient and the two moments. -/
abbrev aw : Whole := m ((c : Thread nD τ).loc main_arg0)
abbrev ag : Whole := m ((c : Thread nD τ).loc main_arg1)
abbrev am : Whole := m ((c : Thread nD τ).loc main_arg2)
abbrev av : Whole := m ((c : Thread nD τ).loc main_arg3)

/-- The arrays the kernel leaves: the step and the two new moments, as the reference's values of the arguments. -/
abbrev tgt5 : Whole := Cert.AdamModRefIdeal.Read.val_main_v23 (F := Ideal) (aw m c) (ag m c) (am m c) (av m c)
abbrev tgt6 : Whole := Cert.AdamModRefIdeal.Read.val_main_v4 (F := Ideal) (ag m c) (am m c)
abbrev tgt7 : Whole := Cert.AdamModRefIdeal.Read.val_main_v10 (F := Ideal) (ag m c) (av m c)

theorem hz : (![0, 0] : Fin 2 → Nat) = fun _ => 0 := funext fun a => by fin_cases a <;> rfl

/-! ## What the kernel leaves in each array -/

theorem last4 : (dats m 0 c).arrAt 4 cfg0.N = ag m c := by
  refine (dats m 0 c).arrAt_eq_of_covers 4 (ag m c) (by decide +kernel) fun t hf y => ?_
  blk_simp
  rw [after0_4]
  unfold out0_4
  rw [View.canon_unit_zero hz, View.ld_unit_zero (S := S128x1536) hz]
  rfl
theorem last5 : (dats m 0 c).arrAt 5 cfg0.N = tgt5 m c := by
  refine (dats m 0 c).arrAt_eq_of_covers 5 (tgt5 m c) (by decide +kernel) fun t hf y => ?_
  blk_simp
  rw [after0_5]
  unfold out0_5
  rw [View.canon_unit_zero hz]
  simp only [View.ld_unit_zero (S := S128x1536) hz]
  exact (pay3_at _ _ _ _ _).trans (ref23_at _ _ _ _ _).symm
theorem last6 : (dats m 0 c).arrAt 6 cfg0.N = tgt6 m c := by
  refine (dats m 0 c).arrAt_eq_of_covers 6 (tgt6 m c) (by decide +kernel) fun t hf y => ?_
  blk_simp
  rw [after0_6]
  unfold out0_6
  rw [View.canon_unit_zero hz]
  simp only [View.ld_unit_zero (S := S128x1536) hz]
  exact (pay1_at _ _ _).trans (ref4_at _ _ _).symm
theorem last7 : (dats m 0 c).arrAt 7 cfg0.N = tgt7 m c := by
  refine (dats m 0 c).arrAt_eq_of_covers 7 (tgt7 m c) (by decide +kernel) fun t hf y => ?_
  blk_simp
  rw [after0_7]
  unfold out0_7
  rw [View.canon_unit_zero hz]
  simp only [View.ld_unit_zero (S := S128x1536) hz]
  exact (pay2_at _ _ _).trans (ref10_at _ _ _).symm
end

theorem same : Cert.algebraic_AdamModIdeal_AdamModRefIdeal (hAdamModIdeal := Cert.AdamModIdeal.Gen.facts) (hAdamModRefIdeal := Cert.AdamModRefIdeal.Gen.facts) := by
  intro m g m' g' _ hag
  refine ⟨fun c => ag m c, fun c => tgt5 m c, fun c => tgt6 m c, fun c => tgt7 m c, ?_, ?_⟩
  · exact (θ_run _ _ _).mono (fun r h c => ⟨(h c).1.trans (last4 m c), (h c).2.1.trans (last5 m c), (h c).2.2.1.trans (last6 m c), (h c).2.2.2.1.trans (last7 m c), (h c).2.2.2.2⟩)
      (Value.run_blocks m g)
  · refine (θ_run _ _ _).mono (fun r h c => ?_) (Cert.AdamModRefIdeal.Value.run m' g')
    obtain ⟨a0, a1, a2, a3⟩ := hag c
    refine ⟨(h c).1.trans a1, (h c).2.1.trans ?_, (h c).2.2.1.trans ?_, (h c).2.2.2.1.trans ?_, (h c).2.2.2.2⟩
    · rw [Cert.AdamModRefIdeal.Read.val_main_v23_eq, a0, a1, a2, a3]
    · rw [Cert.AdamModRefIdeal.Read.val_main_v4_eq, a1, a2]
    · rw [Cert.AdamModRefIdeal.Read.val_main_v10_eq, a1, a3]

end Cert.AdamModIdeal.Hand
-- ==== Proof.AdamInVal.lean ====
/-
  The AdamW update of the input projection's weight, from four parts of the gradient: the kernel's four arrays are the reference's.
-/
module

public import proofs.«01_k».proof.Defs
public import proofs.«01_k».proof.Proof.Adam
public import proofs.«01_k».proof.Proof.Gen.AdamInIdeal.Value
public import proofs.«01_k».proof.Proof.Gen.AdamInRefIdeal.Run
public import proofs.«01_k».proof.Proof.Gen.AdamInRefIdeal.Read
public import Idealize.ShloMosaic.Lib.StableHlo.Run
public import Idealize.ShloMosaic.Lib.Pipeline.ValueKit

@[expose] public section
set_option maxRecDepth 16384

noncomputable section

namespace Cert.AdamInIdeal.Hand
open Cert.AdamInIdeal Cert.AdamInIdeal.Gen Cert.Adam
open Idealize.ShloMosaic Idealize.ShloMosaic.TcCoe

abbrev Block : Type := Mat 128 1856
abbrev Blocks : Type := Mats 3 128 1856
abbrev Whole : Type := Mat 256 1856
abbrev Wholes : Type := Mats 3 256 1856

/-- The kernel's payloads, from a block of each argument. -/
theorem pay2_eq (p : Blocks) : k0_pay2 (F := Ideal) (View.ld p r0_0) (View.ld p r0_1) (View.ld p r0_2) (View.ld p r0_3) = grad p := by
  funext y
  refine (Value.piece4_0 _ _ _ _ y).trans ?_
  have f (x : Nat) : 0 + 1 * (0 + 1 * x) = x := by omega
  exact grad_of p y ![_, _, _, _] (fun k => by fin_cases k <;> rfl) (fun k => by fin_cases k <;> exact f _) (fun k => by fin_cases k <;> exact f _)
theorem pay3_eq (p : Blocks) (m : Block) : k0_pay3 (F := Ideal) (View.ld p r0_0) (View.ld p r0_1) (View.ld p r0_2) (View.ld p r0_3) m = newM p m := by
  unfold newM; rw [← pay2_eq]; rfl
theorem pay4_eq (p : Blocks) (v : Block) : k0_pay4 (F := Ideal) (View.ld p r0_0) (View.ld p r0_1) (View.ld p r0_2) (View.ld p r0_3) v = newV p v := by
  unfold newV; rw [← pay2_eq]; rfl
theorem pay1_eq (w : Block) (p : Blocks) (m v : Block) : k0_pay1 (F := Ideal) (newM p m) (newV p v) w = move w p m v := rfl

/-- The reference's values. -/
theorem ref1_eq (p : Wholes) : Cert.AdamInRefIdeal.Read.val_main_v1 (F := Ideal) p = grad p := by
  funext i
  rw [Cert.AdamInRefIdeal.Read.val_main_v1_apply]
  exact sum_grad p i _ (fun k => rfl) (fun k => rfl) (fun k => rfl)
theorem ref6_eq (p : Wholes) (m : Whole) : Cert.AdamInRefIdeal.Read.val_main_v6 (F := Ideal) p m = newM p m := by
  unfold newM; rw [← ref1_eq]; rfl
theorem ref12_eq (p : Wholes) (v : Whole) : Cert.AdamInRefIdeal.Read.val_main_v12 (F := Ideal) p v = newV p v := by
  unfold newV; rw [← ref1_eq]; rfl
theorem ref25_eq (w : Whole) (p : Wholes) (m v : Whole) : Cert.AdamInRefIdeal.Read.val_main_v25 (F := Ideal) w p m v = move w p m v := by
  unfold move; rw [← ref6_eq, ← ref12_eq]; rfl

section
variable (m : (ℓ : Loc nD τ sig) → Buf (Elt Ideal) ℓ) (c : Dev nD)

/-- The arguments: the weight, the four parts of its gradient and the two moments. -/
abbrev aw : Whole := m ((c : Thread nD τ).loc main_arg0)
abbrev ap : Wholes := m ((c : Thread nD τ).loc main_arg1)
abbrev am : Whole := m ((c : Thread nD τ).loc main_arg2)
abbrev av : Whole := m ((c : Thread nD τ).loc main_arg3)

theorem hz : (![0, 0] : Fin 2 → Nat) = fun _ => 0 := funext fun a => by fin_cases a <;> rfl

/-- The parts of point `t`'s block are the argument's, under the block. -/
theorem part_at (t : Fin cfg0.N) (y : S128x1856.Idx) : part (iblk m c 1 t : Blocks) y = part (ap m c) ((win0_4.blk t).view.emb y) := by
  funext k
  refine part_of (ap m c) _ k _ ?_ rfl rfl
  show 0 * 4 + 1 * k.val = k.val
  omega

/-! ## What the kernel leaves in each array -/

theorem last4 : (dats m 0 c).arrAt 4 cfg0.N = grad (ap m c) := by
  refine (dats m 0 c).arrAt_eq_of_covers 4 (grad (ap m c)) (by decide +kernel) fun t hf y => ?_
  blk_simp
  rw [after0_4]
  unfold out0_4
  rw [View.canon_unit_zero hz]
  rw [pay2_eq]
  exact grad_block (part_at m c t y)
theorem last5 : (dats m 0 c).arrAt 5 cfg0.N = move (aw m c) (ap m c) (am m c) (av m c) := by
  refine (dats m 0 c).arrAt_eq_of_covers 5 (move (aw m c) (ap m c) (am m c) (av m c)) (by decide +kernel) fun t hf y => ?_
  blk_simp
  rw [after0_5]
  unfold out0_5 k0_pay5
  rw [View.canon_unit_zero hz]
  simp only [View.ld_unit_zero (S := S128x1856) hz, pay3_eq, pay4_eq, pay1_eq]
  exact move_block rfl (part_at m c t y) rfl rfl
theorem last6 : (dats m 0 c).arrAt 6 cfg0.N = newM (ap m c) (am m c) := by
  refine (dats m 0 c).arrAt_eq_of_covers 6 (newM (ap m c) (am m c)) (by decide +kernel) fun t hf y => ?_
  blk_simp
  rw [after0_6]
  unfold out0_6
  rw [View.canon_unit_zero hz]
  simp only [View.ld_unit_zero (S := S128x1856) hz, pay3_eq]
  exact newM_block (part_at m c t y) rfl
theorem last7 : (dats m 0 c).arrAt 7 cfg0.N = newV (ap m c) (av m c) := by
  refine (dats m 0 c).arrAt_eq_of_covers 7 (newV (ap m c) (av m c)) (by decide +kernel) fun t hf y => ?_
  blk_simp
  rw [after0_7]
  unfold out0_7 k0_pay5
  rw [View.canon_unit_zero hz]
  simp only [View.ld_unit_zero (S := S128x1856) hz, pay4_eq]
  exact newV_block (part_at m c t y) rfl
end

theorem same : Cert.algebraic_AdamInIdeal_AdamInRefIdeal (hAdamInIdeal := Cert.AdamInIdeal.Gen.facts) (hAdamInRefIdeal := Cert.AdamInRefIdeal.Gen.facts) := by
  intro m g m' g' _ hag
  refine ⟨fun c => grad (ap m c), fun c => move (aw m c) (ap m c) (am m c) (av m c), fun c => newM (ap m c) (am m c), fun c => newV (ap m c) (av m c), ?_, ?_⟩
  · exact (θ_run _ _ _).mono (fun r h c => ⟨(h c).1.trans (last4 m c), (h c).2.1.trans (last5 m c), (h c).2.2.1.trans (last6 m c), (h c).2.2.2.1.trans (last7 m c), (h c).2.2.2.2⟩)
      (Value.run_blocks m g)
  · refine (θ_run _ _ _).mono (fun r h c => ?_) (Cert.AdamInRefIdeal.Value.run m' g')
    obtain ⟨a0, a1, a2, a3⟩ := hag c
    refine ⟨(h c).1.trans ?_, (h c).2.1.trans ?_, (h c).2.2.1.trans ?_, (h c).2.2.2.1.trans ?_, (h c).2.2.2.2⟩
    · rw [Cert.AdamInRefIdeal.Read.val_main_v1_eq, a1, ref1_eq]
    · rw [Cert.AdamInRefIdeal.Read.val_main_v25_eq, a0, a1, a2, a3, ref25_eq]
    · rw [Cert.AdamInRefIdeal.Read.val_main_v6_eq, a1, a2, ref6_eq]
    · rw [Cert.AdamInRefIdeal.Read.val_main_v12_eq, a1, a3, ref12_eq]

end Cert.AdamInIdeal.Hand
-- ==== Proof.AdamUqVal.lean ====
/-
  The AdamW update of the latent attention's query weight, from four parts of the gradient: the kernel's four arrays are the reference's.
-/
module

public import proofs.«01_k».proof.Defs
public import proofs.«01_k».proof.Proof.Adam
public import proofs.«01_k».proof.Proof.Gen.AdamUqIdeal.Value
public import proofs.«01_k».proof.Proof.Gen.AdamUqRefIdeal.Run
public import proofs.«01_k».proof.Proof.Gen.AdamUqRefIdeal.Read
public import Idealize.ShloMosaic.Lib.StableHlo.Run
public import Idealize.ShloMosaic.Lib.Pipeline.ValueKit

@[expose] public section
set_option maxRecDepth 16384

noncomputable section

namespace Cert.AdamUqIdeal.Hand
open Cert.AdamUqIdeal Cert.AdamUqIdeal.Gen Cert.Adam
open Idealize.ShloMosaic Idealize.ShloMosaic.TcCoe

abbrev Block : Type := Mat 384 192
abbrev Blocks : Type := Mats 3 384 192
abbrev Whole : Type := Mat 384 192
abbrev Wholes : Type := Mats 3 384 192

/-- The kernel's payloads, from a block of each argument. -/
theorem pay2_eq (p : Blocks) : k0_pay2 (F := Ideal) (View.ld p r0_0) (View.ld p r0_1) (View.ld p r0_2) (View.ld p r0_3) = grad p := by
  funext y
  refine (Value.piece4_0 _ _ _ _ y).trans ?_
  have f (x : Nat) : 0 + 1 * (0 + 1 * x) = x := by omega
  exact grad_of p y ![_, _, _, _] (fun k => by fin_cases k <;> rfl) (fun k => by fin_cases k <;> exact f _) (fun k => by fin_cases k <;> exact f _)
theorem pay3_eq (p : Blocks) (m : Block) : k0_pay3 (F := Ideal) (View.ld p r0_0) (View.ld p r0_1) (View.ld p r0_2) (View.ld p r0_3) m = newM p m := by
  unfold newM; rw [← pay2_eq]; rfl
theorem pay4_eq (p : Blocks) (v : Block) : k0_pay4 (F := Ideal) (View.ld p r0_0) (View.ld p r0_1) (View.ld p r0_2) (View.ld p r0_3) v = newV p v := by
  unfold newV; rw [← pay2_eq]; rfl
theorem pay1_eq (w : Block) (p : Blocks) (m v : Block) : k0_pay1 (F := Ideal) (newM p m) (newV p v) w = move w p m v := rfl

/-- The reference's values. -/
theorem ref1_eq (p : Wholes) : Cert.AdamUqRefIdeal.Read.val_main_v1 (F := Ideal) p = grad p := by
  funext i
  rw [Cert.AdamUqRefIdeal.Read.val_main_v1_apply]
  exact sum_grad p i _ (fun k => rfl) (fun k => rfl) (fun k => rfl)
theorem ref6_eq (p : Wholes) (m : Whole) : Cert.AdamUqRefIdeal.Read.val_main_v6 (F := Ideal) p m = newM p m := by
  unfold newM; rw [← ref1_eq]; rfl
theorem ref12_eq (p : Wholes) (v : Whole) : Cert.AdamUqRefIdeal.Read.val_main_v12 (F := Ideal) p v = newV p v := by
  unfold newV; rw [← ref1_eq]; rfl
theorem ref25_eq (w : Whole) (p : Wholes) (m v : Whole) : Cert.AdamUqRefIdeal.Read.val_main_v25 (F := Ideal) w p m v = move w p m v := by
  unfold move; rw [← ref6_eq, ← ref12_eq]; rfl

section
variable (m : (ℓ : Loc nD τ sig) → Buf (Elt Ideal) ℓ) (c : Dev nD)

/-- The arguments: the weight, the four parts of its gradient and the two moments. -/
abbrev aw : Whole := m ((c : Thread nD τ).loc main_arg0)
abbrev ap : Wholes := m ((c : Thread nD τ).loc main_arg1)
abbrev am : Whole := m ((c : Thread nD τ).loc main_arg2)
abbrev av : Whole := m ((c : Thread nD τ).loc main_arg3)

theorem hz : (![0, 0] : Fin 2 → Nat) = fun _ => 0 := funext fun a => by fin_cases a <;> rfl

/-- The parts of point `t`'s block are the argument's, under the block. -/
theorem part_at (t : Fin cfg0.N) (y : S384x192.Idx) : part (iblk m c 1 t : Blocks) y = part (ap m c) ((win0_4.blk t).view.emb y) := by
  funext k
  refine part_of (ap m c) _ k _ ?_ rfl rfl
  show 0 * 4 + 1 * k.val = k.val
  omega

/-! ## What the kernel leaves in each array -/

theorem last4 : (dats m 0 c).arrAt 4 cfg0.N = grad (ap m c) := by
  refine (dats m 0 c).arrAt_eq_of_covers 4 (grad (ap m c)) (by decide +kernel) fun t hf y => ?_
  blk_simp
  rw [after0_4]
  unfold out0_4
  rw [View.canon_unit_zero hz]
  rw [pay2_eq]
  exact grad_block (part_at m c t y)
theorem last5 : (dats m 0 c).arrAt 5 cfg0.N = move (aw m c) (ap m c) (am m c) (av m c) := by
  refine (dats m 0 c).arrAt_eq_of_covers 5 (move (aw m c) (ap m c) (am m c) (av m c)) (by decide +kernel) fun t hf y => ?_
  blk_simp
  rw [after0_5]
  unfold out0_5 k0_pay5
  rw [View.canon_unit_zero hz]
  simp only [View.ld_unit_zero (S := S384x192) hz, pay3_eq, pay4_eq, pay1_eq]
  exact move_block rfl (part_at m c t y) rfl rfl
theorem last6 : (dats m 0 c).arrAt 6 cfg0.N = newM (ap m c) (am m c) := by
  refine (dats m 0 c).arrAt_eq_of_covers 6 (newM (ap m c) (am m c)) (by decide +kernel) fun t hf y => ?_
  blk_simp
  rw [after0_6]
  unfold out0_6
  rw [View.canon_unit_zero hz]
  simp only [View.ld_unit_zero (S := S384x192) hz, pay3_eq]
  exact newM_block (part_at m c t y) rfl
theorem last7 : (dats m 0 c).arrAt 7 cfg0.N = newV (ap m c) (av m c) := by
  refine (dats m 0 c).arrAt_eq_of_covers 7 (newV (ap m c) (av m c)) (by decide +kernel) fun t hf y => ?_
  blk_simp
  rw [after0_7]
  unfold out0_7 k0_pay5
  rw [View.canon_unit_zero hz]
  simp only [View.ld_unit_zero (S := S384x192) hz, pay4_eq]
  exact newV_block (part_at m c t y) rfl
end

theorem same : Cert.algebraic_AdamUqIdeal_AdamUqRefIdeal (hAdamUqIdeal := Cert.AdamUqIdeal.Gen.facts) (hAdamUqRefIdeal := Cert.AdamUqRefIdeal.Gen.facts) := by
  intro m g m' g' _ hag
  refine ⟨fun c => grad (ap m c), fun c => move (aw m c) (ap m c) (am m c) (av m c), fun c => newM (ap m c) (am m c), fun c => newV (ap m c) (av m c), ?_, ?_⟩
  · exact (θ_run _ _ _).mono (fun r h c => ⟨(h c).1.trans (last4 m c), (h c).2.1.trans (last5 m c), (h c).2.2.1.trans (last6 m c), (h c).2.2.2.1.trans (last7 m c), (h c).2.2.2.2⟩)
      (Value.run_blocks m g)
  · refine (θ_run _ _ _).mono (fun r h c => ?_) (Cert.AdamUqRefIdeal.Value.run m' g')
    obtain ⟨a0, a1, a2, a3⟩ := hag c
    refine ⟨(h c).1.trans ?_, (h c).2.1.trans ?_, (h c).2.2.1.trans ?_, (h c).2.2.2.1.trans ?_, (h c).2.2.2.2⟩
    · rw [Cert.AdamUqRefIdeal.Read.val_main_v1_eq, a1, ref1_eq]
    · rw [Cert.AdamUqRefIdeal.Read.val_main_v25_eq, a0, a1, a2, a3, ref25_eq]
    · rw [Cert.AdamUqRefIdeal.Read.val_main_v6_eq, a1, a2, ref6_eq]
    · rw [Cert.AdamUqRefIdeal.Read.val_main_v12_eq, a1, a3, ref12_eq]

end Cert.AdamUqIdeal.Hand
-- ==== Proof.AdamUkvVal.lean ====
/-
  The AdamW update of the latent attention's key and value weight, from four parts of the gradient: the kernel's four arrays are the reference's.
-/
module

public import proofs.«01_k».proof.Defs
public import proofs.«01_k».proof.Proof.Adam
public import proofs.«01_k».proof.Proof.Gen.AdamUkvIdeal.Value
public import proofs.«01_k».proof.Proof.Gen.AdamUkvRefIdeal.Run
public import proofs.«01_k».proof.Proof.Gen.AdamUkvRefIdeal.Read
public import Idealize.ShloMosaic.Lib.StableHlo.Run
public import Idealize.ShloMosaic.Lib.Pipeline.ValueKit

@[expose] public section
set_option maxRecDepth 16384

noncomputable section

namespace Cert.AdamUkvIdeal.Hand
open Cert.AdamUkvIdeal Cert.AdamUkvIdeal.Gen Cert.Adam
open Idealize.ShloMosaic Idealize.ShloMosaic.TcCoe

abbrev Block : Type := Mat 128 256
abbrev Blocks : Type := Mats 3 128 256
abbrev Whole : Type := Mat 128 256
abbrev Wholes : Type := Mats 3 128 256

/-- The kernel's payloads, from a block of each argument. -/
theorem pay2_eq (p : Blocks) : k0_pay2 (F := Ideal) (View.ld p r0_0) (View.ld p r0_1) (View.ld p r0_2) (View.ld p r0_3) = grad p := by
  funext y
  refine (Value.piece4_0 _ _ _ _ y).trans ?_
  have f (x : Nat) : 0 + 1 * (0 + 1 * x) = x := by omega
  exact grad_of p y ![_, _, _, _] (fun k => by fin_cases k <;> rfl) (fun k => by fin_cases k <;> exact f _) (fun k => by fin_cases k <;> exact f _)
theorem pay3_eq (p : Blocks) (m : Block) : k0_pay3 (F := Ideal) (View.ld p r0_0) (View.ld p r0_1) (View.ld p r0_2) (View.ld p r0_3) m = newM p m := by
  unfold newM; rw [← pay2_eq]; rfl
theorem pay4_eq (p : Blocks) (v : Block) : k0_pay4 (F := Ideal) (View.ld p r0_0) (View.ld p r0_1) (View.ld p r0_2) (View.ld p r0_3) v = newV p v := by
  unfold newV; rw [← pay2_eq]; rfl
theorem pay1_eq (w : Block) (p : Blocks) (m v : Block) : k0_pay1 (F := Ideal) (newM p m) (newV p v) w = move w p m v := rfl

/-- The reference's values. -/
theorem ref1_eq (p : Wholes) : Cert.AdamUkvRefIdeal.Read.val_main_v1 (F := Ideal) p = grad p := by
  funext i
  rw [Cert.AdamUkvRefIdeal.Read.val_main_v1_apply]
  exact sum_grad p i _ (fun k => rfl) (fun k => rfl) (fun k => rfl)
theorem ref6_eq (p : Wholes) (m : Whole) : Cert.AdamUkvRefIdeal.Read.val_main_v6 (F := Ideal) p m = newM p m := by
  unfold newM; rw [← ref1_eq]; rfl
theorem ref12_eq (p : Wholes) (v : Whole) : Cert.AdamUkvRefIdeal.Read.val_main_v12 (F := Ideal) p v = newV p v := by
  unfold newV; rw [← ref1_eq]; rfl
theorem ref25_eq (w : Whole) (p : Wholes) (m v : Whole) : Cert.AdamUkvRefIdeal.Read.val_main_v25 (F := Ideal) w p m v = move w p m v := by
  unfold move; rw [← ref6_eq, ← ref12_eq]; rfl

section
variable (m : (ℓ : Loc nD τ sig) → Buf (Elt Ideal) ℓ) (c : Dev nD)

/-- The arguments: the weight, the four parts of its gradient and the two moments. -/
abbrev aw : Whole := m ((c : Thread nD τ).loc main_arg0)
abbrev ap : Wholes := m ((c : Thread nD τ).loc main_arg1)
abbrev am : Whole := m ((c : Thread nD τ).loc main_arg2)
abbrev av : Whole := m ((c : Thread nD τ).loc main_arg3)

theorem hz : (![0, 0] : Fin 2 → Nat) = fun _ => 0 := funext fun a => by fin_cases a <;> rfl

/-- The parts of point `t`'s block are the argument's, under the block. -/
theorem part_at (t : Fin cfg0.N) (y : S128x256.Idx) : part (iblk m c 1 t : Blocks) y = part (ap m c) ((win0_4.blk t).view.emb y) := by
  funext k
  refine part_of (ap m c) _ k _ ?_ rfl rfl
  show 0 * 4 + 1 * k.val = k.val
  omega

/-! ## What the kernel leaves in each array -/

theorem last4 : (dats m 0 c).arrAt 4 cfg0.N = grad (ap m c) := by
  refine (dats m 0 c).arrAt_eq_of_covers 4 (grad (ap m c)) (by decide +kernel) fun t hf y => ?_
  blk_simp
  rw [after0_4]
  unfold out0_4
  rw [View.canon_unit_zero hz]
  rw [pay2_eq]
  exact grad_block (part_at m c t y)
theorem last5 : (dats m 0 c).arrAt 5 cfg0.N = move (aw m c) (ap m c) (am m c) (av m c) := by
  refine (dats m 0 c).arrAt_eq_of_covers 5 (move (aw m c) (ap m c) (am m c) (av m c)) (by decide +kernel) fun t hf y => ?_
  blk_simp
  rw [after0_5]
  unfold out0_5 k0_pay5
  rw [View.canon_unit_zero hz]
  simp only [View.ld_unit_zero (S := S128x256) hz, pay3_eq, pay4_eq, pay1_eq]
  exact move_block rfl (part_at m c t y) rfl rfl
theorem last6 : (dats m 0 c).arrAt 6 cfg0.N = newM (ap m c) (am m c) := by
  refine (dats m 0 c).arrAt_eq_of_covers 6 (newM (ap m c) (am m c)) (by decide +kernel) fun t hf y => ?_
  blk_simp
  rw [after0_6]
  unfold out0_6
  rw [View.canon_unit_zero hz]
  simp only [View.ld_unit_zero (S := S128x256) hz, pay3_eq]
  exact newM_block (part_at m c t y) rfl
theorem last7 : (dats m 0 c).arrAt 7 cfg0.N = newV (ap m c) (av m c) := by
  refine (dats m 0 c).arrAt_eq_of_covers 7 (newV (ap m c) (av m c)) (by decide +kernel) fun t hf y => ?_
  blk_simp
  rw [after0_7]
  unfold out0_7 k0_pay5
  rw [View.canon_unit_zero hz]
  simp only [View.ld_unit_zero (S := S128x256) hz, pay4_eq]
  exact newV_block (part_at m c t y) rfl
end

theorem same : Cert.algebraic_AdamUkvIdeal_AdamUkvRefIdeal (hAdamUkvIdeal := Cert.AdamUkvIdeal.Gen.facts) (hAdamUkvRefIdeal := Cert.AdamUkvRefIdeal.Gen.facts) := by
  intro m g m' g' _ hag
  refine ⟨fun c => grad (ap m c), fun c => move (aw m c) (ap m c) (am m c) (av m c), fun c => newM (ap m c) (am m c), fun c => newV (ap m c) (av m c), ?_, ?_⟩
  · exact (θ_run _ _ _).mono (fun r h c => ⟨(h c).1.trans (last4 m c), (h c).2.1.trans (last5 m c), (h c).2.2.1.trans (last6 m c), (h c).2.2.2.1.trans (last7 m c), (h c).2.2.2.2⟩)
      (Value.run_blocks m g)
  · refine (θ_run _ _ _).mono (fun r h c => ?_) (Cert.AdamUkvRefIdeal.Value.run m' g')
    obtain ⟨a0, a1, a2, a3⟩ := hag c
    refine ⟨(h c).1.trans ?_, (h c).2.1.trans ?_, (h c).2.2.1.trans ?_, (h c).2.2.2.1.trans ?_, (h c).2.2.2.2⟩
    · rw [Cert.AdamUkvRefIdeal.Read.val_main_v1_eq, a1, ref1_eq]
    · rw [Cert.AdamUkvRefIdeal.Read.val_main_v25_eq, a0, a1, a2, a3, ref25_eq]
    · rw [Cert.AdamUkvRefIdeal.Read.val_main_v6_eq, a1, a2, ref6_eq]
    · rw [Cert.AdamUkvRefIdeal.Read.val_main_v12_eq, a1, a3, ref12_eq]

end Cert.AdamUkvIdeal.Hand
-- ==== Proof.AdamOutVal.lean ====
/-
  The AdamW update of the output projection's weight, from four parts of the gradient: the kernel's four arrays are the reference's.
-/
module

public import proofs.«01_k».proof.Defs
public import proofs.«01_k».proof.Proof.Adam
public import proofs.«01_k».proof.Proof.Gen.AdamOutIdeal.Value
public import proofs.«01_k».proof.Proof.Gen.AdamOutRefIdeal.Run
public import proofs.«01_k».proof.Proof.Gen.AdamOutRefIdeal.Read
public import Idealize.ShloMosaic.Lib.StableHlo.Run
public import Idealize.ShloMosaic.Lib.Pipeline.ValueKit

@[expose] public section
set_option maxRecDepth 16384

noncomputable section

namespace Cert.AdamOutIdeal.Hand
open Cert.AdamOutIdeal Cert.AdamOutIdeal.Gen Cert.Adam
open Idealize.ShloMosaic Idealize.ShloMosaic.TcCoe

abbrev Block : Type := Mat 128 2048
abbrev Blocks : Type := Mats 3 128 2048
abbrev Whole : Type := Mat 256 2048
abbrev Wholes : Type := Mats 3 256 2048

/-- The kernel's payloads, from a block of each argument. -/
theorem pay2_eq (p : Blocks) : k0_pay2 (F := Ideal) (View.ld p r0_0) (View.ld p r0_1) (View.ld p r0_2) (View.ld p r0_3) = grad p := by
  funext y
  refine (Value.piece4_0 _ _ _ _ y).trans ?_
  have f (x : Nat) : 0 + 1 * (0 + 1 * x) = x := by omega
  exact grad_of p y ![_, _, _, _] (fun k => by fin_cases k <;> rfl) (fun k => by fin_cases k <;> exact f _) (fun k => by fin_cases k <;> exact f _)
theorem pay3_eq (p : Blocks) (m : Block) : k0_pay3 (F := Ideal) (View.ld p r0_0) (View.ld p r0_1) (View.ld p r0_2) (View.ld p r0_3) m = newM p m := by
  unfold newM; rw [← pay2_eq]; rfl
theorem pay4_eq (p : Blocks) (v : Block) : k0_pay4 (F := Ideal) (View.ld p r0_0) (View.ld p r0_1) (View.ld p r0_2) (View.ld p r0_3) v = newV p v := by
  unfold newV; rw [← pay2_eq]; rfl
theorem pay1_eq (w : Block) (p : Blocks) (m v : Block) : k0_pay1 (F := Ideal) (newM p m) (newV p v) w = move w p m v := rfl

/-- The reference's values. -/
theorem ref1_eq (p : Wholes) : Cert.AdamOutRefIdeal.Read.val_main_v1 (F := Ideal) p = grad p := by
  funext i
  rw [Cert.AdamOutRefIdeal.Read.val_main_v1_apply]
  exact sum_grad p i _ (fun k => rfl) (fun k => rfl) (fun k => rfl)
theorem ref6_eq (p : Wholes) (m : Whole) : Cert.AdamOutRefIdeal.Read.val_main_v6 (F := Ideal) p m = newM p m := by
  unfold newM; rw [← ref1_eq]; rfl
theorem ref12_eq (p : Wholes) (v : Whole) : Cert.AdamOutRefIdeal.Read.val_main_v12 (F := Ideal) p v = newV p v := by
  unfold newV; rw [← ref1_eq]; rfl
theorem ref25_eq (w : Whole) (p : Wholes) (m v : Whole) : Cert.AdamOutRefIdeal.Read.val_main_v25 (F := Ideal) w p m v = move w p m v := by
  unfold move; rw [← ref6_eq, ← ref12_eq]; rfl

section
variable (m : (ℓ : Loc nD τ sig) → Buf (Elt Ideal) ℓ) (c : Dev nD)

/-- The arguments: the weight, the four parts of its gradient and the two moments. -/
abbrev aw : Whole := m ((c : Thread nD τ).loc main_arg0)
abbrev ap : Wholes := m ((c : Thread nD τ).loc main_arg1)
abbrev am : Whole := m ((c : Thread nD τ).loc main_arg2)
abbrev av : Whole := m ((c : Thread nD τ).loc main_arg3)

theorem hz : (![0, 0] : Fin 2 → Nat) = fun _ => 0 := funext fun a => by fin_cases a <;> rfl

/-- The parts of point `t`'s block are the argument's, under the block. -/
theorem part_at (t : Fin cfg0.N) (y : S128x2048.Idx) : part (iblk m c 1 t : Blocks) y = part (ap m c) ((win0_4.blk t).view.emb y) := by
  funext k
  refine part_of (ap m c) _ k _ ?_ rfl rfl
  show 0 * 4 + 1 * k.val = k.val
  omega

/-! ## What the kernel leaves in each array -/

theorem last4 : (dats m 0 c).arrAt 4 cfg0.N = grad (ap m c) := by
  refine (dats m 0 c).arrAt_eq_of_covers 4 (grad (ap m c)) (by decide +kernel) fun t hf y => ?_
  blk_simp
  rw [after0_4]
  unfold out0_4
  rw [View.canon_unit_zero hz]
  rw [pay2_eq]
  exact grad_block (part_at m c t y)
theorem last5 : (dats m 0 c).arrAt 5 cfg0.N = move (aw m c) (ap m c) (am m c) (av m c) := by
  refine (dats m 0 c).arrAt_eq_of_covers 5 (move (aw m c) (ap m c) (am m c) (av m c)) (by decide +kernel) fun t hf y => ?_
  blk_simp
  rw [after0_5]
  unfold out0_5 k0_pay5
  rw [View.canon_unit_zero hz]
  simp only [View.ld_unit_zero (S := S128x2048) hz, pay3_eq, pay4_eq, pay1_eq]
  exact move_block rfl (part_at m c t y) rfl rfl
theorem last6 : (dats m 0 c).arrAt 6 cfg0.N = newM (ap m c) (am m c) := by
  refine (dats m 0 c).arrAt_eq_of_covers 6 (newM (ap m c) (am m c)) (by decide +kernel) fun t hf y => ?_
  blk_simp
  rw [after0_6]
  unfold out0_6
  rw [View.canon_unit_zero hz]
  simp only [View.ld_unit_zero (S := S128x2048) hz, pay3_eq]
  exact newM_block (part_at m c t y) rfl
theorem last7 : (dats m 0 c).arrAt 7 cfg0.N = newV (ap m c) (av m c) := by
  refine (dats m 0 c).arrAt_eq_of_covers 7 (newV (ap m c) (av m c)) (by decide +kernel) fun t hf y => ?_
  blk_simp
  rw [after0_7]
  unfold out0_7 k0_pay5
  rw [View.canon_unit_zero hz]
  simp only [View.ld_unit_zero (S := S128x2048) hz, pay4_eq]
  exact newV_block (part_at m c t y) rfl
end

theorem same : Cert.algebraic_AdamOutIdeal_AdamOutRefIdeal (hAdamOutIdeal := Cert.AdamOutIdeal.Gen.facts) (hAdamOutRefIdeal := Cert.AdamOutRefIdeal.Gen.facts) := by
  intro m g m' g' _ hag
  refine ⟨fun c => grad (ap m c), fun c => move (aw m c) (ap m c) (am m c) (av m c), fun c => newM (ap m c) (am m c), fun c => newV (ap m c) (av m c), ?_, ?_⟩
  · exact (θ_run _ _ _).mono (fun r h c => ⟨(h c).1.trans (last4 m c), (h c).2.1.trans (last5 m c), (h c).2.2.1.trans (last6 m c), (h c).2.2.2.1.trans (last7 m c), (h c).2.2.2.2⟩)
      (Value.run_blocks m g)
  · refine (θ_run _ _ _).mono (fun r h c => ?_) (Cert.AdamOutRefIdeal.Value.run m' g')
    obtain ⟨a0, a1, a2, a3⟩ := hag c
    refine ⟨(h c).1.trans ?_, (h c).2.1.trans ?_, (h c).2.2.1.trans ?_, (h c).2.2.2.1.trans ?_, (h c).2.2.2.2⟩
    · rw [Cert.AdamOutRefIdeal.Read.val_main_v1_eq, a1, ref1_eq]
    · rw [Cert.AdamOutRefIdeal.Read.val_main_v25_eq, a0, a1, a2, a3, ref25_eq]
    · rw [Cert.AdamOutRefIdeal.Read.val_main_v6_eq, a1, a2, ref6_eq]
    · rw [Cert.AdamOutRefIdeal.Read.val_main_v12_eq, a1, a3, ref12_eq]

end Cert.AdamOutIdeal.Hand
-- ==== Proof.AdamFf1Val.lean ====
/-
  The AdamW update of the MLP's first weight, from four parts of the gradient: the kernel's four arrays are the reference's.
-/
module

public import proofs.«01_k».proof.Defs
public import proofs.«01_k».proof.Proof.Adam
public import proofs.«01_k».proof.Proof.Gen.AdamFf1Ideal.Value
public import proofs.«01_k».proof.Proof.Gen.AdamFf1RefIdeal.Run
public import proofs.«01_k».proof.Proof.Gen.AdamFf1RefIdeal.Read
public import Idealize.ShloMosaic.Lib.StableHlo.Run
public import Idealize.ShloMosaic.Lib.Pipeline.ValueKit

@[expose] public section
set_option maxRecDepth 16384

noncomputable section

namespace Cert.AdamFf1Ideal.Hand
open Cert.AdamFf1Ideal Cert.AdamFf1Ideal.Gen Cert.Adam
open Idealize.ShloMosaic Idealize.ShloMosaic.TcCoe

abbrev Block : Type := Mat 256 1024
abbrev Blocks : Type := Mats 3 256 1024
abbrev Whole : Type := Mat 2048 1024
abbrev Wholes : Type := Mats 3 2048 1024

/-- The kernel's payloads, from a block of each argument. -/
theorem pay2_eq (p : Blocks) : k0_pay2 (F := Ideal) (View.ld p r0_0) (View.ld p r0_1) (View.ld p r0_2) (View.ld p r0_3) = grad p := by
  funext y
  refine (Value.piece4_0 _ _ _ _ y).trans ?_
  have f (x : Nat) : 0 + 1 * (0 + 1 * x) = x := by omega
  exact grad_of p y ![_, _, _, _] (fun k => by fin_cases k <;> rfl) (fun k => by fin_cases k <;> exact f _) (fun k => by fin_cases k <;> exact f _)
theorem pay3_eq (p : Blocks) (m : Block) : k0_pay3 (F := Ideal) (View.ld p r0_0) (View.ld p r0_1) (View.ld p r0_2) (View.ld p r0_3) m = newM p m := by
  unfold newM; rw [← pay2_eq]; rfl
theorem pay4_eq (p : Blocks) (v : Block) : k0_pay4 (F := Ideal) (View.ld p r0_0) (View.ld p r0_1) (View.ld p r0_2) (View.ld p r0_3) v = newV p v := by
  unfold newV; rw [← pay2_eq]; rfl
theorem pay1_eq (w : Block) (p : Blocks) (m v : Block) : k0_pay1 (F := Ideal) (newM p m) (newV p v) w = move w p m v := rfl

/-- The reference's values. -/
theorem ref1_eq (p : Wholes) : Cert.AdamFf1RefIdeal.Read.val_main_v1 (F := Ideal) p = grad p := by
  funext i
  rw [Cert.AdamFf1RefIdeal.Read.val_main_v1_apply]
  exact sum_grad p i _ (fun k => rfl) (fun k => rfl) (fun k => rfl)
theorem ref6_eq (p : Wholes) (m : Whole) : Cert.AdamFf1RefIdeal.Read.val_main_v6 (F := Ideal) p m = newM p m := by
  unfold newM; rw [← ref1_eq]; rfl
theorem ref12_eq (p : Wholes) (v : Whole) : Cert.AdamFf1RefIdeal.Read.val_main_v12 (F := Ideal) p v = newV p v := by
  unfold newV; rw [← ref1_eq]; rfl
theorem ref25_eq (w : Whole) (p : Wholes) (m v : Whole) : Cert.AdamFf1RefIdeal.Read.val_main_v25 (F := Ideal) w p m v = move w p m v := by
  unfold move; rw [← ref6_eq, ← ref12_eq]; rfl

section
variable (m : (ℓ : Loc nD τ sig) → Buf (Elt Ideal) ℓ) (c : Dev nD)

/-- The arguments: the weight, the four parts of its gradient and the two moments. -/
abbrev aw : Whole := m ((c : Thread nD τ).loc main_arg0)
abbrev ap : Wholes := m ((c : Thread nD τ).loc main_arg1)
abbrev am : Whole := m ((c : Thread nD τ).loc main_arg2)
abbrev av : Whole := m ((c : Thread nD τ).loc main_arg3)

theorem hz : (![0, 0] : Fin 2 → Nat) = fun _ => 0 := funext fun a => by fin_cases a <;> rfl

/-- The parts of point `t`'s block are the argument's, under the block. -/
theorem part_at (t : Fin cfg0.N) (y : S256x1024.Idx) : part (iblk m c 1 t : Blocks) y = part (ap m c) ((win0_4.blk t).view.emb y) := by
  funext k
  refine part_of (ap m c) _ k _ ?_ rfl rfl
  show 0 * 4 + 1 * k.val = k.val
  omega

/-! ## What the kernel leaves in each array -/

theorem last4 : (dats m 0 c).arrAt 4 cfg0.N = grad (ap m c) := by
  refine (dats m 0 c).arrAt_eq_of_covers 4 (grad (ap m c)) (by decide +kernel) fun t hf y => ?_
  blk_simp
  rw [after0_4]
  unfold out0_4
  rw [View.canon_unit_zero hz]
  rw [pay2_eq]
  exact grad_block (part_at m c t y)
theorem last5 : (dats m 0 c).arrAt 5 cfg0.N = move (aw m c) (ap m c) (am m c) (av m c) := by
  refine (dats m 0 c).arrAt_eq_of_covers 5 (move (aw m c) (ap m c) (am m c) (av m c)) (by decide +kernel) fun t hf y => ?_
  blk_simp
  rw [after0_5]
  unfold out0_5 k0_pay5
  rw [View.canon_unit_zero hz]
  simp only [View.ld_unit_zero (S := S256x1024) hz, pay3_eq, pay4_eq, pay1_eq]
  exact move_block rfl (part_at m c t y) rfl rfl
theorem last6 : (dats m 0 c).arrAt 6 cfg0.N = newM (ap m c) (am m c) := by
  refine (dats m 0 c).arrAt_eq_of_covers 6 (newM (ap m c) (am m c)) (by decide +kernel) fun t hf y => ?_
  blk_simp
  rw [after0_6]
  unfold out0_6
  rw [View.canon_unit_zero hz]
  simp only [View.ld_unit_zero (S := S256x1024) hz, pay3_eq]
  exact newM_block (part_at m c t y) rfl
theorem last7 : (dats m 0 c).arrAt 7 cfg0.N = newV (ap m c) (av m c) := by
  refine (dats m 0 c).arrAt_eq_of_covers 7 (newV (ap m c) (av m c)) (by decide +kernel) fun t hf y => ?_
  blk_simp
  rw [after0_7]
  unfold out0_7 k0_pay5
  rw [View.canon_unit_zero hz]
  simp only [View.ld_unit_zero (S := S256x1024) hz, pay4_eq]
  exact newV_block (part_at m c t y) rfl
end

theorem same : Cert.algebraic_AdamFf1Ideal_AdamFf1RefIdeal (hAdamFf1Ideal := Cert.AdamFf1Ideal.Gen.facts) (hAdamFf1RefIdeal := Cert.AdamFf1RefIdeal.Gen.facts) := by
  intro m g m' g' _ hag
  refine ⟨fun c => grad (ap m c), fun c => move (aw m c) (ap m c) (am m c) (av m c), fun c => newM (ap m c) (am m c), fun c => newV (ap m c) (av m c), ?_, ?_⟩
  · exact (θ_run _ _ _).mono (fun r h c => ⟨(h c).1.trans (last4 m c), (h c).2.1.trans (last5 m c), (h c).2.2.1.trans (last6 m c), (h c).2.2.2.1.trans (last7 m c), (h c).2.2.2.2⟩)
      (Value.run_blocks m g)
  · refine (θ_run _ _ _).mono (fun r h c => ?_) (Cert.AdamFf1RefIdeal.Value.run m' g')
    obtain ⟨a0, a1, a2, a3⟩ := hag c
    refine ⟨(h c).1.trans ?_, (h c).2.1.trans ?_, (h c).2.2.1.trans ?_, (h c).2.2.2.1.trans ?_, (h c).2.2.2.2⟩
    · rw [Cert.AdamFf1RefIdeal.Read.val_main_v1_eq, a1, ref1_eq]
    · rw [Cert.AdamFf1RefIdeal.Read.val_main_v25_eq, a0, a1, a2, a3, ref25_eq]
    · rw [Cert.AdamFf1RefIdeal.Read.val_main_v6_eq, a1, a2, ref6_eq]
    · rw [Cert.AdamFf1RefIdeal.Read.val_main_v12_eq, a1, a3, ref12_eq]

end Cert.AdamFf1Ideal.Hand
-- ==== Proof.AdamFf2Val.lean ====
/-
  The AdamW update of the MLP's second weight, from four parts of the gradient: the kernel's four arrays are the reference's.
-/
module

public import proofs.«01_k».proof.Defs
public import proofs.«01_k».proof.Proof.Adam
public import proofs.«01_k».proof.Proof.Gen.AdamFf2Ideal.Value
public import proofs.«01_k».proof.Proof.Gen.AdamFf2RefIdeal.Run
public import proofs.«01_k».proof.Proof.Gen.AdamFf2RefIdeal.Read
public import Idealize.ShloMosaic.Lib.StableHlo.Run
public import Idealize.ShloMosaic.Lib.Pipeline.ValueKit

@[expose] public section
set_option maxRecDepth 16384

noncomputable section

namespace Cert.AdamFf2Ideal.Hand
open Cert.AdamFf2Ideal Cert.AdamFf2Ideal.Gen Cert.Adam
open Idealize.ShloMosaic Idealize.ShloMosaic.TcCoe

abbrev Block : Type := Mat 128 2048
abbrev Blocks : Type := Mats 3 128 2048
abbrev Whole : Type := Mat 1024 2048
abbrev Wholes : Type := Mats 3 1024 2048

/-- The kernel's payloads, from a block of each argument. -/
theorem pay2_eq (p : Blocks) : k0_pay2 (F := Ideal) (View.ld p r0_0) (View.ld p r0_1) (View.ld p r0_2) (View.ld p r0_3) = grad p := by
  funext y
  refine (Value.piece4_0 _ _ _ _ y).trans ?_
  have f (x : Nat) : 0 + 1 * (0 + 1 * x) = x := by omega
  exact grad_of p y ![_, _, _, _] (fun k => by fin_cases k <;> rfl) (fun k => by fin_cases k <;> exact f _) (fun k => by fin_cases k <;> exact f _)
theorem pay3_eq (p : Blocks) (m : Block) : k0_pay3 (F := Ideal) (View.ld p r0_0) (View.ld p r0_1) (View.ld p r0_2) (View.ld p r0_3) m = newM p m := by
  unfold newM; rw [← pay2_eq]; rfl
theorem pay4_eq (p : Blocks) (v : Block) : k0_pay4 (F := Ideal) (View.ld p r0_0) (View.ld p r0_1) (View.ld p r0_2) (View.ld p r0_3) v = newV p v := by
  unfold newV; rw [← pay2_eq]; rfl
theorem pay1_eq (w : Block) (p : Blocks) (m v : Block) : k0_pay1 (F := Ideal) (newM p m) (newV p v) w = move w p m v := rfl

/-- The reference's values. -/
theorem ref1_eq (p : Wholes) : Cert.AdamFf2RefIdeal.Read.val_main_v1 (F := Ideal) p = grad p := by
  funext i
  rw [Cert.AdamFf2RefIdeal.Read.val_main_v1_apply]
  exact sum_grad p i _ (fun k => rfl) (fun k => rfl) (fun k => rfl)
theorem ref6_eq (p : Wholes) (m : Whole) : Cert.AdamFf2RefIdeal.Read.val_main_v6 (F := Ideal) p m = newM p m := by
  unfold newM; rw [← ref1_eq]; rfl
theorem ref12_eq (p : Wholes) (v : Whole) : Cert.AdamFf2RefIdeal.Read.val_main_v12 (F := Ideal) p v = newV p v := by
  unfold newV; rw [← ref1_eq]; rfl
theorem ref25_eq (w : Whole) (p : Wholes) (m v : Whole) : Cert.AdamFf2RefIdeal.Read.val_main_v25 (F := Ideal) w p m v = move w p m v := by
  unfold move; rw [← ref6_eq, ← ref12_eq]; rfl

section
variable (m : (ℓ : Loc nD τ sig) → Buf (Elt Ideal) ℓ) (c : Dev nD)

/-- The arguments: the weight, the four parts of its gradient and the two moments. -/
abbrev aw : Whole := m ((c : Thread nD τ).loc main_arg0)
abbrev ap : Wholes := m ((c : Thread nD τ).loc main_arg1)
abbrev am : Whole := m ((c : Thread nD τ).loc main_arg2)
abbrev av : Whole := m ((c : Thread nD τ).loc main_arg3)

theorem hz : (![0, 0] : Fin 2 → Nat) = fun _ => 0 := funext fun a => by fin_cases a <;> rfl

/-- The parts of point `t`'s block are the argument's, under the block. -/
theorem part_at (t : Fin cfg0.N) (y : S128x2048.Idx) : part (iblk m c 1 t : Blocks) y = part (ap m c) ((win0_4.blk t).view.emb y) := by
  funext k
  refine part_of (ap m c) _ k _ ?_ rfl rfl
  show 0 * 4 + 1 * k.val = k.val
  omega

/-! ## What the kernel leaves in each array -/

theorem last4 : (dats m 0 c).arrAt 4 cfg0.N = grad (ap m c) := by
  refine (dats m 0 c).arrAt_eq_of_covers 4 (grad (ap m c)) (by decide +kernel) fun t hf y => ?_
  blk_simp
  rw [after0_4]
  unfold out0_4
  rw [View.canon_unit_zero hz]
  rw [pay2_eq]
  exact grad_block (part_at m c t y)
theorem last5 : (dats m 0 c).arrAt 5 cfg0.N = move (aw m c) (ap m c) (am m c) (av m c) := by
  refine (dats m 0 c).arrAt_eq_of_covers 5 (move (aw m c) (ap m c) (am m c) (av m c)) (by decide +kernel) fun t hf y => ?_
  blk_simp
  rw [after0_5]
  unfold out0_5 k0_pay5
  rw [View.canon_unit_zero hz]
  simp only [View.ld_unit_zero (S := S128x2048) hz, pay3_eq, pay4_eq, pay1_eq]
  exact move_block rfl (part_at m c t y) rfl rfl
theorem last6 : (dats m 0 c).arrAt 6 cfg0.N = newM (ap m c) (am m c) := by
  refine (dats m 0 c).arrAt_eq_of_covers 6 (newM (ap m c) (am m c)) (by decide +kernel) fun t hf y => ?_
  blk_simp
  rw [after0_6]
  unfold out0_6
  rw [View.canon_unit_zero hz]
  simp only [View.ld_unit_zero (S := S128x2048) hz, pay3_eq]
  exact newM_block (part_at m c t y) rfl
theorem last7 : (dats m 0 c).arrAt 7 cfg0.N = newV (ap m c) (av m c) := by
  refine (dats m 0 c).arrAt_eq_of_covers 7 (newV (ap m c) (av m c)) (by decide +kernel) fun t hf y => ?_
  blk_simp
  rw [after0_7]
  unfold out0_7 k0_pay5
  rw [View.canon_unit_zero hz]
  simp only [View.ld_unit_zero (S := S128x2048) hz, pay4_eq]
  exact newV_block (part_at m c t y) rfl
end

theorem same : Cert.algebraic_AdamFf2Ideal_AdamFf2RefIdeal (hAdamFf2Ideal := Cert.AdamFf2Ideal.Gen.facts) (hAdamFf2RefIdeal := Cert.AdamFf2RefIdeal.Gen.facts) := by
  intro m g m' g' _ hag
  refine ⟨fun c => grad (ap m c), fun c => move (aw m c) (ap m c) (am m c) (av m c), fun c => newM (ap m c) (am m c), fun c => newV (ap m c) (av m c), ?_, ?_⟩
  · exact (θ_run _ _ _).mono (fun r h c => ⟨(h c).1.trans (last4 m c), (h c).2.1.trans (last5 m c), (h c).2.2.1.trans (last6 m c), (h c).2.2.2.1.trans (last7 m c), (h c).2.2.2.2⟩)
      (Value.run_blocks m g)
  · refine (θ_run _ _ _).mono (fun r h c => ?_) (Cert.AdamFf2RefIdeal.Value.run m' g')
    obtain ⟨a0, a1, a2, a3⟩ := hag c
    refine ⟨(h c).1.trans ?_, (h c).2.1.trans ?_, (h c).2.2.1.trans ?_, (h c).2.2.2.1.trans ?_, (h c).2.2.2.2⟩
    · rw [Cert.AdamFf2RefIdeal.Read.val_main_v1_eq, a1, ref1_eq]
    · rw [Cert.AdamFf2RefIdeal.Read.val_main_v25_eq, a0, a1, a2, a3, ref25_eq]
    · rw [Cert.AdamFf2RefIdeal.Read.val_main_v6_eq, a1, a2, ref6_eq]
    · rw [Cert.AdamFf2RefIdeal.Read.val_main_v12_eq, a1, a3, ref12_eq]

end Cert.AdamFf2Ideal.Hand
-- ==== Proof.AdamSmallVal.lean ====
/-
  The AdamW update of the small weights, from the eight devices' parts of the gradient: the kernel's four arrays are the reference's.
-/
module

public import proofs.«01_k».proof.Defs
public import proofs.«01_k».proof.Proof.Adam
public import proofs.«01_k».proof.Proof.Gen.AdamSmallIdeal.Value
public import proofs.«01_k».proof.Proof.Gen.AdamSmallRefIdeal.Run
public import proofs.«01_k».proof.Proof.Gen.AdamSmallRefIdeal.Read
public import Idealize.ShloMosaic.Lib.StableHlo.Run
public import Idealize.ShloMosaic.Lib.Pipeline.ValueKit

@[expose] public section
set_option maxRecDepth 16384

noncomputable section

namespace Cert.AdamSmallIdeal.Hand
open Cert.AdamSmallIdeal Cert.AdamSmallIdeal.Gen Cert.Adam
open Idealize.ShloMosaic Idealize.ShloMosaic.TcCoe

abbrev Block : Type := Mat 160 128
abbrev Blocks : Type := Mats 7 160 128
abbrev Whole : Type := Mat 160 128
abbrev Wholes : Type := Mats 7 160 128

theorem hz : (![0, 0] : Fin 2 → Nat) = fun _ => 0 := funext fun a => by fin_cases a <;> rfl

/-- The kernel's payloads, from a block of each argument: the parts added, then the moments and the step. -/
theorem pay5_eq (w : Block) (p : Blocks) (m v : Block) : k0_pay5 (F := Ideal) w p m v = grad p := by
  funext y
  refine (Value.piece4_0 _ _ _ _ _ _ _ _ y).trans ?_
  have f (x : Nat) : 0 + 1 * (0 + 1 * x) = x := by omega
  exact grad_of p y ![_, _, _, _, _, _, _, _] (fun k => by fin_cases k <;> rfl) (fun k => by fin_cases k <;> exact f _) (fun k => by fin_cases k <;> exact f _)
theorem pay6_eq (w : Block) (p : Blocks) (m v : Block) : k0_pay6 (F := Ideal) w p m v = newM p m := by
  unfold newM; rw [← pay5_eq w p m v]; unfold k0_pay6; rw [View.ld_unit_zero (S := S160x128) hz]; rfl
theorem pay1_eq (p : Blocks) (v : Block) : k0_pay1 (F := Ideal) (grad p) v = newV p v := rfl
theorem pay2_eq (w : Block) (p : Blocks) (m v : Block) : k0_pay2 (F := Ideal) (grad p) (newM p m) v w = move w p m v := rfl

/-- The reference's values. -/
theorem ref0_eq (p : Wholes) : Cert.AdamSmallRefIdeal.Read.val_main_v0 (F := Ideal) p = grad p := by
  funext i
  rw [Cert.AdamSmallRefIdeal.Read.val_main_v0_apply]
  exact sum_grad p i _ (fun k => rfl) (fun k => rfl) (fun k => rfl)
theorem ref5_eq (p : Wholes) (m : Whole) : Cert.AdamSmallRefIdeal.Read.val_main_v5 (F := Ideal) p m = newM p m := by
  unfold newM; rw [← ref0_eq]; rfl
theorem ref11_eq (p : Wholes) (v : Whole) : Cert.AdamSmallRefIdeal.Read.val_main_v11 (F := Ideal) p v = newV p v := by
  unfold newV; rw [← ref0_eq]; rfl
theorem ref24_eq (w : Whole) (p : Wholes) (m v : Whole) : Cert.AdamSmallRefIdeal.Read.val_main_v24 (F := Ideal) w p m v = move w p m v := by
  unfold move; rw [← ref5_eq, ← ref11_eq]; rfl

section
variable (m : (ℓ : Loc nD τ sig) → Buf (Elt Ideal) ℓ) (c : Dev nD)

/-- The arguments: the weight, the eight parts of its gradient and the two moments. -/
abbrev aw : Whole := m ((c : Thread nD τ).loc main_arg0)
abbrev ap : Wholes := m ((c : Thread nD τ).loc main_arg1)
abbrev am : Whole := m ((c : Thread nD τ).loc main_arg2)
abbrev av : Whole := m ((c : Thread nD τ).loc main_arg3)

/-- The parts of point `t`'s block are the argument's, under the block. -/
theorem part_at (t : Fin cfg0.N) (y : S160x128.Idx) : part (iblk m c 1 t : Blocks) y = part (ap m c) ((win0_4.blk t).view.emb y) := by
  funext k
  refine part_of (ap m c) _ k _ ?_ rfl rfl
  show 0 * 8 + 1 * k.val = k.val
  omega

/-! ## What the kernel leaves in each array -/

theorem last4 : (dats m 0 c).arrAt 4 cfg0.N = grad (ap m c) := by
  refine (dats m 0 c).arrAt_eq_of_covers 4 (grad (ap m c)) (by decide +kernel) fun t hf y => ?_
  blk_simp
  rw [after0_4]
  unfold out0_4
  rw [View.canon_unit_zero hz]
  rw [pay5_eq]
  exact grad_block (part_at m c t y)
theorem last5 : (dats m 0 c).arrAt 5 cfg0.N = move (aw m c) (ap m c) (am m c) (av m c) := by
  refine (dats m 0 c).arrAt_eq_of_covers 5 (move (aw m c) (ap m c) (am m c) (av m c)) (by decide +kernel) fun t hf y => ?_
  blk_simp
  rw [after0_5]
  unfold out0_5
  rw [View.canon_unit_zero hz]
  simp only [View.ld_unit_zero (S := S160x128) hz, pay5_eq, pay6_eq, pay2_eq]
  exact move_block rfl (part_at m c t y) rfl rfl
theorem last6 : (dats m 0 c).arrAt 6 cfg0.N = newM (ap m c) (am m c) := by
  refine (dats m 0 c).arrAt_eq_of_covers 6 (newM (ap m c) (am m c)) (by decide +kernel) fun t hf y => ?_
  blk_simp
  rw [after0_6]
  unfold out0_6
  rw [View.canon_unit_zero hz]
  rw [pay6_eq]
  exact newM_block (part_at m c t y) rfl
theorem last7 : (dats m 0 c).arrAt 7 cfg0.N = newV (ap m c) (av m c) := by
  refine (dats m 0 c).arrAt_eq_of_covers 7 (newV (ap m c) (av m c)) (by decide +kernel) fun t hf y => ?_
  blk_simp
  rw [after0_7]
  unfold out0_7
  rw [View.canon_unit_zero hz]
  simp only [View.ld_unit_zero (S := S160x128) hz, pay5_eq, pay1_eq]
  exact newV_block (part_at m c t y) rfl
end

theorem same : Cert.algebraic_AdamSmallIdeal_AdamSmallRefIdeal (hAdamSmallIdeal := Cert.AdamSmallIdeal.Gen.facts) (hAdamSmallRefIdeal := Cert.AdamSmallRefIdeal.Gen.facts) := by
  intro m g m' g' _ hag
  refine ⟨fun c => grad (ap m c), fun c => move (aw m c) (ap m c) (am m c) (av m c), fun c => newM (ap m c) (am m c), fun c => newV (ap m c) (av m c), ?_, ?_⟩
  · exact (θ_run _ _ _).mono (fun r h c => ⟨(h c).1.trans (last4 m c), (h c).2.1.trans (last5 m c), (h c).2.2.1.trans (last6 m c), (h c).2.2.2.1.trans (last7 m c), (h c).2.2.2.2⟩)
      (Value.run_blocks m g)
  · refine (θ_run _ _ _).mono (fun r h c => ?_) (Cert.AdamSmallRefIdeal.Value.run m' g')
    obtain ⟨a0, a1, a2, a3⟩ := hag c
    refine ⟨(h c).1.trans ?_, (h c).2.1.trans ?_, (h c).2.2.1.trans ?_, (h c).2.2.2.1.trans ?_, (h c).2.2.2.2⟩
    · rw [Cert.AdamSmallRefIdeal.Read.val_main_v0_eq, a1, ref0_eq]
    · rw [Cert.AdamSmallRefIdeal.Read.val_main_v24_eq, a0, a1, a2, a3, ref24_eq]
    · rw [Cert.AdamSmallRefIdeal.Read.val_main_v5_eq, a1, a2, ref5_eq]
    · rw [Cert.AdamSmallRefIdeal.Read.val_main_v11_eq, a1, a3, ref11_eq]

end Cert.AdamSmallIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.K.Run
public import proofs.«01_k».proof.Proof.Match
public import proofs.«01_k».proof.Proof.Ff2DxVal
public import proofs.«01_k».proof.Proof.Ff2DwVal
public import proofs.«01_k».proof.Proof.Ff1DxVal
public import proofs.«01_k».proof.Proof.Ff1DwVal
public import proofs.«01_k».proof.Proof.Ff1Val
public import proofs.«01_k».proof.Proof.Ff2Val
public import proofs.«01_k».proof.Proof.OutDxVal
public import proofs.«01_k».proof.Proof.OutDwVal
public import proofs.«01_k».proof.Proof.OutVal
public import proofs.«01_k».proof.Proof.AdamModVal
public import proofs.«01_k».proof.Proof.AdamInVal
public import proofs.«01_k».proof.Proof.AdamUqVal
public import proofs.«01_k».proof.Proof.AdamUkvVal
public import proofs.«01_k».proof.Proof.AdamOutVal
public import proofs.«01_k».proof.Proof.AdamFf1Val
public import proofs.«01_k».proof.Proof.AdamFf2Val
public import proofs.«01_k».proof.Proof.AdamSmallVal
public import proofs.«01_k».proof.Proof.Gen.Ff2DxIdeal.Value
public import proofs.«01_k».proof.Proof.Gen.Ff2DxRefIdeal.Run
public import proofs.«01_k».proof.Proof.Gen.Ff2DxRefIdeal.Read
public import proofs.«01_k».proof.Proof.Gen.Ff2DwIdeal.Value
public import proofs.«01_k».proof.Proof.Gen.Ff2DwRefIdeal.Run
public import proofs.«01_k».proof.Proof.Gen.Ff2DwRefIdeal.Read
public import proofs.«01_k».proof.Proof.Gen.Ff1DxIdeal.Value
public import proofs.«01_k».proof.Proof.Gen.Ff1DxRefIdeal.Run
public import proofs.«01_k».proof.Proof.Gen.Ff1DxRefIdeal.Read
public import proofs.«01_k».proof.Proof.Gen.Ff1DwIdeal.Value
public import proofs.«01_k».proof.Proof.Gen.Ff1DwRefIdeal.Run
public import proofs.«01_k».proof.Proof.Gen.Ff1DwRefIdeal.Read
public import proofs.«01_k».proof.Proof.Gen.Ff1Ideal.Value
public import proofs.«01_k».proof.Proof.Gen.Ff1RefIdeal.Run
public import proofs.«01_k».proof.Proof.Gen.Ff1RefIdeal.Read
public import proofs.«01_k».proof.Proof.Gen.Ff2Ideal.Value
public import proofs.«01_k».proof.Proof.Gen.Ff2RefIdeal.Run
public import proofs.«01_k».proof.Proof.Gen.Ff2RefIdeal.Read
public import proofs.«01_k».proof.Proof.Gen.Ff2Dx.Frame
public import proofs.«01_k».proof.Proof.Gen.Ff2Dw.Frame
public import proofs.«01_k».proof.Proof.Gen.Ff1Dx.Frame
public import proofs.«01_k».proof.Proof.Gen.Ff1Dw.Frame
public import proofs.«01_k».proof.Proof.Gen.Ff1.Frame
public import proofs.«01_k».proof.Proof.Gen.Ff2.Frame
public import proofs.«01_k».proof.Proof.Gen.OutDxIdeal.Value
public import proofs.«01_k».proof.Proof.Gen.OutDxRefIdeal.Run
public import proofs.«01_k».proof.Proof.Gen.OutDxRefIdeal.Read
public import proofs.«01_k».proof.Proof.Gen.OutDx.Frame
public import proofs.«01_k».proof.Proof.Gen.OutDwIdeal.Value
public import proofs.«01_k».proof.Proof.Gen.OutDwRefIdeal.Run
public import proofs.«01_k».proof.Proof.Gen.OutDwRefIdeal.Read
public import proofs.«01_k».proof.Proof.Gen.OutDw.Frame
public import proofs.«01_k».proof.Proof.Gen.OutIdeal.Value
public import proofs.«01_k».proof.Proof.Gen.OutRefIdeal.Run
public import proofs.«01_k».proof.Proof.Gen.OutRefIdeal.Read
public import proofs.«01_k».proof.Proof.Gen.Out.Frame
public import proofs.«01_k».proof.Proof.Gen.AdamModIdeal.Value
public import proofs.«01_k».proof.Proof.Gen.AdamModRefIdeal.Run
public import proofs.«01_k».proof.Proof.Gen.AdamModRefIdeal.Read
public import proofs.«01_k».proof.Proof.Gen.AdamMod.Frame
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.AdamIn.Frame
public import proofs.«01_k».proof.Proof.Gen.AdamUqIdeal.Value
public import proofs.«01_k».proof.Proof.Gen.AdamUqRefIdeal.Run
public import proofs.«01_k».proof.Proof.Gen.AdamUqRefIdeal.Read
public import proofs.«01_k».proof.Proof.Gen.AdamUq.Frame
public import proofs.«01_k».proof.Proof.Gen.AdamUkvIdeal.Value
public import proofs.«01_k».proof.Proof.Gen.AdamUkvRefIdeal.Run
public import proofs.«01_k».proof.Proof.Gen.AdamUkvRefIdeal.Read
public import proofs.«01_k».proof.Proof.Gen.AdamUkv.Frame
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Gen.AdamOut.Frame
public import proofs.«01_k».proof.Proof.Gen.AdamFf1Ideal.Value
public import proofs.«01_k».proof.Proof.Gen.AdamFf1RefIdeal.Run
public import proofs.«01_k».proof.Proof.Gen.AdamFf1RefIdeal.Read
public import proofs.«01_k».proof.Proof.Gen.AdamFf1.Frame
public import proofs.«01_k».proof.Proof.Gen.AdamFf2Ideal.Value
public import proofs.«01_k».proof.Proof.Gen.AdamFf2RefIdeal.Run
public import proofs.«01_k».proof.Proof.Gen.AdamFf2RefIdeal.Read
public import proofs.«01_k».proof.Proof.Gen.AdamFf2.Frame
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Gen.AdamSmall.Frame
public import Idealize.ShloMosaic.Adequacy
public import Idealize.ShloMosaic.Init

@[expose] public section

noncomputable section

namespace Cert.Proof

open Idealize.ShloMosaic Idealize.SL.Sem Cert.Kernel

/-- Each of the three named constants is what its name says. -/
theorem names : Cert.preserves_Kernel_KernelIdeal :=
  ⟨IdealRules.named_const.statement Cert.KernelIdeal.κ "scale_log2e" .f32 0x3DD53B95#32 _ rfl,
    IdealRules.named_const.statement Cert.KernelIdeal.κ "log2e" .f32 0x3FB8AA3B#32 _ rfl,
    IdealRules.named_const.statement Cert.KernelIdeal.κ "scale" .f32 0x3D93CD3A#32 _ rfl⟩

theorem claim : Cert.Claim := ⟨Cert.Kernel.Gen.facts, Cert.KernelIdeal.Gen.facts, Cert.ReferenceIdeal.Gen.facts,
  Cert.Ff2Dx.Gen.facts, Cert.Ff2DxIdeal.Gen.facts, Cert.Ff2DxRefIdeal.Gen.facts,
  Cert.Ff2Dw.Gen.facts, Cert.Ff2DwIdeal.Gen.facts, Cert.Ff2DwRefIdeal.Gen.facts,
  Cert.Ff1Dx.Gen.facts, Cert.Ff1DxIdeal.Gen.facts, Cert.Ff1DxRefIdeal.Gen.facts,
  Cert.Ff1Dw.Gen.facts, Cert.Ff1DwIdeal.Gen.facts, Cert.Ff1DwRefIdeal.Gen.facts,
  Cert.Ff1.Gen.facts, Cert.Ff1Ideal.Gen.facts, Cert.Ff1RefIdeal.Gen.facts,
  Cert.Ff2.Gen.facts, Cert.Ff2Ideal.Gen.facts, Cert.Ff2RefIdeal.Gen.facts,
  Cert.OutDx.Gen.facts, Cert.OutDxIdeal.Gen.facts, Cert.OutDxRefIdeal.Gen.facts,
  Cert.OutDw.Gen.facts, Cert.OutDwIdeal.Gen.facts, Cert.OutDwRefIdeal.Gen.facts,
  Cert.Out.Gen.facts, Cert.OutIdeal.Gen.facts, Cert.OutRefIdeal.Gen.facts,
  Cert.AdamMod.Gen.facts, Cert.AdamModIdeal.Gen.facts, Cert.AdamModRefIdeal.Gen.facts,
  Cert.AdamIn.Gen.facts, Cert.AdamInIdeal.Gen.facts, Cert.AdamInRefIdeal.Gen.facts,
  Cert.AdamUq.Gen.facts, Cert.AdamUqIdeal.Gen.facts, Cert.AdamUqRefIdeal.Gen.facts,
  Cert.AdamUkv.Gen.facts, Cert.AdamUkvIdeal.Gen.facts, Cert.AdamUkvRefIdeal.Gen.facts,
  Cert.AdamOut.Gen.facts, Cert.AdamOutIdeal.Gen.facts, Cert.AdamOutRefIdeal.Gen.facts,
  Cert.AdamFf1.Gen.facts, Cert.AdamFf1Ideal.Gen.facts, Cert.AdamFf1RefIdeal.Gen.facts,
  Cert.AdamFf2.Gen.facts, Cert.AdamFf2Ideal.Gen.facts, Cert.AdamFf2RefIdeal.Gen.facts,
  Cert.AdamSmall.Gen.facts, Cert.AdamSmallIdeal.Gen.facts, Cert.AdamSmallRefIdeal.Gen.facts,
  Cert.Pre_finite.facts,
  fun m g _ => Cert.Kernel.Hand.frame_run m g,
  fun m g _ => Cert.KernelIdeal.Hand.frame_run m g,
  fun m g _ => Cert.KernelIdeal.Hand.frame_run m g,
  fun m g _ => (θ_run _ _ _).mono (fun r h => ⟨fun c => (h c).2.2.2, sem_eq_zero_of_no_sems (by decide) r.2⟩) (Cert.ReferenceIdeal.Value.run m g),
  fun m g _ => (θ_run _ _ _).mono (fun r h => ⟨fun c => (h c).2.2.2, sem_eq_zero_of_no_sems (by decide) r.2⟩) (Cert.ReferenceIdeal.Value.run m g),
  fun m g _ => Cert.Ff2Dx.Gen.frame (F := Bits) m g,
  fun m g _ => Cert.Ff2DxIdeal.Gen.frame (F := Ideal) m g,
  fun m g _ => (θ_run _ _ _).mono (fun r h => ⟨fun c => (h c).2, sem_eq_zero_of_no_sems (by decide) r.2⟩) (Cert.Ff2DxRefIdeal.Value.run m g),
  fun m g _ => Cert.Ff2Dw.Gen.frame (F := Bits) m g,
  fun m g _ => Cert.Ff2DwIdeal.Gen.frame (F := Ideal) m g,
  fun m g _ => (θ_run _ _ _).mono (fun r h => ⟨fun c => (h c).2, sem_eq_zero_of_no_sems (by decide) r.2⟩) (Cert.Ff2DwRefIdeal.Value.run m g),
  fun m g _ => Cert.Ff1Dx.Gen.frame (F := Bits) m g,
  fun m g _ => Cert.Ff1DxIdeal.Gen.frame (F := Ideal) m g,
  fun m g _ => (θ_run _ _ _).mono (fun r h => ⟨fun c => (h c).2, sem_eq_zero_of_no_sems (by decide) r.2⟩) (Cert.Ff1DxRefIdeal.Value.run m g),
  fun m g _ => Cert.Ff1Dw.Gen.frame (F := Bits) m g,
  fun m g _ => Cert.Ff1DwIdeal.Gen.frame (F := Ideal) m g,
  fun m g _ => (θ_run _ _ _).mono (fun r h => ⟨fun c => (h c).2, sem_eq_zero_of_no_sems (by decide) r.2⟩) (Cert.Ff1DwRefIdeal.Value.run m g),
  fun m g _ => Cert.Ff1.Gen.frame (F := Bits) m g,
  fun m g _ => Cert.Ff1Ideal.Gen.frame (F := Ideal) m g,
  fun m g _ => (θ_run _ _ _).mono (fun r h => ⟨fun c => (h c).2.2, sem_eq_zero_of_no_sems (by decide) r.2⟩) (Cert.Ff1RefIdeal.Value.run m g),
  fun m g _ => Cert.Ff2.Gen.frame (F := Bits) m g,
  fun m g _ => Cert.Ff2Ideal.Gen.frame (F := Ideal) m g,
  fun m g _ => (θ_run _ _ _).mono (fun r h => ⟨fun c => (h c).2.2, sem_eq_zero_of_no_sems (by decide) r.2⟩) (Cert.Ff2RefIdeal.Value.run m g),
  fun m g _ => Cert.OutDx.Gen.frame (F := Bits) m g,
  fun m g _ => Cert.OutDxIdeal.Gen.frame (F := Ideal) m g,
  fun m g _ => (θ_run _ _ _).mono (fun r h => ⟨fun c => (h c).2, sem_eq_zero_of_no_sems (by decide) r.2⟩) (Cert.OutDxRefIdeal.Value.run m g),
  fun m g _ => Cert.OutDw.Gen.frame (F := Bits) m g,
  fun m g _ => Cert.OutDwIdeal.Gen.frame (F := Ideal) m g,
  fun m g _ => (θ_run _ _ _).mono (fun r h => ⟨fun c => (h c).2, sem_eq_zero_of_no_sems (by decide) r.2⟩) (Cert.OutDwRefIdeal.Value.run m g),
  fun m g _ => Cert.Out.Gen.frame (F := Bits) m g,
  fun m g _ => Cert.OutIdeal.Gen.frame (F := Ideal) m g,
  fun m g _ => (θ_run _ _ _).mono (fun r h => ⟨fun c => (h c).2.2, sem_eq_zero_of_no_sems (by decide) r.2⟩) (Cert.OutRefIdeal.Value.run m g),
  fun m g _ => Cert.AdamMod.Gen.frame (F := Bits) m g,
  fun m g _ => Cert.AdamModIdeal.Gen.frame (F := Ideal) m g,
  fun m g _ => (θ_run _ _ _).mono (fun r h => ⟨fun c => (h c).2.2.2.2, sem_eq_zero_of_no_sems (by decide) r.2⟩) (Cert.AdamModRefIdeal.Value.run m g),
  fun m g _ => Cert.AdamIn.Gen.frame (F := Bits) m g,
  fun m g _ => Cert.AdamInIdeal.Gen.frame (F := Ideal) m g,
  fun m g _ => (θ_run _ _ _).mono (fun r h => ⟨fun c => (h c).2.2.2.2, sem_eq_zero_of_no_sems (by decide) r.2⟩) (Cert.AdamInRefIdeal.Value.run m g),
  fun m g _ => Cert.AdamUq.Gen.frame (F := Bits) m g,
  fun m g _ => Cert.AdamUqIdeal.Gen.frame (F := Ideal) m g,
  fun m g _ => (θ_run _ _ _).mono (fun r h => ⟨fun c => (h c).2.2.2.2, sem_eq_zero_of_no_sems (by decide) r.2⟩) (Cert.AdamUqRefIdeal.Value.run m g),
  fun m g _ => Cert.AdamUkv.Gen.frame (F := Bits) m g,
  fun m g _ => Cert.AdamUkvIdeal.Gen.frame (F := Ideal) m g,
  fun m g _ => (θ_run _ _ _).mono (fun r h => ⟨fun c => (h c).2.2.2.2, sem_eq_zero_of_no_sems (by decide) r.2⟩) (Cert.AdamUkvRefIdeal.Value.run m g),
  fun m g _ => Cert.AdamOut.Gen.frame (F := Bits) m g,
  fun m g _ => Cert.AdamOutIdeal.Gen.frame (F := Ideal) m g,
  fun m g _ => (θ_run _ _ _).mono (fun r h => ⟨fun c => (h c).2.2.2.2, sem_eq_zero_of_no_sems (by decide) r.2⟩) (Cert.AdamOutRefIdeal.Value.run m g),
  fun m g _ => Cert.AdamFf1.Gen.frame (F := Bits) m g,
  fun m g _ => Cert.AdamFf1Ideal.Gen.frame (F := Ideal) m g,
  fun m g _ => (θ_run _ _ _).mono (fun r h => ⟨fun c => (h c).2.2.2.2, sem_eq_zero_of_no_sems (by decide) r.2⟩) (Cert.AdamFf1RefIdeal.Value.run m g),
  fun m g _ => Cert.AdamFf2.Gen.frame (F := Bits) m g,
  fun m g _ => Cert.AdamFf2Ideal.Gen.frame (F := Ideal) m g,
  fun m g _ => (θ_run _ _ _).mono (fun r h => ⟨fun c => (h c).2.2.2.2, sem_eq_zero_of_no_sems (by decide) r.2⟩) (Cert.AdamFf2RefIdeal.Value.run m g),
  fun m g _ => Cert.AdamSmall.Gen.frame (F := Bits) m g,
  fun m g _ => Cert.AdamSmallIdeal.Gen.frame (F := Ideal) m g,
  fun m g _ => (θ_run _ _ _).mono (fun r h => ⟨fun c => (h c).2.2.2.2, sem_eq_zero_of_no_sems (by decide) r.2⟩) (Cert.AdamSmallRefIdeal.Value.run m g),
  names, Cert.KernelIdeal.Hand.gradients,
  trivial, Cert.Ff2DxIdeal.Hand.same,
  trivial, Cert.Ff2DwIdeal.Hand.same,
  trivial, Cert.Ff1DxIdeal.Hand.same,
  trivial, Cert.Ff1DwIdeal.Hand.same,
  trivial, Cert.Ff1Ideal.Hand.same,
  trivial, Cert.Ff2Ideal.Hand.same,
  trivial, Cert.OutDxIdeal.Hand.same,
  trivial, Cert.OutDwIdeal.Hand.same,
  trivial, Cert.OutIdeal.Hand.same,
  trivial, Cert.AdamModIdeal.Hand.same,
  trivial, Cert.AdamInIdeal.Hand.same,
  trivial, Cert.AdamUqIdeal.Hand.same,
  trivial, Cert.AdamUkvIdeal.Hand.same,
  trivial, Cert.AdamOutIdeal.Hand.same,
  trivial, Cert.AdamFf1Ideal.Hand.same,
  trivial, Cert.AdamFf2Ideal.Hand.same,
  trivial, Cert.AdamSmallIdeal.Hand.same⟩

end Cert.Proof

end
